-- ==== Defs.lean ====
def Pre_Split (m : (ℓ : Loc Cert.Split.nD Cert.Split.τ Cert.Split.sig) → Buf (Elt Bits) ℓ) : Prop :=
  True

def Pre_SplitIdeal (m : (ℓ : Loc Cert.SplitIdeal.nD Cert.SplitIdeal.τ Cert.SplitIdeal.sig) → Buf (Elt Ideal) ℓ) : Prop :=
  True

def Pre_SplitRefIdeal (m : (ℓ : Loc Cert.SplitRefIdeal.nD Cert.SplitRefIdeal.τ Cert.SplitRefIdeal.sig) → Buf (Elt Ideal) ℓ) : Prop :=
  True

def Pre_SplitRef (m : (ℓ : Loc Cert.SplitRef.nD Cert.SplitRef.τ Cert.SplitRef.sig) → Buf (Elt Bits) ℓ) : Prop :=
  True

def Pre_Attention (m : (ℓ : Loc Cert.Attention.nD Cert.Attention.τ Cert.Attention.sig) → Buf (Elt Bits) ℓ) : Prop :=
  True

def Pre_AttentionIdeal (m : (ℓ : Loc Cert.AttentionIdeal.nD Cert.AttentionIdeal.τ Cert.AttentionIdeal.sig) → Buf (Elt Ideal) ℓ) : Prop :=
  True

def Pre_AttentionIdeal_finite_queries_and_keys [hPre_finite_queries_and_keys : Cert.Pre_finite_queries_and_keys.Facts] (m : (ℓ : Loc Cert.AttentionIdeal.nD Cert.AttentionIdeal.τ Cert.AttentionIdeal.sig) → Buf (Elt Ideal) ℓ) : Prop :=
  ∀ c : Dev Cert.AttentionIdeal.nD,
    (Cert.Pre_finite_queries_and_keys.fn (F := Ideal) (m ((c.tc : Thread Cert.AttentionIdeal.nD Cert.AttentionIdeal.τ).loc Cert.AttentionIdeal.main_arg0)) (m ((c.tc : Thread Cert.AttentionIdeal.nD Cert.AttentionIdeal.τ).loc Cert.AttentionIdeal.main_arg1)) (m ((c.tc : Thread Cert.AttentionIdeal.nD Cert.AttentionIdeal.τ).loc Cert.AttentionIdeal.main_arg2)) (m ((c.tc : Thread Cert.AttentionIdeal.nD Cert.AttentionIdeal.τ).loc Cert.AttentionIdeal.main_arg3)) (m ((c.tc : Thread Cert.AttentionIdeal.nD Cert.AttentionIdeal.τ).loc Cert.AttentionIdeal.main_arg4)) (m ((c.tc : Thread Cert.AttentionIdeal.nD Cert.AttentionIdeal.τ).loc Cert.AttentionIdeal.main_arg5)) (m ((c.tc : Thread Cert.AttentionIdeal.nD Cert.AttentionIdeal.τ).loc Cert.AttentionIdeal.main_arg6)) (m ((c.tc : Thread Cert.AttentionIdeal.nD Cert.AttentionIdeal.τ).loc Cert.AttentionIdeal.main_arg7))) = (fun _ => 1#1)

def Pre_AttentionRefIdeal (m : (ℓ : Loc Cert.AttentionRefIdeal.nD Cert.AttentionRefIdeal.τ Cert.AttentionRefIdeal.sig) → Buf (Elt Ideal) ℓ) : Prop :=
  True

def Pre_AttentionRefIdeal_finite_queries_and_keys [hPre_finite_queries_and_keys : Cert.Pre_finite_queries_and_keys.Facts] (m : (ℓ : Loc Cert.AttentionRefIdeal.nD Cert.AttentionRefIdeal.τ Cert.AttentionRefIdeal.sig) → Buf (Elt Ideal) ℓ) : Prop :=
  ∀ c : Dev Cert.AttentionRefIdeal.nD,
    (Cert.Pre_finite_queries_and_keys.fn (F := Ideal) (m ((c.tc : Thread Cert.AttentionRefIdeal.nD Cert.AttentionRefIdeal.τ).loc Cert.AttentionRefIdeal.main_arg0)) (m ((c.tc : Thread Cert.AttentionRefIdeal.nD Cert.AttentionRefIdeal.τ).loc Cert.AttentionRefIdeal.main_arg1)) (m ((c.tc : Thread Cert.AttentionRefIdeal.nD Cert.AttentionRefIdeal.τ).loc Cert.AttentionRefIdeal.main_arg2)) (m ((c.tc : Thread Cert.AttentionRefIdeal.nD Cert.AttentionRefIdeal.τ).loc Cert.AttentionRefIdeal.main_arg3)) (m ((c.tc : Thread Cert.AttentionRefIdeal.nD Cert.AttentionRefIdeal.τ).loc Cert.AttentionRefIdeal.main_arg4)) (m ((c.tc : Thread Cert.AttentionRefIdeal.nD Cert.AttentionRefIdeal.τ).loc Cert.AttentionRefIdeal.main_arg5)) (m ((c.tc : Thread Cert.AttentionRefIdeal.nD Cert.AttentionRefIdeal.τ).loc Cert.AttentionRefIdeal.main_arg6)) (m ((c.tc : Thread Cert.AttentionRefIdeal.nD Cert.AttentionRefIdeal.τ).loc Cert.AttentionRefIdeal.main_arg7))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Oproj (m : (ℓ : Loc Cert.Oproj.nD Cert.Oproj.τ Cert.Oproj.sig) → Buf (Elt Bits) ℓ) : Prop :=
  True

def Pre_OprojIdeal (m : (ℓ : Loc Cert.OprojIdeal.nD Cert.OprojIdeal.τ Cert.OprojIdeal.sig) → Buf (Elt Ideal) ℓ) : Prop :=
  True

def Pre_OprojIdeal_finite_gains_and_routers [hPre_finite_gains_and_routers : Cert.Pre_finite_gains_and_routers.Facts] (m : (ℓ : Loc Cert.OprojIdeal.nD Cert.OprojIdeal.τ Cert.OprojIdeal.sig) → Buf (Elt Ideal) ℓ) : Prop :=
  ∀ c : Dev Cert.OprojIdeal.nD,
    (Cert.Pre_finite_gains_and_routers.fn (F := Ideal) (m ((c.tc : Thread Cert.OprojIdeal.nD Cert.OprojIdeal.τ).loc Cert.OprojIdeal.main_arg0)) (m ((c.tc : Thread Cert.OprojIdeal.nD Cert.OprojIdeal.τ).loc Cert.OprojIdeal.main_arg1)) (m ((c.tc : Thread Cert.OprojIdeal.nD Cert.OprojIdeal.τ).loc Cert.OprojIdeal.main_arg2)) (m ((c.tc : Thread Cert.OprojIdeal.nD Cert.OprojIdeal.τ).loc Cert.OprojIdeal.main_arg3)) (m ((c.tc : Thread Cert.OprojIdeal.nD Cert.OprojIdeal.τ).loc Cert.OprojIdeal.main_arg4)) (m ((c.tc : Thread Cert.OprojIdeal.nD Cert.OprojIdeal.τ).loc Cert.OprojIdeal.main_arg5)) (m ((c.tc : Thread Cert.OprojIdeal.nD Cert.OprojIdeal.τ).loc Cert.OprojIdeal.main_arg6)) (m ((c.tc : Thread Cert.OprojIdeal.nD Cert.OprojIdeal.τ).loc Cert.OprojIdeal.main_arg7)) (m ((c.tc : Thread Cert.OprojIdeal.nD Cert.OprojIdeal.τ).loc Cert.OprojIdeal.main_arg8)) (m ((c.tc : Thread Cert.OprojIdeal.nD Cert.OprojIdeal.τ).loc Cert.OprojIdeal.main_arg9)) (m ((c.tc : Thread Cert.OprojIdeal.nD Cert.OprojIdeal.τ).loc Cert.OprojIdeal.main_arg10))) = (fun _ => 1#1)

def Pre_OprojRefIdeal (m : (ℓ : Loc Cert.OprojRefIdeal.nD Cert.OprojRefIdeal.τ Cert.OprojRefIdeal.sig) → Buf (Elt Ideal) ℓ) : Prop :=
  True

def Pre_OprojRefIdeal_finite_gains_and_routers [hPre_finite_gains_and_routers : Cert.Pre_finite_gains_and_routers.Facts] (m : (ℓ : Loc Cert.OprojRefIdeal.nD Cert.OprojRefIdeal.τ Cert.OprojRefIdeal.sig) → Buf (Elt Ideal) ℓ) : Prop :=
  ∀ c : Dev Cert.OprojRefIdeal.nD,
    (Cert.Pre_finite_gains_and_routers.fn (F := Ideal) (m ((c.tc : Thread Cert.OprojRefIdeal.nD Cert.OprojRefIdeal.τ).loc Cert.OprojRefIdeal.main_arg0)) (m ((c.tc : Thread Cert.OprojRefIdeal.nD Cert.OprojRefIdeal.τ).loc Cert.OprojRefIdeal.main_arg1)) (m ((c.tc : Thread Cert.OprojRefIdeal.nD Cert.OprojRefIdeal.τ).loc Cert.OprojRefIdeal.main_arg2)) (m ((c.tc : Thread Cert.OprojRefIdeal.nD Cert.OprojRefIdeal.τ).loc Cert.OprojRefIdeal.main_arg3)) (m ((c.tc : Thread Cert.OprojRefIdeal.nD Cert.OprojRefIdeal.τ).loc Cert.OprojRefIdeal.main_arg4)) (m ((c.tc : Thread Cert.OprojRefIdeal.nD Cert.OprojRefIdeal.τ).loc Cert.OprojRefIdeal.main_arg5)) (m ((c.tc : Thread Cert.OprojRefIdeal.nD Cert.OprojRefIdeal.τ).loc Cert.OprojRefIdeal.main_arg6)) (m ((c.tc : Thread Cert.OprojRefIdeal.nD Cert.OprojRefIdeal.τ).loc Cert.OprojRefIdeal.main_arg7)) (m ((c.tc : Thread Cert.OprojRefIdeal.nD Cert.OprojRefIdeal.τ).loc Cert.OprojRefIdeal.main_arg8)) (m ((c.tc : Thread Cert.OprojRefIdeal.nD Cert.OprojRefIdeal.τ).loc Cert.OprojRefIdeal.main_arg9)) (m ((c.tc : Thread Cert.OprojRefIdeal.nD Cert.OprojRefIdeal.τ).loc Cert.OprojRefIdeal.main_arg10))) = (fun _ => 1#1)

def quiescent_Split [hSplit : Cert.Split.Facts] : Prop :=
  ∀ (m : (ℓ : Loc Cert.Split.nD Cert.Split.τ Cert.Split.sig) → Buf (Elt Bits) ℓ) (g : Dev Cert.Split.nD → PrngReg), Pre_Split m →
    θ_run (Cert.Split.defs (F := Bits)) (onTc (τ := Cert.Split.τ) (Cert.Split.main (F := Bits))) ⟨m, fun _ => 0, g⟩ (fun r => (∀ c : Dev Cert.Split.nD,
      r.2.mem ((c.tc : Thread Cert.Split.nD Cert.Split.τ).loc Cert.Split.main_arg0) = m ((c.tc : Thread Cert.Split.nD Cert.Split.τ).loc Cert.Split.main_arg0))
      ∧ r.2.sem = fun _ => 0)

def quiescent_SplitIdeal [hSplitIdeal : Cert.SplitIdeal.Facts] : Prop :=
  ∀ (m : (ℓ : Loc Cert.SplitIdeal.nD Cert.SplitIdeal.τ Cert.SplitIdeal.sig) → Buf (Elt Ideal) ℓ) (g : Dev Cert.SplitIdeal.nD → PrngReg), Pre_SplitIdeal m →
    θ_run (Cert.SplitIdeal.defs (F := Ideal)) (onTc (τ := Cert.SplitIdeal.τ) (Cert.SplitIdeal.main (F := Ideal))) ⟨m, fun _ => 0, g⟩ (fun r => (∀ c : Dev Cert.SplitIdeal.nD,
      r.2.mem ((c.tc : Thread Cert.SplitIdeal.nD Cert.SplitIdeal.τ).loc Cert.SplitIdeal.main_arg0) = m ((c.tc : Thread Cert.SplitIdeal.nD Cert.SplitIdeal.τ).loc Cert.SplitIdeal.main_arg0))
      ∧ r.2.sem = fun _ => 0)

def quiescent_SplitRefIdeal [hSplitRefIdeal : Cert.SplitRefIdeal.Facts] : Prop :=
  ∀ (m : (ℓ : Loc Cert.SplitRefIdeal.nD Cert.SplitRefIdeal.τ Cert.SplitRefIdeal.sig) → Buf (Elt Ideal) ℓ) (g : Dev Cert.SplitRefIdeal.nD → PrngReg), Pre_SplitRefIdeal m →
    θ_run (Cert.SplitRefIdeal.defs (F := Ideal)) (onTc (τ := Cert.SplitRefIdeal.τ) (Cert.SplitRefIdeal.main (F := Ideal))) ⟨m, fun _ => 0, g⟩ (fun r => (∀ c : Dev Cert.SplitRefIdeal.nD,
      r.2.mem ((c.tc : Thread Cert.SplitRefIdeal.nD Cert.SplitRefIdeal.τ).loc Cert.SplitRefIdeal.main_arg0) = m ((c.tc : Thread Cert.SplitRefIdeal.nD Cert.SplitRefIdeal.τ).loc Cert.SplitRefIdeal.main_arg0))
      ∧ r.2.sem = fun _ => 0)

def quiescent_SplitRef [hSplitRef : Cert.SplitRef.Facts] : Prop :=
  ∀ (m : (ℓ : Loc Cert.SplitRef.nD Cert.SplitRef.τ Cert.SplitRef.sig) → Buf (Elt Bits) ℓ) (g : Dev Cert.SplitRef.nD → PrngReg), Pre_SplitRef m →
    θ_run (Cert.SplitRef.defs (F := Bits)) (onTc (τ := Cert.SplitRef.τ) (Cert.SplitRef.main (F := Bits))) ⟨m, fun _ => 0, g⟩ (fun r => (∀ c : Dev Cert.SplitRef.nD,
      r.2.mem ((c.tc : Thread Cert.SplitRef.nD Cert.SplitRef.τ).loc Cert.SplitRef.main_arg0) = m ((c.tc : Thread Cert.SplitRef.nD Cert.SplitRef.τ).loc Cert.SplitRef.main_arg0))
      ∧ r.2.sem = fun _ => 0)

def quiescent_Attention [hAttention : Cert.Attention.Facts] : Prop :=
  ∀ (m : (ℓ : Loc Cert.Attention.nD Cert.Attention.τ Cert.Attention.sig) → Buf (Elt Bits) ℓ) (g : Dev Cert.Attention.nD → PrngReg), Pre_Attention m →
    θ_run (Cert.Attention.defs (F := Bits)) (onTc (τ := Cert.Attention.τ) (Cert.Attention.main (F := Bits))) ⟨m, fun _ => 0, g⟩ (fun r => (∀ c : Dev Cert.Attention.nD,
      r.2.mem ((c.tc : Thread Cert.Attention.nD Cert.Attention.τ).loc Cert.Attention.main_arg0) = m ((c.tc : Thread Cert.Attention.nD Cert.Attention.τ).loc Cert.Attention.main_arg0)
      ∧ r.2.mem ((c.tc : Thread Cert.Attention.nD Cert.Attention.τ).loc Cert.Attention.main_arg1) = m ((c.tc : Thread Cert.Attention.nD Cert.Attention.τ).loc Cert.Attention.main_arg1)
      ∧ r.2.mem ((c.tc : Thread Cert.Attention.nD Cert.Attention.τ).loc Cert.Attention.main_arg2) = m ((c.tc : Thread Cert.Attention.nD Cert.Attention.τ).loc Cert.Attention.main_arg2)
      ∧ r.2.mem ((c.tc : Thread Cert.Attention.nD Cert.Attention.τ).loc Cert.Attention.main_arg3) = m ((c.tc : Thread Cert.Attention.nD Cert.Attention.τ).loc Cert.Attention.main_arg3)
      ∧ r.2.mem ((c.tc : Thread Cert.Attention.nD Cert.Attention.τ).loc Cert.Attention.main_arg4) = m ((c.tc : Thread Cert.Attention.nD Cert.Attention.τ).loc Cert.Attention.main_arg4)
      ∧ r.2.mem ((c.tc : Thread Cert.Attention.nD Cert.Attention.τ).loc Cert.Attention.main_arg5) = m ((c.tc : Thread Cert.Attention.nD Cert.Attention.τ).loc Cert.Attention.main_arg5)
      ∧ r.2.mem ((c.tc : Thread Cert.Attention.nD Cert.Attention.τ).loc Cert.Attention.main_arg6) = m ((c.tc : Thread Cert.Attention.nD Cert.Attention.τ).loc Cert.Attention.main_arg6)
      ∧ r.2.mem ((c.tc : Thread Cert.Attention.nD Cert.Attention.τ).loc Cert.Attention.main_arg7) = m ((c.tc : Thread Cert.Attention.nD Cert.Attention.τ).loc Cert.Attention.main_arg7))
      ∧ r.2.sem = fun _ => 0)

def quiescent_AttentionIdeal [hAttentionIdeal : Cert.AttentionIdeal.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
      ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3)
      ∧ r.2.mem ((c.tc : Thread Cert.AttentionIdeal.nD Cert.AttentionIdeal.τ).loc Cert.AttentionIdeal.main_arg4) = m ((c.tc : Thread Cert.AttentionIdeal.nD Cert.AttentionIdeal.τ).loc Cert.AttentionIdeal.main_arg4)
      ∧ r.2.mem ((c.tc : Thread Cert.AttentionIdeal.nD Cert.AttentionIdeal.τ).loc Cert.AttentionIdeal.main_arg5) = m ((c.tc : Thread Cert.AttentionIdeal.nD Cert.AttentionIdeal.τ).loc Cert.AttentionIdeal.main_arg5)
      ∧ r.2.mem ((c.tc : Thread Cert.AttentionIdeal.nD Cert.AttentionIdeal.τ).loc Cert.AttentionIdeal.main_arg6) = m ((c.tc : Thread Cert.AttentionIdeal.nD Cert.AttentionIdeal.τ).loc Cert.AttentionIdeal.main_arg6)
      ∧ r.2.mem ((c.tc : Thread Cert.AttentionIdeal.nD Cert.AttentionIdeal.τ).loc Cert.AttentionIdeal.main_arg7) = m ((c.tc : Thread Cert.AttentionIdeal.nD Cert.AttentionIdeal.τ).loc Cert.AttentionIdeal.main_arg7))
      ∧ r.2.sem = fun _ => 0)

def quiescent_AttentionIdeal_pre_finite_queries_and_keys [hAttentionIdeal : Cert.AttentionIdeal.Facts] [hPre_finite_queries_and_keys : Cert.Pre_finite_queries_and_keys.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal_finite_queries_and_keys m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
      ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3)
      ∧ r.2.mem ((c.tc : Thread Cert.AttentionIdeal.nD Cert.AttentionIdeal.τ).loc Cert.AttentionIdeal.main_arg4) = m ((c.tc : Thread Cert.AttentionIdeal.nD Cert.AttentionIdeal.τ).loc Cert.AttentionIdeal.main_arg4)
      ∧ r.2.mem ((c.tc : Thread Cert.AttentionIdeal.nD Cert.AttentionIdeal.τ).loc Cert.AttentionIdeal.main_arg5) = m ((c.tc : Thread Cert.AttentionIdeal.nD Cert.AttentionIdeal.τ).loc Cert.AttentionIdeal.main_arg5)
      ∧ r.2.mem ((c.tc : Thread Cert.AttentionIdeal.nD Cert.AttentionIdeal.τ).loc Cert.AttentionIdeal.main_arg6) = m ((c.tc : Thread Cert.AttentionIdeal.nD Cert.AttentionIdeal.τ).loc Cert.AttentionIdeal.main_arg6)
      ∧ r.2.mem ((c.tc : Thread Cert.AttentionIdeal.nD Cert.AttentionIdeal.τ).loc Cert.AttentionIdeal.main_arg7) = m ((c.tc : Thread Cert.AttentionIdeal.nD Cert.AttentionIdeal.τ).loc Cert.AttentionIdeal.main_arg7))
      ∧ r.2.sem = fun _ => 0)

def quiescent_AttentionRefIdeal [hAttentionRefIdeal : Cert.AttentionRefIdeal.Facts] : Prop :=
  ∀ (m : (ℓ : Loc Cert.AttentionRefIdeal.nD Cert.AttentionRefIdeal.τ Cert.AttentionRefIdeal.sig) → Buf (Elt Ideal) ℓ) (g : Dev Cert.AttentionRefIdeal.nD → PrngReg), Pre_AttentionRefIdeal m →
    θ_run (Cert.AttentionRefIdeal.defs (F := Ideal)) (onTc (τ := Cert.AttentionRefIdeal.τ) (Cert.AttentionRefIdeal.main (F := Ideal))) ⟨m, fun _ => 0, g⟩ (fun r => (∀ c : Dev Cert.AttentionRefIdeal.nD,
      r.2.mem ((c.tc : Thread Cert.AttentionRefIdeal.nD Cert.AttentionRefIdeal.τ).loc Cert.AttentionRefIdeal.main_arg0) = m ((c.tc : Thread Cert.AttentionRefIdeal.nD Cert.AttentionRefIdeal.τ).loc Cert.AttentionRefIdeal.main_arg0)
      ∧ r.2.mem ((c.tc : Thread Cert.AttentionRefIdeal.nD Cert.AttentionRefIdeal.τ).loc Cert.AttentionRefIdeal.main_arg1) = m ((c.tc : Thread Cert.AttentionRefIdeal.nD Cert.AttentionRefIdeal.τ).loc Cert.AttentionRefIdeal.main_arg1)
      ∧ r.2.mem ((c.tc : Thread Cert.AttentionRefIdeal.nD Cert.AttentionRefIdeal.τ).loc Cert.AttentionRefIdeal.main_arg2) = m ((c.tc : Thread Cert.AttentionRefIdeal.nD Cert.AttentionRefIdeal.τ).loc Cert.AttentionRefIdeal.main_arg2)
      ∧ r.2.mem ((c.tc : Thread Cert.AttentionRefIdeal.nD Cert.AttentionRefIdeal.τ).loc Cert.AttentionRefIdeal.main_arg3) = m ((c.tc : Thread Cert.AttentionRefIdeal.nD Cert.AttentionRefIdeal.τ).loc Cert.AttentionRefIdeal.main_arg3)
      ∧ r.2.mem ((c.tc : Thread Cert.AttentionRefIdeal.nD Cert.AttentionRefIdeal.τ).loc Cert.AttentionRefIdeal.main_arg4) = m ((c.tc : Thread Cert.AttentionRefIdeal.nD Cert.AttentionRefIdeal.τ).loc Cert.AttentionRefIdeal.main_arg4)
      ∧ r.2.mem ((c.tc : Thread Cert.AttentionRefIdeal.nD Cert.AttentionRefIdeal.τ).loc Cert.AttentionRefIdeal.main_arg5) = m ((c.tc : Thread Cert.AttentionRefIdeal.nD Cert.AttentionRefIdeal.τ).loc Cert.AttentionRefIdeal.main_arg5)
      ∧ r.2.mem ((c.tc : Thread Cert.AttentionRefIdeal.nD Cert.AttentionRefIdeal.τ).loc Cert.AttentionRefIdeal.main_arg6) = m ((c.tc : Thread Cert.AttentionRefIdeal.nD Cert.AttentionRefIdeal.τ).loc Cert.AttentionRefIdeal.main_arg6)
      ∧ r.2.mem ((c.tc : Thread Cert.AttentionRefIdeal.nD Cert.AttentionRefIdeal.τ).loc Cert.AttentionRefIdeal.main_arg7) = m ((c.tc : Thread Cert.AttentionRefIdeal.nD Cert.AttentionRefIdeal.τ).loc Cert.AttentionRefIdeal.main_arg7))
      ∧ r.2.sem = fun _ => 0)

def quiescent_AttentionRefIdeal_pre_finite_queries_and_keys [hAttentionRefIdeal : Cert.AttentionRefIdeal.Facts] [hPre_finite_queries_and_keys : Cert.Pre_finite_queries_and_keys.Facts] : Prop :=
  ∀ (m : (ℓ : Loc Cert.AttentionRefIdeal.nD Cert.AttentionRefIdeal.τ Cert.AttentionRefIdeal.sig) → Buf (Elt Ideal) ℓ) (g : Dev Cert.AttentionRefIdeal.nD → PrngReg), Pre_AttentionRefIdeal_finite_queries_and_keys m →
    θ_run (Cert.AttentionRefIdeal.defs (F := Ideal)) (onTc (τ := Cert.AttentionRefIdeal.τ) (Cert.AttentionRefIdeal.main (F := Ideal))) ⟨m, fun _ => 0, g⟩ (fun r => (∀ c : Dev Cert.AttentionRefIdeal.nD,
      r.2.mem ((c.tc : Thread Cert.AttentionRefIdeal.nD Cert.AttentionRefIdeal.τ).loc Cert.AttentionRefIdeal.main_arg0) = m ((c.tc : Thread Cert.AttentionRefIdeal.nD Cert.AttentionRefIdeal.τ).loc Cert.AttentionRefIdeal.main_arg0)
      ∧ r.2.mem ((c.tc : Thread Cert.AttentionRefIdeal.nD Cert.AttentionRefIdeal.τ).loc Cert.AttentionRefIdeal.main_arg1) = m ((c.tc : Thread Cert.AttentionRefIdeal.nD Cert.AttentionRefIdeal.τ).loc Cert.AttentionRefIdeal.main_arg1)
      ∧ r.2.mem ((c.tc : Thread Cert.AttentionRefIdeal.nD Cert.AttentionRefIdeal.τ).loc Cert.AttentionRefIdeal.main_arg2) = m ((c.tc : Thread Cert.AttentionRefIdeal.nD Cert.AttentionRefIdeal.τ).loc Cert.AttentionRefIdeal.main_arg2)
      ∧ r.2.mem ((c.tc : Thread Cert.AttentionRefIdeal.nD Cert.AttentionRefIdeal.τ).loc Cert.AttentionRefIdeal.main_arg3) = m ((c.tc : Thread Cert.AttentionRefIdeal.nD Cert.AttentionRefIdeal.τ).loc Cert.AttentionRefIdeal.main_arg3)
      ∧ r.2.mem ((c.tc : Thread Cert.AttentionRefIdeal.nD Cert.AttentionRefIdeal.τ).loc Cert.AttentionRefIdeal.main_arg4) = m ((c.tc : Thread Cert.AttentionRefIdeal.nD Cert.AttentionRefIdeal.τ).loc Cert.AttentionRefIdeal.main_arg4)
      ∧ r.2.mem ((c.tc : Thread Cert.AttentionRefIdeal.nD Cert.AttentionRefIdeal.τ).loc Cert.AttentionRefIdeal.main_arg5) = m ((c.tc : Thread Cert.AttentionRefIdeal.nD Cert.AttentionRefIdeal.τ).loc Cert.AttentionRefIdeal.main_arg5)
      ∧ r.2.mem ((c.tc : Thread Cert.AttentionRefIdeal.nD Cert.AttentionRefIdeal.τ).loc Cert.AttentionRefIdeal.main_arg6) = m ((c.tc : Thread Cert.AttentionRefIdeal.nD Cert.AttentionRefIdeal.τ).loc Cert.AttentionRefIdeal.main_arg6)
      ∧ r.2.mem ((c.tc : Thread Cert.AttentionRefIdeal.nD Cert.AttentionRefIdeal.τ).loc Cert.AttentionRefIdeal.main_arg7) = m ((c.tc : Thread Cert.AttentionRefIdeal.nD Cert.AttentionRefIdeal.τ).loc Cert.AttentionRefIdeal.main_arg7))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6)
      ∧ r.2.mem ((c.tc : Thread Cert.ProjRefIdeal.nD Cert.ProjRefIdeal.τ).loc Cert.ProjRefIdeal.main_arg7) = m ((c.tc : Thread Cert.ProjRefIdeal.nD Cert.ProjRefIdeal.τ).loc Cert.ProjRefIdeal.main_arg7))
      ∧ r.2.sem = fun _ => 0)

def quiescent_Oproj [hOproj : Cert.Oproj.Facts] : Prop :=
  ∀ (m : (ℓ : Loc Cert.Oproj.nD Cert.Oproj.τ Cert.Oproj.sig) → Buf (Elt Bits) ℓ) (g : Dev Cert.Oproj.nD → PrngReg), Pre_Oproj m →
    θ_run (Cert.Oproj.defs (F := Bits)) (onTc (τ := Cert.Oproj.τ) (Cert.Oproj.main (F := Bits))) ⟨m, fun _ => 0, g⟩ (fun r => (∀ c : Dev Cert.Oproj.nD,
      r.2.mem ((c.tc : Thread Cert.Oproj.nD Cert.Oproj.τ).loc Cert.Oproj.main_arg0) = m ((c.tc : Thread Cert.Oproj.nD Cert.Oproj.τ).loc Cert.Oproj.main_arg0)
      ∧ r.2.mem ((c.tc : Thread Cert.Oproj.nD Cert.Oproj.τ).loc Cert.Oproj.main_arg1) = m ((c.tc : Thread Cert.Oproj.nD Cert.Oproj.τ).loc Cert.Oproj.main_arg1)
      ∧ r.2.mem ((c.tc : Thread Cert.Oproj.nD Cert.Oproj.τ).loc Cert.Oproj.main_arg2) = m ((c.tc : Thread Cert.Oproj.nD Cert.Oproj.τ).loc Cert.Oproj.main_arg2)
      ∧ r.2.mem ((c.tc : Thread Cert.Oproj.nD Cert.Oproj.τ).loc Cert.Oproj.main_arg3) = m ((c.tc : Thread Cert.Oproj.nD Cert.Oproj.τ).loc Cert.Oproj.main_arg3)
      ∧ r.2.mem ((c.tc : Thread Cert.Oproj.nD Cert.Oproj.τ).loc Cert.Oproj.main_arg4) = m ((c.tc : Thread Cert.Oproj.nD Cert.Oproj.τ).loc Cert.Oproj.main_arg4)
      ∧ r.2.mem ((c.tc : Thread Cert.Oproj.nD Cert.Oproj.τ).loc Cert.Oproj.main_arg5) = m ((c.tc : Thread Cert.Oproj.nD Cert.Oproj.τ).loc Cert.Oproj.main_arg5)
      ∧ r.2.mem ((c.tc : Thread Cert.Oproj.nD Cert.Oproj.τ).loc Cert.Oproj.main_arg6) = m ((c.tc : Thread Cert.Oproj.nD Cert.Oproj.τ).loc Cert.Oproj.main_arg6)
      ∧ r.2.mem ((c.tc : Thread Cert.Oproj.nD Cert.Oproj.τ).loc Cert.Oproj.main_arg7) = m ((c.tc : Thread Cert.Oproj.nD Cert.Oproj.τ).loc Cert.Oproj.main_arg7)
      ∧ r.2.mem ((c.tc : Thread Cert.Oproj.nD Cert.Oproj.τ).loc Cert.Oproj.main_arg8) = m ((c.tc : Thread Cert.Oproj.nD Cert.Oproj.τ).loc Cert.Oproj.main_arg8)
      ∧ r.2.mem ((c.tc : Thread Cert.Oproj.nD Cert.Oproj.τ).loc Cert.Oproj.main_arg9) = m ((c.tc : Thread Cert.Oproj.nD Cert.Oproj.τ).loc Cert.Oproj.main_arg9)
      ∧ r.2.mem ((c.tc : Thread Cert.Oproj.nD Cert.Oproj.τ).loc Cert.Oproj.main_arg10) = m ((c.tc : Thread Cert.Oproj.nD Cert.Oproj.τ).loc Cert.Oproj.main_arg10))
      ∧ r.2.sem = fun _ => 0)

def quiescent_OprojIdeal [hOprojIdeal : Cert.OprojIdeal.Facts] : Prop :=
  ∀ (m : (ℓ : Loc Cert.OprojIdeal.nD Cert.OprojIdeal.τ Cert.OprojIdeal.sig) → Buf (Elt Ideal) ℓ) (g : Dev Cert.OprojIdeal.nD → PrngReg), Pre_OprojIdeal m →
    θ_run (Cert.OprojIdeal.defs (F := Ideal)) (onTc (τ := Cert.OprojIdeal.τ) (Cert.OprojIdeal.main (F := Ideal))) ⟨m, fun _ => 0, g⟩ (fun r => (∀ c : Dev Cert.OprojIdeal.nD,
      r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
      ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
      ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
      ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
      ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4)
      ∧ r.2.mem ((c.tc : Thread Cert.OprojIdeal.nD Cert.OprojIdeal.τ).loc Cert.OprojIdeal.main_arg5) = m ((c.tc : Thread Cert.OprojIdeal.nD Cert.OprojIdeal.τ).loc Cert.OprojIdeal.main_arg5)
      ∧ r.2.mem ((c.tc : Thread Cert.OprojIdeal.nD Cert.OprojIdeal.τ).loc Cert.OprojIdeal.main_arg6) = m ((c.tc : Thread Cert.OprojIdeal.nD Cert.OprojIdeal.τ).loc Cert.OprojIdeal.main_arg6)
      ∧ r.2.mem ((c.tc : Thread Cert.OprojIdeal.nD Cert.OprojIdeal.τ).loc Cert.OprojIdeal.main_arg7) = m ((c.tc : Thread Cert.OprojIdeal.nD Cert.OprojIdeal.τ).loc Cert.OprojIdeal.main_arg7)
      ∧ r.2.mem ((c.tc : Thread Cert.OprojIdeal.nD Cert.OprojIdeal.τ).loc Cert.OprojIdeal.main_arg8) = m ((c.tc : Thread Cert.OprojIdeal.nD Cert.OprojIdeal.τ).loc Cert.OprojIdeal.main_arg8)
      ∧ r.2.mem ((c.tc : Thread Cert.OprojIdeal.nD Cert.OprojIdeal.τ).loc Cert.OprojIdeal.main_arg9) = m ((c.tc : Thread Cert.OprojIdeal.nD Cert.OprojIdeal.τ).loc Cert.OprojIdeal.main_arg9)
      ∧ r.2.mem ((c.tc : Thread Cert.OprojIdeal.nD Cert.OprojIdeal.τ).loc Cert.OprojIdeal.main_arg10) = m ((c.tc : Thread Cert.OprojIdeal.nD Cert.OprojIdeal.τ).loc Cert.OprojIdeal.main_arg10))
      ∧ r.2.sem = fun _ => 0)

def quiescent_OprojIdeal_pre_finite_gains_and_routers [hOprojIdeal : Cert.OprojIdeal.Facts] [hPre_finite_gains_and_routers : Cert.Pre_finite_gains_and_routers.Facts] : Prop :=
  ∀ (m : (ℓ : Loc Cert.OprojIdeal.nD Cert.OprojIdeal.τ Cert.OprojIdeal.sig) → Buf (Elt Ideal) ℓ) (g : Dev Cert.OprojIdeal.nD → PrngReg), Pre_OprojIdeal_finite_gains_and_routers m →
    θ_run (Cert.OprojIdeal.defs (F := Ideal)) (onTc (τ := Cert.OprojIdeal.τ) (Cert.OprojIdeal.main (F := Ideal))) ⟨m, fun _ => 0, g⟩ (fun r => (∀ c : Dev Cert.OprojIdeal.nD,
      r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
      ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
      ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
      ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
      ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4)
      ∧ r.2.mem ((c.tc : Thread Cert.OprojIdeal.nD Cert.OprojIdeal.τ).loc Cert.OprojIdeal.main_arg5) = m ((c.tc : Thread Cert.OprojIdeal.nD Cert.OprojIdeal.τ).loc Cert.OprojIdeal.main_arg5)
      ∧ r.2.mem ((c.tc : Thread Cert.OprojIdeal.nD Cert.OprojIdeal.τ).loc Cert.OprojIdeal.main_arg6) = m ((c.tc : Thread Cert.OprojIdeal.nD Cert.OprojIdeal.τ).loc Cert.OprojIdeal.main_arg6)
      ∧ r.2.mem ((c.tc : Thread Cert.OprojIdeal.nD Cert.OprojIdeal.τ).loc Cert.OprojIdeal.main_arg7) = m ((c.tc : Thread Cert.OprojIdeal.nD Cert.OprojIdeal.τ).loc Cert.OprojIdeal.main_arg7)
      ∧ r.2.mem ((c.tc : Thread Cert.OprojIdeal.nD Cert.OprojIdeal.τ).loc Cert.OprojIdeal.main_arg8) = m ((c.tc : Thread Cert.OprojIdeal.nD Cert.OprojIdeal.τ).loc Cert.OprojIdeal.main_arg8)
      ∧ r.2.mem ((c.tc : Thread Cert.OprojIdeal.nD Cert.OprojIdeal.τ).loc Cert.OprojIdeal.main_arg9) = m ((c.tc : Thread Cert.OprojIdeal.nD Cert.OprojIdeal.τ).loc Cert.OprojIdeal.main_arg9)
      ∧ r.2.mem ((c.tc : Thread Cert.OprojIdeal.nD Cert.OprojIdeal.τ).loc Cert.OprojIdeal.main_arg10) = m ((c.tc : Thread Cert.OprojIdeal.nD Cert.OprojIdeal.τ).loc Cert.OprojIdeal.main_arg10))
      ∧ r.2.sem = fun _ => 0)

def quiescent_OprojRefIdeal [hOprojRefIdeal : Cert.OprojRefIdeal.Facts] : Prop :=
  ∀ (m : (ℓ : Loc Cert.OprojRefIdeal.nD Cert.OprojRefIdeal.τ Cert.OprojRefIdeal.sig) → Buf (Elt Ideal) ℓ) (g : Dev Cert.OprojRefIdeal.nD → PrngReg), Pre_OprojRefIdeal m →
    θ_run (Cert.OprojRefIdeal.defs (F := Ideal)) (onTc (τ := Cert.OprojRefIdeal.τ) (Cert.OprojRefIdeal.main (F := Ideal))) ⟨m, fun _ => 0, g⟩ (fun r => (∀ c : Dev Cert.OprojRefIdeal.nD,
      r.2.mem ((c.tc : Thread Cert.OprojRefIdeal.nD Cert.OprojRefIdeal.τ).loc Cert.OprojRefIdeal.main_arg0) = m ((c.tc : Thread Cert.OprojRefIdeal.nD Cert.OprojRefIdeal.τ).loc Cert.OprojRefIdeal.main_arg0)
      ∧ r.2.mem ((c.tc : Thread Cert.OprojRefIdeal.nD Cert.OprojRefIdeal.τ).loc Cert.OprojRefIdeal.main_arg1) = m ((c.tc : Thread Cert.OprojRefIdeal.nD Cert.OprojRefIdeal.τ).loc Cert.OprojRefIdeal.main_arg1)
      ∧ r.2.mem ((c.tc : Thread Cert.OprojRefIdeal.nD Cert.OprojRefIdeal.τ).loc Cert.OprojRefIdeal.main_arg2) = m ((c.tc : Thread Cert.OprojRefIdeal.nD Cert.OprojRefIdeal.τ).loc Cert.OprojRefIdeal.main_arg2)
      ∧ r.2.mem ((c.tc : Thread Cert.OprojRefIdeal.nD Cert.OprojRefIdeal.τ).loc Cert.OprojRefIdeal.main_arg3) = m ((c.tc : Thread Cert.OprojRefIdeal.nD Cert.OprojRefIdeal.τ).loc Cert.OprojRefIdeal.main_arg3)
      ∧ r.2.mem ((c.tc : Thread Cert.OprojRefIdeal.nD Cert.OprojRefIdeal.τ).loc Cert.OprojRefIdeal.main_arg4) = m ((c.tc : Thread Cert.OprojRefIdeal.nD Cert.OprojRefIdeal.τ).loc Cert.OprojRefIdeal.main_arg4)
      ∧ r.2.mem ((c.tc : Thread Cert.OprojRefIdeal.nD Cert.OprojRefIdeal.τ).loc Cert.OprojRefIdeal.main_arg5) = m ((c.tc : Thread Cert.OprojRefIdeal.nD Cert.OprojRefIdeal.τ).loc Cert.OprojRefIdeal.main_arg5)
      ∧ r.2.mem ((c.tc : Thread Cert.OprojRefIdeal.nD Cert.OprojRefIdeal.τ).loc Cert.OprojRefIdeal.main_arg6) = m ((c.tc : Thread Cert.OprojRefIdeal.nD Cert.OprojRefIdeal.τ).loc Cert.OprojRefIdeal.main_arg6)
      ∧ r.2.mem ((c.tc : Thread Cert.OprojRefIdeal.nD Cert.OprojRefIdeal.τ).loc Cert.OprojRefIdeal.main_arg7) = m ((c.tc : Thread Cert.OprojRefIdeal.nD Cert.OprojRefIdeal.τ).loc Cert.OprojRefIdeal.main_arg7)
      ∧ r.2.mem ((c.tc : Thread Cert.OprojRefIdeal.nD Cert.OprojRefIdeal.τ).loc Cert.OprojRefIdeal.main_arg8) = m ((c.tc : Thread Cert.OprojRefIdeal.nD Cert.OprojRefIdeal.τ).loc Cert.OprojRefIdeal.main_arg8)
      ∧ r.2.mem ((c.tc : Thread Cert.OprojRefIdeal.nD Cert.OprojRefIdeal.τ).loc Cert.OprojRefIdeal.main_arg9) = m ((c.tc : Thread Cert.OprojRefIdeal.nD Cert.OprojRefIdeal.τ).loc Cert.OprojRefIdeal.main_arg9)
      ∧ r.2.mem ((c.tc : Thread Cert.OprojRefIdeal.nD Cert.OprojRefIdeal.τ).loc Cert.OprojRefIdeal.main_arg10) = m ((c.tc : Thread Cert.OprojRefIdeal.nD Cert.OprojRefIdeal.τ).loc Cert.OprojRefIdeal.main_arg10))
      ∧ r.2.sem = fun _ => 0)

def quiescent_OprojRefIdeal_pre_finite_gains_and_routers [hOprojRefIdeal : Cert.OprojRefIdeal.Facts] [hPre_finite_gains_and_routers : Cert.Pre_finite_gains_and_routers.Facts] : Prop :=
  ∀ (m : (ℓ : Loc Cert.OprojRefIdeal.nD Cert.OprojRefIdeal.τ Cert.OprojRefIdeal.sig) → Buf (Elt Ideal) ℓ) (g : Dev Cert.OprojRefIdeal.nD → PrngReg), Pre_OprojRefIdeal_finite_gains_and_routers m →
    θ_run (Cert.OprojRefIdeal.defs (F := Ideal)) (onTc (τ := Cert.OprojRefIdeal.τ) (Cert.OprojRefIdeal.main (F := Ideal))) ⟨m, fun _ => 0, g⟩ (fun r => (∀ c : Dev Cert.OprojRefIdeal.nD,
      r.2.mem ((c.tc : Thread Cert.OprojRefIdeal.nD Cert.OprojRefIdeal.τ).loc Cert.OprojRefIdeal.main_arg0) = m ((c.tc : Thread Cert.OprojRefIdeal.nD Cert.OprojRefIdeal.τ).loc Cert.OprojRefIdeal.main_arg0)
      ∧ r.2.mem ((c.tc : Thread Cert.OprojRefIdeal.nD Cert.OprojRefIdeal.τ).loc Cert.OprojRefIdeal.main_arg1) = m ((c.tc : Thread Cert.OprojRefIdeal.nD Cert.OprojRefIdeal.τ).loc Cert.OprojRefIdeal.main_arg1)
      ∧ r.2.mem ((c.tc : Thread Cert.OprojRefIdeal.nD Cert.OprojRefIdeal.τ).loc Cert.OprojRefIdeal.main_arg2) = m ((c.tc : Thread Cert.OprojRefIdeal.nD Cert.OprojRefIdeal.τ).loc Cert.OprojRefIdeal.main_arg2)
      ∧ r.2.mem ((c.tc : Thread Cert.OprojRefIdeal.nD Cert.OprojRefIdeal.τ).loc Cert.OprojRefIdeal.main_arg3) = m ((c.tc : Thread Cert.OprojRefIdeal.nD Cert.OprojRefIdeal.τ).loc Cert.OprojRefIdeal.main_arg3)
      ∧ r.2.mem ((c.tc : Thread Cert.OprojRefIdeal.nD Cert.OprojRefIdeal.τ).loc Cert.OprojRefIdeal.main_arg4) = m ((c.tc : Thread Cert.OprojRefIdeal.nD Cert.OprojRefIdeal.τ).loc Cert.OprojRefIdeal.main_arg4)
      ∧ r.2.mem ((c.tc : Thread Cert.OprojRefIdeal.nD Cert.OprojRefIdeal.τ).loc Cert.OprojRefIdeal.main_arg5) = m ((c.tc : Thread Cert.OprojRefIdeal.nD Cert.OprojRefIdeal.τ).loc Cert.OprojRefIdeal.main_arg5)
      ∧ r.2.mem ((c.tc : Thread Cert.OprojRefIdeal.nD Cert.OprojRefIdeal.τ).loc Cert.OprojRefIdeal.main_arg6) = m ((c.tc : Thread Cert.OprojRefIdeal.nD Cert.OprojRefIdeal.τ).loc Cert.OprojRefIdeal.main_arg6)
      ∧ r.2.mem ((c.tc : Thread Cert.OprojRefIdeal.nD Cert.OprojRefIdeal.τ).loc Cert.OprojRefIdeal.main_arg7) = m ((c.tc : Thread Cert.OprojRefIdeal.nD Cert.OprojRefIdeal.τ).loc Cert.OprojRefIdeal.main_arg7)
      ∧ r.2.mem ((c.tc : Thread Cert.OprojRefIdeal.nD Cert.OprojRefIdeal.τ).loc Cert.OprojRefIdeal.main_arg8) = m ((c.tc : Thread Cert.OprojRefIdeal.nD Cert.OprojRefIdeal.τ).loc Cert.OprojRefIdeal.main_arg8)
      ∧ r.2.mem ((c.tc : Thread Cert.OprojRefIdeal.nD Cert.OprojRefIdeal.τ).loc Cert.OprojRefIdeal.main_arg9) = m ((c.tc : Thread Cert.OprojRefIdeal.nD Cert.OprojRefIdeal.τ).loc Cert.OprojRefIdeal.main_arg9)
      ∧ r.2.mem ((c.tc : Thread Cert.OprojRefIdeal.nD Cert.OprojRefIdeal.τ).loc Cert.OprojRefIdeal.main_arg10) = m ((c.tc : Thread Cert.OprojRefIdeal.nD Cert.OprojRefIdeal.τ).loc Cert.OprojRefIdeal.main_arg10))
      ∧ r.2.sem = fun _ => 0)

def preserves_Split_SplitIdeal : Prop :=
  True

def algebraic_SplitIdeal_SplitRefIdeal [hSplitIdeal : Cert.SplitIdeal.Facts] [hSplitRefIdeal : Cert.SplitRefIdeal.Facts] : Prop :=
  ∀ (m : (ℓ : Loc Cert.SplitIdeal.nD Cert.SplitIdeal.τ Cert.SplitIdeal.sig) → Buf (Elt Ideal) ℓ) (g : Dev Cert.SplitIdeal.nD → PrngReg)
    (m' : (ℓ : Loc Cert.SplitRefIdeal.nD Cert.SplitRefIdeal.τ Cert.SplitRefIdeal.sig) → Buf (Elt Ideal) ℓ) (g' : Dev Cert.SplitRefIdeal.nD → PrngReg), Pre_SplitIdeal m →
    (∀ c : Dev Cert.SplitIdeal.nD,
      m' ((c.tc : Thread Cert.SplitRefIdeal.nD Cert.SplitRefIdeal.τ).loc Cert.SplitRefIdeal.main_arg0) = m ((c.tc : Thread Cert.SplitIdeal.nD Cert.SplitIdeal.τ).loc Cert.SplitIdeal.main_arg0)) →
    ∃ (v0 : (c : Dev Cert.SplitIdeal.nD) → Buf (Elt Ideal) ((c.tc : Thread Cert.SplitIdeal.nD Cert.SplitIdeal.τ).loc Cert.SplitIdeal.main_v2_0)) (v1 : (c : Dev Cert.SplitIdeal.nD) → Buf (Elt Ideal) ((c.tc : Thread Cert.SplitIdeal.nD Cert.SplitIdeal.τ).loc Cert.SplitIdeal.main_v2_1)) (v2 : (c : Dev Cert.SplitIdeal.nD) → Buf (Elt Ideal) ((c.tc : Thread Cert.SplitIdeal.nD Cert.SplitIdeal.τ).loc Cert.SplitIdeal.main_v2_2)),
      θ_run (Cert.SplitIdeal.defs (F := Ideal)) (onTc (τ := Cert.SplitIdeal.τ) (Cert.SplitIdeal.main (F := Ideal))) ⟨m, fun _ => 0, g⟩ (fun r => ∀ c : Dev Cert.SplitIdeal.nD,
          r.2.mem ((c.tc : Thread Cert.SplitIdeal.nD Cert.SplitIdeal.τ).loc Cert.SplitIdeal.main_v2_0) = v0 c
          ∧ r.2.mem ((c.tc : Thread Cert.SplitIdeal.nD Cert.SplitIdeal.τ).loc Cert.SplitIdeal.main_v2_1) = v1 c
          ∧ r.2.mem ((c.tc : Thread Cert.SplitIdeal.nD Cert.SplitIdeal.τ).loc Cert.SplitIdeal.main_v2_2) = v2 c
          ∧ r.2.mem ((c.tc : Thread Cert.SplitIdeal.nD Cert.SplitIdeal.τ).loc Cert.SplitIdeal.main_arg0) = m ((c.tc : Thread Cert.SplitIdeal.nD Cert.SplitIdeal.τ).loc Cert.SplitIdeal.main_arg0))
      ∧ θ_run (Cert.SplitRefIdeal.defs (F := Ideal)) (onTc (τ := Cert.SplitRefIdeal.τ) (Cert.SplitRefIdeal.main (F := Ideal))) ⟨m', fun _ => 0, g'⟩ (fun r => ∀ c : Dev Cert.SplitRefIdeal.nD,
          r.2.mem ((c.tc : Thread Cert.SplitRefIdeal.nD Cert.SplitRefIdeal.τ).loc Cert.SplitRefIdeal.main_v8) = v0 c
          ∧ r.2.mem ((c.tc : Thread Cert.SplitRefIdeal.nD Cert.SplitRefIdeal.τ).loc Cert.SplitRefIdeal.main_v9) = v1 c
          ∧ r.2.mem ((c.tc : Thread Cert.SplitRefIdeal.nD Cert.SplitRefIdeal.τ).loc Cert.SplitRefIdeal.main_v10) = v2 c
          ∧ r.2.mem ((c.tc : Thread Cert.SplitRefIdeal.nD Cert.SplitRefIdeal.τ).loc Cert.SplitRefIdeal.main_arg0) = m' ((c.tc : Thread Cert.SplitRefIdeal.nD Cert.SplitRefIdeal.τ).loc Cert.SplitRefIdeal.main_arg0))

def bitexact_Split_SplitRef [hSplit : Cert.Split.Facts] [hSplitRef : Cert.SplitRef.Facts] : Prop :=
  ∀ (m : (ℓ : Loc Cert.Split.nD Cert.Split.τ Cert.Split.sig) → Buf (Elt Bits) ℓ) (g : Dev Cert.Split.nD → PrngReg)
    (m' : (ℓ : Loc Cert.SplitRef.nD Cert.SplitRef.τ Cert.SplitRef.sig) → Buf (Elt Bits) ℓ) (g' : Dev Cert.SplitRef.nD → PrngReg), Pre_Split m →
    (∀ c : Dev Cert.Split.nD,
      m' ((c.tc : Thread Cert.SplitRef.nD Cert.SplitRef.τ).loc Cert.SplitRef.main_arg0) = m ((c.tc : Thread Cert.Split.nD Cert.Split.τ).loc Cert.Split.main_arg0)) →
    ∃ (v0 : (c : Dev Cert.Split.nD) → Buf (Elt Bits) ((c.tc : Thread Cert.Split.nD Cert.Split.τ).loc Cert.Split.main_v2_0)) (v1 : (c : Dev Cert.Split.nD) → Buf (Elt Bits) ((c.tc : Thread Cert.Split.nD Cert.Split.τ).loc Cert.Split.main_v2_1)) (v2 : (c : Dev Cert.Split.nD) → Buf (Elt Bits) ((c.tc : Thread Cert.Split.nD Cert.Split.τ).loc Cert.Split.main_v2_2)),
      θ_run (Cert.Split.defs (F := Bits)) (onTc (τ := Cert.Split.τ) (Cert.Split.main (F := Bits))) ⟨m, fun _ => 0, g⟩ (fun r => ∀ c : Dev Cert.Split.nD,
          r.2.mem ((c.tc : Thread Cert.Split.nD Cert.Split.τ).loc Cert.Split.main_v2_0) = v0 c
          ∧ r.2.mem ((c.tc : Thread Cert.Split.nD Cert.Split.τ).loc Cert.Split.main_v2_1) = v1 c
          ∧ r.2.mem ((c.tc : Thread Cert.Split.nD Cert.Split.τ).loc Cert.Split.main_v2_2) = v2 c
          ∧ r.2.mem ((c.tc : Thread Cert.Split.nD Cert.Split.τ).loc Cert.Split.main_arg0) = m ((c.tc : Thread Cert.Split.nD Cert.Split.τ).loc Cert.Split.main_arg0))
      ∧ θ_run (Cert.SplitRef.defs (F := Bits)) (onTc (τ := Cert.SplitRef.τ) (Cert.SplitRef.main (F := Bits))) ⟨m', fun _ => 0, g'⟩ (fun r => ∀ c : Dev Cert.SplitRef.nD,
          r.2.mem ((c.tc : Thread Cert.SplitRef.nD Cert.SplitRef.τ).loc Cert.SplitRef.main_v8) = v0 c
          ∧ r.2.mem ((c.tc : Thread Cert.SplitRef.nD Cert.SplitRef.τ).loc Cert.SplitRef.main_v9) = v1 c
          ∧ r.2.mem ((c.tc : Thread Cert.SplitRef.nD Cert.SplitRef.τ).loc Cert.SplitRef.main_v10) = v2 c
          ∧ r.2.mem ((c.tc : Thread Cert.SplitRef.nD Cert.SplitRef.τ).loc Cert.SplitRef.main_arg0) = m' ((c.tc : Thread Cert.SplitRef.nD Cert.SplitRef.τ).loc Cert.SplitRef.main_arg0))

def preserves_Attention_AttentionIdeal : Prop :=
  True

def algebraic_AttentionIdeal_AttentionRefIdeal_pre_finite_queries_and_keys [hAttentionIdeal : Cert.AttentionIdeal.Facts] [hAttentionRefIdeal : Cert.AttentionRefIdeal.Facts] [hPre_finite_queries_and_keys : Cert.Pre_finite_queries_and_keys.Facts] : Prop :=
  ∀ (m : (ℓ : Loc Cert.AttentionIdeal.nD Cert.AttentionIdeal.τ Cert.AttentionIdeal.sig) → Buf (Elt Ideal) ℓ) (g : Dev Cert.AttentionIdeal.nD → PrngReg)
    (m' : (ℓ : Loc Cert.AttentionRefIdeal.nD Cert.AttentionRefIdeal.τ Cert.AttentionRefIdeal.sig) → Buf (Elt Ideal) ℓ) (g' : Dev Cert.AttentionRefIdeal.nD → PrngReg), Pre_AttentionIdeal_finite_queries_and_keys m →
    (∀ c : Dev Cert.AttentionIdeal.nD,
      m' ((c.tc : Thread Cert.AttentionRefIdeal.nD Cert.AttentionRefIdeal.τ).loc Cert.AttentionRefIdeal.main_arg0) = m ((c.tc : Thread Cert.AttentionIdeal.nD Cert.AttentionIdeal.τ).loc Cert.AttentionIdeal.main_arg0)
      ∧ m' ((c.tc : Thread Cert.AttentionRefIdeal.nD Cert.AttentionRefIdeal.τ).loc Cert.AttentionRefIdeal.main_arg1) = m ((c.tc : Thread Cert.AttentionIdeal.nD Cert.AttentionIdeal.τ).loc Cert.AttentionIdeal.main_arg1)
      ∧ m' ((c.tc : Thread Cert.AttentionRefIdeal.nD Cert.AttentionRefIdeal.τ).loc Cert.AttentionRefIdeal.main_arg2) = m ((c.tc : Thread Cert.AttentionIdeal.nD Cert.AttentionIdeal.τ).loc Cert.AttentionIdeal.main_arg2)
      ∧ m' ((c.tc : Thread Cert.AttentionRefIdeal.nD Cert.AttentionRefIdeal.τ).loc Cert.AttentionRefIdeal.main_arg3) = m ((c.tc : Thread Cert.AttentionIdeal.nD Cert.AttentionIdeal.τ).loc Cert.AttentionIdeal.main_arg3)
      ∧ m' ((c.tc : Thread Cert.AttentionRefIdeal.nD Cert.AttentionRefIdeal.τ).loc Cert.AttentionRefIdeal.main_arg4) = m ((c.tc : Thread Cert.AttentionIdeal.nD Cert.AttentionIdeal.τ).loc Cert.AttentionIdeal.main_arg4)
      ∧ m' ((c.tc : Thread Cert.AttentionRefIdeal.nD Cert.AttentionRefIdeal.τ).loc Cert.AttentionRefIdeal.main_arg5) = m ((c.tc : Thread Cert.AttentionIdeal.nD Cert.AttentionIdeal.τ).loc Cert.AttentionIdeal.main_arg5)
      ∧ m' ((c.tc : Thread Cert.AttentionRefIdeal.nD Cert.AttentionRefIdeal.τ).loc Cert.AttentionRefIdeal.main_arg6) = m ((c.tc : Thread Cert.AttentionIdeal.nD Cert.AttentionIdeal.τ).loc Cert.AttentionIdeal.main_arg6)
      ∧ m' ((c.tc : Thread Cert.AttentionRefIdeal.nD Cert.AttentionRefIdeal.τ).loc Cert.AttentionRefIdeal.main_arg7) = m ((c.tc : Thread Cert.AttentionIdeal.nD Cert.AttentionIdeal.τ).loc Cert.AttentionIdeal.main_arg7)) →
    ∃ (v0 : (c : Dev Cert.AttentionIdeal.nD) → Buf (Elt Ideal) ((c.tc : Thread Cert.AttentionIdeal.nD Cert.AttentionIdeal.τ).loc Cert.AttentionIdeal.main_v25_0)) (v1 : (c : Dev Cert.AttentionIdeal.nD) → Buf (Elt Ideal) ((c.tc : Thread Cert.AttentionIdeal.nD Cert.AttentionIdeal.τ).loc Cert.AttentionIdeal.main_v25_1)),
      θ_run (Cert.AttentionIdeal.defs (F := Ideal)) (onTc (τ := Cert.AttentionIdeal.τ) (Cert.AttentionIdeal.main (F := Ideal))) ⟨m, fun _ => 0, g⟩ (fun r => ∀ c : Dev Cert.AttentionIdeal.nD,
          r.2.mem ((c.tc : Thread Cert.AttentionIdeal.nD Cert.AttentionIdeal.τ).loc Cert.AttentionIdeal.main_v25_0) = v0 c
          ∧ r.2.mem ((c.tc : Thread Cert.AttentionIdeal.nD Cert.AttentionIdeal.τ).loc Cert.AttentionIdeal.main_v25_1) = v1 c
          ∧ r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
          ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
          ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
          ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3)
          ∧ r.2.mem ((c.tc : Thread Cert.AttentionIdeal.nD Cert.AttentionIdeal.τ).loc Cert.AttentionIdeal.main_arg4) = m ((c.tc : Thread Cert.AttentionIdeal.nD Cert.AttentionIdeal.τ).loc Cert.AttentionIdeal.main_arg4)
          ∧ r.2.mem ((c.tc : Thread Cert.AttentionIdeal.nD Cert.AttentionIdeal.τ).loc Cert.AttentionIdeal.main_arg5) = m ((c.tc : Thread Cert.AttentionIdeal.nD Cert.AttentionIdeal.τ).loc Cert.AttentionIdeal.main_arg5)
          ∧ r.2.mem ((c.tc : Thread Cert.AttentionIdeal.nD Cert.AttentionIdeal.τ).loc Cert.AttentionIdeal.main_arg6) = m ((c.tc : Thread Cert.AttentionIdeal.nD Cert.AttentionIdeal.τ).loc Cert.AttentionIdeal.main_arg6)
          ∧ r.2.mem ((c.tc : Thread Cert.AttentionIdeal.nD Cert.AttentionIdeal.τ).loc Cert.AttentionIdeal.main_arg7) = m ((c.tc : Thread Cert.AttentionIdeal.nD Cert.AttentionIdeal.τ).loc Cert.AttentionIdeal.main_arg7))
      ∧ θ_run (Cert.AttentionRefIdeal.defs (F := Ideal)) (onTc (τ := Cert.AttentionRefIdeal.τ) (Cert.AttentionRefIdeal.main (F := Ideal))) ⟨m', fun _ => 0, g'⟩ (fun r => ∀ c : Dev Cert.AttentionRefIdeal.nD,
          r.2.mem ((c.tc : Thread Cert.AttentionRefIdeal.nD Cert.AttentionRefIdeal.τ).loc Cert.AttentionRefIdeal.main_v245) = v0 c
          ∧ r.2.mem ((c.tc : Thread Cert.AttentionRefIdeal.nD Cert.AttentionRefIdeal.τ).loc Cert.AttentionRefIdeal.main_v247) = v1 c
          ∧ r.2.mem ((c.tc : Thread Cert.AttentionRefIdeal.nD Cert.AttentionRefIdeal.τ).loc Cert.AttentionRefIdeal.main_arg0) = m' ((c.tc : Thread Cert.AttentionRefIdeal.nD Cert.AttentionRefIdeal.τ).loc Cert.AttentionRefIdeal.main_arg0)
          ∧ r.2.mem ((c.tc : Thread Cert.AttentionRefIdeal.nD Cert.AttentionRefIdeal.τ).loc Cert.AttentionRefIdeal.main_arg1) = m' ((c.tc : Thread Cert.AttentionRefIdeal.nD Cert.AttentionRefIdeal.τ).loc Cert.AttentionRefIdeal.main_arg1)
          ∧ r.2.mem ((c.tc : Thread Cert.AttentionRefIdeal.nD Cert.AttentionRefIdeal.τ).loc Cert.AttentionRefIdeal.main_arg2) = m' ((c.tc : Thread Cert.AttentionRefIdeal.nD Cert.AttentionRefIdeal.τ).loc Cert.AttentionRefIdeal.main_arg2)
          ∧ r.2.mem ((c.tc : Thread Cert.AttentionRefIdeal.nD Cert.AttentionRefIdeal.τ).loc Cert.AttentionRefIdeal.main_arg3) = m' ((c.tc : Thread Cert.AttentionRefIdeal.nD Cert.AttentionRefIdeal.τ).loc Cert.AttentionRefIdeal.main_arg3)
          ∧ r.2.mem ((c.tc : Thread Cert.AttentionRefIdeal.nD Cert.AttentionRefIdeal.τ).loc Cert.AttentionRefIdeal.main_arg4) = m' ((c.tc : Thread Cert.AttentionRefIdeal.nD Cert.AttentionRefIdeal.τ).loc Cert.AttentionRefIdeal.main_arg4)
          ∧ r.2.mem ((c.tc : Thread Cert.AttentionRefIdeal.nD Cert.AttentionRefIdeal.τ).loc Cert.AttentionRefIdeal.main_arg5) = m' ((c.tc : Thread Cert.AttentionRefIdeal.nD Cert.AttentionRefIdeal.τ).loc Cert.AttentionRefIdeal.main_arg5)
          ∧ r.2.mem ((c.tc : Thread Cert.AttentionRefIdeal.nD Cert.AttentionRefIdeal.τ).loc Cert.AttentionRefIdeal.main_arg6) = m' ((c.tc : Thread Cert.AttentionRefIdeal.nD Cert.AttentionRefIdeal.τ).loc Cert.AttentionRefIdeal.main_arg6)
          ∧ r.2.mem ((c.tc : Thread Cert.AttentionRefIdeal.nD Cert.AttentionRefIdeal.τ).loc Cert.AttentionRefIdeal.main_arg7) = m' ((c.tc : Thread Cert.AttentionRefIdeal.nD Cert.AttentionRefIdeal.τ).loc Cert.AttentionRefIdeal.main_arg7))

def preserves_Proj_ProjIdeal : Prop :=
  IdealRules.named_const.Statement Cert.ProjIdeal.κ "q_scale" .f32 0x3DD53B95#32 (((Real.sqrt 192)⁻¹ * (Real.log 2)⁻¹ : ℝ) : EReal)

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)
      ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)
      ∧ m' ((c.tc : Thread Cert.ProjRefIdeal.nD Cert.ProjRefIdeal.τ).loc Cert.ProjRefIdeal.main_arg7) = m ((c.tc : Thread Cert.ProjIdeal.nD Cert.ProjIdeal.τ).loc Cert.ProjIdeal.main_arg7)) →
    ∃ (v0 : (c : Dev Cert.ProjIdeal.nD) → Buf (Elt Ideal) ((c.tc : Thread Cert.ProjIdeal.nD Cert.ProjIdeal.τ).loc Cert.ProjIdeal.main_v43_0)) (v1 : (c : Dev Cert.ProjIdeal.nD) → Buf (Elt Ideal) ((c.tc : Thread Cert.ProjIdeal.nD Cert.ProjIdeal.τ).loc Cert.ProjIdeal.main_v43_1)) (v2 : (c : Dev Cert.ProjIdeal.nD) → Buf (Elt Ideal) ((c.tc : Thread Cert.ProjIdeal.nD Cert.ProjIdeal.τ).loc Cert.ProjIdeal.main_v43_2)) (v3 : (c : Dev Cert.ProjIdeal.nD) → Buf (Elt Ideal) ((c.tc : Thread Cert.ProjIdeal.nD Cert.ProjIdeal.τ).loc Cert.ProjIdeal.main_v43_3)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v43_0) = v0 c
          ∧ r.2.mem ((c.tc : Thread Cert.ProjIdeal.nD Cert.ProjIdeal.τ).loc Cert.ProjIdeal.main_v43_1) = v1 c
          ∧ r.2.mem ((c.tc : Thread Cert.ProjIdeal.nD Cert.ProjIdeal.τ).loc Cert.ProjIdeal.main_v43_2) = v2 c
          ∧ r.2.mem ((c.tc : Thread Cert.ProjIdeal.nD Cert.ProjIdeal.τ).loc Cert.ProjIdeal.main_v43_3) = v3 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v143) = v0 c
          ∧ r.2.mem ((c.tc : Thread Cert.ProjRefIdeal.nD Cert.ProjRefIdeal.τ).loc Cert.ProjRefIdeal.main_v145) = v1 c
          ∧ r.2.mem ((c.tc : Thread Cert.ProjRefIdeal.nD Cert.ProjRefIdeal.τ).loc Cert.ProjRefIdeal.main_v147) = v2 c
          ∧ r.2.mem ((c.tc : Thread Cert.ProjRefIdeal.nD Cert.ProjRefIdeal.τ).loc Cert.ProjRefIdeal.main_v149) = v3 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m' ((c.tc : Thread Cert.ProjRefIdeal.nD Cert.ProjRefIdeal.τ).loc Cert.ProjRefIdeal.main_arg6)
          ∧ r.2.mem ((c.tc : Thread Cert.ProjRefIdeal.nD Cert.ProjRefIdeal.τ).loc Cert.ProjRefIdeal.main_arg7) = m' ((c.tc : Thread Cert.ProjRefIdeal.nD Cert.ProjRefIdeal.τ).loc Cert.ProjRefIdeal.main_arg7))

def preserves_Oproj_OprojIdeal : Prop :=
  True

def algebraic_OprojIdeal_OprojRefIdeal_pre_finite_gains_and_routers [hOprojIdeal : Cert.OprojIdeal.Facts] [hOprojRefIdeal : Cert.OprojRefIdeal.Facts] [hPre_finite_gains_and_routers : Cert.Pre_finite_gains_and_routers.Facts] : Prop :=
  ∀ (m : (ℓ : Loc Cert.OprojIdeal.nD Cert.OprojIdeal.τ Cert.OprojIdeal.sig) → Buf (Elt Ideal) ℓ) (g : Dev Cert.OprojIdeal.nD → PrngReg)
    (m' : (ℓ : Loc Cert.OprojRefIdeal.nD Cert.OprojRefIdeal.τ Cert.OprojRefIdeal.sig) → Buf (Elt Ideal) ℓ) (g' : Dev Cert.OprojRefIdeal.nD → PrngReg), Pre_OprojIdeal_finite_gains_and_routers m →
    (∀ c : Dev Cert.OprojIdeal.nD,
      m' ((c.tc : Thread Cert.OprojRefIdeal.nD Cert.OprojRefIdeal.τ).loc Cert.OprojRefIdeal.main_arg0) = m ((c.tc : Thread Cert.OprojIdeal.nD Cert.OprojIdeal.τ).loc Cert.OprojIdeal.main_arg0)
      ∧ m' ((c.tc : Thread Cert.OprojRefIdeal.nD Cert.OprojRefIdeal.τ).loc Cert.OprojRefIdeal.main_arg1) = m ((c.tc : Thread Cert.OprojIdeal.nD Cert.OprojIdeal.τ).loc Cert.OprojIdeal.main_arg1)
      ∧ m' ((c.tc : Thread Cert.OprojRefIdeal.nD Cert.OprojRefIdeal.τ).loc Cert.OprojRefIdeal.main_arg2) = m ((c.tc : Thread Cert.OprojIdeal.nD Cert.OprojIdeal.τ).loc Cert.OprojIdeal.main_arg2)
      ∧ m' ((c.tc : Thread Cert.OprojRefIdeal.nD Cert.OprojRefIdeal.τ).loc Cert.OprojRefIdeal.main_arg3) = m ((c.tc : Thread Cert.OprojIdeal.nD Cert.OprojIdeal.τ).loc Cert.OprojIdeal.main_arg3)
      ∧ m' ((c.tc : Thread Cert.OprojRefIdeal.nD Cert.OprojRefIdeal.τ).loc Cert.OprojRefIdeal.main_arg4) = m ((c.tc : Thread Cert.OprojIdeal.nD Cert.OprojIdeal.τ).loc Cert.OprojIdeal.main_arg4)
      ∧ m' ((c.tc : Thread Cert.OprojRefIdeal.nD Cert.OprojRefIdeal.τ).loc Cert.OprojRefIdeal.main_arg5) = m ((c.tc : Thread Cert.OprojIdeal.nD Cert.OprojIdeal.τ).loc Cert.OprojIdeal.main_arg5)
      ∧ m' ((c.tc : Thread Cert.OprojRefIdeal.nD Cert.OprojRefIdeal.τ).loc Cert.OprojRefIdeal.main_arg6) = m ((c.tc : Thread Cert.OprojIdeal.nD Cert.OprojIdeal.τ).loc Cert.OprojIdeal.main_arg6)
      ∧ m' ((c.tc : Thread Cert.OprojRefIdeal.nD Cert.OprojRefIdeal.τ).loc Cert.OprojRefIdeal.main_arg7) = m ((c.tc : Thread Cert.OprojIdeal.nD Cert.OprojIdeal.τ).loc Cert.OprojIdeal.main_arg7)
      ∧ m' ((c.tc : Thread Cert.OprojRefIdeal.nD Cert.OprojRefIdeal.τ).loc Cert.OprojRefIdeal.main_arg8) = m ((c.tc : Thread Cert.OprojIdeal.nD Cert.OprojIdeal.τ).loc Cert.OprojIdeal.main_arg8)
      ∧ m' ((c.tc : Thread Cert.OprojRefIdeal.nD Cert.OprojRefIdeal.τ).loc Cert.OprojRefIdeal.main_arg9) = m ((c.tc : Thread Cert.OprojIdeal.nD Cert.OprojIdeal.τ).loc Cert.OprojIdeal.main_arg9)
      ∧ m' ((c.tc : Thread Cert.OprojRefIdeal.nD Cert.OprojRefIdeal.τ).loc Cert.OprojRefIdeal.main_arg10) = m ((c.tc : Thread Cert.OprojIdeal.nD Cert.OprojIdeal.τ).loc Cert.OprojIdeal.main_arg10)) →
    ∃ (v0 : (c : Dev Cert.OprojIdeal.nD) → Buf (Elt Ideal) ((c.tc : Thread Cert.OprojIdeal.nD Cert.OprojIdeal.τ).loc Cert.OprojIdeal.main_v20_0)) (v1 : (c : Dev Cert.OprojIdeal.nD) → Buf (Elt Ideal) ((c.tc : Thread Cert.OprojIdeal.nD Cert.OprojIdeal.τ).loc Cert.OprojIdeal.main_v20_1)),
      θ_run (Cert.OprojIdeal.defs (F := Ideal)) (onTc (τ := Cert.OprojIdeal.τ) (Cert.OprojIdeal.main (F := Ideal))) ⟨m, fun _ => 0, g⟩ (fun r => ∀ c : Dev Cert.OprojIdeal.nD,
          r.2.mem ((c.tc : Thread Cert.OprojIdeal.nD Cert.OprojIdeal.τ).loc Cert.OprojIdeal.main_v20_0) = v0 c
          ∧ r.2.mem ((c.tc : Thread Cert.OprojIdeal.nD Cert.OprojIdeal.τ).loc Cert.OprojIdeal.main_v20_1) = v1 c
          ∧ r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
          ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
          ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
          ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
          ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4)
          ∧ r.2.mem ((c.tc : Thread Cert.OprojIdeal.nD Cert.OprojIdeal.τ).loc Cert.OprojIdeal.main_arg5) = m ((c.tc : Thread Cert.OprojIdeal.nD Cert.OprojIdeal.τ).loc Cert.OprojIdeal.main_arg5)
          ∧ r.2.mem ((c.tc : Thread Cert.OprojIdeal.nD Cert.OprojIdeal.τ).loc Cert.OprojIdeal.main_arg6) = m ((c.tc : Thread Cert.OprojIdeal.nD Cert.OprojIdeal.τ).loc Cert.OprojIdeal.main_arg6)
          ∧ r.2.mem ((c.tc : Thread Cert.OprojIdeal.nD Cert.OprojIdeal.τ).loc Cert.OprojIdeal.main_arg7) = m ((c.tc : Thread Cert.OprojIdeal.nD Cert.OprojIdeal.τ).loc Cert.OprojIdeal.main_arg7)
          ∧ r.2.mem ((c.tc : Thread Cert.OprojIdeal.nD Cert.OprojIdeal.τ).loc Cert.OprojIdeal.main_arg8) = m ((c.tc : Thread Cert.OprojIdeal.nD Cert.OprojIdeal.τ).loc Cert.OprojIdeal.main_arg8)
          ∧ r.2.mem ((c.tc : Thread Cert.OprojIdeal.nD Cert.OprojIdeal.τ).loc Cert.OprojIdeal.main_arg9) = m ((c.tc : Thread Cert.OprojIdeal.nD Cert.OprojIdeal.τ).loc Cert.OprojIdeal.main_arg9)
          ∧ r.2.mem ((c.tc : Thread Cert.OprojIdeal.nD Cert.OprojIdeal.τ).loc Cert.OprojIdeal.main_arg10) = m ((c.tc : Thread Cert.OprojIdeal.nD Cert.OprojIdeal.τ).loc Cert.OprojIdeal.main_arg10))
      ∧ θ_run (Cert.OprojRefIdeal.defs (F := Ideal)) (onTc (τ := Cert.OprojRefIdeal.τ) (Cert.OprojRefIdeal.main (F := Ideal))) ⟨m', fun _ => 0, g'⟩ (fun r => ∀ c : Dev Cert.OprojRefIdeal.nD,
          r.2.mem ((c.tc : Thread Cert.OprojRefIdeal.nD Cert.OprojRefIdeal.τ).loc Cert.OprojRefIdeal.main_v60) = v0 c
          ∧ r.2.mem ((c.tc : Thread Cert.OprojRefIdeal.nD Cert.OprojRefIdeal.τ).loc Cert.OprojRefIdeal.main_v59) = v1 c
          ∧ r.2.mem ((c.tc : Thread Cert.OprojRefIdeal.nD Cert.OprojRefIdeal.τ).loc Cert.OprojRefIdeal.main_arg0) = m' ((c.tc : Thread Cert.OprojRefIdeal.nD Cert.OprojRefIdeal.τ).loc Cert.OprojRefIdeal.main_arg0)
          ∧ r.2.mem ((c.tc : Thread Cert.OprojRefIdeal.nD Cert.OprojRefIdeal.τ).loc Cert.OprojRefIdeal.main_arg1) = m' ((c.tc : Thread Cert.OprojRefIdeal.nD Cert.OprojRefIdeal.τ).loc Cert.OprojRefIdeal.main_arg1)
          ∧ r.2.mem ((c.tc : Thread Cert.OprojRefIdeal.nD Cert.OprojRefIdeal.τ).loc Cert.OprojRefIdeal.main_arg2) = m' ((c.tc : Thread Cert.OprojRefIdeal.nD Cert.OprojRefIdeal.τ).loc Cert.OprojRefIdeal.main_arg2)
          ∧ r.2.mem ((c.tc : Thread Cert.OprojRefIdeal.nD Cert.OprojRefIdeal.τ).loc Cert.OprojRefIdeal.main_arg3) = m' ((c.tc : Thread Cert.OprojRefIdeal.nD Cert.OprojRefIdeal.τ).loc Cert.OprojRefIdeal.main_arg3)
          ∧ r.2.mem ((c.tc : Thread Cert.OprojRefIdeal.nD Cert.OprojRefIdeal.τ).loc Cert.OprojRefIdeal.main_arg4) = m' ((c.tc : Thread Cert.OprojRefIdeal.nD Cert.OprojRefIdeal.τ).loc Cert.OprojRefIdeal.main_arg4)
          ∧ r.2.mem ((c.tc : Thread Cert.OprojRefIdeal.nD Cert.OprojRefIdeal.τ).loc Cert.OprojRefIdeal.main_arg5) = m' ((c.tc : Thread Cert.OprojRefIdeal.nD Cert.OprojRefIdeal.τ).loc Cert.OprojRefIdeal.main_arg5)
          ∧ r.2.mem ((c.tc : Thread Cert.OprojRefIdeal.nD Cert.OprojRefIdeal.τ).loc Cert.OprojRefIdeal.main_arg6) = m' ((c.tc : Thread Cert.OprojRefIdeal.nD Cert.OprojRefIdeal.τ).loc Cert.OprojRefIdeal.main_arg6)
          ∧ r.2.mem ((c.tc : Thread Cert.OprojRefIdeal.nD Cert.OprojRefIdeal.τ).loc Cert.OprojRefIdeal.main_arg7) = m' ((c.tc : Thread Cert.OprojRefIdeal.nD Cert.OprojRefIdeal.τ).loc Cert.OprojRefIdeal.main_arg7)
          ∧ r.2.mem ((c.tc : Thread Cert.OprojRefIdeal.nD Cert.OprojRefIdeal.τ).loc Cert.OprojRefIdeal.main_arg8) = m' ((c.tc : Thread Cert.OprojRefIdeal.nD Cert.OprojRefIdeal.τ).loc Cert.OprojRefIdeal.main_arg8)
          ∧ r.2.mem ((c.tc : Thread Cert.OprojRefIdeal.nD Cert.OprojRefIdeal.τ).loc Cert.OprojRefIdeal.main_arg9) = m' ((c.tc : Thread Cert.OprojRefIdeal.nD Cert.OprojRefIdeal.τ).loc Cert.OprojRefIdeal.main_arg9)
          ∧ r.2.mem ((c.tc : Thread Cert.OprojRefIdeal.nD Cert.OprojRefIdeal.τ).loc Cert.OprojRefIdeal.main_arg10) = m' ((c.tc : Thread Cert.OprojRefIdeal.nD Cert.OprojRefIdeal.τ).loc Cert.OprojRefIdeal.main_arg10))

def Claim : Prop :=
  ∃ (hSplit : Cert.Split.Facts) (hSplitIdeal : Cert.SplitIdeal.Facts) (hSplitRefIdeal : Cert.SplitRefIdeal.Facts) (hSplitRef : Cert.SplitRef.Facts) (hAttention : Cert.Attention.Facts) (hAttentionIdeal : Cert.AttentionIdeal.Facts) (hAttentionRefIdeal : Cert.AttentionRefIdeal.Facts) (hProj : Cert.Proj.Facts) (hProjIdeal : Cert.ProjIdeal.Facts) (hProjRefIdeal : Cert.ProjRefIdeal.Facts) (hOproj : Cert.Oproj.Facts) (hOprojIdeal : Cert.OprojIdeal.Facts) (hOprojRefIdeal : Cert.OprojRefIdeal.Facts) (hPre_finite_queries_and_keys : Cert.Pre_finite_queries_and_keys.Facts) (hPre_finite_gains_and_routers : Cert.Pre_finite_gains_and_routers.Facts),
    quiescent_Split (hSplit := hSplit)
    ∧ quiescent_SplitIdeal (hSplitIdeal := hSplitIdeal)
    ∧ quiescent_SplitRefIdeal (hSplitRefIdeal := hSplitRefIdeal)
    ∧ quiescent_SplitRef (hSplitRef := hSplitRef)
    ∧ quiescent_Attention (hAttention := hAttention)
    ∧ quiescent_AttentionIdeal (hAttentionIdeal := hAttentionIdeal)
    ∧ quiescent_AttentionIdeal_pre_finite_queries_and_keys (hAttentionIdeal := hAttentionIdeal) (hPre_finite_queries_and_keys := hPre_finite_queries_and_keys)
    ∧ quiescent_AttentionRefIdeal (hAttentionRefIdeal := hAttentionRefIdeal)
    ∧ quiescent_AttentionRefIdeal_pre_finite_queries_and_keys (hAttentionRefIdeal := hAttentionRefIdeal) (hPre_finite_queries_and_keys := hPre_finite_queries_and_keys)
    ∧ quiescent_Proj (hProj := hProj)
    ∧ quiescent_ProjIdeal (hProjIdeal := hProjIdeal)
    ∧ quiescent_ProjRefIdeal (hProjRefIdeal := hProjRefIdeal)
    ∧ quiescent_Oproj (hOproj := hOproj)
    ∧ quiescent_OprojIdeal (hOprojIdeal := hOprojIdeal)
    ∧ quiescent_OprojIdeal_pre_finite_gains_and_routers (hOprojIdeal := hOprojIdeal) (hPre_finite_gains_and_routers := hPre_finite_gains_and_routers)
    ∧ quiescent_OprojRefIdeal (hOprojRefIdeal := hOprojRefIdeal)
    ∧ quiescent_OprojRefIdeal_pre_finite_gains_and_routers (hOprojRefIdeal := hOprojRefIdeal) (hPre_finite_gains_and_routers := hPre_finite_gains_and_routers)
    ∧ preserves_Split_SplitIdeal
    ∧ algebraic_SplitIdeal_SplitRefIdeal (hSplitIdeal := hSplitIdeal) (hSplitRefIdeal := hSplitRefIdeal)
    ∧ bitexact_Split_SplitRef (hSplit := hSplit) (hSplitRef := hSplitRef)
    ∧ preserves_Attention_AttentionIdeal
    ∧ algebraic_AttentionIdeal_AttentionRefIdeal_pre_finite_queries_and_keys (hAttentionIdeal := hAttentionIdeal) (hAttentionRefIdeal := hAttentionRefIdeal) (hPre_finite_queries_and_keys := hPre_finite_queries_and_keys)
    ∧ preserves_Proj_ProjIdeal
    ∧ algebraic_ProjIdeal_ProjRefIdeal (hProjIdeal := hProjIdeal) (hProjRefIdeal := hProjRefIdeal)
    ∧ preserves_Oproj_OprojIdeal
    ∧ algebraic_OprojIdeal_OprojRefIdeal_pre_finite_gains_and_routers (hOprojIdeal := hOprojIdeal) (hOprojRefIdeal := hOprojRefIdeal) (hPre_finite_gains_and_routers := hPre_finite_gains_and_routers)
-- ==== Pre_finite_gains_and_routers.lean ====
abbrev S4x2048x1024 : Shape := ⟨3, ![4, 2048, 1024]⟩
abbrev S4x2048x2048 : Shape := ⟨3, ![4, 2048, 2048]⟩
abbrev S1x1024 : Shape := ⟨2, ![1, 1024]⟩
abbrev S1x2048x2048 : Shape := ⟨3, ![1, 2048, 2048]⟩
abbrev S1x2048 : Shape := ⟨2, ![1, 2048]⟩
abbrev S1x2048x8 : Shape := ⟨3, ![1, 2048, 8]⟩
abbrev S1x8 : Shape := ⟨2, ![1, 8]⟩
abbrev S1x2048x64 : Shape := ⟨3, ![1, 2048, 64]⟩
abbrev S1x64 : Shape := ⟨2, ![1, 64]⟩
abbrev S_ : Shape := ⟨0, ![]⟩

class Facts : Prop where
  bcast_S_S1x2048 : S_.BroadcastsInDim S1x2048 (![] : Fin 0 → Fin S1x2048.rank)
  reducesTo_S1x2048_S_d0_1 : S1x2048.ReducesTo [0, 1] S_
  h_S_ : 0 < S_.numel
  bcast_S_S1x2048x8 : S_.BroadcastsInDim S1x2048x8 (![] : Fin 0 → Fin S1x2048x8.rank)
  reducesTo_S1x2048x8_S_d0_1_2 : S1x2048x8.ReducesTo [0, 1, 2] S_
  bcast_S_S1x2048x64 : S_.BroadcastsInDim S1x2048x64 (![] : Fin 0 → Fin S1x2048x64.rank)
  reducesTo_S1x2048x64_S_d0_1_2 : S1x2048x64.ReducesTo [0, 1, 2] S_

variable [Facts]

def fn_part1 {F : FTy → Type} [FloatOps F] (main_arg9 : FVec F S1x2048x64 .f32) (main_v12 : IVec S_ 1) (main_v14 : IVec S1x2048x64 1) (main_v15 : FVec F S1x2048x64 .f32) : IVec S_ 1 :=
  let main_v16 : IVec S1x2048x64 1 := cmpf .olt main_arg9 main_v15
  let main_v17 : IVec S1x2048x64 1 := andi main_v14 main_v16
  let main_c_6 : IVec S_ 1 := constantI S_ 1 1#1
  let main_v18 : IVec S_ 1 := (fun x v => Host.reduce IntOp.andi x v reducesTo_S1x2048x64_S_d0_1_2 h_S_) main_v17 main_c_6
  let main_v19 : IVec S_ 1 := andi main_v12 main_v18
  main_v19

def fn {F : FTy → Type} [FloatOps F] (main_arg0 : FVec F S4x2048x1024 .f32) (main_arg1 : FVec F S4x2048x1024 .f32) (main_arg2 : FVec F S4x2048x2048 .f32) (main_arg3 : FVec F S1x1024 .f32) (main_arg4 : FVec F S1x1024 .f32) (main_arg5 : FVec F S1x2048x2048 .f32) (main_arg6 : FVec F S1x2048 .f32) (main_arg7 : FVec F S1x2048x8 .f32) (main_arg8 : FVec F S1x8 .f32) (main_arg9 : FVec F S1x2048x64 .f32) (main_arg10 : FVec F S1x64 .f32) : IVec S_ 1 :=
  let main_cst : FVec F S_ .f32 := constant S_ .f32 0xFF800000#32
  let main_v0 : FVec F S1x2048 .f32 := broadcastInDim S1x2048 ![] bcast_S_S1x2048 main_cst
  let main_v1 : IVec S1x2048 1 := cmpf .ogt main_arg6 main_v0
  let main_cst_0 : FVec F S_ .f32 := constant S_ .f32 0x7F800000#32
  let main_v2 : FVec F S1x2048 .f32 := broadcastInDim S1x2048 ![] bcast_S_S1x2048 main_cst_0
  let main_v3 : IVec S1x2048 1 := cmpf .olt main_arg6 main_v2
  let main_v4 : IVec S1x2048 1 := andi main_v1 main_v3
  let main_c : IVec S_ 1 := constantI S_ 1 1#1
  let main_v5 : IVec S_ 1 := (fun x v => Host.reduce IntOp.andi x v reducesTo_S1x2048_S_d0_1 h_S_) main_v4 main_c
  let main_cst_1 : FVec F S_ .f32 := constant S_ .f32 0xFF800000#32
  let main_v6 : FVec F S1x2048x8 .f32 := broadcastInDim S1x2048x8 ![] bcast_S_S1x2048x8 main_cst_1
  let main_v7 : IVec S1x2048x8 1 := cmpf .ogt main_arg7 main_v6
  let main_cst_2 : FVec F S_ .f32 := constant S_ .f32 0x7F800000#32
  let main_v8 : FVec F S1x2048x8 .f32 := broadcastInDim S1x2048x8 ![] bcast_S_S1x2048x8 main_cst_2
  let main_v9 : IVec S1x2048x8 1 := cmpf .olt main_arg7 main_v8
  let main_v10 : IVec S1x2048x8 1 := andi main_v7 main_v9
  let main_c_3 : IVec S_ 1 := constantI S_ 1 1#1
  let main_v11 : IVec S_ 1 := (fun x v => Host.reduce IntOp.andi x v reducesTo_S1x2048x8_S_d0_1_2 h_S_) main_v10 main_c_3
  let main_v12 : IVec S_ 1 := andi main_v5 main_v11
  let main_cst_4 : FVec F S_ .f32 := constant S_ .f32 0xFF800000#32
  let main_v13 : FVec F S1x2048x64 .f32 := broadcastInDim S1x2048x64 ![] bcast_S_S1x2048x64 main_cst_4
  let main_v14 : IVec S1x2048x64 1 := cmpf .ogt main_arg9 main_v13
  let main_cst_5 : FVec F S_ .f32 := constant S_ .f32 0x7F800000#32
  let main_v15 : FVec F S1x2048x64 .f32 := broadcastInDim S1x2048x64 ![] bcast_S_S1x2048x64 main_cst_5
  fn_part1 (F := F) main_arg9 main_v12 main_v14 main_v15
-- ==== Pre_finite_queries_and_keys.lean ====
abbrev S4x2048x8x128 : Shape := ⟨4, ![4, 2048, 8, 128]⟩
abbrev S4x2048x8x64 : Shape := ⟨4, ![4, 2048, 8, 64]⟩
abbrev S4x2048x64 : Shape := ⟨3, ![4, 2048, 64]⟩
abbrev S4x2048x1024 : Shape := ⟨3, ![4, 2048, 1024]⟩
abbrev S1x31x1024 : Shape := ⟨3, ![1, 31, 1024]⟩
abbrev S1x1024 : Shape := ⟨2, ![1, 1024]⟩
abbrev S_ : Shape := ⟨0, ![]⟩

class Facts : Prop where
  bcast_S_S4x2048x8x128 : S_.BroadcastsInDim S4x2048x8x128 (![] : Fin 0 → Fin S4x2048x8x128.rank)
  reducesTo_S4x2048x8x128_S_d0_1_2_3 : S4x2048x8x128.ReducesTo [0, 1, 2, 3] S_
  h_S_ : 0 < S_.numel
  bcast_S_S4x2048x8x64 : S_.BroadcastsInDim S4x2048x8x64 (![] : Fin 0 → Fin S4x2048x8x64.rank)
  reducesTo_S4x2048x8x64_S_d0_1_2_3 : S4x2048x8x64.ReducesTo [0, 1, 2, 3] S_
  bcast_S_S4x2048x64 : S_.BroadcastsInDim S4x2048x64 (![] : Fin 0 → Fin S4x2048x64.rank)
  reducesTo_S4x2048x64_S_d0_1_2 : S4x2048x64.ReducesTo [0, 1, 2] S_

variable [Facts]

def fn_part1 {F : FTy → Type} [FloatOps F] (main_arg2 : FVec F S4x2048x8x128 .f32) (main_arg3 : FVec F S4x2048x64 .f32) (main_v12 : IVec S_ 1) (main_v14 : IVec S4x2048x8x128 1) (main_v15 : FVec F S4x2048x8x128 .f32) : IVec S_ 1 :=
  let main_v16 : IVec S4x2048x8x128 1 := cmpf .olt main_arg2 main_v15
  let main_v17 : IVec S4x2048x8x128 1 := andi main_v14 main_v16
  let main_c_6 : IVec S_ 1 := constantI S_ 1 1#1
  let main_v18 : IVec S_ 1 := (fun x v => Host.reduce IntOp.andi x v reducesTo_S4x2048x8x128_S_d0_1_2_3 h_S_) main_v17 main_c_6
  let main_v19 : IVec S_ 1 := andi main_v12 main_v18
  let main_cst_7 : FVec F S_ .f32 := constant S_ .f32 0xFF800000#32
  let main_v20 : FVec F S4x2048x64 .f32 := broadcastInDim S4x2048x64 ![] bcast_S_S4x2048x64 main_cst_7
  let main_v21 : IVec S4x2048x64 1 := cmpf .ogt main_arg3 main_v20
  let main_cst_8 : FVec F S_ .f32 := constant S_ .f32 0x7F800000#32
  let main_v22 : FVec F S4x2048x64 .f32 := broadcastInDim S4x2048x64 ![] bcast_S_S4x2048x64 main_cst_8
  let main_v23 : IVec S4x2048x64 1 := cmpf .olt main_arg3 main_v22
  let main_v24 : IVec S4x2048x64 1 := andi main_v21 main_v23
  let main_c_9 : IVec S_ 1 := constantI S_ 1 1#1
  let main_v25 : IVec S_ 1 := (fun x v => Host.reduce IntOp.andi x v reducesTo_S4x2048x64_S_d0_1_2 h_S_) main_v24 main_c_9
  let main_v26 : IVec S_ 1 := andi main_v19 main_v25
  main_v26

def fn {F : FTy → Type} [FloatOps F] (main_arg0 : FVec F S4x2048x8x128 .f32) (main_arg1 : FVec F S4x2048x8x64 .f32) (main_arg2 : FVec F S4x2048x8x128 .f32) (main_arg3 : FVec F S4x2048x64 .f32) (main_arg4 : FVec F S4x2048x8x128 .f32) (main_arg5 : FVec F S4x2048x1024 .f32) (main_arg6 : FVec F S1x31x1024 .f32) (main_arg7 : FVec F S1x1024 .f32) : IVec S_ 1 :=
  let main_cst : FVec F S_ .f32 := constant S_ .f32 0xFF800000#32
  let main_v0 : FVec F S4x2048x8x128 .f32 := broadcastInDim S4x2048x8x128 ![] bcast_S_S4x2048x8x128 main_cst
  let main_v1 : IVec S4x2048x8x128 1 := cmpf .ogt main_arg0 main_v0
  let main_cst_0 : FVec F S_ .f32 := constant S_ .f32 0x7F800000#32
  let main_v2 : FVec F S4x2048x8x128 .f32 := broadcastInDim S4x2048x8x128 ![] bcast_S_S4x2048x8x128 main_cst_0
  let main_v3 : IVec S4x2048x8x128 1 := cmpf .olt main_arg0 main_v2
  let main_v4 : IVec S4x2048x8x128 1 := andi main_v1 main_v3
  let main_c : IVec S_ 1 := constantI S_ 1 1#1
  let main_v5 : IVec S_ 1 := (fun x v => Host.reduce IntOp.andi x v reducesTo_S4x2048x8x128_S_d0_1_2_3 h_S_) main_v4 main_c
  let main_cst_1 : FVec F S_ .f32 := constant S_ .f32 0xFF800000#32
  let main_v6 : FVec F S4x2048x8x64 .f32 := broadcastInDim S4x2048x8x64 ![] bcast_S_S4x2048x8x64 main_cst_1
  let main_v7 : IVec S4x2048x8x64 1 := cmpf .ogt main_arg1 main_v6
  let main_cst_2 : FVec F S_ .f32 := constant S_ .f32 0x7F800000#32
  let main_v8 : FVec F S4x2048x8x64 .f32 := broadcastInDim S4x2048x8x64 ![] bcast_S_S4x2048x8x64 main_cst_2
  let main_v9 : IVec S4x2048x8x64 1 := cmpf .olt main_arg1 main_v8
  let main_v10 : IVec S4x2048x8x64 1 := andi main_v7 main_v9
  let main_c_3 : IVec S_ 1 := constantI S_ 1 1#1
  let main_v11 : IVec S_ 1 := (fun x v => Host.reduce IntOp.andi x v reducesTo_S4x2048x8x64_S_d0_1_2_3 h_S_) main_v10 main_c_3
  let main_v12 : IVec S_ 1 := andi main_v5 main_v11
  let main_cst_4 : FVec F S_ .f32 := constant S_ .f32 0xFF800000#32
  let main_v13 : FVec F S4x2048x8x128 .f32 := broadcastInDim S4x2048x8x128 ![] bcast_S_S4x2048x8x128 main_cst_4
  let main_v14 : IVec S4x2048x8x128 1 := cmpf .ogt main_arg2 main_v13
  let main_cst_5 : FVec F S_ .f32 := constant S_ .f32 0x7F800000#32
  let main_v15 : FVec F S4x2048x8x128 .f32 := broadcastInDim S4x2048x8x128 ![] bcast_S_S4x2048x8x128 main_cst_5
  fn_part1 (F := F) main_arg2 main_arg3 main_v12 main_v14 main_v15
-- ==== Split.lean ====
abbrev S1x2048x3392 : Shape := ⟨3, ![1, 2048, 3392]⟩
abbrev S2048x3392 : Shape := ⟨2, ![2048, 3392]⟩
abbrev S3392x2048 : Shape := ⟨2, ![3392, 2048]⟩
abbrev S2048x1280 : Shape := ⟨2, ![2048, 1280]⟩
abbrev S2048x2048 : Shape := ⟨2, ![2048, 2048]⟩
abbrev S2048x128 : Shape := ⟨2, ![2048, 128]⟩
abbrev S256x2048 : Shape := ⟨2, ![256, 2048]⟩
abbrev S128x2048 : Shape := ⟨2, ![128, 2048]⟩
abbrev S2048x256 : Shape := ⟨2, ![2048, 256]⟩

abbrev nBuf : Space → Nat
  | .hbm => 6
  | .vmem => 10
  | .smem => 0
  | _ => 0

abbrev bufTy : (tb : Table) → Fin (tcTables nBuf tb) → BufTy
  | .hbm, ⟨0, _⟩ => ⟨S1x2048x3392, .f32⟩
  | .hbm, ⟨1, _⟩ => ⟨S2048x3392, .f32⟩
  | .hbm, ⟨2, _⟩ => ⟨S3392x2048, .f32⟩
  | .hbm, ⟨3, _⟩ => ⟨S2048x1280, .bf16⟩
  | .hbm, ⟨4, _⟩ => ⟨S2048x2048, .bf16⟩
  | .hbm, ⟨5, _⟩ => ⟨S2048x128, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S128x2048, .f32⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S2048x128, .bf16⟩
  | _, _ => ⟨S1x2048x3392, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2_0 : Ref sig .tc := ⟨.hbm, 3, rfl⟩
abbrev main_v2_1 : Ref sig .tc := ⟨.hbm, 4, rfl⟩
abbrev main_v2_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def k0_mult1 (i : grid0.Coords) : BitVec 32 :=
  let c1344_i32 : BitVec 32 := 1344#32
  let arg0 : BitVec 32 := BitVec.ofNat 32 (i 0).val
  let c256_i32 : BitVec 32 := 256#32
  let v0 : BitVec 32 := Scalar.muli arg0 c256_i32
  let v1 : BitVec 32 := Scalar.addi c1344_i32 v0
  v1
def k0_cond1 (i : grid0.Coords) : BitVec 1 :=
  let arg0 : BitVec 32 := BitVec.ofNat 32 (i 0).val
  let c5_i32 : BitVec 32 := 5#32
  let v5 : BitVec 1 := Scalar.cmpi .slt arg0 c5_i32
  let v6 : BitVec 32 := Scalar.extui v5
  let c0_i32 : BitVec 32 := 0#32
  let v7 : BitVec 1 := Scalar.cmpi .ne v6 c0_i32
  v7

def k0_cond2 (i : grid0.Coords) : BitVec 1 :=
  let arg0 : BitVec 32 := BitVec.ofNat 32 (i 0).val
  let c0_i32_3 : BitVec 32 := 0#32
  let v8 : BitVec 1 := Scalar.cmpi .eq arg0 c0_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let c4_i32 : BitVec 32 := 4#32
  let v0 : BitVec 32 := Scalar.minsi arg0 c4_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c256_i32 : BitVec 32 := 256#32
  let v0 : BitVec 32 := Scalar.muli arg0 c256_i32
  let c1344_i32 : BitVec 32 := 1344#32
  let v1 : BitVec 32 := Scalar.addi c1344_i32 v0
  let v2 : BitVec 32 := v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c1280_i32 : BitVec 32 := 1280#32
  let c0_i32 : BitVec 32 := 0#32
  let c0_i32_0 : BitVec 32 := 0#32
  ![c1280_i32.toNat, c0_i32.toNat]

def cc0_transform_3 (i : grid0.Coords) : Fin 2 → Nat :=
  let arg0 : BitVec 32 := BitVec.ofNat 32 (i 0).val
  let c4_i32 : BitVec 32 := 4#32
  let v0 : BitVec 32 := Scalar.minsi arg0 c4_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2048x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== SplitRef.lean ====
abbrev S1x2048x3392 : Shape := ⟨3, ![1, 2048, 3392]⟩
abbrev S1x2048x1280 : Shape := ⟨3, ![1, 2048, 1280]⟩
abbrev S2048x1280 : Shape := ⟨2, ![2048, 1280]⟩
abbrev S1x2048x64 : Shape := ⟨3, ![1, 2048, 64]⟩
abbrev S2048x64 : Shape := ⟨2, ![2048, 64]⟩
abbrev S1x2048x2048 : Shape := ⟨3, ![1, 2048, 2048]⟩
abbrev S2048x2048 : Shape := ⟨2, ![2048, 2048]⟩
abbrev S_ : Shape := ⟨0, ![]⟩
abbrev S2048x128 : Shape := ⟨2, ![2048, 128]⟩

abbrev nBuf : Space → Nat
  | .hbm => 13
  | .vmem => 0
  | .smem => 0
  | _ => 0

abbrev bufTy : (tb : Table) → Fin (tcTables nBuf tb) → BufTy
  | .hbm, ⟨0, _⟩ => ⟨S1x2048x3392, .f32⟩
  | .hbm, ⟨1, _⟩ => ⟨S1x2048x1280, .f32⟩
  | .hbm, ⟨2, _⟩ => ⟨S2048x1280, .f32⟩
  | .hbm, ⟨3, _⟩ => ⟨S1x2048x64, .f32⟩
  | .hbm, ⟨4, _⟩ => ⟨S2048x64, .f32⟩
  | .hbm, ⟨5, _⟩ => ⟨S1x2048x2048, .f32⟩
  | .hbm, ⟨6, _⟩ => ⟨S2048x2048, .f32⟩
  | .hbm, ⟨7, _⟩ => ⟨S_, .f32⟩
  | .hbm, ⟨8, _⟩ => ⟨S2048x64, .f32⟩
  | .hbm, ⟨9, _⟩ => ⟨S2048x128, .f32⟩
  | .hbm, ⟨10, _⟩ => ⟨S2048x1280, .bf16⟩
  | .hbm, ⟨11, _⟩ => ⟨S2048x2048, .bf16⟩
  | .hbm, ⟨12, _⟩ => ⟨S2048x128, .bf16⟩
  | _, _ => ⟨S1x2048x3392, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_cst : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩

abbrev nD : Nat := 1
abbrev τ : Topo := Topo.v7x

variable {F : FTy → Type} [FloatOps F]
-- ==== Attention.lean ====
abbrev S4x2048x8x128 : Shape := ⟨4, ![4, 2048, 8, 128]⟩
abbrev S4x2048x8x64 : Shape := ⟨4, ![4, 2048, 8, 64]⟩
abbrev S4x2048x64 : Shape := ⟨3, ![4, 2048, 64]⟩
abbrev S4x2048x1024 : Shape := ⟨3, ![4, 2048, 1024]⟩
abbrev S1x31x1024 : Shape := ⟨3, ![1, 31, 1024]⟩
abbrev S1x1024 : Shape := ⟨2, ![1, 1024]⟩
abbrev S_ : Shape := ⟨0, ![]⟩
abbrev S4x2048x1x64 : Shape := ⟨4, ![4, 2048, 1, 64]⟩
abbrev S4x2048x8x1 : Shape := ⟨4, ![4, 2048, 8, 1]⟩
abbrev S4x2048x8x127 : Shape := ⟨4, ![4, 2048, 8, 127]⟩
abbrev S4x2048x8x256 : Shape := ⟨4, ![4, 2048, 8, 256]⟩
abbrev S8192x2048 : Shape := ⟨2, ![8192, 2048]⟩
abbrev S8192x1024 : Shape := ⟨2, ![8192, 1024]⟩
abbrev S31x1024 : Shape := ⟨2, ![31, 1024]⟩
abbrev S2048x256 : Shape := ⟨2, ![2048, 256]⟩
abbrev S2048x128 : Shape := ⟨2, ![2048, 128]⟩
abbrev S31x128 : Shape := ⟨2, ![31, 128]⟩
abbrev S1x128 : Shape := ⟨2, ![1, 128]⟩
abbrev S2080x128 : Shape := ⟨2, ![2080, 128]⟩
abbrev S16x128 : Shape := ⟨2, ![16, 128]⟩
abbrev S256x256 : Shape := ⟨2, ![256, 256]⟩
abbrev S256x2048 : Shape := ⟨2, ![256, 2048]⟩
abbrev S256 : Shape := ⟨1, ![256]⟩
abbrev S256x1 : Shape := ⟨2, ![256, 1]⟩
abbrev S256x128 : Shape := ⟨2, ![256, 128]⟩
abbrev S160x128 : Shape := ⟨2, ![160, 128]⟩
abbrev S128x128 : Shape := ⟨2, ![128, 128]⟩

abbrev nBuf : Space → Nat
  | .hbm => 41
  | .vmem => 17
  | .smem => 0
  | _ => 0

abbrev bufTy : (tb : Table) → Fin (tcTables nBuf tb) → BufTy
  | .hbm, ⟨0, _⟩ => ⟨S4x2048x8x128, .f32⟩
  | .hbm, ⟨1, _⟩ => ⟨S4x2048x8x64, .f32⟩
  | .hbm, ⟨2, _⟩ => ⟨S4x2048x8x128, .f32⟩
  | .hbm, ⟨3, _⟩ => ⟨S4x2048x64, .f32⟩
  | .hbm, ⟨4, _⟩ => ⟨S4x2048x8x128, .f32⟩
  | .hbm, ⟨5, _⟩ => ⟨S4x2048x1024, .f32⟩
  | .hbm, ⟨6, _⟩ => ⟨S1x31x1024, .f32⟩
  | .hbm, ⟨7, _⟩ => ⟨S1x1024, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S4x2048x8x64, .f32⟩
  | .hbm, ⟨17, _⟩ => ⟨S4x2048x1x64, .f32⟩
  | .hbm, ⟨18, _⟩ => ⟨S4x2048x8x64, .f32⟩
  | .hbm, ⟨19, _⟩ => ⟨S_, .f32⟩
  | .hbm, ⟨20, _⟩ => ⟨S4x2048x8x1, .f32⟩
  | .hbm, ⟨21, _⟩ => ⟨S_, .f32⟩
  | .hbm, ⟨22, _⟩ => ⟨S4x2048x8x127, .f32⟩
  | .hbm, ⟨23, _⟩ => ⟨S4x2048x8x128, .f32⟩
  | .hbm, ⟨24, _⟩ => ⟨S4x2048x8x128, .f32⟩
  | .hbm, ⟨25, _⟩ => ⟨S4x2048x8x64, .f32⟩
  | .hbm, ⟨26, _⟩ => ⟨S4x2048x8x64, .f32⟩
  | .hbm, ⟨27, _⟩ => ⟨S4x2048x8x256, .f32⟩
  | .hbm, ⟨28, _⟩ => ⟨S8192x2048, .f32⟩
  | .hbm, ⟨29, _⟩ => ⟨S8192x2048, .bf16⟩
  | .hbm, ⟨30, _⟩ => ⟨S4x2048x8x256, .f32⟩
  | .hbm, ⟨31, _⟩ => ⟨S8192x2048, .f32⟩
  | .hbm, ⟨32, _⟩ => ⟨S8192x2048, .bf16⟩
  | .hbm, ⟨33, _⟩ => ⟨S4x2048x8x256, .f32⟩
  | .hbm, ⟨34, _⟩ => ⟨S8192x2048, .f32⟩
  | .hbm, ⟨35, _⟩ => ⟨S8192x2048, .bf16⟩
  | .hbm, ⟨36, _⟩ => ⟨S8192x1024, .f32⟩
  | .hbm, ⟨37, _⟩ => ⟨S8192x1024, .bf16⟩
  | .hbm, ⟨38, _⟩ => ⟨S31x1024, .f32⟩
  | .hbm, ⟨39, _⟩ => ⟨S8192x1024, .bf16⟩
  | .hbm, ⟨40, _⟩ => ⟨S8192x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S2048x128, .bf16⟩
  | .local _ .vmem, ⟨7, _⟩ => ⟨S2048x128, .bf16⟩
  | .local _ .vmem, ⟨8, _⟩ => ⟨S31x128, .f32⟩
  | .local _ .vmem, ⟨9, _⟩ => ⟨S31x128, .f32⟩
  | .local _ .vmem, ⟨10, _⟩ => ⟨S1x128, .f32⟩
  | .local _ .vmem, ⟨11, _⟩ => ⟨S1x128, .f32⟩
  | .local _ .vmem, ⟨12, _⟩ => ⟨S2048x128, .bf16⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | .local _ .vmem, ⟨16, _⟩ => ⟨S2080x128, .f32⟩
  | _, _ => ⟨S4x2048x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_cst_1 : Ref sig .tc := ⟨.hbm, 12, rfl⟩
abbrev main_v2 : Ref sig .tc := ⟨.hbm, 13, rfl⟩
abbrev main_v3 : Ref sig .tc := ⟨.hbm, 14, rfl⟩
abbrev main_cst_2 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_3 : Ref sig .tc := ⟨.hbm, 19, rfl⟩
abbrev main_v7 : Ref sig .tc := ⟨.hbm, 20, rfl⟩
abbrev main_cst_4 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25_0 : Ref sig .tc := ⟨.hbm, 39, rfl⟩
abbrev main_v25_1 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S31x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AttentionRefIdeal.lean ====
abbrev S4x2048x8x128 : Shape := ⟨4, ![4, 2048, 8, 128]⟩
abbrev S4x2048x8x64 : Shape := ⟨4, ![4, 2048, 8, 64]⟩
abbrev S4x2048x64 : Shape := ⟨3, ![4, 2048, 64]⟩
abbrev S4x2048x1024 : Shape := ⟨3, ![4, 2048, 1024]⟩
abbrev S1x31x1024 : Shape := ⟨3, ![1, 31, 1024]⟩
abbrev S1x1024 : Shape := ⟨2, ![1, 1024]⟩
abbrev S_ : Shape := ⟨0, ![]⟩
abbrev S4x8x2048x2048 : Shape := ⟨4, ![4, 8, 2048, 2048]⟩
abbrev S4x2048x2048x8 : Shape := ⟨4, ![4, 2048, 2048, 8]⟩
abbrev S4x8x2048 : Shape := ⟨3, ![4, 8, 2048]⟩
abbrev S4x8x2048x1 : Shape := ⟨4, ![4, 8, 2048, 1]⟩
abbrev S4x8x128x2048 : Shape := ⟨4, ![4, 8, 128, 2048]⟩
abbrev S8192x1024 : Shape := ⟨2, ![8192, 1024]⟩
abbrev S4x2078x1024 : Shape := ⟨3, ![4, 2078, 1024]⟩
abbrev S1x1x1024 : Shape := ⟨3, ![1, 1, 1024]⟩
abbrev S1024 : Shape := ⟨1, ![1024]⟩

abbrev nBuf : Space → Nat
  | .hbm => 264
  | .vmem => 0
  | .smem => 0
  | _ => 0

abbrev hbmTy0_0 (i : Nat) : BufTy := match i % 128 with
  | 0 => ⟨S4x2048x8x128, .f32⟩
  | 1 => ⟨S4x2048x8x64, .f32⟩
  | 2 => ⟨S4x2048x8x128, .f32⟩
  | 3 => ⟨S4x2048x64, .f32⟩
  | 4 => ⟨S4x2048x8x128, .f32⟩
  | 5 => ⟨S4x2048x1024, .f32⟩
  | 6 => ⟨S1x31x1024, .f32⟩
  | 7 => ⟨S1x1024, .f32⟩
  | 8 => ⟨S_, .f32⟩
  | 9 => ⟨S_, .f32⟩
  | 10 => ⟨S_, .f32⟩
  | 11 => ⟨S_, .f32⟩
  | 12 => ⟨S4x8x2048x2048, .f32⟩
  | 13 => ⟨S4x2048x2048x8, .f32⟩
  | 14 => ⟨S4x8x2048x2048, .f32⟩
  | 15 => ⟨S4x8x2048x2048, .f32⟩
  | 16 => ⟨S4x8x2048x2048, .f32⟩
  | 17 => ⟨S4x8x2048x2048, .f32⟩
  | 18 => ⟨S_, .f32⟩
  | 19 => ⟨S4x8x2048, .f32⟩
  | 20 => ⟨S_, .f32⟩
  | 21 => ⟨S4x8x2048, .f32⟩
  | 22 => ⟨S4x8x2048, .f32⟩
  | 23 => ⟨S4x8x2048x1, .f32⟩
  | 24 => ⟨S4x8x2048x2048, .f32⟩
  | 25 => ⟨S4x8x2048x2048, .f32⟩
  | 26 => ⟨S4x8x2048x2048, .f32⟩
  | 27 => ⟨S_, .f32⟩
  | 28 => ⟨S4x8x2048, .f32⟩
  | 29 => ⟨S4x8x2048x1, .f32⟩
  | 30 => ⟨S4x8x2048x2048, .f32⟩
  | 31 => ⟨S4x8x2048x2048, .f32⟩
  | 32 => ⟨S4x8x128x2048, .f32⟩
  | 33 => ⟨S4x2048x8x128, .f32⟩
  | 34 => ⟨S8192x1024, .f32⟩
  | 35 => ⟨S_, .i32⟩
  | 36 => ⟨S_, .f32⟩
  | 37 => ⟨S4x2078x1024, .f32⟩
  | 38 => ⟨S4x2048x1024, .f32⟩
  | 39 => ⟨S1x1x1024, .f32⟩
  | 40 => ⟨S1024, .f32⟩
  | 41 => ⟨S1x1x1024, .f32⟩
  | 42 => ⟨S4x2048x1024, .f32⟩
  | 43 => ⟨S4x2048x1024, .f32⟩
  | 44 => ⟨S_, .f32⟩
  | 45 => ⟨S4x2048x1024, .f32⟩
  | 46 => ⟨S4x2048x1024, .f32⟩
  | 47 => ⟨S4x2048x1024, .f32⟩
  | 48 => ⟨S1x1x1024, .f32⟩
  | 49 => ⟨S1024, .f32⟩
  | 50 => ⟨S1x1x1024, .f32⟩
  | 51 => ⟨S4x2048x1024, .f32⟩
  | 52 => ⟨S4x2048x1024, .f32⟩
  | 53 => ⟨S4x2048x1024, .f32⟩
  | 54 => ⟨S4x2048x1024, .f32⟩
  | 55 => ⟨S1x1x1024, .f32⟩
  | 56 => ⟨S1024, .f32⟩
  | 57 => ⟨S1x1x1024, .f32⟩
  | 58 => ⟨S4x2048x1024, .f32⟩
  | 59 => ⟨S4x2048x1024, .f32⟩
  | 60 => ⟨S4x2048x1024, .f32⟩
  | 61 => ⟨S4x2048x1024, .f32⟩
  | 62 => ⟨S1x1x1024, .f32⟩
  | 63 => ⟨S1024, .f32⟩
  | 64 => ⟨S1x1x1024, .f32⟩
  | 65 => ⟨S4x2048x1024, .f32⟩
  | 66 => ⟨S4x2048x1024, .f32⟩
  | 67 => ⟨S4x2048x1024, .f32⟩
  | 68 => ⟨S4x2048x1024, .f32⟩
  | 69 => ⟨S1x1x1024, .f32⟩
  | 70 => ⟨S1024, .f32⟩
  | 71 => ⟨S1x1x1024, .f32⟩
  | 72 => ⟨S4x2048x1024, .f32⟩
  | 73 => ⟨S4x2048x1024, .f32⟩
  | 74 => ⟨S4x2048x1024, .f32⟩
  | 75 => ⟨S4x2048x1024, .f32⟩
  | 76 => ⟨S1x1x1024, .f32⟩
  | 77 => ⟨S1024, .f32⟩
  | 78 => ⟨S1x1x1024, .f32⟩
  | 79 => ⟨S4x2048x1024, .f32⟩
  | 80 => ⟨S4x2048x1024, .f32⟩
  | 81 => ⟨S4x2048x1024, .f32⟩
  | 82 => ⟨S4x2048x1024, .f32⟩
  | 83 => ⟨S1x1x1024, .f32⟩
  | 84 => ⟨S1024, .f32⟩
  | 85 => ⟨S1x1x1024, .f32⟩
  | 86 => ⟨S4x2048x1024, .f32⟩
  | 87 => ⟨S4x2048x1024, .f32⟩
  | 88 => ⟨S4x2048x1024, .f32⟩
  | 89 => ⟨S4x2048x1024, .f32⟩
  | 90 => ⟨S1x1x1024, .f32⟩
  | 91 => ⟨S1024, .f32⟩
  | 92 => ⟨S1x1x1024, .f32⟩
  | 93 => ⟨S4x2048x1024, .f32⟩
  | 94 => ⟨S4x2048x1024, .f32⟩
  | 95 => ⟨S4x2048x1024, .f32⟩
  | 96 => ⟨S4x2048x1024, .f32⟩
  | 97 => ⟨S1x1x1024, .f32⟩
  | 98 => ⟨S1024, .f32⟩
  | 99 => ⟨S1x1x1024, .f32⟩
  | 100 => ⟨S4x2048x1024, .f32⟩
  | 101 => ⟨S4x2048x1024, .f32⟩
  | 102 => ⟨S4x2048x1024, .f32⟩
  | 103 => ⟨S4x2048x1024, .f32⟩
  | 104 => ⟨S1x1x1024, .f32⟩
  | 105 => ⟨S1024, .f32⟩
  | 106 => ⟨S1x1x1024, .f32⟩
  | 107 => ⟨S4x2048x1024, .f32⟩
  | 108 => ⟨S4x2048x1024, .f32⟩
  | 109 => ⟨S4x2048x1024, .f32⟩
  | 110 => ⟨S4x2048x1024, .f32⟩
  | 111 => ⟨S1x1x1024, .f32⟩
  | 112 => ⟨S1024, .f32⟩
  | 113 => ⟨S1x1x1024, .f32⟩
  | 114 => ⟨S4x2048x1024, .f32⟩
  | 115 => ⟨S4x2048x1024, .f32⟩
  | 116 => ⟨S4x2048x1024, .f32⟩
  | 117 => ⟨S4x2048x1024, .f32⟩
  | 118 => ⟨S1x1x1024, .f32⟩
  | 119 => ⟨S1024, .f32⟩
  | 120 => ⟨S1x1x1024, .f32⟩
  | 121 => ⟨S4x2048x1024, .f32⟩
  | 122 => ⟨S4x2048x1024, .f32⟩
  | 123 => ⟨S4x2048x1024, .f32⟩
  | 124 => ⟨S4x2048x1024, .f32⟩
  | 125 => ⟨S1x1x1024, .f32⟩
  | 126 => ⟨S1024, .f32⟩
  | 127 => ⟨S1x1x1024, .f32⟩
  | _ => ⟨S4x2048x8x128, .f32⟩

abbrev hbmTy0_1 (i : Nat) : BufTy := match i % 128 with
  | 0 => ⟨S4x2048x1024, .f32⟩
  | 1 => ⟨S4x2048x1024, .f32⟩
  | 2 => ⟨S4x2048x1024, .f32⟩
  | 3 => ⟨S4x2048x1024, .f32⟩
  | 4 => ⟨S1x1x1024, .f32⟩
  | 5 => ⟨S1024, .f32⟩
  | 6 => ⟨S1x1x1024, .f32⟩
  | 7 => ⟨S4x2048x1024, .f32⟩
  | 8 => ⟨S4x2048x1024, .f32⟩
  | 9 => ⟨S4x2048x1024, .f32⟩
  | 10 => ⟨S4x2048x1024, .f32⟩
  | 11 => ⟨S1x1x1024, .f32⟩
  | 12 => ⟨S1024, .f32⟩
  | 13 => ⟨S1x1x1024, .f32⟩
  | 14 => ⟨S4x2048x1024, .f32⟩
  | 15 => ⟨S4x2048x1024, .f32⟩
  | 16 => ⟨S4x2048x1024, .f32⟩
  | 17 => ⟨S4x2048x1024, .f32⟩
  | 18 => ⟨S1x1x1024, .f32⟩
  | 19 => ⟨S1024, .f32⟩
  | 20 => ⟨S1x1x1024, .f32⟩
  | 21 => ⟨S4x2048x1024, .f32⟩
  | 22 => ⟨S4x2048x1024, .f32⟩
  | 23 => ⟨S4x2048x1024, .f32⟩
  | 24 => ⟨S4x2048x1024, .f32⟩
  | 25 => ⟨S1x1x1024, .f32⟩
  | 26 => ⟨S1024, .f32⟩
  | 27 => ⟨S1x1x1024, .f32⟩
  | 28 => ⟨S4x2048x1024, .f32⟩
  | 29 => ⟨S4x2048x1024, .f32⟩
  | 30 => ⟨S4x2048x1024, .f32⟩
  | 31 => ⟨S4x2048x1024, .f32⟩
  | 32 => ⟨S1x1x1024, .f32⟩
  | 33 => ⟨S1024, .f32⟩
  | 34 => ⟨S1x1x1024, .f32⟩
  | 35 => ⟨S4x2048x1024, .f32⟩
  | 36 => ⟨S4x2048x1024, .f32⟩
  | 37 => ⟨S4x2048x1024, .f32⟩
  | 38 => ⟨S4x2048x1024, .f32⟩
  | 39 => ⟨S1x1x1024, .f32⟩
  | 40 => ⟨S1024, .f32⟩
  | 41 => ⟨S1x1x1024, .f32⟩
  | 42 => ⟨S4x2048x1024, .f32⟩
  | 43 => ⟨S4x2048x1024, .f32⟩
  | 44 => ⟨S4x2048x1024, .f32⟩
  | 45 => ⟨S4x2048x1024, .f32⟩
  | 46 => ⟨S1x1x1024, .f32⟩
  | 47 => ⟨S1024, .f32⟩
  | 48 => ⟨S1x1x1024, .f32⟩
  | 49 => ⟨S4x2048x1024, .f32⟩
  | 50 => ⟨S4x2048x1024, .f32⟩
  | 51 => ⟨S4x2048x1024, .f32⟩
  | 52 => ⟨S4x2048x1024, .f32⟩
  | 53 => ⟨S1x1x1024, .f32⟩
  | 54 => ⟨S1024, .f32⟩
  | 55 => ⟨S1x1x1024, .f32⟩
  | 56 => ⟨S4x2048x1024, .f32⟩
  | 57 => ⟨S4x2048x1024, .f32⟩
  | 58 => ⟨S4x2048x1024, .f32⟩
  | 59 => ⟨S4x2048x1024, .f32⟩
  | 60 => ⟨S1x1x1024, .f32⟩
  | 61 => ⟨S1024, .f32⟩
  | 62 => ⟨S1x1x1024, .f32⟩
  | 63 => ⟨S4x2048x1024, .f32⟩
  | 64 => ⟨S4x2048x1024, .f32⟩
  | 65 => ⟨S4x2048x1024, .f32⟩
  | 66 => ⟨S4x2048x1024, .f32⟩
  | 67 => ⟨S1x1x1024, .f32⟩
  | 68 => ⟨S1024, .f32⟩
  | 69 => ⟨S1x1x1024, .f32⟩
  | 70 => ⟨S4x2048x1024, .f32⟩
  | 71 => ⟨S4x2048x1024, .f32⟩
  | 72 => ⟨S4x2048x1024, .f32⟩
  | 73 => ⟨S4x2048x1024, .f32⟩
  | 74 => ⟨S1x1x1024, .f32⟩
  | 75 => ⟨S1024, .f32⟩
  | 76 => ⟨S1x1x1024, .f32⟩
  | 77 => ⟨S4x2048x1024, .f32⟩
  | 78 => ⟨S4x2048x1024, .f32⟩
  | 79 => ⟨S4x2048x1024, .f32⟩
  | 80 => ⟨S4x2048x1024, .f32⟩
  | 81 => ⟨S1x1x1024, .f32⟩
  | 82 => ⟨S1024, .f32⟩
  | 83 => ⟨S1x1x1024, .f32⟩
  | 84 => ⟨S4x2048x1024, .f32⟩
  | 85 => ⟨S4x2048x1024, .f32⟩
  | 86 => ⟨S4x2048x1024, .f32⟩
  | 87 => ⟨S4x2048x1024, .f32⟩
  | 88 => ⟨S1x1x1024, .f32⟩
  | 89 => ⟨S1024, .f32⟩
  | 90 => ⟨S1x1x1024, .f32⟩
  | 91 => ⟨S4x2048x1024, .f32⟩
  | 92 => ⟨S4x2048x1024, .f32⟩
  | 93 => ⟨S4x2048x1024, .f32⟩
  | 94 => ⟨S4x2048x1024, .f32⟩
  | 95 => ⟨S1x1x1024, .f32⟩
  | 96 => ⟨S1024, .f32⟩
  | 97 => ⟨S1x1x1024, .f32⟩
  | 98 => ⟨S4x2048x1024, .f32⟩
  | 99 => ⟨S4x2048x1024, .f32⟩
  | 100 => ⟨S4x2048x1024, .f32⟩
  | 101 => ⟨S4x2048x1024, .f32⟩
  | 102 => ⟨S1x1x1024, .f32⟩
  | 103 => ⟨S1024, .f32⟩
  | 104 => ⟨S1x1x1024, .f32⟩
  | 105 => ⟨S4x2048x1024, .f32⟩
  | 106 => ⟨S4x2048x1024, .f32⟩
  | 107 => ⟨S4x2048x1024, .f32⟩
  | 108 => ⟨S4x2048x1024, .f32⟩
  | 109 => ⟨S1x1x1024, .f32⟩
  | 110 => ⟨S1024, .f32⟩
  | 111 => ⟨S1x1x1024, .f32⟩
  | 112 => ⟨S4x2048x1024, .f32⟩
  | 113 => ⟨S4x2048x1024, .f32⟩
  | 114 => ⟨S4x2048x1024, .f32⟩
  | 115 => ⟨S4x2048x1024, .f32⟩
  | 116 => ⟨S1x1x1024, .f32⟩
  | 117 => ⟨S1024, .f32⟩
  | 118 => ⟨S1x1x1024, .f32⟩
  | 119 => ⟨S4x2048x1024, .f32⟩
  | 120 => ⟨S4x2048x1024, .f32⟩
  | 121 => ⟨S4x2048x1024, .f32⟩
  | 122 => ⟨S4x2048x1024, .f32⟩
  | 123 => ⟨S1x1x1024, .f32⟩
  | 124 => ⟨S1024, .f32⟩
  | 125 => ⟨S1x1x1024, .f32⟩
  | 126 => ⟨S4x2048x1024, .f32⟩
  | 127 => ⟨S4x2048x1024, .f32⟩
  | _ => ⟨S4x2048x8x128, .f32⟩

abbrev hbmTy0_2 (i : Nat) : BufTy := match i % 128 with
  | 0 => ⟨S4x2048x1024, .f32⟩
  | 1 => ⟨S1024, .f32⟩
  | 2 => ⟨S1x1x1024, .f32⟩
  | 3 => ⟨S4x2048x1024, .f32⟩
  | 4 => ⟨S4x2048x1024, .f32⟩
  | 5 => ⟨S8192x1024, .bf16⟩
  | 6 => ⟨S8192x1024, .f32⟩
  | 7 => ⟨S8192x1024, .bf16⟩
  | _ => ⟨S4x2048x8x128, .f32⟩

abbrev hbmTy (i : Nat) : BufTy := match i / 128 with
  | 0 => hbmTy0_0 i
  | 1 => hbmTy0_1 i
  | 2 => hbmTy0_2 i
  | _ => ⟨S4x2048x8x128, .f32⟩

abbrev bufTy : (tb : Table) → Fin (tcTables nBuf tb) → BufTy
  | .hbm, ⟨i, _⟩ => hbmTy i
  | _, _ => ⟨S4x2048x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c : Ref sig .tc := ⟨.hbm, 35, rfl⟩
abbrev main_call0_v0 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩
abbrev main_v136 : Ref sig .tc := ⟨.hbm, 152, rfl⟩
abbrev main_v137 : Ref sig .tc := ⟨.hbm, 153, rfl⟩
abbrev main_v138 : Ref sig .tc := ⟨.hbm, 154, rfl⟩
abbrev main_v139 : Ref sig .tc := ⟨.hbm, 155, rfl⟩
abbrev main_v140 : Ref sig .tc := ⟨.hbm, 156, rfl⟩
abbrev main_v141 : Ref sig .tc := ⟨.hbm, 157, rfl⟩
abbrev main_v142 : Ref sig .tc := ⟨.hbm, 158, rfl⟩
abbrev main_v143 : Ref sig .tc := ⟨.hbm, 159, rfl⟩
abbrev main_v144 : Ref sig .tc := ⟨.hbm, 160, rfl⟩
abbrev main_v145 : Ref sig .tc := ⟨.hbm, 161, rfl⟩
abbrev main_v146 : Ref sig .tc := ⟨.hbm, 162, rfl⟩
abbrev main_v147 : Ref sig .tc := ⟨.hbm, 163, rfl⟩
abbrev main_v148 : Ref sig .tc := ⟨.hbm, 164, rfl⟩
abbrev main_v149 : Ref sig .tc := ⟨.hbm, 165, rfl⟩
abbrev main_v150 : Ref sig .tc := ⟨.hbm, 166, rfl⟩
abbrev main_v151 : Ref sig .tc := ⟨.hbm, 167, rfl⟩
abbrev main_v152 : Ref sig .tc := ⟨.hbm, 168, rfl⟩
abbrev main_v153 : Ref sig .tc := ⟨.hbm, 169, rfl⟩
abbrev main_v154 : Ref sig .tc := ⟨.hbm, 170, rfl⟩
abbrev main_v155 : Ref sig .tc := ⟨.hbm, 171, rfl⟩
abbrev main_v156 : Ref sig .tc := ⟨.hbm, 172, rfl⟩
abbrev main_v157 : Ref sig .tc := ⟨.hbm, 173, rfl⟩
abbrev main_v158 : Ref sig .tc := ⟨.hbm, 174, rfl⟩
abbrev main_v159 : Ref sig .tc := ⟨.hbm, 175, rfl⟩
abbrev main_v160 : Ref sig .tc := ⟨.hbm, 176, rfl⟩
abbrev main_v161 : Ref sig .tc := ⟨.hbm, 177, rfl⟩
abbrev main_v162 : Ref sig .tc := ⟨.hbm, 178, rfl⟩
abbrev main_v163 : Ref sig .tc := ⟨.hbm, 179, rfl⟩
abbrev main_v164 : Ref sig .tc := ⟨.hbm, 180, rfl⟩
abbrev main_v165 : Ref sig .tc := ⟨.hbm, 181, rfl⟩
abbrev main_v166 : Ref sig .tc := ⟨.hbm, 182, rfl⟩
abbrev main_v167 : Ref sig .tc := ⟨.hbm, 183, rfl⟩
abbrev main_v168 : Ref sig .tc := ⟨.hbm, 184, rfl⟩
abbrev main_v169 : Ref sig .tc := ⟨.hbm, 185, rfl⟩
abbrev main_v170 : Ref sig .tc := ⟨.hbm, 186, rfl⟩
abbrev main_v171 : Ref sig .tc := ⟨.hbm, 187, rfl⟩
abbrev main_v172 : Ref sig .tc := ⟨.hbm, 188, rfl⟩
abbrev main_v173 : Ref sig .tc := ⟨.hbm, 189, rfl⟩
abbrev main_v174 : Ref sig .tc := ⟨.hbm, 190, rfl⟩
abbrev main_v175 : Ref sig .tc := ⟨.hbm, 191, rfl⟩
abbrev main_v176 : Ref sig .tc := ⟨.hbm, 192, rfl⟩
abbrev main_v177 : Ref sig .tc := ⟨.hbm, 193, rfl⟩
abbrev main_v178 : Ref sig .tc := ⟨.hbm, 194, rfl⟩
abbrev main_v179 : Ref sig .tc := ⟨.hbm, 195, rfl⟩
abbrev main_v180 : Ref sig .tc := ⟨.hbm, 196, rfl⟩
abbrev main_v181 : Ref sig .tc := ⟨.hbm, 197, rfl⟩
abbrev main_v182 : Ref sig .tc := ⟨.hbm, 198, rfl⟩
abbrev main_v183 : Ref sig .tc := ⟨.hbm, 199, rfl⟩
abbrev main_v184 : Ref sig .tc := ⟨.hbm, 200, rfl⟩
abbrev main_v185 : Ref sig .tc := ⟨.hbm, 201, rfl⟩
abbrev main_v186 : Ref sig .tc := ⟨.hbm, 202, rfl⟩
abbrev main_v187 : Ref sig .tc := ⟨.hbm, 203, rfl⟩
abbrev main_v188 : Ref sig .tc := ⟨.hbm, 204, rfl⟩
abbrev main_v189 : Ref sig .tc := ⟨.hbm, 205, rfl⟩
abbrev main_v190 : Ref sig .tc := ⟨.hbm, 206, rfl⟩
abbrev main_v191 : Ref sig .tc := ⟨.hbm, 207, rfl⟩
abbrev main_v192 : Ref sig .tc := ⟨.hbm, 208, rfl⟩
abbrev main_v193 : Ref sig .tc := ⟨.hbm, 209, rfl⟩
abbrev main_v194 : Ref sig .tc := ⟨.hbm, 210, rfl⟩
abbrev main_v195 : Ref sig .tc := ⟨.hbm, 211, rfl⟩
abbrev main_v196 : Ref sig .tc := ⟨.hbm, 212, rfl⟩
abbrev main_v197 : Ref sig .tc := ⟨.hbm, 213, rfl⟩
abbrev main_v198 : Ref sig .tc := ⟨.hbm, 214, rfl⟩
abbrev main_v199 : Ref sig .tc := ⟨.hbm, 215, rfl⟩
abbrev main_v200 : Ref sig .tc := ⟨.hbm, 216, rfl⟩
abbrev main_v201 : Ref sig .tc := ⟨.hbm, 217, rfl⟩
abbrev main_v202 : Ref sig .tc := ⟨.hbm, 218, rfl⟩
abbrev main_v203 : Ref sig .tc := ⟨.hbm, 219, rfl⟩
abbrev main_v204 : Ref sig .tc := ⟨.hbm, 220, rfl⟩
abbrev main_v205 : Ref sig .tc := ⟨.hbm, 221, rfl⟩
abbrev main_v206 : Ref sig .tc := ⟨.hbm, 222, rfl⟩
abbrev main_v207 : Ref sig .tc := ⟨.hbm, 223, rfl⟩
abbrev main_v208 : Ref sig .tc := ⟨.hbm, 224, rfl⟩
abbrev main_v209 : Ref sig .tc := ⟨.hbm, 225, rfl⟩
abbrev main_v210 : Ref sig .tc := ⟨.hbm, 226, rfl⟩
abbrev main_v211 : Ref sig .tc := ⟨.hbm, 227, rfl⟩
abbrev main_v212 : Ref sig .tc := ⟨.hbm, 228, rfl⟩
abbrev main_v213 : Ref sig .tc := ⟨.hbm, 229, rfl⟩
abbrev main_v214 : Ref sig .tc := ⟨.hbm, 230, rfl⟩
abbrev main_v215 : Ref sig .tc := ⟨.hbm, 231, rfl⟩
abbrev main_v216 : Ref sig .tc := ⟨.hbm, 232, rfl⟩
abbrev main_v217 : Ref sig .tc := ⟨.hbm, 233, rfl⟩
abbrev main_v218 : Ref sig .tc := ⟨.hbm, 234, rfl⟩
abbrev main_v219 : Ref sig .tc := ⟨.hbm, 235, rfl⟩
abbrev main_v220 : Ref sig .tc := ⟨.hbm, 236, rfl⟩
abbrev main_v221 : Ref sig .tc := ⟨.hbm, 237, rfl⟩
abbrev main_v222 : Ref sig .tc := ⟨.hbm, 238, rfl⟩
abbrev main_v223 : Ref sig .tc := ⟨.hbm, 239, rfl⟩
abbrev main_v224 : Ref sig .tc := ⟨.hbm, 240, rfl⟩
abbrev main_v225 : Ref sig .tc := ⟨.hbm, 241, rfl⟩
abbrev main_v226 : Ref sig .tc := ⟨.hbm, 242, rfl⟩
abbrev main_v227 : Ref sig .tc := ⟨.hbm, 243, rfl⟩
abbrev main_v228 : Ref sig .tc := ⟨.hbm, 244, rfl⟩
abbrev main_v229 : Ref sig .tc := ⟨.hbm, 245, rfl⟩
abbrev main_v230 : Ref sig .tc := ⟨.hbm, 246, rfl⟩
abbrev main_v231 : Ref sig .tc := ⟨.hbm, 247, rfl⟩
abbrev main_v232 : Ref sig .tc := ⟨.hbm, 248, rfl⟩
abbrev main_v233 : Ref sig .tc := ⟨.hbm, 249, rfl⟩
abbrev main_v234 : Ref sig .tc := ⟨.hbm, 250, rfl⟩
abbrev main_v235 : Ref sig .tc := ⟨.hbm, 251, rfl⟩
abbrev main_v236 : Ref sig .tc := ⟨.hbm, 252, rfl⟩
abbrev main_v237 : Ref sig .tc := ⟨.hbm, 253, rfl⟩
abbrev main_v238 : Ref sig .tc := ⟨.hbm, 254, rfl⟩
abbrev main_v239 : Ref sig .tc := ⟨.hbm, 255, rfl⟩
abbrev main_v240 : Ref sig .tc := ⟨.hbm, 256, rfl⟩
abbrev main_v241 : Ref sig .tc := ⟨.hbm, 257, rfl⟩
abbrev main_v242 : Ref sig .tc := ⟨.hbm, 258, rfl⟩
abbrev main_v243 : Ref sig .tc := ⟨.hbm, 259, rfl⟩
abbrev main_v244 : Ref sig .tc := ⟨.hbm, 260, rfl⟩
abbrev main_v245 : Ref sig .tc := ⟨.hbm, 261, rfl⟩
abbrev main_v246 : Ref sig .tc := ⟨.hbm, 262, rfl⟩
abbrev main_v247 : Ref sig .tc := ⟨.hbm, 263, rfl⟩

abbrev nD : Nat := 1
abbrev τ : Topo := Topo.v7x

variable {F : FTy → Type} [FloatOps F]
-- ==== Proj.lean ====
abbrev S4x2048x2048 : Shape := ⟨3, ![4, 2048, 2048]⟩
abbrev S1x2048 : Shape := ⟨2, ![1, 2048]⟩
abbrev S1x2048x3392 : Shape := ⟨3, ![1, 2048, 3392]⟩
abbrev S1x768 : Shape := ⟨2, ![1, 768]⟩
abbrev S1x768x1536 : Shape := ⟨3, ![1, 768, 1536]⟩
abbrev S1x512 : Shape := ⟨2, ![1, 512]⟩
abbrev S1x512x2048 : Shape := ⟨3, ![1, 512, 2048]⟩
abbrev S2048x3392 : Shape := ⟨2, ![2048, 3392]⟩
abbrev S2048x1280 : Shape := ⟨2, ![2048, 1280]⟩
abbrev S2048x2048 : Shape := ⟨2, ![2048, 2048]⟩
abbrev S2048x64 : Shape := ⟨2, ![2048, 64]⟩
abbrev S_ : Shape := ⟨0, ![]⟩
abbrev S2048x128 : Shape := ⟨2, ![2048, 128]⟩
abbrev S768x1536 : Shape := ⟨2, ![768, 1536]⟩
abbrev S768x8x192 : Shape := ⟨3, ![768, 8, 192]⟩
abbrev S768x8x128 : Shape := ⟨3, ![768, 8, 128]⟩
abbrev S768x1024 : Shape := ⟨2, ![768, 1024]⟩
abbrev S768x8x64 : Shape := ⟨3, ![768, 8, 64]⟩
abbrev S768x512 : Shape := ⟨2, ![768, 512]⟩
abbrev S2048 : Shape := ⟨1, ![2048]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S8192x2048 : Shape := ⟨2, ![8192, 2048]⟩
abbrev S512x2048 : Shape := ⟨2, ![512, 2048]⟩
abbrev S8192x1024 : Shape := ⟨2, ![8192, 1024]⟩
abbrev S512x128 : Shape := ⟨2, ![512, 128]⟩
abbrev S512x1024 : Shape := ⟨2, ![512, 1024]⟩
abbrev S512 : Shape := ⟨1, ![512]⟩
abbrev S512x1 : Shape := ⟨2, ![512, 1]⟩
abbrev S2048x1024 : Shape := ⟨2, ![2048, 1024]⟩
abbrev S1x1024 : Shape := ⟨2, ![1, 1024]⟩
abbrev S2048x768 : Shape := ⟨2, ![2048, 768]⟩
abbrev S512x768 : Shape := ⟨2, ![512, 768]⟩
abbrev S2048x512 : Shape := ⟨2, ![2048, 512]⟩
abbrev S512x512 : Shape := ⟨2, ![512, 512]⟩
abbrev S512x256 : Shape := ⟨2, ![512, 256]⟩

abbrev nBuf : Space → Nat
  | .hbm => 61
  | .vmem => 25
  | .smem => 0
  | _ => 0

abbrev bufTy : (tb : Table) → Fin (tcTables nBuf tb) → BufTy
  | .hbm, ⟨0, _⟩ => ⟨S4x2048x2048, .f32⟩
  | .hbm, ⟨1, _⟩ => ⟨S1x2048, .f32⟩
  | .hbm, ⟨2, _⟩ => ⟨S1x2048x3392, .f32⟩
  | .hbm, ⟨3, _⟩ => ⟨S1x2048, .f32⟩
  | .hbm, ⟨4, _⟩ => ⟨S1x768, .f32⟩
  | .hbm, ⟨5, _⟩ => ⟨S1x768x1536, .f32⟩
  | .hbm, ⟨6, _⟩ => ⟨S1x512, .f32⟩
  | .hbm, ⟨7, _⟩ => ⟨S1x512x2048, .f32⟩
  | .hbm, ⟨8, _⟩ => ⟨S2048x3392, .f32⟩
  | .hbm, ⟨9, _⟩ => ⟨S2048x1280, .f32⟩
  | .hbm, ⟨10, _⟩ => ⟨S2048x1280, .bf16⟩
  | .hbm, ⟨11, _⟩ => ⟨S2048x2048, .f32⟩
  | .hbm, ⟨12, _⟩ => ⟨S2048x2048, .bf16⟩
  | .hbm, ⟨13, _⟩ => ⟨S2048x64, .f32⟩
  | .hbm, ⟨14, _⟩ => ⟨S_, .f32⟩
  | .hbm, ⟨15, _⟩ => ⟨S2048x64, .f32⟩
  | .hbm, ⟨16, _⟩ => ⟨S2048x128, .f32⟩
  | .hbm, ⟨17, _⟩ => ⟨S2048x128, .bf16⟩
  | .hbm, ⟨18, _⟩ => ⟨S768x1536, .f32⟩
  | .hbm, ⟨19, _⟩ => ⟨S768x8x192, .f32⟩
  | .hbm, ⟨20, _⟩ => ⟨S768x8x128, .f32⟩
  | .hbm, ⟨21, _⟩ => ⟨S768x1024, .f32⟩
  | .hbm, ⟨22, _⟩ => ⟨S768x8x64, .f32⟩
  | .hbm, ⟨23, _⟩ => ⟨S768x512, .f32⟩
  | .hbm, ⟨24, _⟩ => ⟨S768x1536, .f32⟩
  | .hbm, ⟨25, _⟩ => ⟨S768x1536, .bf16⟩
  | .hbm, ⟨26, _⟩ => ⟨S2048, .f32⟩
  | .hbm, ⟨27, _⟩ => ⟨S32, .f32⟩
  | .hbm, ⟨28, _⟩ => ⟨S_, .f32⟩
  | .hbm, ⟨29, _⟩ => ⟨S32, .f32⟩
  | .hbm, ⟨30, _⟩ => ⟨S32, .f32⟩
  | .hbm, ⟨31, _⟩ => ⟨S_, .f32⟩
  | .hbm, ⟨32, _⟩ => ⟨S32, .f32⟩
  | .hbm, ⟨33, _⟩ => ⟨S32, .f32⟩
  | .hbm, ⟨34, _⟩ => ⟨S32, .f32⟩
  | .hbm, ⟨35, _⟩ => ⟨S_, .f32⟩
  | .hbm, ⟨36, _⟩ => ⟨S32, .f32⟩
  | .hbm, ⟨37, _⟩ => ⟨S32, .f32⟩
  | .hbm, ⟨38, _⟩ => ⟨S_, .f32⟩
  | .hbm, ⟨39, _⟩ => ⟨S32, .f32⟩
  | .hbm, ⟨40, _⟩ => ⟨S32, .f32⟩
  | .hbm, ⟨41, _⟩ => ⟨S2048x1, .f32⟩
  | .hbm, ⟨42, _⟩ => ⟨S1x32, .f32⟩
  | .hbm, ⟨43, _⟩ => ⟨S2048x32, .f32⟩
  | .hbm, ⟨44, _⟩ => ⟨S2048x32, .f32⟩
  | .hbm, ⟨45, _⟩ => ⟨S2048x32, .f32⟩
  | .hbm, ⟨46, _⟩ => ⟨S2048x32, .f32⟩
  | .hbm, ⟨47, _⟩ => ⟨S2048x32, .f32⟩
  | .hbm, ⟨48, _⟩ => ⟨S_, .f32⟩
  | .hbm, ⟨49, _⟩ => ⟨S2048x32, .f32⟩
  | .hbm, ⟨50, _⟩ => ⟨S2048x128, .f32⟩
  | .hbm, ⟨51, _⟩ => ⟨S2048x128, .f32⟩
  | .hbm, ⟨52, _⟩ => ⟨S2048x32, .f32⟩
  | .hbm, ⟨53, _⟩ => ⟨S2048x32, .f32⟩
  | .hbm, ⟨54, _⟩ => ⟨S2048x128, .f32⟩
  | .hbm, ⟨55, _⟩ => ⟨S8192x2048, .f32⟩
  | .hbm, ⟨56, _⟩ => ⟨S512x2048, .f32⟩
  | .hbm, ⟨57, _⟩ => ⟨S8192x2048, .bf16⟩
  | .hbm, ⟨58, _⟩ => ⟨S8192x2048, .bf16⟩
  | .hbm, ⟨59, _⟩ => ⟨S8192x2048, .bf16⟩
  | .hbm, ⟨60, _⟩ => ⟨S8192x1024, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1280, .bf16⟩
  | .local _ .vmem, ⟨4, _⟩ => ⟨S2048x2048, .bf16⟩
  | .local _ .vmem, ⟨5, _⟩ => ⟨S2048x128, .bf16⟩
  | .local _ .vmem, ⟨6, _⟩ => ⟨S1x2048, .f32⟩
  | .local _ .vmem, ⟨7, _⟩ => ⟨S1x768, .f32⟩
  | .local _ .vmem, ⟨8, _⟩ => ⟨S1x512, .f32⟩
  | .local _ .vmem, ⟨9, _⟩ => ⟨S768x1536, .bf16⟩
  | .local _ .vmem, ⟨10, _⟩ => ⟨S512x2048, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x2048, .bf16⟩
  | .local _ .vmem, ⟨18, _⟩ => ⟨S512x2048, .bf16⟩
  | .local _ .vmem, ⟨19, _⟩ => ⟨S512x2048, .bf16⟩
  | .local _ .vmem, ⟨20, _⟩ => ⟨S512x2048, .bf16⟩
  | .local _ .vmem, ⟨21, _⟩ => ⟨S512x2048, .bf16⟩
  | .local _ .vmem, ⟨22, _⟩ => ⟨S512x2048, .bf16⟩
  | .local _ .vmem, ⟨23, _⟩ => ⟨S512x1024, .bf16⟩
  | .local _ .vmem, ⟨24, _⟩ => ⟨S512x1024, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_0 : Ref sig .tc := ⟨.hbm, 28, rfl⟩
abbrev main_v19 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_4 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43_0 : Ref sig .tc := ⟨.hbm, 57, rfl⟩
abbrev main_v43_1 : Ref sig .tc := ⟨.hbm, 58, rfl⟩
abbrev main_v43_2 : Ref sig .tc := ⟨.hbm, 59, rfl⟩
abbrev main_v43_3 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_11 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_12 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1280 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S768x1536 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== ProjIdeal.lean ====
variable {F : FTy → Type} [FloatOps F] [Named F]
def κ : String → Option EReal := fun
  | "q_scale" => some (((Real.sqrt 192)⁻¹ * (Real.log 2)⁻¹ : ℝ) : EReal)
  | _ => none
-- ==== ProjRefIdeal.lean ====
abbrev S4x2048x2048 : Shape := ⟨3, ![4, 2048, 2048]⟩
abbrev S1x2048 : Shape := ⟨2, ![1, 2048]⟩
abbrev S1x2048x3392 : Shape := ⟨3, ![1, 2048, 3392]⟩
abbrev S1x768 : Shape := ⟨2, ![1, 768]⟩
abbrev S1x768x1536 : Shape := ⟨3, ![1, 768, 1536]⟩
abbrev S1x512 : Shape := ⟨2, ![1, 512]⟩
abbrev S1x512x2048 : Shape := ⟨3, ![1, 512, 2048]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S4x2048 : Shape := ⟨2, ![4, 2048]⟩
abbrev S4x2048x1 : Shape := ⟨3, ![4, 2048, 1]⟩
abbrev S1x1x2048 : Shape := ⟨3, ![1, 1, 2048]⟩
abbrev S2048x3392 : Shape := ⟨2, ![2048, 3392]⟩
abbrev S4x2048x3392 : Shape := ⟨3, ![4, 2048, 3392]⟩
abbrev S4x2048x768 : Shape := ⟨3, ![4, 2048, 768]⟩
abbrev S4x2048x512 : Shape := ⟨3, ![4, 2048, 512]⟩
abbrev S4x2048x64 : Shape := ⟨3, ![4, 2048, 64]⟩
abbrev S768 : Shape := ⟨1, ![768]⟩
abbrev S1x1x768 : Shape := ⟨3, ![1, 1, 768]⟩
abbrev S768x1536 : Shape := ⟨2, ![768, 1536]⟩
abbrev S4x2048x1536 : Shape := ⟨3, ![4, 2048, 1536]⟩
abbrev S4x2048x8x192 : Shape := ⟨4, ![4, 2048, 8, 192]⟩
abbrev S4x2048x8x128 : Shape := ⟨4, ![4, 2048, 8, 128]⟩
abbrev S4x2048x8x64 : Shape := ⟨4, ![4, 2048, 8, 64]⟩
abbrev S2048x1x32 : Shape := ⟨3, ![2048, 1, 32]⟩
abbrev S4x2048x8x32 : Shape := ⟨4, ![4, 2048, 8, 32]⟩
abbrev S1x2048x1x32 : Shape := ⟨4, ![1, 2048, 1, 32]⟩
abbrev S512 : Shape := ⟨1, ![512]⟩
abbrev S1x1x512 : Shape := ⟨3, ![1, 1, 512]⟩
abbrev S512x2048 : Shape := ⟨2, ![512, 2048]⟩
abbrev S4x2048x8x256 : Shape := ⟨4, ![4, 2048, 8, 256]⟩
abbrev S4x2048x32 : Shape := ⟨3, ![4, 2048, 32]⟩
abbrev S1x2048x32 : Shape := ⟨3, ![1, 2048, 32]⟩
abbrev S4x2048x1024 : Shape := ⟨3, ![4, 2048, 1024]⟩
abbrev S4x2048x1x64 : Shape := ⟨4, ![4, 2048, 1, 64]⟩
abbrev S4x2048x8x1 : Shape := ⟨4, ![4, 2048, 8, 1]⟩
abbrev S4x2048x8x127 : Shape := ⟨4, ![4, 2048, 8, 127]⟩
abbrev S8192x2048 : Shape := ⟨2, ![8192, 2048]⟩
abbrev S8192x1024 : Shape := ⟨2, ![8192, 1024]⟩

abbrev nBuf : Space → Nat
  | .hbm => 180
  | .vmem => 0
  | .smem => 0
  | _ => 0

abbrev hbmTy0_0 (i : Nat) : BufTy := match i % 128 with
  | 0 => ⟨S4x2048x2048, .f32⟩
  | 1 => ⟨S1x2048, .f32⟩
  | 2 => ⟨S1x2048x3392, .f32⟩
  | 3 => ⟨S1x2048, .f32⟩
  | 4 => ⟨S1x768, .f32⟩
  | 5 => ⟨S1x768x1536, .f32⟩
  | 6 => ⟨S1x512, .f32⟩
  | 7 => ⟨S1x512x2048, .f32⟩
  | 8 => ⟨S2048, .f32⟩
  | 9 => ⟨S32, .f32⟩
  | 10 => ⟨S_, .f32⟩
  | 11 => ⟨S32, .f32⟩
  | 12 => ⟨S32, .f32⟩
  | 13 => ⟨S_, .f32⟩
  | 14 => ⟨S32, .f32⟩
  | 15 => ⟨S32, .f32⟩
  | 16 => ⟨S32, .f32⟩
  | 17 => ⟨S_, .f32⟩
  | 18 => ⟨S32, .f32⟩
  | 19 => ⟨S32, .f32⟩
  | 20 => ⟨S_, .f32⟩
  | 21 => ⟨S32, .f32⟩
  | 22 => ⟨S32, .f32⟩
  | 23 => ⟨S2048x1, .f32⟩
  | 24 => ⟨S1x32, .f32⟩
  | 25 => ⟨S2048x32, .f32⟩
  | 26 => ⟨S2048x32, .f32⟩
  | 27 => ⟨S2048x32, .f32⟩
  | 28 => ⟨S2048x32, .f32⟩
  | 29 => ⟨S2048x32, .f32⟩
  | 30 => ⟨S2048, .f32⟩
  | 31 => ⟨S4x2048x2048, .f32⟩
  | 32 => ⟨S_, .f32⟩
  | 33 => ⟨S4x2048, .f32⟩
  | 34 => ⟨S4x2048x1, .f32⟩
  | 35 => ⟨S_, .f32⟩
  | 36 => ⟨S4x2048x1, .f32⟩
  | 37 => ⟨S4x2048x1, .f32⟩
  | 38 => ⟨S_, .f32⟩
  | 39 => ⟨S4x2048x1, .f32⟩
  | 40 => ⟨S4x2048x1, .f32⟩
  | 41 => ⟨S4x2048x1, .f32⟩
  | 42 => ⟨S4x2048x2048, .f32⟩
  | 43 => ⟨S4x2048x2048, .f32⟩
  | 44 => ⟨S1x1x2048, .f32⟩
  | 45 => ⟨S4x2048x2048, .f32⟩
  | 46 => ⟨S4x2048x2048, .f32⟩
  | 47 => ⟨S2048x3392, .f32⟩
  | 48 => ⟨S4x2048x3392, .f32⟩
  | 49 => ⟨S4x2048x768, .f32⟩
  | 50 => ⟨S4x2048x512, .f32⟩
  | 51 => ⟨S4x2048x64, .f32⟩
  | 52 => ⟨S4x2048x2048, .f32⟩
  | 53 => ⟨S768, .f32⟩
  | 54 => ⟨S4x2048x768, .f32⟩
  | 55 => ⟨S_, .f32⟩
  | 56 => ⟨S4x2048, .f32⟩
  | 57 => ⟨S4x2048x1, .f32⟩
  | 58 => ⟨S_, .f32⟩
  | 59 => ⟨S4x2048x1, .f32⟩
  | 60 => ⟨S4x2048x1, .f32⟩
  | 61 => ⟨S_, .f32⟩
  | 62 => ⟨S4x2048x1, .f32⟩
  | 63 => ⟨S4x2048x1, .f32⟩
  | 64 => ⟨S4x2048x1, .f32⟩
  | 65 => ⟨S4x2048x768, .f32⟩
  | 66 => ⟨S4x2048x768, .f32⟩
  | 67 => ⟨S1x1x768, .f32⟩
  | 68 => ⟨S4x2048x768, .f32⟩
  | 69 => ⟨S4x2048x768, .f32⟩
  | 70 => ⟨S768x1536, .f32⟩
  | 71 => ⟨S4x2048x1536, .f32⟩
  | 72 => ⟨S4x2048x8x192, .f32⟩
  | 73 => ⟨S4x2048x8x128, .f32⟩
  | 74 => ⟨S4x2048x8x64, .f32⟩
  | 75 => ⟨S2048x1x32, .f32⟩
  | 76 => ⟨S2048x1x32, .f32⟩
  | 77 => ⟨S4x2048x8x32, .f32⟩
  | 78 => ⟨S4x2048x8x32, .f32⟩
  | 79 => ⟨S1x2048x1x32, .f32⟩
  | 80 => ⟨S4x2048x8x32, .f32⟩
  | 81 => ⟨S4x2048x8x32, .f32⟩
  | 82 => ⟨S1x2048x1x32, .f32⟩
  | 83 => ⟨S4x2048x8x32, .f32⟩
  | 84 => ⟨S4x2048x8x32, .f32⟩
  | 85 => ⟨S4x2048x8x32, .f32⟩
  | 86 => ⟨S1x2048x1x32, .f32⟩
  | 87 => ⟨S4x2048x8x32, .f32⟩
  | 88 => ⟨S4x2048x8x32, .f32⟩
  | 89 => ⟨S1x2048x1x32, .f32⟩
  | 90 => ⟨S4x2048x8x32, .f32⟩
  | 91 => ⟨S4x2048x8x32, .f32⟩
  | 92 => ⟨S4x2048x8x32, .f32⟩
  | 93 => ⟨S4x2048x8x64, .f32⟩
  | 94 => ⟨S512, .f32⟩
  | 95 => ⟨S4x2048x512, .f32⟩
  | 96 => ⟨S_, .f32⟩
  | 97 => ⟨S4x2048, .f32⟩
  | 98 => ⟨S4x2048x1, .f32⟩
  | 99 => ⟨S_, .f32⟩
  | 100 => ⟨S4x2048x1, .f32⟩
  | 101 => ⟨S4x2048x1, .f32⟩
  | 102 => ⟨S_, .f32⟩
  | 103 => ⟨S4x2048x1, .f32⟩
  | 104 => ⟨S4x2048x1, .f32⟩
  | 105 => ⟨S4x2048x1, .f32⟩
  | 106 => ⟨S4x2048x512, .f32⟩
  | 107 => ⟨S4x2048x512, .f32⟩
  | 108 => ⟨S1x1x512, .f32⟩
  | 109 => ⟨S4x2048x512, .f32⟩
  | 110 => ⟨S4x2048x512, .f32⟩
  | 111 => ⟨S512x2048, .f32⟩
  | 112 => ⟨S4x2048x2048, .f32⟩
  | 113 => ⟨S4x2048x8x256, .f32⟩
  | 114 => ⟨S4x2048x8x128, .f32⟩
  | 115 => ⟨S4x2048x8x128, .f32⟩
  | 116 => ⟨S4x2048x32, .f32⟩
  | 117 => ⟨S4x2048x32, .f32⟩
  | 118 => ⟨S1x2048x32, .f32⟩
  | 119 => ⟨S4x2048x32, .f32⟩
  | 120 => ⟨S4x2048x32, .f32⟩
  | 121 => ⟨S1x2048x32, .f32⟩
  | 122 => ⟨S4x2048x32, .f32⟩
  | 123 => ⟨S4x2048x32, .f32⟩
  | 124 => ⟨S4x2048x32, .f32⟩
  | 125 => ⟨S1x2048x32, .f32⟩
  | 126 => ⟨S4x2048x32, .f32⟩
  | 127 => ⟨S4x2048x32, .f32⟩
  | _ => ⟨S4x2048x2048, .f32⟩

abbrev hbmTy0_1 (i : Nat) : BufTy := match i % 128 with
  | 0 => ⟨S1x2048x32, .f32⟩
  | 1 => ⟨S4x2048x32, .f32⟩
  | 2 => ⟨S4x2048x32, .f32⟩
  | 3 => ⟨S4x2048x32, .f32⟩
  | 4 => ⟨S4x2048x64, .f32⟩
  | 5 => ⟨S2048, .f32⟩
  | 6 => ⟨S1x1x2048, .f32⟩
  | 7 => ⟨S4x2048x2048, .f32⟩
  | 8 => ⟨S4x2048x2048, .f32⟩
  | 9 => ⟨S4x2048x1024, .f32⟩
  | 10 => ⟨S4x2048x1024, .f32⟩
  | 11 => ⟨S4x2048x1024, .f32⟩
  | 12 => ⟨S4x2048x1024, .f32⟩
  | 13 => ⟨S_, .f32⟩
  | 14 => ⟨S4x2048x1024, .f32⟩
  | 15 => ⟨S4x2048x1024, .f32⟩
  | 16 => ⟨S_, .f32⟩
  | 17 => ⟨S4x2048x1024, .f32⟩
  | 18 => ⟨S4x2048x1024, .f32⟩
  | 19 => ⟨S4x2048x1024, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S4x2048x1x64, .f32⟩
  | 28 => ⟨S4x2048x8x64, .f32⟩
  | 29 => ⟨S4x2048x8x128, .f32⟩
  | 30 => ⟨S4x2048x8x128, .f32⟩
  | 31 => ⟨S4x2048x8x64, .f32⟩
  | 32 => ⟨S4x2048x8x64, .f32⟩
  | 33 => ⟨S_, .f32⟩
  | 34 => ⟨S4x2048x8x64, .f32⟩
  | 35 => ⟨S4x2048x8x256, .f32⟩
  | 36 => ⟨S_, .f32⟩
  | 37 => ⟨S4x2048x8x64, .f32⟩
  | 38 => ⟨S4x2048x8x256, .f32⟩
  | 39 => ⟨S_, .f32⟩
  | 40 => ⟨S4x2048x8x1, .f32⟩
  | 41 => ⟨S_, .f32⟩
  | 42 => ⟨S4x2048x8x127, .f32⟩
  | 43 => ⟨S4x2048x8x256, .f32⟩
  | 44 => ⟨S8192x2048, .f32⟩
  | 45 => ⟨S8192x2048, .bf16⟩
  | 46 => ⟨S8192x2048, .f32⟩
  | 47 => ⟨S8192x2048, .bf16⟩
  | 48 => ⟨S8192x2048, .f32⟩
  | 49 => ⟨S8192x2048, .bf16⟩
  | 50 => ⟨S8192x1024, .f32⟩
  | 51 => ⟨S8192x1024, .bf16⟩
  | _ => ⟨S4x2048x2048, .f32⟩

abbrev hbmTy (i : Nat) : BufTy := match i / 128 with
  | 0 => hbmTy0_0 i
  | 1 => hbmTy0_1 i
  | _ => ⟨S4x2048x2048, .f32⟩

abbrev bufTy : (tb : Table) → Fin (tcTables nBuf tb) → BufTy
  | .hbm, ⟨i, _⟩ => hbmTy i
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_6 : Ref sig .tc := ⟨.hbm, 55, rfl⟩
abbrev main_v40 : Ref sig .tc := ⟨.hbm, 56, rfl⟩
abbrev main_v41 : Ref sig .tc := ⟨.hbm, 57, rfl⟩
abbrev main_cst_7 : Ref sig .tc := ⟨.hbm, 58, rfl⟩
abbrev main_v42 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_cst_9 : Ref sig .tc := ⟨.hbm, 96, rfl⟩
abbrev main_v78 : Ref sig .tc := ⟨.hbm, 97, rfl⟩
abbrev main_v79 : Ref sig .tc := ⟨.hbm, 98, rfl⟩
abbrev main_cst_10 : Ref sig .tc := ⟨.hbm, 99, rfl⟩
abbrev main_v80 : Ref sig .tc := ⟨.hbm, 100, rfl⟩
abbrev main_v81 : Ref sig .tc := ⟨.hbm, 101, rfl⟩
abbrev main_cst_11 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_cst_12 : Ref sig .tc := ⟨.hbm, 141, rfl⟩
abbrev main_v120 : Ref sig .tc := ⟨.hbm, 142, rfl⟩
abbrev main_v121 : Ref sig .tc := ⟨.hbm, 143, rfl⟩
abbrev main_cst_13 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_cst_14 : Ref sig .tc := ⟨.hbm, 148, rfl⟩
abbrev main_v125 : Ref sig .tc := ⟨.hbm, 149, rfl⟩
abbrev main_cst_15 : Ref sig .tc := ⟨.hbm, 150, rfl⟩
abbrev main_v126 : Ref sig .tc := ⟨.hbm, 151, rfl⟩
abbrev main_cst_16 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_cst_17 : Ref sig .tc := ⟨.hbm, 161, rfl⟩
abbrev main_v135 : Ref sig .tc := ⟨.hbm, 162, rfl⟩
abbrev main_v136 : Ref sig .tc := ⟨.hbm, 163, rfl⟩
abbrev main_cst_18 : Ref sig .tc := ⟨.hbm, 164, rfl⟩
abbrev main_v137 : Ref sig .tc := ⟨.hbm, 165, rfl⟩
abbrev main_v138 : Ref sig .tc := ⟨.hbm, 166, rfl⟩
abbrev main_cst_19 : Ref sig .tc := ⟨.hbm, 167, rfl⟩
abbrev main_v139 : Ref sig .tc := ⟨.hbm, 168, rfl⟩
abbrev main_cst_20 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩
abbrev main_v148 : Ref sig .tc := ⟨.hbm, 178, rfl⟩
abbrev main_v149 : Ref sig .tc := ⟨.hbm, 179, rfl⟩

abbrev nD : Nat := 1
abbrev τ : Topo := Topo.v7x

variable {F : FTy → Type} [FloatOps F]
-- ==== Oproj.lean ====
abbrev S4x2048x1024 : Shape := ⟨3, ![4, 2048, 1024]⟩
abbrev S4x2048x2048 : Shape := ⟨3, ![4, 2048, 2048]⟩
abbrev S1x1024 : Shape := ⟨2, ![1, 1024]⟩
abbrev S1x2048x2048 : Shape := ⟨3, ![1, 2048, 2048]⟩
abbrev S1x2048 : Shape := ⟨2, ![1, 2048]⟩
abbrev S1x2048x8 : Shape := ⟨3, ![1, 2048, 8]⟩
abbrev S1x8 : Shape := ⟨2, ![1, 8]⟩
abbrev S1x2048x64 : Shape := ⟨3, ![1, 2048, 64]⟩
abbrev S1x64 : Shape := ⟨2, ![1, 64]⟩
abbrev S2048x2048 : Shape := ⟨2, ![2048, 2048]⟩
abbrev S2048x64 : Shape := ⟨2, ![2048, 64]⟩
abbrev S2048x8 : Shape := ⟨2, ![2048, 8]⟩
abbrev S_ : Shape := ⟨0, ![]⟩
abbrev S2048x56 : Shape := ⟨2, ![2048, 56]⟩
abbrev S2048x128 : Shape := ⟨2, ![2048, 128]⟩
abbrev S2048x256 : Shape := ⟨2, ![2048, 256]⟩
abbrev S64 : Shape := ⟨1, ![64]⟩
abbrev S8 : Shape := ⟨1, ![8]⟩
abbrev S56 : Shape := ⟨1, ![56]⟩
abbrev S128 : Shape := ⟨1, ![128]⟩
abbrev S1x128 : Shape := ⟨2, ![1, 128]⟩
abbrev S8192x1024 : Shape := ⟨2, ![8192, 1024]⟩
abbrev S8192x2048 : Shape := ⟨2, ![8192, 2048]⟩
abbrev S8192x128 : Shape := ⟨2, ![8192, 128]⟩
abbrev S512x1024 : Shape := ⟨2, ![512, 1024]⟩
abbrev S512x2048 : Shape := ⟨2, ![512, 2048]⟩
abbrev S512x128 : Shape := ⟨2, ![512, 128]⟩
abbrev S512 : Shape := ⟨1, ![512]⟩
abbrev S512x1 : Shape := ⟨2, ![512, 1]⟩
abbrev S1024x2048 : Shape := ⟨2, ![1024, 2048]⟩
abbrev S512x256 : Shape := ⟨2, ![512, 256]⟩

abbrev nBuf : Space → Nat
  | .hbm => 35
  | .vmem => 16
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x2048, .f32⟩
  | .hbm, ⟨3, _⟩ => ⟨S1x1024, .f32⟩
  | .hbm, ⟨4, _⟩ => ⟨S1x1024, .f32⟩
  | .hbm, ⟨5, _⟩ => ⟨S1x2048x2048, .f32⟩
  | .hbm, ⟨6, _⟩ => ⟨S1x2048, .f32⟩
  | .hbm, ⟨7, _⟩ => ⟨S1x2048x8, .f32⟩
  | .hbm, ⟨8, _⟩ => ⟨S1x8, .f32⟩
  | .hbm, ⟨9, _⟩ => ⟨S1x2048x64, .f32⟩
  | .hbm, ⟨10, _⟩ => ⟨S1x64, .f32⟩
  | .hbm, ⟨11, _⟩ => ⟨S2048x2048, .f32⟩
  | .hbm, ⟨12, _⟩ => ⟨S2048x64, .f32⟩
  | .hbm, ⟨13, _⟩ => ⟨S2048x8, .f32⟩
  | .hbm, ⟨14, _⟩ => ⟨S_, .f32⟩
  | .hbm, ⟨15, _⟩ => ⟨S2048x56, .f32⟩
  | .hbm, ⟨16, _⟩ => ⟨S2048x128, .f32⟩
  | .hbm, ⟨17, _⟩ => ⟨S2048x128, .bf16⟩
  | .hbm, ⟨18, _⟩ => ⟨S2048x128, .f32⟩
  | .hbm, ⟨19, _⟩ => ⟨S2048x128, .f32⟩
  | .hbm, ⟨20, _⟩ => ⟨S2048x128, .bf16⟩
  | .hbm, ⟨21, _⟩ => ⟨S2048x256, .bf16⟩
  | .hbm, ⟨22, _⟩ => ⟨S64, .f32⟩
  | .hbm, ⟨23, _⟩ => ⟨S8, .f32⟩
  | .hbm, ⟨24, _⟩ => ⟨S_, .f32⟩
  | .hbm, ⟨25, _⟩ => ⟨S56, .f32⟩
  | .hbm, ⟨26, _⟩ => ⟨S128, .f32⟩
  | .hbm, ⟨27, _⟩ => ⟨S1x128, .f32⟩
  | .hbm, ⟨28, _⟩ => ⟨S8192x1024, .f32⟩
  | .hbm, ⟨29, _⟩ => ⟨S8192x1024, .bf16⟩
  | .hbm, ⟨30, _⟩ => ⟨S8192x1024, .f32⟩
  | .hbm, ⟨31, _⟩ => ⟨S8192x1024, .bf16⟩
  | .hbm, ⟨32, _⟩ => ⟨S8192x2048, .f32⟩
  | .hbm, ⟨33, _⟩ => ⟨S8192x2048, .f32⟩
  | .hbm, ⟨34, _⟩ => ⟨S8192x128, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .f32⟩
  | .local _ .vmem, ⟨5, _⟩ => ⟨S512x2048, .f32⟩
  | .local _ .vmem, ⟨6, _⟩ => ⟨S2048x2048, .f32⟩
  | .local _ .vmem, ⟨7, _⟩ => ⟨S1x1024, .f32⟩
  | .local _ .vmem, ⟨8, _⟩ => ⟨S1x1024, .f32⟩
  | .local _ .vmem, ⟨9, _⟩ => ⟨S1x2048, .f32⟩
  | .local _ .vmem, ⟨10, _⟩ => ⟨S2048x256, .bf16⟩
  | .local _ .vmem, ⟨11, _⟩ => ⟨S1x128, .f32⟩
  | .local _ .vmem, ⟨12, _⟩ => ⟨S512x2048, .f32⟩
  | .local _ .vmem, ⟨13, _⟩ => ⟨S512x2048, .f32⟩
  | .local _ .vmem, ⟨14, _⟩ => ⟨S512x128, .f32⟩
  | .local _ .vmem, ⟨15, _⟩ => ⟨S512x128, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20_0 : Ref sig .tc := ⟨.hbm, 33, rfl⟩
abbrev main_v20_1 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== OprojRefIdeal.lean ====
abbrev S4x2048x1024 : Shape := ⟨3, ![4, 2048, 1024]⟩
abbrev S4x2048x2048 : Shape := ⟨3, ![4, 2048, 2048]⟩
abbrev S1x1024 : Shape := ⟨2, ![1, 1024]⟩
abbrev S1x2048x2048 : Shape := ⟨3, ![1, 2048, 2048]⟩
abbrev S1x2048 : Shape := ⟨2, ![1, 2048]⟩
abbrev S1x2048x8 : Shape := ⟨3, ![1, 2048, 8]⟩
abbrev S1x8 : Shape := ⟨2, ![1, 8]⟩
abbrev S1x2048x64 : Shape := ⟨3, ![1, 2048, 64]⟩
abbrev S1x64 : Shape := ⟨2, ![1, 64]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S2048x2048 : Shape := ⟨2, ![2048, 2048]⟩
abbrev S2048 : Shape := ⟨1, ![2048]⟩
abbrev S1x1x2048 : Shape := ⟨3, ![1, 1, 2048]⟩
abbrev S8192x2048 : Shape := ⟨2, ![8192, 2048]⟩
abbrev S2048x8 : Shape := ⟨2, ![2048, 8]⟩
abbrev S8192x8 : Shape := ⟨2, ![8192, 8]⟩
abbrev S8 : Shape := ⟨1, ![8]⟩
abbrev S2048x64 : Shape := ⟨2, ![2048, 64]⟩
abbrev S8192x64 : Shape := ⟨2, ![8192, 64]⟩
abbrev S64 : Shape := ⟨1, ![64]⟩
abbrev S8192x56 : Shape := ⟨2, ![8192, 56]⟩
abbrev S8192x128 : Shape := ⟨2, ![8192, 128]⟩

abbrev nBuf : Space → Nat
  | .hbm => 89
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x2048, .f32⟩
  | .hbm, ⟨3, _⟩ => ⟨S1x1024, .f32⟩
  | .hbm, ⟨4, _⟩ => ⟨S1x1024, .f32⟩
  | .hbm, ⟨5, _⟩ => ⟨S1x2048x2048, .f32⟩
  | .hbm, ⟨6, _⟩ => ⟨S1x2048, .f32⟩
  | .hbm, ⟨7, _⟩ => ⟨S1x2048x8, .f32⟩
  | .hbm, ⟨8, _⟩ => ⟨S1x8, .f32⟩
  | .hbm, ⟨9, _⟩ => ⟨S1x2048x64, .f32⟩
  | .hbm, ⟨10, _⟩ => ⟨S1x64, .f32⟩
  | .hbm, ⟨11, _⟩ => ⟨S1024, .f32⟩
  | .hbm, ⟨12, _⟩ => ⟨S1024, .f32⟩
  | .hbm, ⟨13, _⟩ => ⟨S_, .f32⟩
  | .hbm, ⟨14, _⟩ => ⟨S4x2048, .f32⟩
  | .hbm, ⟨15, _⟩ => ⟨S4x2048x1, .f32⟩
  | .hbm, ⟨16, _⟩ => ⟨S_, .f32⟩
  | .hbm, ⟨17, _⟩ => ⟨S4x2048x1, .f32⟩
  | .hbm, ⟨18, _⟩ => ⟨S4x2048x1, .f32⟩
  | .hbm, ⟨19, _⟩ => ⟨S4x2048x1024, .f32⟩
  | .hbm, ⟨20, _⟩ => ⟨S4x2048x1024, .f32⟩
  | .hbm, ⟨21, _⟩ => ⟨S4x2048x1024, .f32⟩
  | .hbm, ⟨22, _⟩ => ⟨S_, .f32⟩
  | .hbm, ⟨23, _⟩ => ⟨S4x2048, .f32⟩
  | .hbm, ⟨24, _⟩ => ⟨S4x2048x1, .f32⟩
  | .hbm, ⟨25, _⟩ => ⟨S_, .f32⟩
  | .hbm, ⟨26, _⟩ => ⟨S4x2048x1, .f32⟩
  | .hbm, ⟨27, _⟩ => ⟨S4x2048x1, .f32⟩
  | .hbm, ⟨28, _⟩ => ⟨S4x2048x1024, .f32⟩
  | .hbm, ⟨29, _⟩ => ⟨S4x2048x1024, .f32⟩
  | .hbm, ⟨30, _⟩ => ⟨S_, .f32⟩
  | .hbm, ⟨31, _⟩ => ⟨S4x2048x1, .f32⟩
  | .hbm, ⟨32, _⟩ => ⟨S4x2048x1, .f32⟩
  | .hbm, ⟨33, _⟩ => ⟨S4x2048x1, .f32⟩
  | .hbm, ⟨34, _⟩ => ⟨S4x2048x1024, .f32⟩
  | .hbm, ⟨35, _⟩ => ⟨S4x2048x1024, .f32⟩
  | .hbm, ⟨36, _⟩ => ⟨S1x1x1024, .f32⟩
  | .hbm, ⟨37, _⟩ => ⟨S4x2048x1024, .f32⟩
  | .hbm, ⟨38, _⟩ => ⟨S4x2048x1024, .f32⟩
  | .hbm, ⟨39, _⟩ => ⟨S1x1x1024, .f32⟩
  | .hbm, ⟨40, _⟩ => ⟨S4x2048x1024, .f32⟩
  | .hbm, ⟨41, _⟩ => ⟨S4x2048x1024, .f32⟩
  | .hbm, ⟨42, _⟩ => ⟨S4x2048x1024, .f32⟩
  | .hbm, ⟨43, _⟩ => ⟨S4x2048x1024, .f32⟩
  | .hbm, ⟨44, _⟩ => ⟨S_, .f32⟩
  | .hbm, ⟨45, _⟩ => ⟨S4x2048x1024, .f32⟩
  | .hbm, ⟨46, _⟩ => ⟨S4x2048x1024, .f32⟩
  | .hbm, ⟨47, _⟩ => ⟨S_, .f32⟩
  | .hbm, ⟨48, _⟩ => ⟨S4x2048x1024, .f32⟩
  | .hbm, ⟨49, _⟩ => ⟨S4x2048x1024, .f32⟩
  | .hbm, ⟨50, _⟩ => ⟨S4x2048x1024, .f32⟩
  | .hbm, ⟨51, _⟩ => ⟨S4x2048x2048, .f32⟩
  | .hbm, ⟨52, _⟩ => ⟨S2048x2048, .f32⟩
  | .hbm, ⟨53, _⟩ => ⟨S4x2048x2048, .f32⟩
  | .hbm, ⟨54, _⟩ => ⟨S4x2048x2048, .f32⟩
  | .hbm, ⟨55, _⟩ => ⟨S2048, .f32⟩
  | .hbm, ⟨56, _⟩ => ⟨S4x2048x2048, .f32⟩
  | .hbm, ⟨57, _⟩ => ⟨S_, .f32⟩
  | .hbm, ⟨58, _⟩ => ⟨S4x2048, .f32⟩
  | .hbm, ⟨59, _⟩ => ⟨S4x2048x1, .f32⟩
  | .hbm, ⟨60, _⟩ => ⟨S_, .f32⟩
  | .hbm, ⟨61, _⟩ => ⟨S4x2048x1, .f32⟩
  | .hbm, ⟨62, _⟩ => ⟨S4x2048x1, .f32⟩
  | .hbm, ⟨63, _⟩ => ⟨S_, .f32⟩
  | .hbm, ⟨64, _⟩ => ⟨S4x2048x1, .f32⟩
  | .hbm, ⟨65, _⟩ => ⟨S4x2048x1, .f32⟩
  | .hbm, ⟨66, _⟩ => ⟨S4x2048x1, .f32⟩
  | .hbm, ⟨67, _⟩ => ⟨S4x2048x2048, .f32⟩
  | .hbm, ⟨68, _⟩ => ⟨S4x2048x2048, .f32⟩
  | .hbm, ⟨69, _⟩ => ⟨S1x1x2048, .f32⟩
  | .hbm, ⟨70, _⟩ => ⟨S4x2048x2048, .f32⟩
  | .hbm, ⟨71, _⟩ => ⟨S4x2048x2048, .f32⟩
  | .hbm, ⟨72, _⟩ => ⟨S8192x2048, .f32⟩
  | .hbm, ⟨73, _⟩ => ⟨S2048x8, .f32⟩
  | .hbm, ⟨74, _⟩ => ⟨S8192x8, .f32⟩
  | .hbm, ⟨75, _⟩ => ⟨S8, .f32⟩
  | .hbm, ⟨76, _⟩ => ⟨S1x8, .f32⟩
  | .hbm, ⟨77, _⟩ => ⟨S8192x8, .f32⟩
  | .hbm, ⟨78, _⟩ => ⟨S8192x8, .f32⟩
  | .hbm, ⟨79, _⟩ => ⟨S2048x64, .f32⟩
  | .hbm, ⟨80, _⟩ => ⟨S8192x64, .f32⟩
  | .hbm, ⟨81, _⟩ => ⟨S64, .f32⟩
  | .hbm, ⟨82, _⟩ => ⟨S1x64, .f32⟩
  | .hbm, ⟨83, _⟩ => ⟨S8192x64, .f32⟩
  | .hbm, ⟨84, _⟩ => ⟨S8192x64, .f32⟩
  | .hbm, ⟨85, _⟩ => ⟨S_, .f32⟩
  | .hbm, ⟨86, _⟩ => ⟨S8192x56, .f32⟩
  | .hbm, ⟨87, _⟩ => ⟨S8192x128, .f32⟩
  | .hbm, ⟨88, _⟩ => ⟨S8192x2048, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_call0_v5 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_4 : Ref sig .tc := ⟨.hbm, 57, rfl⟩
abbrev main_v33 : Ref sig .tc := ⟨.hbm, 58, rfl⟩
abbrev main_v34 : Ref sig .tc := ⟨.hbm, 59, rfl⟩
abbrev main_cst_5 : Ref sig .tc := ⟨.hbm, 60, rfl⟩
abbrev main_v35 : Ref sig .tc := ⟨.hbm, 61, rfl⟩
abbrev main_v36 : Ref sig .tc := ⟨.hbm, 62, rfl⟩
abbrev main_cst_6 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_7 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩

abbrev nD : Nat := 1
abbrev τ : Topo := Topo.v7x

variable {F : FTy → Type} [FloatOps F]
-- ==== Proof.SplitFrame.lean ====
/-
  The run of the weight-splitting call (`wsplit`), at any float values: one grid of eight points, six windows.  Three
  windows read one array, the transposed projection matrix: one in whole blocks (its block index held at four from the
  fifth point on), two at element offsets.  Three windows write: the latent columns, whose buffer is left alone from
  the sixth point on; the gated columns, stored at every point; the rotary-key columns, stored at the first point.

  After the body each output's buffer holds what its last store put there: the block it was read from, transposed and
  rounded.  For the two outputs that are not stored at every point the block read does not move while the buffer is left
  alone, so the contents are one function of the point's own block.
-/
module

public import proofs.«01_k».proof.Proof.Gen.SplitIdeal.Frame
public import proofs.«01_k».proof.Proof.Gen.SplitIdeal.Skeleton
public import Idealize.ShloMosaic.Lib.Pointwise.Index
public import Idealize.ShloMosaic.Lib.Tactic
public import Idealize.ShloMosaic.Lib.Exec
public import Idealize.ShloMosaic.Lib.VecWindow
public import Idealize.ShloMosaic.Lib.Pipeline.Kit
public import Idealize.ShloMosaic.Lib.Pipeline.TableIdle
public import Idealize.ShloMosaic.Lib.Pipeline.ValueKit.Geometry

@[expose] public section

set_option maxRecDepth 16384

noncomputable section

namespace Cert.Proof.Split

open Cert.SplitIdeal Cert.SplitIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Whole loads and stores -/

/-- A load of a whole buffer reads what the buffer holds. -/
theorem readAt_whole {s : Shape} {e : EltTy} (a : Memref sig .tc .vmem s e) (h : a.IsWhole) (x : s.Idx → Elt F e)
    {off : Fin s.rank → Nat} (inb : ∀ b, off b + s.size b ≤ s.size b) (hz : ∀ b, off b = 0) :
    a.view.readAt (Elt F) (Rect.unit off s.size inb).toLoadRect (h.unread x) = x := by
  rw [View.readAt_eq_ld, h.read_unread, View.ld_unit_lit inb x hz]

/-! ## The body on any six buffers -/

/-- The body of the kernel, its buffers any whole ones: the second input's block goes to the second output; the first
    input's to the first output where the first condition holds; the third's to the third where the second does. -/
theorem body_run (c : Dev nD) (i : grid0.Coords)
    (a1 : Memref sig .tc .vmem S256x2048 .f32) (h1 : a1.IsWhole) (a2 : Memref sig .tc .vmem S256x2048 .f32) (h2 : a2.IsWhole)
    (a3 : Memref sig .tc .vmem S128x2048 .f32) (h3 : a3.IsWhole) (a4 : Memref sig .tc .vmem S2048x256 .bf16) (h4 : a4.IsWhole)
    (a5 : Memref sig .tc .vmem S2048x256 .bf16) (h5 : a5.IsWhole) (a6 : Memref sig .tc .vmem S2048x128 .bf16) (h6 : a6.IsWhole)
    (x1 x2 : Vec F S256x2048 .f32) (x3 : Vec F S128x2048 .f32) (y4 y5 : Vec F S2048x256 .bf16) (y6 : Vec F S2048x128 .bf16)
    (E : Set ℕ) (K : PUnit → sProp 𝕄) :
    iprop(owns (c : Thread nD τ) a1 fullShare x1 ∗ owns (c : Thread nD τ) a2 fullShare x2 ∗ owns (c : Thread nD τ) a3 fullShare x3
        ∗ owns (c : Thread nD τ) a4 fullShare y4 ∗ owns (c : Thread nD τ) a5 fullShare y5 ∗ owns (c : Thread nD τ) a6 fullShare y6
        ∗ (iprop(owns (c : Thread nD τ) a1 fullShare x1 ∗ owns (c : Thread nD τ) a2 fullShare x2 ∗ owns (c : Thread nD τ) a3 fullShare x3
            ∗ owns (c : Thread nD τ) a4 fullShare (if k0_cond1 i = 1#1 then k0_pay2 x1 else y4)
            ∗ owns (c : Thread nD τ) a5 fullShare (k0_pay1 x2)
            ∗ owns (c : Thread nD τ) a6 fullShare (if k0_cond2 i = 1#1 then k0_pay3 x3 else y6)) -∗ K ⟨⟩))
      ⊢ wp frame (wpE (defs₀ (F := F)) Variants.none c none) E (cc0_wsplit i a1 h1 a2 h2 a3 h3 a4 h4 a5 h5 a6 h6) K := by
  simp only [cc0_wsplit_eq_skeleton]; unfold cc0_wsplit_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, Hk⟩
  obtain rfl := h1.eq_unread e1; obtain rfl := h2.eq_unread e2; obtain rfl := h3.eq_unread e3
  obtain rfl := h4.eq_unread e4; obtain rfl := h5.eq_unread e5; obtain rfl := h6.eq_unread e6
  by_cases c1 : k0_cond1 i = 1#1 <;> by_cases c2 : k0_cond2 i = 1#1 <;>
    simp only [c1, c2, dite_true, dite_false, if_true, if_false]
  all_goals sl_exec
  all_goals sl_step
  all_goals iapply Hk
  all_goals
    isplitl [H1]
    · iexists _; isplitr; swap; · iexact H1
      ipureintro; exact e1
    isplitl [H2]
    · iexists _; isplitr; swap; · iexact H2
      ipureintro; exact e2
    isplitl [H3]
    · iexists _; isplitr; swap; · iexact H3
      ipureintro; exact e3
    isplitl [H4]
    · iexists _; isplitr; swap; · iexact H4
      ipureintro
      first
        | (rw [View.read_writes_full, readAt_whole a1 h1 x1 _ (by decide)])
        | exact e4
    isplitl [H5]
    · iexists _; isplitr; swap; · iexact H5
      ipureintro
      (rw [View.read_writes_full, readAt_whole a2 h2 x2 _ (by decide)])
    iexists _; isplitr; swap; · iexact H6
    ipureintro
    first
      | (rw [View.read_writes_full, readAt_whole a3 h3 x3 _ (by decide)])
      | exact e6

/-! ## The blocks at coordinates -/

/-- The block index of the first input and of the first output: the point, held at four. -/
theorem index_0 : ∀ t : Fin cfg0.N, win0_0.index t = ![min t.val 4, 0] :=
  (by decide +kernel : ∀ t : Fin grid0.N, win0_0.index t = ![min t.val 4, 0])
/-- The second input's element offset. -/
theorem index_1 : ∀ t : Fin cfg0.N, win0_1.index t = ![1344 + 256 * t.val, 0] :=
  (by decide +kernel : ∀ t : Fin grid0.N, win0_1.index t = ![1344 + 256 * t.val, 0])
/-- The third input's element offset. -/
theorem index_2 : ∀ t : Fin cfg0.N, win0_2.index t = ![1280, 0] :=
  (by decide +kernel : ∀ t : Fin grid0.N, win0_2.index t = ![1280, 0])
theorem index_3 : ∀ t : Fin cfg0.N, win0_3.index t = ![0, min t.val 4] :=
  (by decide +kernel : ∀ t : Fin grid0.N, win0_3.index t = ![0, min t.val 4])
theorem index_4 : ∀ t : Fin cfg0.N, win0_4.index t = ![0, t.val] :=
  (by decide +kernel : ∀ t : Fin grid0.N, win0_4.index t = ![0, t.val])
theorem index_5 : ∀ t : Fin cfg0.N, win0_5.index t = ![0, 0] :=
  (by decide +kernel : ∀ t : Fin grid0.N, win0_5.index t = ![0, 0])

/-- The first input's buffer at a point, at an index: the matrix's row in the point's block. -/
theorem X0_apply (c : Dev nD) (t : Fin cfg0.N) (j : S256x2048.Idx) (k : S3392x2048.Idx)
    (h0 : (k 0).val = 256 * min t.val 4 + (j 0).val) (h1 : (k 1).val = (j 1).val) :
    X0_0 m c t j = V m c main_v1 k := by
  unfold X0_0 Pipeline.Window.fill
  rw [dif_pos (moved0_0 t j)]
  unfold iblk
  refine congrArg (V m c main_v1) ?_
  funext a; apply Fin.ext
  refine (win0_0.rect_emb_val_off t _ a).trans ?_
  rw [index_0 t]
  match a with
  | ⟨0, _⟩ => refine Eq.trans (b := min t.val 4 * 256 + (j 0).val) rfl (Eq.trans ?_ h0.symm); omega
  | ⟨1, _⟩ => refine Eq.trans (b := 0 * 2048 + (j 1).val) rfl (Eq.trans ?_ h1.symm); omega

/-- The second input's. -/
theorem iblk1_apply (c : Dev nD) (t : Fin cfg0.N) (j : S256x2048.Idx) (k : S3392x2048.Idx)
    (h0 : (k 0).val = 1344 + 256 * t.val + (j 0).val) (h1 : (k 1).val = (j 1).val) :
    iblk m c 1 t j = V m c main_v1 k := by
  unfold iblk
  refine congrArg (V m c main_v1) ?_
  funext a; apply Fin.ext
  refine (win0_1.rect_emb_val_off t _ a).trans ?_
  rw [index_1 t]
  match a with
  | ⟨0, _⟩ => exact h0.symm
  | ⟨1, _⟩ => refine Eq.trans (b := 0 + (j 1).val) rfl (Eq.trans ?_ h1.symm); omega

/-- The third input's. -/
theorem iblk2_apply (c : Dev nD) (t : Fin cfg0.N) (j : S128x2048.Idx) (k : S3392x2048.Idx)
    (h0 : (k 0).val = 1280 + (j 0).val) (h1 : (k 1).val = (j 1).val) :
    iblk m c 2 t j = V m c main_v1 k := by
  unfold iblk
  refine congrArg (V m c main_v1) ?_
  funext a; apply Fin.ext
  refine (win0_2.rect_emb_val_off t _ a).trans ?_
  rw [index_2 t]
  match a with
  | ⟨0, _⟩ => exact h0.symm
  | ⟨1, _⟩ => refine Eq.trans (b := 0 + (j 1).val) rfl (Eq.trans ?_ h1.symm); omega

end Cert.Proof.Split

end
-- ==== Proof.SplitRun.lean ====
/-
  The weight-splitting call's proof data, its body obligation, the launch's run and the frame, at any float values.
-/
module

public import proofs.«01_k».proof.Proof.SplitFrame
public import Idealize.ShloMosaic.Lib.Claim

@[expose] public section

set_option maxRecDepth 16384

noncomputable section

namespace Cert.Proof.Split

open Cert.SplitIdeal Cert.SplitIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## When the two conditional outputs are left alone -/

theorem idle_3 : ∀ t : Fin cfg0.N, cfg0.idle 3 (cfg0.grid.coords t) = decide (5 ≤ t.val) :=
  (by decide +kernel : ∀ t : Fin grid0.N, cfg0.idle 3 (grid0.coords t) = decide (5 ≤ t.val))
theorem idle_5 : ∀ t : Fin cfg0.N, cfg0.idle 5 (cfg0.grid.coords t) = decide (1 ≤ t.val) :=
  (by decide +kernel : ∀ t : Fin grid0.N, cfg0.idle 5 (grid0.coords t) = decide (1 ≤ t.val))
/-- Where an output is left alone, its buffer is not a fresh one: an earlier point stored it. -/
theorem fresh_3 : ∀ t : Fin cfg0.N, 5 ≤ t.val → cfg0.fresh 3 t.val = false :=
  (by decide +kernel : ∀ t : Fin grid0.N, 5 ≤ t.val → cfg0.fresh 3 t.val = false)
theorem fresh_5 : ∀ t : Fin cfg0.N, 1 ≤ t.val → cfg0.fresh 5 t.val = false :=
  (by decide +kernel : ∀ t : Fin grid0.N, 1 ≤ t.val → cfg0.fresh 5 t.val = false)
theorem cond_1 : ∀ t : Fin cfg0.N, k0_cond1 (cfg0.grid.coords t) = 1#1 ↔ t.val < 5 :=
  (by decide +kernel : ∀ t : Fin grid0.N, k0_cond1 (grid0.coords t) = 1#1 ↔ t.val < 5)
theorem cond_2 : ∀ t : Fin cfg0.N, k0_cond2 (cfg0.grid.coords t) = 1#1 ↔ t.val < 1 :=
  (by decide +kernel : ∀ t : Fin grid0.N, k0_cond2 (grid0.coords t) = 1#1 ↔ t.val < 1)

/-- From the sixth point on the first input's block is the point before's. -/
theorem X0_idle (c : Dev nD) (t : Fin cfg0.N) (h : 5 ≤ t.val) : X0_0 m c t = X0_0 m c ⟨t.val - 1, by omega⟩ := by
  funext j
  have b0 : (j 0).val < 256 := (j 0).isLt
  have b1 : (j 1).val < 2048 := (j 1).isLt
  let k : S3392x2048.Idx := ix2 ⟨256 * min t.val 4 + (j 0).val, by show _ < 3392; omega⟩ ⟨(j 1).val, b1⟩
  rw [X0_apply m c t j k rfl rfl, X0_apply m c ⟨t.val - 1, by omega⟩ j k (by
    show 256 * min t.val 4 + (j 0).val = 256 * min (t.val - 1) 4 + (j 0).val; omega) rfl]

/-- The third input's block is one block. -/
theorem iblk2_idle (c : Dev nD) (t t' : Fin cfg0.N) : iblk m c 2 t = iblk m c 2 t' := by
  funext j
  have b0 : (j 0).val < 128 := (j 0).isLt
  have b1 : (j 1).val < 2048 := (j 1).isLt
  let k : S3392x2048.Idx := ix2 ⟨1280 + (j 0).val, by show _ < 3392; omega⟩ ⟨(j 1).val, b1⟩
  rw [iblk2_apply m c t j k rfl rfl, iblk2_apply m c t' j k rfl rfl]

/-! ## The proof data -/

/-- After the body at a point: each input's buffer holds its block, each output's its own input's block transposed and
    rounded.  The three inputs share one array, each holding its part of the share. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => k0_pay2 (X0_0 m c t)
    | ⟨4, _⟩ => k0_pay1 (iblk m c 1 t)
    | ⟨5, _⟩ => k0_pay3 (iblk m c 2 t)
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = X0_0 m c t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = k0_pay2 (X0_0 m c t) := by dsimp only [dats]
theorem after_4 (c : Dev nD) (t : Fin cfg0.N) : (dats m 0 c).after 4 t = k0_pay1 (iblk m c 1 t) := by dsimp only [dats]
theorem after_5 (c : Dev nD) (t : Fin cfg0.N) : (dats m 0 c).after 5 t = k0_pay3 (iblk m c 2 t) := by dsimp only [dats]

theorem before_0 (c : Dev nD) (t : Fin cfg0.N) (d) : (dats m 0 c).before 0 t d = X0_0 m c t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- Where the first output is left alone, its buffer holds already what the data says it holds after. -/
theorem before_3_idle (c : Dev nD) (t : Fin cfg0.N) (h : 5 ≤ t.val) (d) : (dats m 0 c).before 3 t d = (dats m 0 c).after 3 t := by
  have carry : ∀ s : Fin cfg0.N, 5 ≤ s.val → (dats m 0 c).after 3 s = (dats m 0 c).after 3 ⟨s.val - 1, by omega⟩ := fun s hs => by
    rw [after_3, after_3, X0_idle m c s hs]
  rw [Dat.before_out_traj (dats m 0 c) 3 rfl (fun _ _ => rfl)
    (fun s _ hi _ => carry s (by rw [idle_3 s] at hi; exact of_decide_eq_true hi)) t.val t rfl d, fresh_3 t h, carry t h]
  rfl

/-- The third output's likewise. -/
theorem before_5_idle (c : Dev nD) (t : Fin cfg0.N) (h : 1 ≤ t.val) (d) : (dats m 0 c).before 5 t d = (dats m 0 c).after 5 t := by
  have carry : ∀ s : Fin cfg0.N, (dats m 0 c).after 5 s = (dats m 0 c).after 5 ⟨s.val - 1, by omega⟩ := fun s => by
    rw [after_5, after_5, iblk2_idle m c s]
  rw [Dat.before_out_traj (dats m 0 c) 5 rfl (fun _ _ => rfl) (fun s _ _ _ => carry s) t.val t rfl d, fresh_5 t h, carry t]
  rfl

/-! ## The body obligation -/

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- And what it returns: every buffer at what the data says. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem left_3 (c : Dev nD) (t : Fin cfg0.N) (d) :
    (if k0_cond1 (grid0.coords t) = 1#1 then k0_pay2 (X0_0 m c t) else (dats m 0 c).before 3 t d) = (dats m 0 c).after 3 t := by
  split
  · exact (after_3 m c t).symm
  · next h => exact before_3_idle m c t (not_lt.mp fun h' => h ((cond_1 t).mpr h')) d
theorem left_5 (c : Dev nD) (t : Fin cfg0.N) (d) :
    (if k0_cond2 (grid0.coords t) = 1#1 then k0_pay3 (iblk m c 2 t) else (dats m 0 c).before 5 t d) = (dats m 0 c).after 5 t := by
  split
  · exact (after_5 m c t).symm
  · next h => exact before_5_idle m c t (not_lt.mp fun h' => h ((cond_2 t).mpr h')) d

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl, after_0, after_1, after_2, after_4]
  iintro ⟨HΦ, Ho, ⟨%d0, H0⟩, ⟨%d1, H1⟩, ⟨%d2, H2⟩, ⟨%d3, H3⟩, ⟨%d4, H4⟩, ⟨%d5, H5⟩⟩
  rw [← left_3 m c t d3, ← left_5 m c t d5]
  iapply (body_run c (grid0.coords t) _ _ _ _ _ _ _ _ _ _ _ _ (X0_0 m c t) (iblk m c 1 t) (iblk m c 2 t)
    ((dats m 0 c).before 3 t d3) ((dats m 0 c).before 4 t d4) ((dats m 0 c).before 5 t d5) Set.univ _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- What is asked of a window left alone at a point follows from its buffer at the data's contents, where those are what
    it held. -/
theorem leaves_of_after (c : Dev nD) (t : Fin cfg0.N) (w : Fin cfg0.W) (d)
    (h : cfg0.idle w (cfg0.grid.coords t) = true → (dats m 0 c).before w t d = (dats m 0 c).after w t) :
    owns (c : Thread nD τ) ((cfg0.win w).stage (cfg0.slots t w)) fullShare ((dats m 0 c).after w t) ⊢
      (match cfg0.idle w (cfg0.grid.coords t) with
        | true =>
          match (cfg0.win w).flush t with
          | false => iprop(∃ d, owns (c : Thread nD τ) ((cfg0.win w).stage (cfg0.slots t w)) fullShare ((dats m 0 c).before w t d))
          | true => owns (c : Thread nD τ) ((cfg0.win w).stage (cfg0.slots t w)) fullShare ((dats m 0 c).after w t)
        | false => owns (c : Thread nD τ) ((cfg0.win w).stage (cfg0.slots t w)) fullShare ((dats m 0 c).after w t) : sProp 𝕄) := by
  cases hi : cfg0.idle w (cfg0.grid.coords t)
  · exact .rfl
  · cases hf : (cfg0.win w).flush t
    · rw [← h hi]; iintro H; iexists d; iexact H
    · exact .rfl

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  unfold bodyPost
  iintro ⟨HΦ, Ho, H0, H1, H2, H3, H4, H5⟩
  isplitl [HΦ]; · iexact HΦ
  isplitl [Ho]; · iexact Ho
  isplitl [H0]; · iexact H0
  isplitl [H1]; · iexact H1
  isplitl [H2]; · iexact H2
  isplitl [H3]
  · iapply (leaves_of_after m c t 3 (fun _ => Classical.choice inferInstance) fun hi =>
      before_3_idle m c t (by rw [idle_3 t] at hi; exact of_decide_eq_true hi) _)
    iexact H3
  isplitl [H4]; · iexact H4
  iapply (leaves_of_after m c t 5 (fun _ => Classical.choice inferInstance) fun hi =>
    before_5_idle m c t (by rw [idle_5 t] at hi; exact of_decide_eq_true hi) _)
  iexact H5

/-! ## The run and the frame -/

-- the launch theorem's implicit arguments are found by unifying its conclusion with this one
set_option backward.isDefEq.respectTransparency.types false in
/-- Every weakly fair execution of the call terminates, with the pipeline's arrays at what the data says, every other
    array as it was, and every counter at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame, at any float values: the argument ends as it began, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (frame_of m ρ (dats m) (A_eq m) (run_main m ρ)) ((θ_run defs _ _).mono (fun _ h => h.2) (run_main_quiescent m ρ))

end Cert.Proof.Split

end
-- ==== Proof.SplitValue.lean ====
/-
  What the weight-splitting call computes, at any float values: each result's element is the rounded element of the
  argument its coordinates name, the padding columns the rounded zero.
-/
module

public import proofs.«01_k».proof.Proof.SplitRun
public import Idealize.ShloMosaic.Lib.Pipeline.Value
public import Idealize.ShloMosaic.Lib.StableHlo.Run

@[expose] public section

set_option maxRecDepth 16384

noncomputable section

namespace Cert.Proof.Split

open Cert.SplitIdeal Cert.SplitIdeal.Gen

open Idealize.ShloMosaic Idealize.ShloMosaic.TcCoe Idealize.ShloMosaic.Tactic
open Idealize.SL.Sem
open Idealize.ShloMosaic.Pipeline (Dat Cfg Window)

variable {F : FTy → Type} [FloatOps F]

/-! ## The results, element by element -/

/-- The latent columns: the argument's first 1280, rounded. -/
def latOf (x : S1x2048x3392.Idx → Elt F .f32) : S2048x1280.Idx → Elt F .bf16 := fun i =>
  FloatOps.truncf .bf16 bitsLt_bf16_f32 (x (ix3 0 (i 0) ⟨(i 1).val, by have : (i 1).val < 1280 := (i 1).isLt; show _ < 3392; omega⟩))
/-- The gated columns: the argument's last 2048, rounded. -/
def gateOf (x : S1x2048x3392.Idx → Elt F .f32) : S2048x2048.Idx → Elt F .bf16 := fun i =>
  FloatOps.truncf .bf16 bitsLt_bf16_f32 (x (ix3 0 (i 0) ⟨1344 + (i 1).val, by have : (i 1).val < 2048 := (i 1).isLt; show _ < 3392; omega⟩))
/-- The rotary-key columns: the argument's 64 after the latent ones, rounded, and 64 of the rounded zero. -/
def keyOf (x : S1x2048x3392.Idx → Elt F .f32) : S2048x128.Idx → Elt F .bf16 := fun i =>
  FloatOps.truncf .bf16 bitsLt_bf16_f32 (if (i 1).val < 64
    then x (ix3 0 (i 0) ⟨1280 + (i 1).val, by have : (i 1).val < 128 := (i 1).isLt; show _ < 3392; omega⟩)
    else FloatOps.ofBits .f32 0x00000000#32)

variable (m : (ℓ : Loc nD τ sig) → Buf (Elt F) ℓ) (ρ : Dev nD → PrngReg)

/-- The matrix the windows read is the argument transposed. -/
theorem V_apply (c : Dev nD) (k : S3392x2048.Idx) :
    V m c main_v1 k = m ((c.tc : Thread nD τ).loc main_arg0) (ix3 0 (k 1) (k 0)) := by
  have e : V m c main_v1 = transpose S3392x2048 [1, 0] (shapeCast S2048x3392 (m ((c.tc : Thread nD τ).loc main_arg0))
      shapeCasts_S1x2048x3392_S2048x3392) transposes_S2048x3392_S3392x2048_1_0 := by
    after_results <;> rfl
  rw [e]
  refine (transpose_apply _ _ _ k (ix2 (k 1) (k 0)) (fun b => match b with | ⟨0, _⟩ => rfl | ⟨1, _⟩ => rfl)).trans ?_
  refine shapeCast_apply _ _ _ (ix3 0 (k 1) (k 0)) ?_
  refine (Shape.rowMajor_val_three _).trans (Eq.trans ?_ (Shape.rowMajor_val_two _).symm)
  show (0 * 2048 + (k 1).val) * 3392 + (k 0).val = (k 1).val * 3392 + (k 0).val
  omega

/-! ## The payloads -/

theorem pay2_apply (x : Vec F S256x2048 .f32) (i : S2048x256.Idx) :
    k0_pay2 x i = FloatOps.truncf .bf16 bitsLt_bf16_f32 (x (ix2 (i 1) (i 0))) := by
  unfold k0_pay2
  refine congrArg (FloatOps.truncf .bf16 bitsLt_bf16_f32) ?_
  refine (transpose_apply _ _ _ i (ix2 (i 1) (i 0)) (fun b => match b with | ⟨0, _⟩ => rfl | ⟨1, _⟩ => rfl)).trans ?_
  exact shapeCast_apply _ _ _ _ rfl

theorem pay1_apply (x : Vec F S256x2048 .f32) (i : S2048x256.Idx) :
    k0_pay1 x i = FloatOps.truncf .bf16 bitsLt_bf16_f32 (x (ix2 (i 1) (i 0))) := pay2_apply x i

theorem lane_lt : ∀ n : Fin 128, IntOp.cmpi .slt (BitVec.ofNat 32 n.val) 64#32 = if n.val < 64 then 1#1 else 0#1 := by
  decide +kernel

theorem pay3_apply (x : Vec F S128x2048 .f32) (i : S2048x128.Idx) :
    k0_pay3 x i = FloatOps.truncf .bf16 bitsLt_bf16_f32
      (if (i 1).val < 64 then x (ix2 (i 1) (i 0)) else FloatOps.ofBits .f32 0x00000000#32) := by
  unfold k0_pay3
  refine congrArg (FloatOps.truncf .bf16 bitsLt_bf16_f32) ?_
  have ht : transpose S2048x128 [1, 0] (shapeCast S128x2048 x shapeCasts_S128x2048_S128x2048) transposes_S128x2048_p1_0_S2048x128 i
      = x (ix2 (i 1) (i 0)) := by
    refine (transpose_apply _ _ _ i (ix2 (i 1) (i 0)) (fun b => match b with | ⟨0, _⟩ => rfl | ⟨1, _⟩ => rfl)).trans ?_
    exact shapeCast_apply _ _ _ _ rfl
  have hb : cmpi .slt (iota .tc S2048x128 32 [1] iota_S2048x128_d1_w32) (broadcast S2048x128 64#32) i
      = if (i 1).val < 64 then 1#1 else 0#1 := by
    refine Eq.trans ?_ (lane_lt (i 1))
    refine congrArg (fun w => IntOp.cmpi .slt w 64#32) ?_
    exact congrArg (BitVec.ofNat 32) ((congrArg (· + (i 1).val) (Nat.zero_mul 128)).trans (Nat.zero_add _))
  show (if _ = 1#1 then _ else _) = _
  rw [hb, ht]
  by_cases h : (i 1).val < 64
  · simp [h]
  · simp [h]; rfl

/-! ## The arrays after the run -/

theorem arr_3 (c : Dev nD) : (dats m 0 c).arrAt 3 cfg0.N = latOf (m ((c.tc : Thread nD τ).loc main_arg0)) := by
  refine (dats m 0 c).arrAt_eq_of_covers 3 _ (by decide +kernel) fun t _ y => ?_
  blk_simp
  rw [after_3]
  have e0 : ((win0_3.blk t).view.emb y 0).val = (y 0).val :=
    (win0_3.rect_emb_val_off t _ 0).trans (by rw [index_3 t]; exact Nat.zero_add _)
  have e1 : ((win0_3.blk t).view.emb y 1).val = min t.val 4 * 256 + (y 1).val :=
    (win0_3.rect_emb_val_off t _ 1).trans (by rw [index_3 t]; rfl)
  refine (pay2_apply _ _).trans (congrArg (FloatOps.truncf .bf16 bitsLt_bf16_f32) ?_)
  have b1 : (y 1).val < 256 := (y 1).isLt
  refine (X0_apply m c t _ (ix2 ⟨256 * min t.val 4 + (y 1).val, by show _ < 3392; omega⟩ (y 0)) rfl rfl).trans ((V_apply m c _).trans ?_)
  refine congrArg (m ((c.tc : Thread nD τ).loc main_arg0)) ?_
  funext a; apply Fin.ext
  match a with
  | ⟨0, _⟩ => rfl
  | ⟨1, _⟩ => exact e0.symm
  | ⟨2, _⟩ => exact (show 256 * min t.val 4 + (y 1).val = min t.val 4 * 256 + (y 1).val by omega).trans e1.symm

theorem arr_4 (c : Dev nD) : (dats m 0 c).arrAt 4 cfg0.N = gateOf (m ((c.tc : Thread nD τ).loc main_arg0)) := by
  refine (dats m 0 c).arrAt_eq_of_covers 4 _ (by decide +kernel) fun t _ y => ?_
  blk_simp
  rw [after_4]
  have e0 : ((win0_4.blk t).view.emb y 0).val = (y 0).val :=
    (win0_4.rect_emb_val_off t _ 0).trans (by rw [index_4 t]; exact Nat.zero_add _)
  have e1 : ((win0_4.blk t).view.emb y 1).val = t.val * 256 + (y 1).val :=
    (win0_4.rect_emb_val_off t _ 1).trans (by rw [index_4 t]; rfl)
  refine (pay1_apply _ _).trans (congrArg (FloatOps.truncf .bf16 bitsLt_bf16_f32) ?_)
  have b1 : (y 1).val < 256 := (y 1).isLt
  have bt : t.val < 8 := lt_of_lt_of_eq t.isLt N_0
  refine (iblk1_apply m c t _ (ix2 ⟨1344 + 256 * t.val + (y 1).val, by show _ < 3392; omega⟩ (y 0)) rfl rfl).trans ((V_apply m c _).trans ?_)
  refine congrArg (m ((c.tc : Thread nD τ).loc main_arg0)) ?_
  funext a; apply Fin.ext
  match a with
  | ⟨0, _⟩ => rfl
  | ⟨1, _⟩ => exact e0.symm
  | ⟨2, _⟩ => exact (show 1344 + 256 * t.val + (y 1).val = 1344 + (t.val * 256 + (y 1).val) by omega).trans (congrArg (1344 + ·) e1.symm)

theorem arr_5 (c : Dev nD) : (dats m 0 c).arrAt 5 cfg0.N = keyOf (m ((c.tc : Thread nD τ).loc main_arg0)) := by
  refine (dats m 0 c).arrAt_eq_of_covers 5 _ (by decide +kernel) fun t _ y => ?_
  blk_simp
  rw [after_5]
  have e0 : ((win0_5.blk t).view.emb y 0).val = (y 0).val :=
    (win0_5.rect_emb_val_off t _ 0).trans (by rw [index_5 t]; exact Nat.zero_add _)
  have e1 : ((win0_5.blk t).view.emb y 1).val = (y 1).val :=
    (win0_5.rect_emb_val_off t _ 1).trans (by rw [index_5 t]; exact Nat.zero_add _)
  refine (pay3_apply _ _).trans (congrArg (FloatOps.truncf .bf16 bitsLt_bf16_f32) ?_)
  have b1 : (y 1).val < 128 := (y 1).isLt
  refine ite_congr (congrArg (· < 64) e1.symm) (fun _ => ?_) fun _ => rfl
  refine (iblk2_apply m c t _ (ix2 ⟨1280 + (y 1).val, by show _ < 3392; omega⟩ (y 0)) rfl rfl).trans ((V_apply m c _).trans ?_)
  refine congrArg (m ((c.tc : Thread nD τ).loc main_arg0)) ?_
  funext a; apply Fin.ext
  match a with
  | ⟨0, _⟩ => rfl
  | ⟨1, _⟩ => exact e0.symm
  | ⟨2, _⟩ => exact congrArg (1280 + ·) e1.symm

/-- The call's run, at any float values: the three results and the argument unchanged. -/
theorem run : θ_run defs (onTc (τ := τ) (main (F := F))) ⟨m, fun _ => 0, ρ⟩ (fun r => ∀ c : Dev nD,
      r.2.mem ((c.tc : Thread nD τ).loc main_v2_0) = latOf (m ((c.tc : Thread nD τ).loc main_arg0))
      ∧ r.2.mem ((c.tc : Thread nD τ).loc main_v2_1) = gateOf (m ((c.tc : Thread nD τ).loc main_arg0))
      ∧ r.2.mem ((c.tc : Thread nD τ).loc main_v2_2) = keyOf (m ((c.tc : Thread nD τ).loc main_arg0))
      ∧ r.2.mem ((c.tc : Thread nD τ).loc main_arg0) = m ((c.tc : Thread nD τ).loc main_arg0)) :=
  (θ_run defs _ _).mono (fun _ h c => ⟨((h.1 c).1 3).trans (arr_3 m c), ((h.1 c).1 4).trans (arr_4 m c),
    ((h.1 c).1 5).trans (arr_5 m c), h.2.1 c⟩) (θ_run_and (run_main m ρ) (frame m ρ))

end Cert.Proof.Split

end
-- ==== Proof.SplitClaims.lean ====
/-
  The claims about the weight-splitting call: the frames, the idealization's preservation, and the two value claims —
  at the extended reals and at the machine's own words, both from one run over any float values.
-/
module

public import proofs.«01_k».proof.Defs
public import proofs.«01_k».proof.Proof.SplitValue
public import proofs.«01_k».proof.Proof.Gen.Split
public import proofs.«01_k».proof.Proof.Gen.SplitRef
public import proofs.«01_k».proof.Proof.Gen.SplitRef.Run
public import proofs.«01_k».proof.Proof.Gen.SplitRefIdeal.Run
public import proofs.«01_k».proof.Proof.Gen.SplitRefIdeal.Read

@[expose] public section

set_option maxRecDepth 16384

noncomputable section

namespace Cert.Proof.Split

open Idealize.ShloMosaic Idealize.ShloMosaic.TcCoe Idealize.SL.Sem

section Reference

open Cert.SplitRefIdeal Cert.SplitRefIdeal.Gen Cert.SplitRefIdeal.Read

variable {F : FTy → Type} [FloatOps F] (x : S1x2048x3392.Idx → Elt F .f32)

/-! ## The reference's results, element by element -/

theorem ref_lat : val_main_v8 (F := F) x = latOf x := by
  funext i
  rw [val_main_v8_apply, val_main_v1_apply, val_main_v0_apply]
  refine congrArg (fun k => FloatOps.truncf .bf16 bitsLt_bf16_f32 (x k)) ?_
  have b0 : (i 0).val < 2048 := (i 0).isLt
  have b1 : (i 1).val < 1280 := (i 1).isLt
  funext a; apply Fin.ext
  match a with
  | ⟨0, _⟩ => rfl
  | ⟨1, _⟩ => show ((i 0).val * 1280 + (i 1).val) / 1280 % 2048 = (i 0).val; omega
  | ⟨2, _⟩ => show ((i 0).val * 1280 + (i 1).val) % 1280 = (i 1).val; omega

theorem ref_gate : val_main_v9 (F := F) x = gateOf x := by
  funext i
  rw [val_main_v9_apply, val_main_v5_apply, val_main_v4_apply]
  refine congrArg (fun k => FloatOps.truncf .bf16 bitsLt_bf16_f32 (x k)) ?_
  have b0 : (i 0).val < 2048 := (i 0).isLt
  have b1 : (i 1).val < 2048 := (i 1).isLt
  funext a; apply Fin.ext
  match a with
  | ⟨0, _⟩ => rfl
  | ⟨1, _⟩ => show ((i 0).val * 2048 + (i 1).val) / 2048 % 2048 = (i 0).val; omega
  | ⟨2, _⟩ => show 1344 + ((i 0).val * 2048 + (i 1).val) % 2048 = 1344 + (i 1).val; omega

theorem ref_key : val_main_v10 (F := F) x = keyOf x := by
  funext i
  rw [val_main_v10_apply]
  refine congrArg (FloatOps.truncf .bf16 bitsLt_bf16_f32) ?_
  have b0 : (i 0).val < 2048 := (i 0).isLt
  have b1 : (i 1).val < 128 := (i 1).isLt
  unfold val_main_v7
  by_cases h : (i 1).val < 64
  · rw [if_pos h]
    refine (concatenate_pair_apply_left (s₁ := S2048x64) (s₂ := S2048x64) 1 _ _ _ i rfl (ix2 (i 0) ⟨(i 1).val, h⟩ : S2048x64.Idx)
      (fun b => match b with | ⟨0, _⟩ => rfl | ⟨1, _⟩ => rfl)).trans ?_
    rw [val_main_v3_apply, val_main_v2_apply]
    refine congrArg x ?_
    funext a; apply Fin.ext
    match a with
    | ⟨0, _⟩ => rfl
    | ⟨1, _⟩ => show ((i 0).val * 64 + (i 1).val) / 64 % 2048 = (i 0).val; omega
    | ⟨2, _⟩ => show 1280 + ((i 0).val * 64 + (i 1).val) % 64 = 1280 + (i 1).val; omega
  · rw [if_neg h]
    refine (concatenate_pair_apply_right (s₁ := S2048x64) (s₂ := S2048x64) 1 _ _ _ i rfl rfl (ix2 (i 0) ⟨(i 1).val - 64, by omega⟩ : S2048x64.Idx)
      (fun b hb => match b, hb with | ⟨0, _⟩, _ => rfl | ⟨1, _⟩, hb => absurd rfl hb)
      (show (i 1).val - 64 + 64 = (i 1).val by omega)).trans ?_
    rw [val_main_v6_apply]; rfl

end Reference

/-! ## The original and its idealization are one program -/

theorem defs₀_eq : Cert.Split.defs₀ (F := Bits) = Cert.SplitIdeal.defs₀ := by
  unfold Cert.Split.defs₀ Cert.SplitIdeal.defs₀
  refine congrArg Defs.onTc ?_
  funext l
  match l with
  | ⟨0, _⟩ => rfl

theorem defs_eq : Cert.Split.defs (F := Bits) = Cert.SplitIdeal.defs := by
  unfold Cert.Split.defs Cert.SplitIdeal.defs
  rw [defs₀_eq]
  rfl

/-- A run of the idealization at the machine's words is one of the original. -/
theorem run_of_ideal {m : (ℓ : Loc Cert.Split.nD Cert.Split.τ Cert.Split.sig) → Buf (Elt Bits) ℓ} {ρ : Dev Cert.Split.nD → PrngReg}
    {Q : PUnit × MemSt Cert.Split.nD Cert.Split.τ Cert.Split.sig (Elt Bits) → Prop}
    (h : θ_run (Cert.SplitIdeal.defs (F := Bits)) (onTc (τ := Cert.SplitIdeal.τ) (Cert.SplitIdeal.main (F := Bits))) ⟨m, fun _ => 0, ρ⟩ Q) :
    θ_run (Cert.Split.defs (F := Bits)) (onTc (τ := Cert.Split.τ) (Cert.Split.main (F := Bits))) ⟨m, fun _ => 0, ρ⟩ Q :=
  (congrArg (fun d => θ_run d (onTc (τ := Cert.Split.τ) (Cert.Split.main (F := Bits))) ⟨m, fun _ => 0, ρ⟩ Q) defs_eq).mpr h

/-! ## The claims -/

theorem frame_ideal : Cert.quiescent_SplitIdeal (hSplitIdeal := Cert.SplitIdeal.Gen.facts) := fun m ρ _ => frame m ρ

/-- The original's frame is the same run, read at the machine's words. -/
theorem frame_kernel : Cert.quiescent_Split (hSplit := Cert.Split.Gen.facts) := fun m ρ _ =>
  run_of_ideal (frame (F := Bits) m ρ)

theorem frame_ref_ideal : Cert.quiescent_SplitRefIdeal (hSplitRefIdeal := Cert.SplitRefIdeal.Gen.facts) := fun m ρ _ =>
  (θ_run _ _ _).mono (fun r h => ⟨fun c => (h c).2.2.2, Idealize.ShloMosaic.sem_eq_zero_of_no_sems (by decide) r.2⟩)
    (Cert.SplitRefIdeal.Value.run (F := Ideal) m ρ)

theorem frame_ref : Cert.quiescent_SplitRef (hSplitRef := Cert.SplitRef.Gen.facts) := fun m ρ _ =>
  (θ_run _ _ _).mono (fun r h => ⟨fun c => (h c).2.2.2, Idealize.ShloMosaic.sem_eq_zero_of_no_sems (by decide) r.2⟩)
    (Cert.SplitRef.Value.run (F := Bits) m ρ)

theorem preserves : Cert.preserves_Split_SplitIdeal := trivial

theorem algebraic : Cert.algebraic_SplitIdeal_SplitRefIdeal (hSplitIdeal := Cert.SplitIdeal.Gen.facts)
    (hSplitRefIdeal := Cert.SplitRefIdeal.Gen.facts) := fun m ρ m' ρ' _ hagree =>
  ⟨fun c => latOf (m ((c.tc : Thread Cert.SplitIdeal.nD Cert.SplitIdeal.τ).loc Cert.SplitIdeal.main_arg0)),
   fun c => gateOf (m ((c.tc : Thread Cert.SplitIdeal.nD Cert.SplitIdeal.τ).loc Cert.SplitIdeal.main_arg0)),
   fun c => keyOf (m ((c.tc : Thread Cert.SplitIdeal.nD Cert.SplitIdeal.τ).loc Cert.SplitIdeal.main_arg0)),
   run (F := Ideal) m ρ,
   (θ_run _ _ _).mono (fun _ h c =>
    ⟨(h c).1.trans ((ref_lat _).trans (congrArg latOf (hagree c))), (h c).2.1.trans ((ref_gate _).trans (congrArg gateOf (hagree c))),
      (h c).2.2.1.trans ((ref_key _).trans (congrArg keyOf (hagree c))), (h c).2.2.2⟩)
    (Cert.SplitRefIdeal.Value.run (F := Ideal) m' ρ')⟩

theorem bitexact : Cert.bitexact_Split_SplitRef (hSplit := Cert.Split.Gen.facts) (hSplitRef := Cert.SplitRef.Gen.facts) :=
  fun m ρ m' ρ' _ hagree =>
  ⟨fun c => latOf (F := Bits) (m ((c.tc : Thread Cert.Split.nD Cert.Split.τ).loc Cert.Split.main_arg0)),
   fun c => gateOf (F := Bits) (m ((c.tc : Thread Cert.Split.nD Cert.Split.τ).loc Cert.Split.main_arg0)),
   fun c => keyOf (F := Bits) (m ((c.tc : Thread Cert.Split.nD Cert.Split.τ).loc Cert.Split.main_arg0)),
   run_of_ideal (run (F := Bits) m ρ),
   (θ_run _ _ _).mono (fun _ h c =>
    ⟨(h c).1.trans ((ref_lat (F := Bits) _).trans (congrArg latOf (hagree c))),
      (h c).2.1.trans ((ref_gate (F := Bits) _).trans (congrArg gateOf (hagree c))),
      (h c).2.2.1.trans ((ref_key (F := Bits) _).trans (congrArg keyOf (hagree c))), (h c).2.2.2⟩)
    (Cert.SplitRef.Value.run (F := Bits) m' ρ')⟩

end Cert.Proof.Split

end
-- ==== Proof.AttentionMath.lean ====
/-
  The arithmetic of one row of the attention, over the extended reals: a score is a sum over the 256 lanes of a head's
  slot, the base-2 exponential of the pre-scaled scores is the natural one of the scores, and dividing after the
  product with the values is dividing the weights before it.
-/
module

public import Idealize.ShloMosaic.PureOps.Ideal
public import Idealize.ShloMosaic.PureOps.Ideal.Laws
public import Mathlib.Analysis.SpecialFunctions.Pow.Real

@[expose] public section

noncomputable section

namespace Cert.Proof.Attention

open Idealize.ShloMosaic

/-- The base-2 exponential of `y / log 2` is the exponential of `y`. -/
theorem exp2_div_log (y : ℝ) : Ideal.exp2 ((y * (Real.log 2)⁻¹ : ℝ) : EReal) = ((Real.exp y : ℝ) : EReal) := by
  have h2 : Real.log 2 ≠ 0 := (Real.log_pos (by norm_num)).ne'
  rw [Ideal.exp2_coe]
  refine congrArg (fun r : ℝ => (r : EReal)) ?_
  show (2 : ℝ) ^ (y * (Real.log 2)⁻¹) = Real.exp y
  rw [Real.rpow_def_of_pos (by norm_num), mul_comm y, ← mul_assoc, mul_inv_cancel₀ h2, one_mul]

/-- The maximum over finitely many reals, taken from minus infinity on, is one of them, and at least each. -/
theorem fold_max_coe {n : ℕ} [NeZero n] (f : ℝ → ℝ) (hf : StrictMono f) (x : Fin n → ℝ) (k : Fin n) (hk : ∀ j, x j ≤ x k) :
    (Finset.univ : Finset (Fin n)).fold max (⊥ : EReal) (fun j => ((f (x j) : ℝ) : EReal)) = ((f (x k) : ℝ) : EReal) := by
  refine le_antisymm ?_ ?_
  · rw [Finset.fold_max_le]
    exact ⟨bot_le, fun j _ => EReal.coe_le_coe_iff.mpr (hf.monotone (hk j))⟩
  · rw [Finset.le_fold_max]
    exact Or.inr ⟨k, Finset.mem_univ _, le_rfl⟩

/-- A sum of extended reals times a nonnegative real is the sum of the products. -/
theorem sum_mul_coe {ι : Type*} (s : Finset ι) (f : ι → EReal) (c : ℝ) (hc : 0 ≤ c) :
    (∑ j ∈ s, f j) * (c : EReal) = ∑ j ∈ s, f j * (c : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hc) (EReal.coe_ne_top _) _ _

/-- The sum of reals, taken in the extended reals. -/
theorem sum_coe {ι : Type*} (s : Finset ι) (f : ι → ℝ) : (∑ j ∈ s, ((f j : ℝ) : EReal)) = ((∑ j ∈ s, f j : ℝ) : EReal) := by
  classical
  induction s using Finset.induction_on with
  | empty => simp
  | insert a s ha ih => rw [Finset.sum_insert ha, Finset.sum_insert ha, ih, EReal.coe_add]

/-- **One row of the attention.** With real scores `x`, scaled by `a / log 2` on one side and by `a` on the other: the
    base-2 weights' product with the values, divided by the weights' sum, is the product of the softmax with the values. -/
theorem row_eq {n : ℕ} [NeZero n] (x : Fin n → ℝ) (a : ℝ) (ha : 0 < a) (v s t : Fin n → EReal)
    (hs : ∀ j, s j = ((x j * (a * (Real.log 2)⁻¹) : ℝ) : EReal)) (ht : ∀ j, t j = ((x j * a : ℝ) : EReal)) :
    Ideal.div (∑ j, Ideal.exp2 (s j - Finset.univ.fold max ⊥ s) * v j)
        (∑ j, Ideal.exp2 (s j - Finset.univ.fold max ⊥ s) * 1)
      = ∑ j, v j * Ideal.div (Ideal.exp (t j - Finset.univ.fold max ⊥ t)) (∑ i, Ideal.exp (t i - Finset.univ.fold max ⊥ t)) := by
  have h2 : 0 < Real.log 2 := Real.log_pos (by norm_num)
  have hb : 0 < a * (Real.log 2)⁻¹ := mul_pos ha (inv_pos.mpr h2)
  obtain ⟨k, -, hk⟩ := Finset.exists_max_image (Finset.univ : Finset (Fin n)) x ⟨0, Finset.mem_univ _⟩
  have hk' : ∀ j, x j ≤ x k := fun j => hk j (Finset.mem_univ _)
  obtain rfl : s = fun j => ((x j * (a * (Real.log 2)⁻¹) : ℝ) : EReal) := funext hs
  obtain rfl : t = fun j => ((x j * a : ℝ) : EReal) := funext ht
  have e1 := fold_max_coe (fun y => y * (a * (Real.log 2)⁻¹)) (fun y z h => mul_lt_mul_of_pos_right h hb) x k hk'
  have e2 := fold_max_coe (fun y => y * a) (fun y z h => mul_lt_mul_of_pos_right h ha) x k hk'
  have p1 : ∀ j, Ideal.exp2 (((x j * (a * (Real.log 2)⁻¹) : ℝ) : EReal) - ((x k * (a * (Real.log 2)⁻¹) : ℝ) : EReal))
      = ((Real.exp (x j * a - x k * a) : ℝ) : EReal) := fun j => by
    rw [← EReal.coe_sub, ← exp2_div_log]
    exact congrArg (fun r : ℝ => Ideal.exp2 (r : EReal)) (by ring)
  have p2 : ∀ j, Ideal.exp (((x j * a : ℝ) : EReal) - ((x k * a : ℝ) : EReal)) = ((Real.exp (x j * a - x k * a) : ℝ) : EReal) :=
    fun j => by rw [← EReal.coe_sub, Ideal.exp_coe]
  have hL : 0 < ∑ j, Real.exp (x j * a - x k * a) := Finset.sum_pos (fun j _ => Real.exp_pos _) ⟨0, Finset.mem_univ _⟩
  rw [e1, e2]
  simp only [p1, p2, mul_one, sum_coe]
  rw [Ideal.div_coe hL.ne', sum_mul_coe _ _ _ (one_div_nonneg.mpr hL.le)]
  refine Finset.sum_congr rfl fun j _ => ?_
  rw [Ideal.div_coe hL.ne', mul_comm ((Real.exp _ : ℝ) : EReal) (v j), mul_assoc]

/-- A sum over 256 lanes as the sums over the first 128, the next 64 and the last 64. -/
theorem sum_lanes {M : Type*} [AddCommMonoid M] (f : Fin 256 → M) :
    ∑ e, f e = (∑ d : Fin 128, f ⟨d.val, by omega⟩ + ∑ e : Fin 64, f ⟨128 + e.val, by omega⟩) + ∑ e : Fin 64, f ⟨192 + e.val, by omega⟩ := by
  have h1 := Fin.sum_univ_add (a := 192) (b := 64) f
  have h2 := Fin.sum_univ_add (a := 128) (b := 64) (fun i : Fin 192 => f (Fin.castAdd 64 i))
  exact h1.trans (congrArg (· + _) h2)

/-- **One score.** The product of two slots, the query's scaled by `c`, is the sum of the two heads' products, scaled. -/
theorem score_eq (qn kn : Fin 128 → ℝ) (qr kr : Fin 64 → ℝ) (c : ℝ) (Q K : Fin 256 → EReal)
    (hQ1 : ∀ d : Fin 128, Q ⟨d.val, by omega⟩ = (qn d : EReal) * (c : EReal))
    (hQ2 : ∀ e : Fin 64, Q ⟨128 + e.val, by omega⟩ = (qr e : EReal) * (c : EReal))
    (hQ3 : ∀ e : Fin 64, Q ⟨192 + e.val, by omega⟩ = 0)
    (hK1 : ∀ d : Fin 128, K ⟨d.val, by omega⟩ = (kn d : EReal))
    (hK2 : ∀ e : Fin 64, K ⟨128 + e.val, by omega⟩ = (kr e : EReal)) :
    ∑ e, Q e * K e = (((∑ d, qn d * kn d + ∑ e, kr e * qr e) * c : ℝ) : EReal) := by
  rw [sum_lanes]
  simp only [hQ1, hQ2, hQ3, hK1, hK2, zero_mul, Finset.sum_const_zero, add_zero, ← EReal.coe_mul, sum_coe, ← EReal.coe_add]
  refine congrArg (fun r : ℝ => (r : EReal)) ?_
  rw [add_mul, Finset.sum_mul, Finset.sum_mul]
  exact congrArg₂ (· + ·) (Finset.sum_congr rfl fun d _ => by ring) (Finset.sum_congr rfl fun d _ => by ring)

/-- The literal 192. -/
theorem ofBits_192 : Ideal.ofBits .f32 0x43400000#32 = ((192 : ℝ) : EReal) := by
  simp [Ideal.ofBits, Ideal.ieee, -EReal.coe_mul]; norm_num
/-- The literal 2. -/
theorem ofBits_two : Ideal.ofBits .f32 0x40000000#32 = ((2 : ℝ) : EReal) := by
  simp [Ideal.ofBits, Ideal.ieee, -EReal.coe_mul]; norm_num
/-- The literal 1. -/
theorem ofBits_one : Ideal.ofBits .f32 0x3F800000#32 = ((1 : ℝ) : EReal) := by
  simp [Ideal.ofBits, Ideal.ieee, -EReal.coe_mul]; norm_num
/-- The literal minus infinity. -/
theorem ofBits_neg_inf : Ideal.ofBits .f32 0xFF800000#32 = ⊥ := by
  simp [Ideal.ofBits, Ideal.ieee]
/-- The literal infinity. -/
theorem ofBits_inf : Ideal.ofBits .f32 0x7F800000#32 = ⊤ := by
  simp [Ideal.ofBits, Ideal.ieee]

/-- The reference's scale, `1 / sqrt 192`, is a real number. -/
theorem scale_eq : Ideal.div (Ideal.ofBits .f32 0x3F800000#32) (Ideal.sqrt (Ideal.ofBits .f32 0x43400000#32))
    = (((Real.sqrt 192)⁻¹ : ℝ) : EReal) := by
  have h : Real.sqrt 192 ≠ 0 := (Real.sqrt_pos.mpr (by norm_num)).ne'
  rw [ofBits_192, ofBits_one, Ideal.sqrt_coe, if_neg (by norm_num), Ideal.div_coe h, ← EReal.coe_mul, one_div, one_mul]

/-- The kernel's scale, `1 / sqrt 192 / log 2`, is a real number. -/
theorem q_scale_eq : Ideal.div (Ideal.div (Ideal.ofBits .f32 0x3F800000#32) (Ideal.sqrt (Ideal.ofBits .f32 0x43400000#32)))
    (Ideal.log (Ideal.ofBits .f32 0x40000000#32)) = (((Real.sqrt 192)⁻¹ * (Real.log 2)⁻¹ : ℝ) : EReal) := by
  have h : Real.log 2 ≠ 0 := (Real.log_pos (by norm_num)).ne'
  rw [scale_eq, ofBits_two, Ideal.log_coe, if_neg (by norm_num), Ideal.div_coe h, ← EReal.coe_mul, one_div]

/-- An extended real strictly between the infinities is its real part. -/
theorem coe_toReal_of_lt {x : EReal} (h1 : ⊥ < x) (h2 : x < ⊤) : x = ((x.toReal : ℝ) : EReal) :=
  (EReal.coe_toReal h2.ne h1.ne').symm

end Cert.Proof.Attention

end
-- ==== Proof.AttentionPre.lean ====
/-
  What the precondition says: each query and each key is a real number.
-/
module

public import proofs.«01_k».proof.Pre_finite_queries_and_keys
public import proofs.«01_k».proof.Proof.AttentionMath
public import Idealize.ShloMosaic.Lib.ReduceAll
public import Idealize.ShloMosaic.Lib.ValueIdx
public import Idealize.ShloMosaic.Lib.Pipeline.Value
public import Idealize.ShloMosaic.PureOps.Ideal.Laws

@[expose] public section

noncomputable section

namespace Cert.Proof.AttentionPre

open Cert.Pre_finite_queries_and_keys Idealize.ShloMosaic Idealize.ShloMosaic.ValueIdx

/-- The shape facts the precondition states. -/
theorem facts : Facts where
  bcast_S_S4x2048x8x128 := by decide
  reducesTo_S4x2048x8x128_S_d0_1_2_3 := by decide
  h_S_ := by decide
  bcast_S_S4x2048x8x64 := by decide
  reducesTo_S4x2048x8x64_S_d0_1_2_3 := by decide
  bcast_S_S4x2048x64 := by decide
  reducesTo_S4x2048x64_S_d0_1_2 := by decide

theorem bit_and : ∀ a b : BitVec 1, a &&& b = 1#1 → a = 1#1 ∧ b = 1#1 := by decide

theorem bit_of (p : Prop) [Decidable p] (h : BitVec.ofBool (decide p) = 1#1) : p := by
  by_contra hp
  rw [decide_eq_false hp] at h
  exact absurd h (by decide)

instance : Subsingleton S_.Idx := ⟨fun _ _ => funext fun a => a.elim0⟩

/-- One array's test: every element lies strictly between the infinities. -/
theorem real_of_all {s : Shape} (hb : S_.BroadcastsInDim s ![]) {axes : List (Fin s.rank)} (hr : s.ReducesTo axes S_) (hu : 0 < S_.numel)
    (x : FVec Ideal s .f32) (j : S_.Idx)
    (h : Host.reduce IntOp.andi (andi (cmpf .ogt x (broadcastInDim s ![] hb (constant S_ .f32 0xFF800000#32)))
      (cmpf .olt x (broadcastInDim s ![] hb (constant S_ .f32 0x7F800000#32)))) (constantI S_ 1 1#1) hr hu j = 1#1) (i : s.Idx) :
    x i = ((EReal.toReal (x i) : ℝ) : EReal) := by
  obtain ⟨h1, h2⟩ := bit_and _ _ (Host.reduce_andi_all _ _ hr hu j h i)
  have e1 : broadcastInDim s ![] hb (constant (F := Ideal) S_ .f32 0xFF800000#32) i = (⊥ : EReal) :=
    (broadcastInDim_apply _ hb _ i ix0 (fun a => a.elim0)).trans Attention.ofBits_neg_inf
  have e2 : broadcastInDim s ![] hb (constant (F := Ideal) S_ .f32 0x7F800000#32) i = (⊤ : EReal) :=
    (broadcastInDim_apply _ hb _ i ix0 (fun a => a.elim0)).trans Attention.ofBits_inf
  have h1' : (⊥ : EReal) < x i := e1 ▸ bit_of (broadcastInDim s ![] hb (constant (F := Ideal) S_ .f32 0xFF800000#32) i < x i) h1
  have h2' : x i < (⊤ : EReal) := e2 ▸ bit_of (x i < broadcastInDim s ![] hb (constant (F := Ideal) S_ .f32 0x7F800000#32) i) h2
  exact Attention.coe_toReal_of_lt h1' h2'

/-- The precondition, read. -/
theorem real_of_pre [Facts] (x0 : FVec Ideal S4x2048x8x128 .f32) (x1 : FVec Ideal S4x2048x8x64 .f32) (x2 : FVec Ideal S4x2048x8x128 .f32)
    (x3 : FVec Ideal S4x2048x64 .f32) (x4 : FVec Ideal S4x2048x8x128 .f32) (x5 : FVec Ideal S4x2048x1024 .f32)
    (x6 : FVec Ideal S1x31x1024 .f32) (x7 : FVec Ideal S1x1024 .f32) (h : fn x0 x1 x2 x3 x4 x5 x6 x7 = fun _ => 1#1) :
    (∀ i, x0 i = ((EReal.toReal (x0 i) : ℝ) : EReal)) ∧ (∀ i, x1 i = ((EReal.toReal (x1 i) : ℝ) : EReal))
      ∧ (∀ i, x2 i = ((EReal.toReal (x2 i) : ℝ) : EReal)) ∧ (∀ i, x3 i = ((EReal.toReal (x3 i) : ℝ) : EReal)) := by
  have h0 := congrFun h ix0
  dsimp only [fn, fn_part1] at h0
  obtain ⟨h012, h3⟩ := bit_and _ _ h0
  obtain ⟨h01, h2⟩ := bit_and _ _ h012
  obtain ⟨h00, h1⟩ := bit_and _ _ h01
  exact ⟨real_of_all _ _ _ x0 _ h00, real_of_all _ _ _ x1 _ h1, real_of_all _ _ _ x2 _ h2, real_of_all _ _ _ x3 _ h3⟩

end Cert.Proof.AttentionPre

end
-- ==== Proof.AttentionRun.lean ====
/-
  The attention call's body at one grid point: what its stores leave in the scratch buffer of padded rows and in the two
  output blocks, as values of the input blocks.
-/
module
public import proofs.«01_k».proof.Proof.Gen.AttentionIdeal.Value
@[expose] public section
set_option maxRecDepth 16384
noncomputable section
namespace Cert.Proof.Attention
open Idealize.ShloMosaic.Tactic Cert.AttentionIdeal Cert.AttentionIdeal.Gen Idealize.ShloMosaic Idealize.ShloMosaic.TcCoe Idealize.SL.Sem
open Idealize.ShloMosaic.Pipeline (Dat)
variable {F : FTy → Type} [FloatOps F]

theorem slices_conv (a : ℕ) (ha : a < 4) : S160x128.Slices ![8 * a, 0] S128x128 := by
  refine ⟨rfl, fun b => ?_⟩
  match b with
  | ⟨0, _⟩ => show 8 * a + 128 ≤ 160; omega
  | ⟨1, _⟩ => show 0 + 128 ≤ 128; omega

theorem inb_weight (k : ℕ) (hk : k < 31) : ∀ a, (![k, 0] : Fin 2 → ℕ) a + S1x128.size a ≤ S31x128.size a
  | ⟨0, _⟩ => by show k + 1 ≤ 31; omega
  | ⟨1, _⟩ => by show 0 + 128 ≤ 128; omega

theorem inb_window (c : ℕ) (hc : c < 16) : ∀ a, (![128 * c, 0] : Fin 2 → ℕ) a + S160x128.size a ≤ S2080x128.size a
  | ⟨0, _⟩ => by show 128 * c + 160 ≤ 2080; omega
  | ⟨1, _⟩ => by show 0 + 128 ≤ 128; omega

theorem inb_chunk (c : ℕ) (hc : c < 16) : ∀ a, (![128 * c, 0] : Fin 2 → ℕ) a + S128x128.size a ≤ S2048x128.size a
  | ⟨0, _⟩ => by show 128 * c + 128 ≤ 2048; omega
  | ⟨1, _⟩ => by show 0 + 128 ≤ 128; omega

theorem inb_query (j : ℕ) (hj : j < 8) : ∀ a, (![256 * j, 0] : Fin 2 → ℕ) a + S256x256.size a ≤ S2048x256.size a
  | ⟨0, _⟩ => by show 256 * j + 256 ≤ 2048; omega
  | ⟨1, _⟩ => by show 0 + 256 ≤ 256; omega

theorem inb_rows (j : ℕ) (hj : j < 8) : ∀ a, (![256 * j, 0] : Fin 2 → ℕ) a + S256x128.size a ≤ S2048x128.size a
  | ⟨0, _⟩ => by show 256 * j + 256 ≤ 2048; omega
  | ⟨1, _⟩ => by show 0 + 128 ≤ 128; omega

/-- The window of a chunk, moved up by `r` rows (not moved at all for `r = 0`). -/
def moved (xw : FVec F S160x128 .f32) : ℕ → FVec F S160x128 .f32
  | 0 => xw
  | r + 1 => dynamicRotate 0 (BitVec.ofNat 32 (159 - r)) none xw rotates_S160x128_d0

/-- The kernel's sum of the first `n` products, in its order: product `m` (counted from 1) uses the window moved by
    `m / 4` rows and sliced from row `8 * (m % 4)`, so weight row `8 * (m % 4) + m / 4 - 1`. -/
def convAcc (xw : FVec F S160x128 .f32) (w : (k : ℕ) → k < 31 → Vec F S1x128 .f32) : (n : ℕ) → n ≤ 31 → FVec F S128x128 .f32
  | 0, _ => broadcast S128x128 (Scalar.ofBits .f32 0x00000000#32)
  | n + 1, h => addf (convAcc xw w n (by omega))
      (mulf (extractStridedSlice S128x128 ![8 * ((n + 1) % 4), 0] (moved xw ((n + 1) / 4)) (slices_conv _ (by omega)))
        (broadcastTo S128x128 (shapeCast S1x128 (w (8 * ((n + 1) % 4) + (n + 1) / 4 - 1) (by omega)) shapeCasts_S1x128_S1x128)
          broadcasts_S1x128_S128x128))

/-- One chunk of 128 rows of the convolution, from the window of 160 rows around it. -/
def convChunk (xw : FVec F S160x128 .f32) (w : (k : ℕ) → k < 31 → Vec F S1x128 .f32) (b : Vec F S1x128 .f32) : FVec F S128x128 .bf16 :=
  truncf .bf16 (addf (convAcc xw w 31 le_rfl) (broadcastTo S128x128 b broadcasts_S1x128_S128x128)) bitsLt_bf16_f32

/-- What the kernel writes in the scratch buffer: the block's rows at row 16, and 16 rows of zeros on both sides. -/
def paddedRows (x : Vec F S2048x128 .bf16) : List (View.Piece (Elt F) S2080x128 .f32) :=
  [⟨Rect.unit ![16, 0] S2048x128.size inb_S2080x128_S2048x128_16_0, k0_pay5 x⟩,
   ⟨Rect.unit ![2064, 0] S16x128.size inb_S2080x128_S16x128_2064_0, k0_pay4⟩,
   ⟨Rect.unit ![0, 0] S16x128.size inb_S2080x128_S16x128_0_0, k0_pay3⟩]

theorem out_conv (c : Dev nD) (i : grid0.Coords) (arg2 : Memref sig .tc .vmem S2048x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S2048x128 .bf16) (harg5 : arg5.IsWhole) (arg6 : Memref sig .tc .vmem S31x128 .f32) (harg6 : arg6.IsWhole) (arg7 : Memref sig .tc .vmem S1x128 .f32) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2080x128 .f32) (harg10 : arg10.IsWhole)
    (x0 : Vec F S2048x256 .bf16) (x1 : Vec F S2048x256 .bf16) (x2 : Vec F S2048x256 .bf16) (x3 : Vec F S2048x128 .bf16) (x4 : Vec F S31x128 .f32) (x5 : Vec F S1x128 .f32) :
   out0_A_7 c i arg2 harg2 arg3 harg3 arg4 harg4 arg5 harg5 arg6 harg6 arg7 harg7 arg8 harg8 arg9 harg9 arg10 harg10 x0 x1 x2 x3 x4 x5 =
     View.canon (([15, 14, 13, 12, 11, 10, 9, 8, 7, 6, 5, 4, 3, 2, 1, 0] : List (Fin 16)).map fun n =>
      ⟨Rect.unit (s := S2048x128) ![128 * n.val, 0] S128x128.size (inb_chunk _ n.isLt), convChunk
        (arg10.view.readCov (paddedRows (View.readAt (Elt F) arg5.view (Rect.unit ![0, 0] S2048x128.size inb_S2048x128_S2048x128_0_0).toLoadRect (harg5.unread x3)))
          (Rect.unit (s := S2080x128) ![128 * n.val, 0] S160x128.size (inb_window _ n.isLt)).toLoadRect)
        (fun k hk => View.readAt (Elt F) arg6.view (Rect.unit (s := S31x128) ![k, 0] S1x128.size (inb_weight k hk)).toLoadRect (harg6.unread x4))
        (View.readAt (Elt F) arg7.view (Rect.unit ![0, 0] S1x128.size inb_S1x128_S1x128_0_0).toLoadRect (harg7.unread x5))⟩) := by
  unfold out0_A_7
  rw [View.read_writes_junk_eq_canon]
  refine congrArg View.canon ?_
  unfold kernelRun0_A
  dsimp only
  sl_unfold_words
  rfl

theorem out_attn (c : Dev nD) (i : grid0.Coords) (arg2 : Memref sig .tc .vmem S2048x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S2048x128 .bf16) (harg5 : arg5.IsWhole) (arg6 : Memref sig .tc .vmem S31x128 .f32) (harg6 : arg6.IsWhole) (arg7 : Memref sig .tc .vmem S1x128 .f32) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2080x128 .f32) (harg10 : arg10.IsWhole)
    (x0 : Vec F S2048x256 .bf16) (x1 : Vec F S2048x256 .bf16) (x2 : Vec F S2048x256 .bf16) (x3 : Vec F S2048x128 .bf16) (x4 : Vec F S31x128 .f32) (x5 : Vec F S1x128 .f32) :
   out0_A_6 c i arg2 harg2 arg3 harg3 arg4 harg4 arg5 harg5 arg6 harg6 arg7 harg7 arg8 harg8 arg9 harg9 arg10 harg10 x0 x1 x2 x3 x4 x5 =
     View.canon (([7, 6, 5, 4, 3, 2, 1, 0] : List (Fin 8)).map fun n =>
      ⟨Rect.unit (s := S2048x128) ![256 * n.val, 0] S256x128.size (inb_rows _ n.isLt), k0_pay8
        (View.readAt (Elt F) arg3.view (Rect.unit ![0, 0] S2048x256.size inb_S2048x256_S2048x256_0_0).toLoadRect (harg3.unread x1))
        (View.readAt (Elt F) arg4.view (Rect.unit ![0, 0] S2048x256.size inb_S2048x256_S2048x256_0_0).toLoadRect (harg4.unread x2))
        (View.readAt (Elt F) arg2.view (Rect.unit (s := S2048x256) ![256 * n.val, 0] S256x256.size (inb_query _ n.isLt)).toLoadRect (harg2.unread x0))⟩) := by
  unfold out0_A_6
  rw [View.read_writes_junk_eq_canon]
  refine congrArg View.canon ?_
  unfold kernelRun0_A
  dsimp only
  sl_unfold_words
  rfl
-- ==== Proof.AttentionBlock.lean ====
/-
  What one grid point computes, over the extended reals: the attention's rows of one head and the convolution's rows of
  one group of 128 channels, each element as a formula in the point's input blocks.
-/
module

public import proofs.«01_k».proof.Proof.AttentionRun
public import proofs.«01_k».proof.Proof.AttentionMath
public import Idealize.ShloMosaic.Lib.IdealHost
public import Idealize.ShloMosaic.PureOps.Ideal.Laws
public import Idealize.ShloMosaic.Lib.MatmulPlain
public import Idealize.ShloMosaic.Lib.KernelVsHost
public import Idealize.ShloMosaic.Lib.WholeRead
public import Idealize.ShloMosaic.Lib.Pipeline.Value

@[expose] public section

set_option maxRecDepth 16384

noncomputable section

namespace Cert.Proof.Attention

open Idealize.ShloMosaic.Tactic Cert.AttentionIdeal Cert.AttentionIdeal.Gen Idealize.ShloMosaic Idealize.ShloMosaic.TcCoe Idealize.SL.Sem
open Idealize.ShloMosaic.ValueIdx

/-! ## The convolution -/

/-- The zero the kernel starts from is the zero. -/
theorem zero_bits : FloatOps.ofBits (F := Ideal) .f32 0x00000000#32 = (0 : EReal) := Ideal.ofBits_zero_f32

/-- The moved window, read `r` rows below. -/
theorem moved_apply (xw : FVec Ideal S160x128 .f32) (r : ℕ) (hr : r < 8) (n : ℕ) (hn : n + r < 160) (q : Fin 128) :
    moved xw r (ix2 ⟨n, by omega⟩ q) = xw (ix2 ⟨n + r, hn⟩ q) := by
  cases r with
  | zero => rfl
  | succ r =>
    refine dynamicRotate_apply 0 _ xw rotates_S160x128_d0 _ _ fun b => ?_
    match b with
    | ⟨0, _⟩ =>
      refine Eq.trans ?_ (if_pos rfl).symm
      show n + (r + 1) = (n + 160 - (BitVec.ofNat 32 (159 - r)).toNat % 160) % 160
      rw [BitVec.toNat_ofNat]
      omega
    | ⟨1, _⟩ => rfl

/-- The kernel's sum of the first `n` products, at an element. -/
theorem convAcc_apply (xw : FVec Ideal S160x128 .f32) (w : (k : ℕ) → k < 31 → Vec Ideal S1x128 .f32) (p q : Fin 128) :
    ∀ (n : ℕ) (h : n ≤ 31), convAcc xw w n h (ix2 p q)
      = ∑ m : Fin n, xw (ix2 ⟨p.val + (8 * ((m.val + 1) % 4) + (m.val + 1) / 4), by omega⟩ q)
          * w (8 * ((m.val + 1) % 4) + (m.val + 1) / 4 - 1) (by omega) (ix2 0 q)
  | 0, _ => by
    rw [Finset.univ_eq_empty, Finset.sum_empty]; exact zero_bits
  | n + 1, h => by
    rw [Fin.sum_univ_castSucc]
    refine congrArg₂ (· + ·) (convAcc_apply xw w p q n (by omega)) (congrArg₂ (· * ·) ?_ ?_)
    · refine (extractStridedSlice_apply _ _ _ _ (ix2 ⟨8 * ((n + 1) % 4) + p.val, by omega⟩ q) (fun a => match a with
        | ⟨0, _⟩ => rfl
        | ⟨1, _⟩ => (Nat.zero_add _).symm)).trans ?_
      refine (moved_apply xw _ (by omega) _ (by omega) q).trans ?_
      exact congrArg (fun i => xw (ix2 i q)) (Fin.ext (by show 8 * ((n + 1) % 4) + p.val + (n + 1) / 4 = p.val + (8 * ((n + 1) % 4) + (n + 1) / 4); omega))
    · refine (broadcastTo_apply _ _ _ (ix2 0 q) (fun a => match a with | ⟨0, _⟩ => rfl | ⟨1, _⟩ => rfl)).trans ?_
      rw [shapeCast_self]; rfl

/-- The order of the kernel's 31 products, as a permutation of the weight's rows. -/
def tapOrder : Fin 31 ≃ Fin 31 where
  toFun m := ⟨8 * ((m.val + 1) % 4) + (m.val + 1) / 4 - 1, by omega⟩
  invFun k := ⟨4 * ((k.val + 1) % 8) + (k.val + 1) / 8 - 1, by omega⟩
  left_inv := by decide
  right_inv := by decide

/-- **One element of a chunk**: the sum of the 31 products, the bias added. -/
theorem convChunk_apply (xw : FVec Ideal S160x128 .f32) (w : (k : ℕ) → k < 31 → Vec Ideal S1x128 .f32) (b : Vec Ideal S1x128 .f32)
    (p q : Fin 128) : convChunk xw w b (ix2 p q)
      = (∑ k : Fin 31, xw (ix2 ⟨p.val + k.val + 1, by omega⟩ q) * w k.val k.isLt (ix2 0 q)) + b (ix2 0 q) := by
  refine congrArg₂ (· + ·) ((convAcc_apply xw w p q 31 le_rfl).trans ?_)
    (broadcastTo_apply b broadcasts_S1x128_S128x128 (ix2 p q) (ix2 0 q) (fun a => match a with | ⟨0, _⟩ => rfl | ⟨1, _⟩ => rfl))
  refine Eq.trans ?_ (Equiv.sum_comp tapOrder fun k : Fin 31 => xw (ix2 ⟨p.val + k.val + 1, by omega⟩ q) * w k.val k.isLt (ix2 0 q))
  refine Finset.sum_congr rfl fun m _ => congrArg₂ (· * ·) (congrArg (fun i => xw (ix2 i q)) (Fin.ext ?_)) rfl
  show p.val + (8 * ((m.val + 1) % 4) + (m.val + 1) / 4) = p.val + (8 * ((m.val + 1) % 4) + (m.val + 1) / 4 - 1) + 1
  omega

/-- A block's rows with 16 rows of zeros before and after. -/
def padded (x : Vec Ideal S2048x128 .bf16) : S2080x128.Idx → EReal := fun j =>
  if h : 16 ≤ (j 0).val ∧ (j 0).val < 2064 then x (ix2 ⟨(j 0).val - 16, by omega⟩ (j 1)) else 0

/-- A row of the block. -/
theorem padded_inside (x : Vec Ideal S2048x128 .bf16) (j : S2080x128.Idx) (i : S2048x128.Idx) (h0 : (j 0).val = 16 + (i 0).val)
    (h1 : (j 1).val = (i 1).val) : padded x j = x i := by
  have b0 : (i 0).val < 2048 := (i 0).isLt
  refine (dif_pos (⟨by omega, by omega⟩ : 16 ≤ (j 0).val ∧ (j 0).val < 2064)).trans (congrArg x (funext fun a => Fin.ext ?_))
  match a with
  | ⟨0, _⟩ => show (j 0).val - 16 = (i 0).val; omega
  | ⟨1, _⟩ => exact h1

/-- A row of zeros. -/
theorem padded_outside (x : Vec Ideal S2048x128 .bf16) (j : S2080x128.Idx) (h : ¬(16 ≤ (j 0).val ∧ (j 0).val < 2064)) : padded x j = 0 :=
  dif_neg h

theorem pay5_eq (x : Vec Ideal S2048x128 .bf16) : k0_pay5 x = x := by
  unfold k0_pay5
  exact (shapeCast_self _ _).trans (congrArg (extf (F := Ideal) .f32 · bitsLt_bf16_f32) (shapeCast_self x _))

/-- What the kernel's three writes leave in the scratch buffer. -/
theorem canon_padded (x : Vec Ideal S2048x128 .bf16) (j : S2080x128.Idx) :
    View.canon (paddedRows (F := Ideal) x) j = padded x j := by
  refine View.canon_apply_of_pieces (Val := Elt Ideal) (e := .f32) (padded x) _ ?_ j ?_
  · intro p hp y
    simp only [paddedRows, List.mem_cons, List.not_mem_nil, or_false] at hp
    rcases hp with rfl | rfl | rfl
    · refine (congrFun (pay5_eq x) y).trans (padded_inside x _ y ?_ ?_).symm
      · show 16 + 1 * (y 0).val = 16 + (y 0).val; omega
      · show 0 + 1 * (y 1).val = (y 1).val; omega
    · refine zero_bits.trans (padded_outside x _ ?_).symm
      show ¬(16 ≤ 2064 + 1 * (y 0).val ∧ 2064 + 1 * (y 0).val < 2064)
      omega
    · refine zero_bits.trans (padded_outside x _ ?_).symm
      have h0 : (y 0).val < 16 := (y 0).isLt
      show ¬(16 ≤ 0 + 1 * (y 0).val ∧ 0 + 1 * (y 0).val < 2064)
      omega
  · have h0 : (j 0).val < 2080 := (j 0).isLt
    have h1 : (j 1).val < 128 := (j 1).isLt
    by_cases ha : (j 0).val < 16
    · refine ⟨_, List.mem_cons_of_mem _ (List.mem_cons_of_mem _ List.mem_cons_self), ?_⟩
      refine (Rect.mem_set_unit (inb := inb_S2080x128_S16x128_0_0)).mpr fun a => ?_
      match a with
      | ⟨0, _⟩ => exact ⟨Nat.zero_le _, by show (j 0).val < 0 + 16; omega⟩
      | ⟨1, _⟩ => exact ⟨Nat.zero_le _, by show (j 1).val < 0 + 128; omega⟩
    · by_cases hb : (j 0).val < 2064
      · refine ⟨_, List.mem_cons_self, ?_⟩
        refine (Rect.mem_set_unit (inb := inb_S2080x128_S2048x128_16_0)).mpr fun a => ?_
        match a with
        | ⟨0, _⟩ => exact ⟨by show 16 ≤ (j 0).val; omega, by show (j 0).val < 16 + 2048; omega⟩
        | ⟨1, _⟩ => exact ⟨Nat.zero_le _, by show (j 1).val < 0 + 128; omega⟩
      · refine ⟨_, List.mem_cons_of_mem _ List.mem_cons_self, ?_⟩
        refine (Rect.mem_set_unit (inb := inb_S2080x128_S16x128_2064_0)).mpr fun a => ?_
        match a with
        | ⟨0, _⟩ => exact ⟨by show 2064 ≤ (j 0).val; omega, by show (j 0).val < 2064 + 16; omega⟩
        | ⟨1, _⟩ => exact ⟨Nat.zero_le _, by show (j 1).val < 0 + 128; omega⟩

/-- **The convolution of one block**: at row `r`, the 31 rows of the padded block from row `r + 1` on, times the weight's
    rows, the bias added. -/
def convBlock (x : Vec Ideal S2048x128 .bf16) (w : Vec Ideal S31x128 .f32) (b : Vec Ideal S1x128 .f32) : S2048x128.Idx → EReal := fun y =>
  (∑ k : Fin 31, padded x (ix2 ⟨(y 0).val + k.val + 1, by have : (y 0).val < 2048 := (y 0).isLt; show _ < 2080; omega⟩ (y 1)) * w (ix2 k (y 1)))
    + b (ix2 0 (y 1))

/-- Reading a whole block through its memref. -/
theorem readAt_whole {s : Shape} {sp : Space} {e : EltTy} {μ : Memref sig .tc sp s e} (h : μ.IsWhole) (X : s.Idx → Elt Ideal e)
    {off : Fin s.rank → ℕ} (h0 : ∀ a, off a = 0) (inb : ∀ a, off a + s.size a ≤ s.size a) :
    View.readAt (Elt Ideal) μ.view (Rect.unit off s.size inb).toLoadRect (h.unread X) = X := by
  funext x
  refine (h.readAt_unread X _ x).trans (congrArg X (funext fun a => Fin.ext ?_))
  show off a + 1 * (x a).val = (x a).val
  rw [h0 a]; omega

theorem zeros2 : ∀ a, (![0, 0] : Fin 2 → ℕ) a = 0
  | ⟨0, _⟩ => rfl
  | ⟨1, _⟩ => rfl

section Point
variable (c : Dev nD) (i : grid0.Coords) (arg2 : Memref sig .tc .vmem S2048x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S2048x128 .bf16) (harg5 : arg5.IsWhole) (arg6 : Memref sig .tc .vmem S31x128 .f32) (harg6 : arg6.IsWhole) (arg7 : Memref sig .tc .vmem S1x128 .f32) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2080x128 .f32) (harg10 : arg10.IsWhole)
    (x0 : Vec Ideal S2048x256 .bf16) (x1 : Vec Ideal S2048x256 .bf16) (x2 : Vec Ideal S2048x256 .bf16) (x3 : Vec Ideal S2048x128 .bf16) (x4 : Vec Ideal S31x128 .f32) (x5 : Vec Ideal S1x128 .f32)

/-- What a point leaves in the convolution's output block. -/
theorem conv_point : out0_A_7 c i arg2 harg2 arg3 harg3 arg4 harg4 arg5 harg5 arg6 harg6 arg7 harg7 arg8 harg8 arg9 harg9 arg10 harg10 x0 x1 x2 x3 x4 x5
    = convBlock x3 x4 x5 := by
  rw [out_conv]
  funext y
  have h0 : (y 0).val < 2048 := (y 0).isLt
  have h1 : (y 1).val < 128 := (y 1).isLt
  refine View.canon_apply_of_pieces (Val := Elt Ideal) (e := .bf16) (convBlock x3 x4 x5) _ ?_ y ?_
  · intro p hp x
    obtain ⟨n, -, rfl⟩ := List.mem_map.mp hp
    have b0 : (x 0).val < 128 := (x 0).isLt
    have b1 : (x 1).val < 128 := (x 1).isLt
    have hn := n.isLt
    refine (congrArg _ (eq_ix2 (n0 := 128) (n1 := 128) x)).trans ((convChunk_apply _ _ _ _ _).trans ?_)
    rw [readAt_whole harg5 x3 zeros2, readAt_whole harg7 x5 zeros2, View.readCov_eq_canon']
    refine congrArg₂ (· + ·) (Finset.sum_congr rfl fun k _ => congrArg₂ (· * ·) ?_ ?_) ?_
    · refine (canon_padded _ _).trans (congrArg (padded x3) (funext fun a => Fin.ext ?_))
      match a with
      | ⟨0, _⟩ => show 128 * n.val + 1 * ((x 0).val + k.val + 1) = 128 * n.val + 1 * (x 0).val + k.val + 1; omega
      | ⟨1, _⟩ => rfl
    · refine (harg6.readAt_unread x4 _ _).trans (congrArg x4 (funext fun a => Fin.ext ?_))
      match a with
      | ⟨0, _⟩ => rfl
      | ⟨1, _⟩ => rfl
    · refine congrArg x5 (funext fun a => Fin.ext ?_)
      match a with
      | ⟨0, _⟩ => rfl
      | ⟨1, _⟩ => show (x 1).val = 0 + 1 * (x 1).val; omega
  · refine ⟨_, List.mem_map.mpr ⟨⟨(y 0).val / 128, by omega⟩, ?_, rfl⟩, ?_⟩
    · generalize (⟨(y 0).val / 128, _⟩ : Fin 16) = n
      revert n; decide
    · refine (Rect.mem_set_unit (inb := inb_chunk _ (by show (y 0).val / 128 < 16; omega))).mpr fun a => ?_
      match a with
      | ⟨0, _⟩ => exact ⟨by show 128 * ((y 0).val / 128) ≤ (y 0).val; omega, by show (y 0).val < 128 * ((y 0).val / 128) + 128; omega⟩
      | ⟨1, _⟩ => exact ⟨Nat.zero_le _, by show (y 1).val < 0 + 128; omega⟩

end Point

/-! ## The attention -/

/-- One row of scores: the query row's products with the keys. -/
def scores (q k : Vec Ideal S2048x256 .bf16) (r : Fin 2048) : Fin 2048 → EReal := fun j => ∑ e : Fin 256, q (ix2 r e) * k (ix2 j e)

/-- **The attention of one head**: the base-2 weights' product with the values, divided by their product with the lane
    of ones (lane 128). -/
def attnBlock (q k v : Vec Ideal S2048x256 .bf16) : S2048x128.Idx → EReal := fun y =>
  let s := scores q k (y 0)
  Ideal.div (∑ j, Ideal.exp2 (s j - Finset.univ.fold max ⊥ s) * v (ix2 j ⟨(y 1).val, by have : (y 1).val < 128 := (y 1).isLt; show _ < 256; omega⟩))
    (∑ j, Ideal.exp2 (s j - Finset.univ.fold max ⊥ s) * v (ix2 j ⟨128, by show 128 < 256; omega⟩))

/-- The scores of a block of 256 query rows. -/
theorem block_scores (q : Vec Ideal S256x256 .bf16) (k : Vec Ideal S2048x256 .bf16) (p : Fin 256) (j : Fin 2048) :
    matmul (φ₁ := .bf16) (φ₂ := .bf16) dot_S256x256_S2048x256_S256x2048_1_1_0_0_n_n none q k (constant (F := Ideal) S256x2048 .f32 0x00000000#32) (ix2 p j)
      = ∑ e : Fin 256, q (ix2 p e) * k (ix2 j e) :=
  (Ideal.matmul_transposedRhs_apply none q k _ p j).trans ((congrArg (· + _) zero_bits).trans (zero_add _))

/-- The product of 256 rows of weights with the values. -/
theorem block_product (w : Vec Ideal S256x2048 .bf16) (v : Vec Ideal S2048x256 .bf16) (p d : Fin 256) :
    matmul (φ₁ := .bf16) (φ₂ := .bf16) dot_S256x2048_S2048x256_S256x256_1_0_0_1_n_n none w v (constant (F := Ideal) S256x256 .f32 0x00000000#32) (ix2 p d)
      = ∑ j : Fin 2048, w (ix2 p j) * v (ix2 j d) :=
  (Ideal.matmul_plain_apply none w v _ p d).trans ((congrArg (· + _) zero_bits).trans (zero_add _))

/-- A row's maximum, spread over the row. -/
theorem block_max (s : FVec Ideal S256x2048 .f32) (p : Fin 256) (j : Fin 2048) :
    broadcastTo S256x2048 (shapeCast S256x1 (multiReduction .maximumf [1] S256 s 0xFF800000#32 reduces_S256x2048_S256 (.inl rfl) rfl : FVec Ideal S256 .f32)
      shapeCasts_S256_S256x1) broadcasts_S256x1_S256x2048 (ix2 p j) = Finset.univ.fold max ⊥ (fun j : Fin 2048 => s (ix2 p j)) := by
  refine (broadcastTo_apply _ broadcasts_S256x1_S256x2048 (ix2 p j) (ix2 p 0) (fun a => match a with | ⟨0, _⟩ => rfl | ⟨1, _⟩ => rfl)).trans ?_
  refine (shapeCast_apply _ shapeCasts_S256_S256x1 (ix2 p 0) (ix1 p) ?_).trans ?_
  · refine (Shape.rowMajor_val_one _).trans (Eq.trans ?_ (Shape.rowMajor_val_two _).symm)
    show p.val = p.val * 1 + 0
    omega
  refine (Ideal.multiReduction_maximumf_single s 0xFF800000#32 reduces_S256x2048_S256 (.inl rfl) rfl (ix1 p)).trans ?_
  refine congrArg₂ (fun b f => (Finset.univ : Finset (Fin 2048)).fold max b f) ofBits_neg_inf (funext fun k => congrArg s (funext fun a => ?_))
  match a with
  | ⟨0, _⟩ => rfl
  | ⟨1, _⟩ => rfl

/-- **One element of a block of the attention.** -/
theorem pay8_apply (k v : Vec Ideal S2048x256 .bf16) (q : Vec Ideal S256x256 .bf16) (s : Fin 2048 → EReal) (p : Fin 256) (d : Fin 128)
    (hs : ∀ j : Fin 2048, ∑ e : Fin 256, q (ix2 p e) * k (ix2 j e) = s j) :
    k0_pay8 k v q (ix2 p d)
      = Ideal.div (∑ j, Ideal.exp2 (s j - Finset.univ.fold max ⊥ s) * v (ix2 j ⟨d.val, by omega⟩))
          (∑ j, Ideal.exp2 (s j - Finset.univ.fold max ⊥ s) * v (ix2 j ⟨128, by omega⟩)) := by
  obtain rfl : (fun j : Fin 2048 => ∑ e : Fin 256, q (ix2 p e) * k (ix2 j e)) = s := funext hs
  unfold k0_pay8 k0_pay6 k0_pay7
  dsimp only
  rw [shapeCast_self, shapeCast_self, shapeCast_self]
  have hw : ∀ j : Fin 2048, _ = _ := fun j => congrArg Ideal.exp2 (congrArg₂ (· - ·) (block_scores q k p j)
    ((block_max _ p j).trans (congrArg (fun f => Finset.univ.fold max ⊥ f) (funext fun j => block_scores q k p j))))
  refine congrArg₂ Ideal.div ?_ ?_
  · refine (extractStridedSlice_apply _ _ slices_S256x256_o0_0_S256x128 _ (ix2 p ⟨d.val, by omega⟩) (fun a => match a with
      | ⟨0, _⟩ => (Nat.zero_add _).symm
      | ⟨1, _⟩ => (Nat.zero_add _).symm)).trans ((block_product _ _ _ _).trans ?_)
    exact Finset.sum_congr rfl fun j _ => congrArg (· * _) (hw j)
  · refine (broadcastTo_apply _ broadcasts_S256x1_S256x128 (ix2 p d) (ix2 p 0) (fun a => match a with | ⟨0, _⟩ => rfl | ⟨1, _⟩ => rfl)).trans ?_
    refine (extractStridedSlice_apply _ _ slices_S256x256_o0_128_S256x1 _ (ix2 p ⟨128, by omega⟩) (fun a => match a with
      | ⟨0, _⟩ => (Nat.zero_add _).symm
      | ⟨1, _⟩ => rfl)).trans ((block_product _ _ _ _).trans ?_)
    exact Finset.sum_congr rfl fun j _ => congrArg (· * _) (hw j)

section Point
variable (c : Dev nD) (i : grid0.Coords) (arg2 : Memref sig .tc .vmem S2048x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S2048x128 .bf16) (harg5 : arg5.IsWhole) (arg6 : Memref sig .tc .vmem S31x128 .f32) (harg6 : arg6.IsWhole) (arg7 : Memref sig .tc .vmem S1x128 .f32) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2080x128 .f32) (harg10 : arg10.IsWhole)
    (x0 : Vec Ideal S2048x256 .bf16) (x1 : Vec Ideal S2048x256 .bf16) (x2 : Vec Ideal S2048x256 .bf16) (x3 : Vec Ideal S2048x128 .bf16) (x4 : Vec Ideal S31x128 .f32) (x5 : Vec Ideal S1x128 .f32)

/-- What a point leaves in the attention's output block. -/
theorem attn_point : out0_A_6 c i arg2 harg2 arg3 harg3 arg4 harg4 arg5 harg5 arg6 harg6 arg7 harg7 arg8 harg8 arg9 harg9 arg10 harg10 x0 x1 x2 x3 x4 x5
    = attnBlock x0 x1 x2 := by
  rw [out_attn]
  funext y
  have h0 : (y 0).val < 2048 := (y 0).isLt
  have h1 : (y 1).val < 128 := (y 1).isLt
  refine View.canon_apply_of_pieces (Val := Elt Ideal) (e := .bf16) (attnBlock x0 x1 x2) _ ?_ y ?_
  · intro p hp x
    obtain ⟨n, -, rfl⟩ := List.mem_map.mp hp
    have b0 : (x 0).val < 256 := (x 0).isLt
    have b1 : (x 1).val < 128 := (x 1).isLt
    have hn := n.isLt
    rw [readAt_whole harg3 x1 zeros2, readAt_whole harg4 x2 zeros2]
    refine (congrArg _ (eq_ix2 (n0 := 256) (n1 := 128) x)).trans
      ((pay8_apply x1 x2 _ (scores x0 x1 ⟨256 * n.val + 1 * (x 0).val, by omega⟩) ⟨(x 0).val, b0⟩ ⟨(x 1).val, b1⟩ fun j => ?_).trans ?_)
    · refine Finset.sum_congr rfl fun e _ => congrArg (· * _) ((harg2.readAt_unread x0 _ _).trans (congrArg x0 (funext fun a => Fin.ext ?_)))
      match a with
      | ⟨0, _⟩ => rfl
      | ⟨1, _⟩ => show 0 + 1 * e.val = e.val; omega
    · unfold attnBlock
      dsimp only
      refine congrArg₂ Ideal.div (Finset.sum_congr rfl fun j _ => congrArg (_ * ·) (congrArg x2 (funext fun a => Fin.ext ?_))) rfl
      match a with
      | ⟨0, _⟩ => rfl
      | ⟨1, _⟩ => show (x 1).val = 0 + 1 * (x 1).val; omega
  · refine ⟨_, List.mem_map.mpr ⟨⟨(y 0).val / 256, by omega⟩, ?_, rfl⟩, ?_⟩
    · generalize (⟨(y 0).val / 256, _⟩ : Fin 8) = n
      revert n; decide
    · refine (Rect.mem_set_unit (inb := inb_rows _ (by show (y 0).val / 256 < 8; omega))).mpr fun a => ?_
      match a with
      | ⟨0, _⟩ => exact ⟨by show 256 * ((y 0).val / 256) ≤ (y 0).val; omega, by show (y 0).val < 256 * ((y 0).val / 256) + 256; omega⟩
      | ⟨1, _⟩ => exact ⟨Nat.zero_le _, by show (y 1).val < 0 + 128; omega⟩

end Point

end Cert.Proof.Attention

end
-- ==== Proof.AttentionHost.lean ====
/-
  The arrays the host builds for the attention call, element by element: the slots of 256 lanes hold the query (times
  the scale), the key or the value in their first lanes, then the rotary part or the column of ones, then zeros.
-/
module

public import proofs.«01_k».proof.Proof.AttentionBlock
public import Idealize.ShloMosaic.Lib.Pipeline.Value
public import Idealize.ShloMosaic.Lib.StableHlo.Run

@[expose] public section

set_option maxRecDepth 16384

noncomputable section

namespace Cert.Proof.Attention

open Cert.AttentionIdeal Cert.AttentionIdeal.Gen Idealize.ShloMosaic Idealize.ShloMosaic.TcCoe Idealize.SL.Sem
open Idealize.ShloMosaic.ValueIdx

/-- The host's scale: one over the root of 192, over the logarithm of two. -/
def hostScale : FVec Ideal S_ .f32 :=
  Host.divf (Host.divf (constant S_ .f32 0x3F800000#32) (Host.sqrt (constant S_ .f32 0x43400000#32)))
    (Host.log (constant S_ .f32 0x40000000#32))

/-- A query array times the host's scale. -/
def scaled {s : Shape} (h : S_.BroadcastsInDim s ![]) (x : FVec Ideal s .f32) : FVec Ideal s .f32 :=
  mulf x (broadcastInDim s ![] h hostScale)

/-- One number everywhere. -/
def fill {s : Shape} (h : S_.BroadcastsInDim s ![]) (w : BitVec 32) : FVec Ideal s .f32 :=
  broadcastInDim s ![] h (constant S_ .f32 w)

/-- The shared rotary key, repeated for each head. -/
def repeated (x : FVec Ideal S4x2048x64 .f32) : FVec Ideal S4x2048x8x64 .f32 :=
  broadcastInDim S4x2048x8x64 ![0, 1, 2, 3] bcast_S4x2048x1x64_S4x2048x8x64_0_1_2_3
    (broadcastInDim S4x2048x1x64 ![0, 1, 3] bcast_S4x2048x64_S4x2048x1x64_0_1_3 x)

/-- Three pieces side by side in each head's slot. -/
def packed (s₁ s₂ s₃ : Shape) (x₁ : FVec Ideal s₁ .f32) (x₂ : FVec Ideal s₂ .f32) (x₃ : FVec Ideal s₃ .f32)
    (h : Shape.Concatenates [s₁, s₂, s₃] S4x2048x8x256 3) : S8192x2048.Idx → EReal :=
  truncf (F := Ideal) .bf16 (shapeCast S8192x2048 (concatenate S4x2048x8x256 3 [⟨s₁, x₁⟩, ⟨s₂, x₂⟩, ⟨s₃, x₃⟩] h)
    shapeCasts_S4x2048x8x256_S8192x2048 : FVec Ideal S8192x2048 .f32) bitsLt_bf16_f32

theorem scaled_apply {s : Shape} (h : S_.BroadcastsInDim s ![]) (x : FVec Ideal s .f32) (i : s.Idx) :
    scaled h x i = x i * Ideal.div (Ideal.div (Ideal.ofBits .f32 0x3F800000#32) (Ideal.sqrt (Ideal.ofBits .f32 0x43400000#32)))
      (Ideal.log (Ideal.ofBits .f32 0x40000000#32)) :=
  congrArg (x i * ·) (broadcastInDim_apply ![] h hostScale i ix0 (fun a => a.elim0))

theorem fill_apply {s : Shape} (h : S_.BroadcastsInDim s ![]) (w : BitVec 32) (i : s.Idx) :
    fill h w i = Ideal.ofBits .f32 w :=
  broadcastInDim_apply ![] h (constant (F := Ideal) S_ .f32 w) i ix0 (fun a => a.elim0)

theorem repeated_apply (x : FVec Ideal S4x2048x64 .f32) (i : S4x2048x8x64.Idx) :
    repeated x i = x (ix3 (i 0) (i 1) (i 3)) := by
  unfold repeated
  refine (broadcastInDim_apply _ _ _ i (ix4 (i 0) (i 1) 0 (i 3) : S4x2048x1x64.Idx) (fun a => match a with
    | ⟨0, _⟩ => rfl | ⟨1, _⟩ => rfl | ⟨2, _⟩ => rfl | ⟨3, _⟩ => rfl)).trans ?_
  exact broadcastInDim_apply _ _ _ _ (ix3 (i 0) (i 1) (i 3) : S4x2048x64.Idx) (fun a => match a with
    | ⟨0, _⟩ => rfl | ⟨1, _⟩ => rfl | ⟨2, _⟩ => rfl)

section Packed

variable {s₁ s₂ s₃ : Shape} (x₁ : FVec Ideal s₁ .f32) (x₂ : FVec Ideal s₂ .f32) (x₃ : FVec Ideal s₃ .f32)
variable (h : Shape.Concatenates [s₁, s₂, s₃] S4x2048x8x256 3)

/-- A slot's lane, read from the concatenation. -/
theorem packed_apply (k : S8192x2048.Idx) (b : Fin 4) (r : Fin 2048) (g : Fin 8) (e : Fin 256)
    (h0 : (k 0).val = b.val * 2048 + r.val) (h1 : (k 1).val = g.val * 256 + e.val) :
    packed s₁ s₂ s₃ x₁ x₂ x₃ h k
      = concatenate S4x2048x8x256 3 [⟨s₁, x₁⟩, ⟨s₂, x₂⟩, ⟨s₃, x₃⟩] h (ix4 b r g e) := by
  refine (shapeCast_apply (concatenate S4x2048x8x256 3 [⟨s₁, x₁⟩, ⟨s₂, x₂⟩, ⟨s₃, x₃⟩] h)
    shapeCasts_S4x2048x8x256_S8192x2048 k (ix4 b r g e) ?_ :)
  refine (Shape.rowMajor_val_four _).trans (Eq.trans ?_ (Shape.rowMajor_val_two _).symm)
  show ((b.val * 2048 + r.val) * 8 + g.val) * 256 + e.val = (k 0).val * 2048 + (k 1).val
  omega

end Packed

/-! ### The three pieces, each with its own number of lanes -/

section Pieces

variable {n₁ n₂ n₃ : Nat} (x₁ : FVec Ideal ⟨4, ![4, 2048, 8, n₁]⟩ .f32) (x₂ : FVec Ideal ⟨4, ![4, 2048, 8, n₂]⟩ .f32)
  (x₃ : FVec Ideal ⟨4, ![4, 2048, 8, n₃]⟩ .f32)
  (h : Shape.Concatenates [⟨4, ![4, 2048, 8, n₁]⟩, ⟨4, ![4, 2048, 8, n₂]⟩, ⟨4, ![4, 2048, 8, n₃]⟩] S4x2048x8x256 3)
  (k : S8192x2048.Idx) (b : Fin 4) (r : Fin 2048) (g : Fin 8)

theorem packed_first (e : Fin n₁) (he : e.val < 256) (h0 : (k 0).val = b.val * 2048 + r.val)
    (h1 : (k 1).val = g.val * 256 + e.val) : packed _ _ _ x₁ x₂ x₃ h k = x₁ (ix4 b r g e) :=
  (packed_apply x₁ x₂ x₃ h k b r g ⟨e.val, he⟩ h0 h1).trans
    (concatenate_apply_piece 3 [⟨_, x₁⟩, ⟨_, x₂⟩, ⟨_, x₃⟩] h _ 0 (by simp) _ x₁ rfl rfl 0 rfl (ix4 b r g e)
      (fun c hc => match c, hc with
        | ⟨0, _⟩, _ => rfl | ⟨1, _⟩, _ => rfl | ⟨2, _⟩, _ => rfl | ⟨3, _⟩, hc => absurd rfl hc)
      (Nat.zero_add _))

theorem packed_second (e : Fin n₂) (he : n₁ + e.val < 256) (h0 : (k 0).val = b.val * 2048 + r.val)
    (h1 : (k 1).val = g.val * 256 + (n₁ + e.val)) : packed _ _ _ x₁ x₂ x₃ h k = x₂ (ix4 b r g e) :=
  (packed_apply x₁ x₂ x₃ h k b r g ⟨n₁ + e.val, he⟩ h0 h1).trans
    (concatenate_apply_piece 3 [⟨_, x₁⟩, ⟨_, x₂⟩, ⟨_, x₃⟩] h _ 1 (by simp) _ x₂ rfl rfl n₁ (Nat.add_zero _) (ix4 b r g e)
      (fun c hc => match c, hc with
        | ⟨0, _⟩, _ => rfl | ⟨1, _⟩, _ => rfl | ⟨2, _⟩, _ => rfl | ⟨3, _⟩, hc => absurd rfl hc)
      rfl)

theorem packed_third (e : Fin n₃) (he : n₁ + n₂ + e.val < 256) (h0 : (k 0).val = b.val * 2048 + r.val)
    (h1 : (k 1).val = g.val * 256 + (n₁ + n₂ + e.val)) : packed _ _ _ x₁ x₂ x₃ h k = x₃ (ix4 b r g e) :=
  (packed_apply x₁ x₂ x₃ h k b r g ⟨n₁ + n₂ + e.val, he⟩ h0 h1).trans
    (concatenate_apply_piece 3 [⟨_, x₁⟩, ⟨_, x₂⟩, ⟨_, x₃⟩] h _ 2 (by simp) _ x₃ rfl rfl (n₁ + n₂) (by show n₁ + (n₂ + 0) = n₁ + n₂; rfl) (ix4 b r g e)
      (fun c hc => match c, hc with
        | ⟨0, _⟩, _ => rfl | ⟨1, _⟩, _ => rfl | ⟨2, _⟩, _ => rfl | ⟨3, _⟩, hc => absurd rfl hc)
      rfl)

end Pieces

variable (m : (ℓ : Loc nD τ sig) → Buf (Elt Ideal) ℓ)

theorem V_query (c : Dev nD) : V m c main_v15 = packed S4x2048x8x128 S4x2048x8x64 S4x2048x8x64
    (scaled bcast_S_S4x2048x8x128 (m ((c.tc : Thread nD τ).loc main_arg0)))
    (scaled bcast_S_S4x2048x8x64 (m ((c.tc : Thread nD τ).loc main_arg1)))
    (fill bcast_S_S4x2048x8x64 0x00000000#32) concatenates_S4x2048x8x128_S4x2048x8x64_S4x2048x8x64_S4x2048x8x256_d3 := by
  unfold V
  after_results <;> rfl

theorem V_key (c : Dev nD) : V m c main_v18 = packed S4x2048x8x128 S4x2048x8x64 S4x2048x8x64
    (m ((c.tc : Thread nD τ).loc main_arg2)) (repeated (m ((c.tc : Thread nD τ).loc main_arg3)))
    (fill bcast_S_S4x2048x8x64 0x00000000#32) concatenates_S4x2048x8x128_S4x2048x8x64_S4x2048x8x64_S4x2048x8x256_d3 := by
  unfold V
  after_results <;> rfl

theorem V_value (c : Dev nD) : V m c main_v21 = packed S4x2048x8x128 S4x2048x8x1 S4x2048x8x127
    (m ((c.tc : Thread nD τ).loc main_arg4)) (fill bcast_S_S4x2048x8x1 0x3F800000#32)
    (fill bcast_S_S4x2048x8x127 0x00000000#32) concatenates_S4x2048x8x128_S4x2048x8x1_S4x2048x8x127_S4x2048x8x256_d3 := by
  unfold V
  after_results <;> rfl

/-! ### The arrays' lanes -/

section Lanes

variable (c : Dev nD) (k : S8192x2048.Idx) (b : Fin 4) (r : Fin 2048) (g : Fin 8)
  (h0 : (k 0).val = b.val * 2048 + r.val)

include h0

theorem query_first (e : Fin 128) (h1 : (k 1).val = g.val * 256 + e.val) :
    (show EReal from V m c main_v15 k) = (show EReal from m ((c.tc : Thread nD τ).loc main_arg0) (ix4 b r g e))
      * (((Real.sqrt 192)⁻¹ * (Real.log 2)⁻¹ : ℝ) : EReal) := by
  rw [V_query, ← q_scale_eq]
  exact (packed_first _ _ _ _ k b r g e (by omega) h0 h1).trans (scaled_apply _ _ _)

theorem query_second (e : Fin 64) (h1 : (k 1).val = g.val * 256 + (128 + e.val)) :
    (show EReal from V m c main_v15 k) = (show EReal from m ((c.tc : Thread nD τ).loc main_arg1) (ix4 b r g e))
      * (((Real.sqrt 192)⁻¹ * (Real.log 2)⁻¹ : ℝ) : EReal) := by
  rw [V_query, ← q_scale_eq]
  exact (packed_second _ _ _ _ k b r g e (by omega) h0 h1).trans (scaled_apply _ _ _)

theorem query_third (e : Fin 64) (h1 : (k 1).val = g.val * 256 + (128 + 64 + e.val)) : (show EReal from V m c main_v15 k) = 0 := by
  rw [V_query]
  exact (packed_third _ _ _ _ k b r g e (by omega) h0 h1).trans ((fill_apply _ _ _).trans Ideal.ofBits_zero_f32)

theorem key_first (e : Fin 128) (h1 : (k 1).val = g.val * 256 + e.val) :
    (show EReal from V m c main_v18 k) = (show EReal from m ((c.tc : Thread nD τ).loc main_arg2) (ix4 b r g e)) := by
  rw [V_key]
  exact packed_first _ _ _ _ k b r g e (by omega) h0 h1

theorem key_second (e : Fin 64) (h1 : (k 1).val = g.val * 256 + (128 + e.val)) :
    (show EReal from V m c main_v18 k) = (show EReal from m ((c.tc : Thread nD τ).loc main_arg3) (ix3 b r e)) := by
  rw [V_key]
  exact (packed_second _ _ _ _ k b r g e (by omega) h0 h1).trans (repeated_apply _ _)

theorem value_first (e : Fin 128) (h1 : (k 1).val = g.val * 256 + e.val) :
    (show EReal from V m c main_v21 k) = (show EReal from m ((c.tc : Thread nD τ).loc main_arg4) (ix4 b r g e)) := by
  rw [V_value]
  exact packed_first _ _ _ _ k b r g e (by omega) h0 h1

theorem value_second (h1 : (k 1).val = g.val * 256 + 128) : (show EReal from V m c main_v21 k) = 1 := by
  rw [V_value]
  exact (packed_second (n₂ := 1) _ _ _ _ k b r g 0 (by decide) h0 h1).trans ((fill_apply _ _ _).trans (ofBits_one.trans EReal.coe_one))

end Lanes

theorem V_gated (c : Dev nD) (k : S8192x1024.Idx) (b : Fin 4) (r : Fin 2048) (e : Fin 1024)
    (h0 : (k 0).val = b.val * 2048 + r.val) (h1 : (k 1).val = e.val) :
    V m c main_v23 k = m ((c.tc : Thread nD τ).loc main_arg5) (ix3 b r e) := by
  have he : V m c main_v23 = truncf (F := Ideal) .bf16 (shapeCast S8192x1024 (m ((c.tc : Thread nD τ).loc main_arg5))
      shapeCasts_S4x2048x1024_S8192x1024 : FVec Ideal S8192x1024 .f32) bitsLt_bf16_f32 := by
    unfold V
    after_results <;> rfl
  rw [he]
  refine (shapeCast_apply (m ((c.tc : Thread nD τ).loc main_arg5)) shapeCasts_S4x2048x1024_S8192x1024 k (ix3 b r e) ?_ :)
  refine (Shape.rowMajor_val_three _).trans (Eq.trans ?_ (Shape.rowMajor_val_two _).symm)
  show (b.val * 2048 + r.val) * 1024 + e.val = (k 0).val * 1024 + (k 1).val
  omega

theorem V_taps (c : Dev nD) (k : S31x1024.Idx) :
    V m c main_v24 k = m ((c.tc : Thread nD τ).loc main_arg6) (ix3 0 (k 0) (k 1)) := by
  have he : V m c main_v24 = shapeCast S31x1024 (m ((c.tc : Thread nD τ).loc main_arg6)) shapeCasts_S1x31x1024_S31x1024 := by
    unfold V
    after_results <;> rfl
  rw [he]
  refine shapeCast_apply _ _ k (ix3 0 (k 0) (k 1)) ?_
  refine (Shape.rowMajor_val_three _).trans (Eq.trans ?_ (Shape.rowMajor_val_two _).symm)
  show (0 * 31 + (k 0).val) * 1024 + (k 1).val = (k 0).val * 1024 + (k 1).val
  omega

end Cert.Proof.Attention

end
-- ==== Proof.AttentionValue.lean ====
/-
  The attention call's two results as arrays: which blocks a grid point reads and writes, and what the host's part
  before the call leaves in the arrays it reads.
-/
module

public import proofs.«01_k».proof.Proof.AttentionBlock
public import Idealize.ShloMosaic.Lib.Pipeline.ValueKit
public import Idealize.ShloMosaic.Lib.StableHlo.Run

@[expose] public section

set_option maxRecDepth 16384

noncomputable section

namespace Cert.Proof.Attention

open Idealize.ShloMosaic.Tactic Cert.AttentionIdeal Cert.AttentionIdeal.Gen Idealize.ShloMosaic.TcCoe Idealize.SL.Sem
open Idealize.ShloMosaic.ValueIdx
open Idealize.ShloMosaic hiding ix2
open Idealize.ShloMosaic.Pipeline (Dat Cfg Window)

variable (m : (ℓ : Loc nD τ sig) → Buf (Elt Ideal) ℓ) (ρ : Dev nD → PrngReg)

/-! ## The blocks of a grid point: batch `t / 8`, head `t % 8` -/

theorem index_0 : ∀ t : Fin cfg0.N, win0_0.index t = ![t.val / 8, t.val % 8] :=
  (by decide +kernel : ∀ t : Fin grid0.N, win0_0.index t = ![t.val / 8, t.val % 8])
theorem index_1 : ∀ t : Fin cfg0.N, win0_1.index t = ![t.val / 8, t.val % 8] :=
  (by decide +kernel : ∀ t : Fin grid0.N, win0_1.index t = ![t.val / 8, t.val % 8])
theorem index_2 : ∀ t : Fin cfg0.N, win0_2.index t = ![t.val / 8, t.val % 8] :=
  (by decide +kernel : ∀ t : Fin grid0.N, win0_2.index t = ![t.val / 8, t.val % 8])
theorem index_3 : ∀ t : Fin cfg0.N, win0_3.index t = ![t.val / 8, t.val % 8] :=
  (by decide +kernel : ∀ t : Fin grid0.N, win0_3.index t = ![t.val / 8, t.val % 8])
theorem index_4 : ∀ t : Fin cfg0.N, win0_4.index t = ![0, t.val % 8] :=
  (by decide +kernel : ∀ t : Fin grid0.N, win0_4.index t = ![0, t.val % 8])
theorem index_5 : ∀ t : Fin cfg0.N, win0_5.index t = ![0, t.val % 8] :=
  (by decide +kernel : ∀ t : Fin grid0.N, win0_5.index t = ![0, t.val % 8])
theorem index_6 : ∀ t : Fin cfg0.N, win0_6.index t = ![t.val / 8, t.val % 8] :=
  (by decide +kernel : ∀ t : Fin grid0.N, win0_6.index t = ![t.val / 8, t.val % 8])
theorem index_7 : ∀ t : Fin cfg0.N, win0_7.index t = ![t.val / 8, t.val % 8] :=
  (by decide +kernel : ∀ t : Fin grid0.N, win0_7.index t = ![t.val / 8, t.val % 8])

/-- One head's slot of 256 lanes of an array of slots. -/
def slotOf (X : S8192x2048.Idx → EReal) (b : Fin 4) (h : Fin 8) : S2048x256.Idx → EReal := fun j =>
  X (ix2 ⟨b.val * 2048 + (j 0).val, by have : (j 0).val < 2048 := (j 0).isLt; omega⟩ ⟨h.val * 256 + (j 1).val, by have : (j 1).val < 256 := (j 1).isLt; omega⟩)

/-- One group of 128 columns of an array. -/
def groupOf (X : S8192x1024.Idx → EReal) (b : Fin 4) (h : Fin 8) : S2048x128.Idx → EReal := fun j =>
  X (ix2 ⟨b.val * 2048 + (j 0).val, by have : (j 0).val < 2048 := (j 0).isLt; omega⟩ ⟨h.val * 128 + (j 1).val, by have : (j 1).val < 128 := (j 1).isLt; omega⟩)

/-- One group of 128 columns of the weight. -/
def weightOf (X : S31x1024.Idx → EReal) (h : Fin 8) : S31x128.Idx → EReal := fun j =>
  X (ix2 (j 0) ⟨h.val * 128 + (j 1).val, by have : (j 1).val < 128 := (j 1).isLt; omega⟩)

/-- One group of 128 columns of the bias. -/
def biasOf (X : S1x1024.Idx → EReal) (h : Fin 8) : S1x128.Idx → EReal := fun j =>
  X (ix2 0 ⟨h.val * 128 + (j 1).val, by have : (j 1).val < 128 := (j 1).isLt; omega⟩)

/-- A grid point's batch. -/
def batchOf (t : Fin cfg0.N) : Fin 4 := ⟨t.val / 8, by have : t.val < 32 := t.isLt; omega⟩
/-- A grid point's head. -/
def headOf (t : Fin cfg0.N) : Fin 8 := ⟨t.val % 8, by omega⟩

theorem iblk_0 (c : Dev nD) (t : Fin cfg0.N) : iblk m c 0 t = slotOf (V m c main_v15) (batchOf t) (headOf t) := by
  funext j
  unfold iblk
  refine congrArg (V m c main_v15) (funext fun a => Fin.ext ((win0_0.rect_emb_val_off t _ a).trans ?_))
  rw [index_0 t]
  match a with
  | ⟨0, _⟩ => rfl
  | ⟨1, _⟩ => rfl

theorem iblk_1 (c : Dev nD) (t : Fin cfg0.N) : iblk m c 1 t = slotOf (V m c main_v18) (batchOf t) (headOf t) := by
  funext j
  unfold iblk
  refine congrArg (V m c main_v18) (funext fun a => Fin.ext ((win0_1.rect_emb_val_off t _ a).trans ?_))
  rw [index_1 t]
  match a with
  | ⟨0, _⟩ => rfl
  | ⟨1, _⟩ => rfl

theorem iblk_2 (c : Dev nD) (t : Fin cfg0.N) : iblk m c 2 t = slotOf (V m c main_v21) (batchOf t) (headOf t) := by
  funext j
  unfold iblk
  refine congrArg (V m c main_v21) (funext fun a => Fin.ext ((win0_2.rect_emb_val_off t _ a).trans ?_))
  rw [index_2 t]
  match a with
  | ⟨0, _⟩ => rfl
  | ⟨1, _⟩ => rfl

theorem iblk_3 (c : Dev nD) (t : Fin cfg0.N) : iblk m c 3 t = groupOf (V m c main_v23) (batchOf t) (headOf t) := by
  funext j
  unfold iblk
  refine congrArg (V m c main_v23) (funext fun a => Fin.ext ((win0_3.rect_emb_val_off t _ a).trans ?_))
  rw [index_3 t]
  match a with
  | ⟨0, _⟩ => rfl
  | ⟨1, _⟩ => rfl

theorem iblk_4 (c : Dev nD) (t : Fin cfg0.N) : iblk m c 4 t = weightOf (V m c main_v24) (headOf t) := by
  funext j
  unfold iblk
  refine congrArg (V m c main_v24) (funext fun a => Fin.ext ((win0_4.rect_emb_val_off t _ a).trans ?_))
  rw [index_4 t]
  match a with
  | ⟨0, _⟩ => exact Nat.zero_add _
  | ⟨1, _⟩ => rfl

theorem iblk_5 (c : Dev nD) (t : Fin cfg0.N) : iblk m c 5 t = biasOf (V m c main_arg7) (headOf t) := by
  funext j
  unfold iblk
  refine congrArg (V m c main_arg7) (funext fun a => Fin.ext ((win0_5.rect_emb_val_off t _ a).trans ?_))
  rw [index_5 t]
  match a with
  | ⟨0, _⟩ =>
    have h0 : (j 0).val < 1 := (j 0).isLt
    show 0 * 1 + (j 0).val = 0
    omega
  | ⟨1, _⟩ => rfl

/-! ## The results -/

/-- An element's batch, head, row and column. -/
def batchAt (i : S8192x1024.Idx) : Fin 4 := ⟨(i 0).val / 2048, by have : (i 0).val < 8192 := (i 0).isLt; omega⟩
def headAt (i : S8192x1024.Idx) : Fin 8 := ⟨(i 1).val / 128, by have : (i 1).val < 1024 := (i 1).isLt; omega⟩
def rowAt (i : S8192x1024.Idx) : Fin 2048 := ⟨(i 0).val % 2048, by omega⟩
def colAt (i : S8192x1024.Idx) : Fin 128 := ⟨(i 1).val % 128, by omega⟩

/-- The attention of every head, from the arrays of slots. -/
def attnOf (Q K W : S8192x2048.Idx → EReal) : S8192x1024.Idx → EReal := fun i =>
  attnBlock (slotOf Q (batchAt i) (headAt i)) (slotOf K (batchAt i) (headAt i)) (slotOf W (batchAt i) (headAt i)) (ix2 (rowAt i) (colAt i))

/-- The convolution of every group of channels. -/
def convOf (X : S8192x1024.Idx → EReal) (w : S31x1024.Idx → EReal) (b : S1x1024.Idx → EReal) : S8192x1024.Idx → EReal := fun i =>
  convBlock (groupOf X (batchAt i) (headAt i)) (weightOf w (headAt i)) (biasOf b (headAt i)) (ix2 (rowAt i) (colAt i))

theorem arr_6 (c : Dev nD) : (dats m 0 c).arrAt 6 cfg0.N = attnOf (V m c main_v15) (V m c main_v18) (V m c main_v21) := by
  refine (dats m 0 c).arrAt_eq_of_covers 6 _ (by decide +kernel) fun t _ y => ?_
  blk_simp
  rw [after0_6]
  unfold outsAt0
  dsimp only
  rw [attn_point, iblk_0, iblk_1, iblk_2]
  have b0 : (y 0).val < 2048 := (y 0).isLt
  have b1 : (y 1).val < 128 := (y 1).isLt
  have bt : t.val < 32 := t.isLt
  have e0 : ((win0_6.blk t).view.emb y 0).val = t.val / 8 * 2048 + (y 0).val :=
    (win0_6.rect_emb_val_off t _ 0).trans (by rw [index_6 t]; rfl)
  have e1 : ((win0_6.blk t).view.emb y 1).val = t.val % 8 * 128 + (y 1).val :=
    (win0_6.rect_emb_val_off t _ 1).trans (by rw [index_6 t]; rfl)
  have hb : batchAt ((win0_6.blk t).view.emb y) = batchOf t := Fin.ext (by
    show ((win0_6.blk t).view.emb y 0).val / 2048 = t.val / 8; rw [e0]; omega)
  have hh : headAt ((win0_6.blk t).view.emb y) = headOf t := Fin.ext (by
    show ((win0_6.blk t).view.emb y 1).val / 128 = t.val % 8; rw [e1]; omega)
  have hr : rowAt ((win0_6.blk t).view.emb y) = y 0 := Fin.ext (by
    show ((win0_6.blk t).view.emb y 0).val % 2048 = (y 0).val; rw [e0]; omega)
  have hc : colAt ((win0_6.blk t).view.emb y) = y 1 := Fin.ext (by
    show ((win0_6.blk t).view.emb y 1).val % 128 = (y 1).val; rw [e1]; omega)
  unfold attnOf
  rw [hb, hh, hr, hc]
  exact congrArg _ (ValueIdx.eq_ix2 (n0 := 2048) (n1 := 128) y)

theorem arr_7 (c : Dev nD) : (dats m 0 c).arrAt 7 cfg0.N = convOf (V m c main_v23) (V m c main_v24) (V m c main_arg7) := by
  refine (dats m 0 c).arrAt_eq_of_covers 7 _ (by decide +kernel) fun t _ y => ?_
  blk_simp
  rw [after0_7]
  unfold outsAt0
  dsimp only
  rw [conv_point, iblk_3, iblk_4, iblk_5]
  have b0 : (y 0).val < 2048 := (y 0).isLt
  have b1 : (y 1).val < 128 := (y 1).isLt
  have bt : t.val < 32 := t.isLt
  have e0 : ((win0_7.blk t).view.emb y 0).val = t.val / 8 * 2048 + (y 0).val :=
    (win0_7.rect_emb_val_off t _ 0).trans (by rw [index_7 t]; rfl)
  have e1 : ((win0_7.blk t).view.emb y 1).val = t.val % 8 * 128 + (y 1).val :=
    (win0_7.rect_emb_val_off t _ 1).trans (by rw [index_7 t]; rfl)
  have hb : batchAt ((win0_7.blk t).view.emb y) = batchOf t := Fin.ext (by
    show ((win0_7.blk t).view.emb y 0).val / 2048 = t.val / 8; rw [e0]; omega)
  have hh : headAt ((win0_7.blk t).view.emb y) = headOf t := Fin.ext (by
    show ((win0_7.blk t).view.emb y 1).val / 128 = t.val % 8; rw [e1]; omega)
  have hr : rowAt ((win0_7.blk t).view.emb y) = y 0 := Fin.ext (by
    show ((win0_7.blk t).view.emb y 0).val % 2048 = (y 0).val; rw [e0]; omega)
  have hc : colAt ((win0_7.blk t).view.emb y) = y 1 := Fin.ext (by
    show ((win0_7.blk t).view.emb y 1).val % 128 = (y 1).val; rw [e1]; omega)
  unfold convOf
  rw [hb, hh, hr, hc]
  exact congrArg _ (ValueIdx.eq_ix2 (n0 := 2048) (n1 := 128) y)

end Cert.Proof.Attention

end
-- ==== Proof.AttentionRef.lean ====
/-
  The reference's two results, element by element: softmax attention over the scaled scores, and the sum of the
  convolution's 31 taps over the padded rows.
-/
module

public import proofs.«01_k».proof.Proof.Gen.AttentionRefIdeal.Run
public import proofs.«01_k».proof.Proof.Gen.AttentionRefIdeal.Read
public import proofs.«01_k».proof.Proof.AttentionMath
public import Idealize.ShloMosaic.Lib.IdealHost
public import Idealize.ShloMosaic.Lib.KernelVsHost
public import Idealize.ShloMosaic.Lib.Pipeline.Value

@[expose] public section

set_option maxRecDepth 16384

noncomputable section

namespace Cert.Proof.AttentionRef

open Cert.AttentionRefIdeal Cert.AttentionRefIdeal.Gen Cert.AttentionRefIdeal.Read Idealize.ShloMosaic
open Idealize.ShloMosaic.ValueIdx

/-! ## The pieces the library states for one axis or one number -/

/-- The largest of a row. -/
theorem reduce_max (x : FVec Ideal S4x8x2048x2048 .f32) (z : FVec Ideal S_ .f32) (i : S4x8x2048.Idx) :
    Host.reduce (FloatOps.maximumf (F := Ideal) (φ := .f32)) x z reducesTo_S4x8x2048x2048_S4x8x2048_d3 h_S_ i
      = Finset.univ.fold max (z (Shape.Idx.first h_S_)) (fun j : Fin 2048 => x (ix4 (i 0) (i 1) (i 2) j)) := by
  have h : S4x8x2048x2048.Reduces [3] S4x8x2048 := by decide
  refine (Host.reduce_eq_fold_single (max : EReal → EReal → EReal) x z
      reducesTo_S4x8x2048x2048_S4x8x2048_d3 h h_S_ i).trans ?_
  have e : (x ∘ h.lift i : Fin 2048 → EReal) = fun j => x (ix4 (i 0) (i 1) (i 2) j) := by
    funext j
    refine congrArg x (funext fun a => Fin.ext ?_)
    match a with
    | ⟨0, _⟩ => rfl
    | ⟨1, _⟩ => rfl
    | ⟨2, _⟩ => rfl
    | ⟨3, _⟩ => rfl
  exact congrArg (fun f : Fin 2048 → EReal => Finset.univ.fold max (z (Shape.Idx.first h_S_)) f) e

theorem exp_sub (a b : EReal) : FloatOps.hostUnary (F := Ideal) (φ := .f32) .exp (FloatOps.subf (F := Ideal) (φ := .f32) a b) = Ideal.exp (a - b) := rfl
theorem max_bot (a : EReal) : FloatOps.maximumf (F := Ideal) (φ := .f32) (⊥ : EReal) a = a := max_eq_right bot_le

/-! ## The attention -/

section Attend

variable (x0 : S4x2048x8x128.Idx → EReal) (x1 : S4x2048x8x64.Idx → EReal) (x2 : S4x2048x8x128.Idx → EReal)
  (x3 : S4x2048x64.Idx → EReal) (x4 : S4x2048x8x128.Idx → EReal)

/-- The scaled score of one query row against one key row. -/
def refScore (b : Fin 4) (h : Fin 8) (r j : Fin 2048) : EReal :=
  (∑ d : Fin 128, x0 (ix4 b r h d) * x2 (ix4 b j h d) + ∑ e : Fin 64, x3 (ix3 b j e) * x1 (ix4 b r h e))
    * (((Real.sqrt 192)⁻¹ : ℝ) : EReal)

theorem scores_apply (i : S4x8x2048x2048.Idx) :
    val_main_v7 (F := Ideal) x0 x1 x2 x3 i = refScore x0 x1 x2 x3 (i 0) (i 1) (i 2) (i 3) := by
  have e1 : val_main_v6 (F := Ideal) i = (((Real.sqrt 192)⁻¹ : ℝ) : EReal) :=
    (val_main_v6_apply (F := Ideal) i).trans Attention.scale_eq
  have e2 : val_main_v2 (F := Ideal) x0 x2 i = ∑ d : Fin 128, x0 (ix4 (i 0) (i 2) (i 1) d) * x2 (ix4 (i 0) (i 3) (i 1) d) := by
    refine (val_main_v2_apply x0 x2 i).trans (Finset.sum_congr rfl fun d _ => congrArg₂ (· * ·) (congrArg x0 ?_) (congrArg x2 ?_))
    · funext a; match a with | ⟨0, _⟩ => rfl | ⟨1, _⟩ => rfl | ⟨2, _⟩ => rfl | ⟨3, _⟩ => rfl
    · funext a; match a with | ⟨0, _⟩ => rfl | ⟨1, _⟩ => rfl | ⟨2, _⟩ => rfl | ⟨3, _⟩ => rfl
  have e3 : val_main_v4 (F := Ideal) x1 x3 i = ∑ e : Fin 64, x3 (ix3 (i 0) (i 3) e) * x1 (ix4 (i 0) (i 2) (i 1) e) := by
    refine (val_main_v4_apply (F := Ideal) x1 x3 i).trans ((val_main_v3_apply x1 x3 _).trans
      (Finset.sum_congr rfl fun d _ => congrArg₂ (· * ·) (congrArg x3 ?_) (congrArg x1 ?_)))
    · funext a; match a with | ⟨0, _⟩ => rfl | ⟨1, _⟩ => rfl | ⟨2, _⟩ => rfl
    · funext a; match a with | ⟨0, _⟩ => rfl | ⟨1, _⟩ => rfl | ⟨2, _⟩ => rfl | ⟨3, _⟩ => rfl
  exact congrArg₂ (· * ·) (congrArg₂ (· + ·) e2 e3) e1

/-- The largest score of a query row. -/
def refMax (b : Fin 4) (h : Fin 8) (r : Fin 2048) : EReal := Finset.univ.fold max ⊥ (refScore x0 x1 x2 x3 b h r)

theorem max_apply (i : S4x8x2048.Idx) : val_main_v10 (F := Ideal) x0 x1 x2 x3 i = refMax x0 x1 x2 x3 (i 0) (i 1) (i 2) := by
  have e1 : val_main_v9 (F := Ideal) i = (⊥ : EReal) := (val_main_v9_apply (F := Ideal) i).trans Attention.ofBits_neg_inf
  have e2 : val_main_v8 (F := Ideal) x0 x1 x2 x3 i = refMax x0 x1 x2 x3 (i 0) (i 1) (i 2) := by
    unfold val_main_v8 refMax
    have hf : (fun j : Fin 2048 => val_main_v7 (F := Ideal) x0 x1 x2 x3 (ix4 (i 0) (i 1) (i 2) j)) = refScore x0 x1 x2 x3 (i 0) (i 1) (i 2) :=
      funext fun j => scores_apply x0 x1 x2 x3 _
    have hz : val_main_cst_1 (F := Ideal) (Shape.Idx.first h_S_) = (⊥ : EReal) := Attention.ofBits_neg_inf
    refine (reduce_max _ _ i).trans ?_
    rw [hf, hz]
  rw [val_main_v10_apply, e1, e2]
  exact max_bot _

theorem exp_apply (i : S4x8x2048x2048.Idx) : val_main_v14 (F := Ideal) x0 x1 x2 x3 i
    = Ideal.exp (refScore x0 x1 x2 x3 (i 0) (i 1) (i 2) (i 3) - refMax x0 x1 x2 x3 (i 0) (i 1) (i 2)) := by
  have e : val_main_v12 (F := Ideal) x0 x1 x2 x3 i = refMax x0 x1 x2 x3 (i 0) (i 1) (i 2) :=
    (val_main_v12_apply (F := Ideal) x0 x1 x2 x3 i).trans ((val_main_v11_apply (F := Ideal) x0 x1 x2 x3 _).trans (max_apply x0 x1 x2 x3 _))
  rw [val_main_v14_apply, val_main_v13_apply, e, scores_apply]
  exact exp_sub _ _

/-- The sum of a row's exponentials. -/
theorem total_apply (i : S4x8x2048x2048.Idx) : val_main_v17 (F := Ideal) x0 x1 x2 x3 i
    = ∑ j : Fin 2048, Ideal.exp (refScore x0 x1 x2 x3 (i 0) (i 1) (i 2) j - refMax x0 x1 x2 x3 (i 0) (i 1) (i 2)) := by
  refine (val_main_v17_apply (F := Ideal) x0 x1 x2 x3 i).trans ((val_main_v16_apply (F := Ideal) x0 x1 x2 x3 _).trans ((val_main_v15_apply x0 x1 x2 x3 _).trans ?_))
  have hz : val_main_cst_3 (F := Ideal) (Shape.Idx.first h_S_) = (0 : EReal) := Ideal.ofBits_zero_f32
  rw [hz, zero_add]
  exact Finset.sum_congr rfl fun j _ => exp_apply x0 x1 x2 x3 _

theorem weight_apply (i : S4x8x2048x2048.Idx) : val_main_v18 (F := Ideal) x0 x1 x2 x3 i
    = Ideal.div (Ideal.exp (refScore x0 x1 x2 x3 (i 0) (i 1) (i 2) (i 3) - refMax x0 x1 x2 x3 (i 0) (i 1) (i 2)))
      (∑ j : Fin 2048, Ideal.exp (refScore x0 x1 x2 x3 (i 0) (i 1) (i 2) j - refMax x0 x1 x2 x3 (i 0) (i 1) (i 2))) := by
  rw [val_main_v18_apply, exp_apply, total_apply]
  exact Ideal.hostDivf_def _ _

/-- The first result. -/
theorem attend_apply (i : S8192x1024.Idx) (b : Fin 4) (h : Fin 8) (r : Fin 2048) (d : Fin 128)
    (hi0 : (i 0).val = b.val * 2048 + r.val) (hi1 : (i 1).val = h.val * 128 + d.val) :
    val_main_v245 (F := Ideal) x0 x1 x2 x3 x4 i
      = ∑ j : Fin 2048, x4 (ix4 b j h d) * Ideal.div (Ideal.exp (refScore x0 x1 x2 x3 b h r j - refMax x0 x1 x2 x3 b h r))
        (∑ j' : Fin 2048, Ideal.exp (refScore x0 x1 x2 x3 b h r j' - refMax x0 x1 x2 x3 b h r)) := by
  have hx : idx_main_v21 i = ix4 b r h d := by
    funext a; apply Fin.ext
    match a with
    | ⟨0, _⟩ => show ((i 0).val * 1024 + (i 1).val) / 2097152 = b.val; omega
    | ⟨1, _⟩ => show ((i 0).val * 1024 + (i 1).val) / 1024 % 2048 = r.val; omega
    | ⟨2, _⟩ => show ((i 0).val * 1024 + (i 1).val) / 128 % 8 = h.val; omega
    | ⟨3, _⟩ => show ((i 0).val * 1024 + (i 1).val) % 128 = d.val; omega
  refine (val_main_v21_apply (F := Ideal) x0 x1 x2 x3 x4 i).trans ?_
  rw [hx]
  refine (val_main_v20_apply (F := Ideal) x0 x1 x2 x3 x4 _).trans ((val_main_v19_apply x0 x1 x2 x3 x4 _).trans ?_)
  refine Finset.sum_congr rfl fun j _ => congrArg₂ (· * ·) (congrArg x4 ?_) (weight_apply x0 x1 x2 x3 _)
  funext a; match a with | ⟨0, _⟩ => rfl | ⟨1, _⟩ => rfl | ⟨2, _⟩ => rfl | ⟨3, _⟩ => rfl

end Attend

/-! ## The convolution -/

section Convolve

variable (x5 : S4x2048x1024.Idx → EReal) (x6 : S1x31x1024.Idx → EReal) (x7 : S1x1024.Idx → EReal)

/-- A tap: the padded rows moved by the tap's place, times the tap's weights. -/
abbrev tapArray (k : Nat) (h1 : S4x2078x1024.Slices ![0, k, 0] S4x2048x1024) (h2 : S1x31x1024.Slices ![0, k, 0] S1x1x1024) :
    FVec Ideal S4x2048x1024 .f32 :=
  mulf (extractStridedSlice S4x2048x1024 ![0, k, 0] (val_main_v22 (F := Ideal) x5) h1)
    (broadcastInDim S4x2048x1024 ![0, 1, 2] bcast_S1x1x1024_S4x2048x1024_0_1_2
      (broadcastInDim S1x1x1024 ![2] bcast_S1024_S1x1x1024_2
        (shapeCast S1024 (extractStridedSlice S1x1x1024 ![0, k, 0] x6 h2) shapeCasts_S1x1x1024_S1024)))

/-- A tap's element. -/
def tapAt (i : S4x2048x1024.Idx) (k : Fin 31) : EReal :=
  val_main_v22 (F := Ideal) x5 (ix3 (i 0) ⟨k.val + (i 1).val, by have : (i 1).val < 2048 := (i 1).isLt; omega⟩ (i 2)) * x6 (ix3 0 k (i 2))

theorem tap_apply (n : Nat) (k : Fin 31) (hn : k.val = n) (h1 : S4x2078x1024.Slices ![0, n, 0] S4x2048x1024)
    (h2 : S1x31x1024.Slices ![0, n, 0] S1x1x1024) (i : S4x2048x1024.Idx) :
    tapArray x5 x6 n h1 h2 i = tapAt x5 x6 i k := by
  subst hn
  refine congrArg₂ (· * ·) ?_ ?_
  · exact extractStridedSlice_apply _ _ _ i _ (fun a => match a with
      | ⟨0, _⟩ => (Nat.zero_add _).symm | ⟨1, _⟩ => rfl | ⟨2, _⟩ => (Nat.zero_add _).symm)
  · refine (broadcastInDim_apply _ _ _ i (ix3 0 0 (i 2) : S1x1x1024.Idx) (fun a => match a with
      | ⟨0, _⟩ => rfl | ⟨1, _⟩ => rfl | ⟨2, _⟩ => rfl)).trans ?_
    refine (broadcastInDim_apply _ _ _ _ (ix1 (i 2) : S1024.Idx) (fun a => match a with | ⟨0, _⟩ => rfl)).trans ?_
    refine (shapeCast_apply _ _ _ (ix3 0 0 (i 2) : S1x1x1024.Idx) ?_).trans ?_
    · refine (Shape.rowMajor_val_three _).trans (Eq.trans ?_ (Shape.rowMajor_val_one _).symm)
      show (0 * 1 + 0) * 1024 + (i 2).val = (i 2).val
      omega
    · exact extractStridedSlice_apply _ _ _ _ (ix3 0 k (i 2)) (fun a => match a with
        | ⟨0, _⟩ => rfl | ⟨1, _⟩ => rfl | ⟨2, _⟩ => (Nat.zero_add _).symm)

theorem add_at {s : Shape} {a b : FVec Ideal s .f32} {i : s.Idx} {x y : EReal} (h1 : a i = x) (h2 : b i = y) :
    addf a b i = x + y := congrArg₂ (· + ·) h1 h2

theorem taps_apply (i : S4x2048x1024.Idx) : val_main_v240 (F := Ideal) x5 x6 i = ∑ k : Fin 31, tapAt x5 x6 i k := by
  simp only [Fin.sum_univ_castSucc, Fin.sum_univ_zero]
  iterate 31 refine add_at ?_ (tap_apply x5 x6 _ _ (by rfl) _ _ i)
  exact (val_main_v29_apply (F := Ideal) i).trans Ideal.ofBits_zero_f32

/-- The second result. -/
theorem convolve_apply (i : S8192x1024.Idx) (b : Fin 4) (r : Fin 2048) (e : Fin 1024)
    (hi0 : (i 0).val = b.val * 2048 + r.val) (hi1 : (i 1).val = e.val) :
    val_main_v247 (F := Ideal) x5 x6 x7 i = (∑ k : Fin 31, tapAt x5 x6 (ix3 b r e) k) + x7 (ix2 0 e) := by
  have hx : idx_main_v246 i = ix3 b r e := by
    funext a; apply Fin.ext
    match a with
    | ⟨0, _⟩ => show ((i 0).val * 1024 + (i 1).val) / 2097152 = b.val; omega
    | ⟨1, _⟩ => show ((i 0).val * 1024 + (i 1).val) / 1024 % 2048 = r.val; omega
    | ⟨2, _⟩ => show ((i 0).val * 1024 + (i 1).val) % 1024 = e.val; omega
  refine (val_main_v246_apply (F := Ideal) x5 x6 x7 i).trans ?_
  rw [hx]
  refine congrArg₂ (· + ·) (taps_apply x5 x6 _) ?_
  refine (val_main_v243_apply (F := Ideal) x7 _).trans ((val_main_v242_apply (F := Ideal) x7 _).trans ((val_main_v241_apply (F := Ideal) x7 _).trans (congrArg x7 ?_)))
  funext a; apply Fin.ext
  match a with
  | ⟨0, _⟩ => rfl
  | ⟨1, _⟩ => exact Nat.mod_eq_of_lt e.isLt

/-- A padded row inside the rows given. -/
theorem pad_inside (b : Fin 4) (j : Fin 2078) (e : Fin 1024) (r : Fin 2048) (h : j.val = 15 + r.val) :
    val_main_v22 (F := Ideal) x5 (ix3 b j e) = x5 (ix3 b r e) := by
  unfold val_main_v22
  exact pad_apply_of_inside _ _ _ x5 _ _ _ _ (ix3 b r e) (fun a => match a with
    | ⟨0, _⟩ => by show b.val = 0 + b.val * (0 + 1); omega
    | ⟨1, _⟩ => by show j.val = 15 + r.val * (0 + 1); omega
    | ⟨2, _⟩ => by show e.val = 0 + e.val * (0 + 1); omega)

/-- A padded row before or after the rows given. -/
theorem pad_outside (b : Fin 4) (j : Fin 2078) (e : Fin 1024) (h : j.val < 15 ∨ 2063 ≤ j.val) :
    val_main_v22 (F := Ideal) x5 (ix3 b j e) = 0 := by
  unfold val_main_v22
  refine (pad_apply_of_not_inside _ _ _ x5 _ _ _ _ 1 ?_).trans (sitofp_zero (φ := .f32))
  rintro ⟨ha, -, hb⟩
  have ha' : 15 ≤ j.val := ha
  have hb' : (j.val - 15) / (0 + 1) < 2048 := hb
  omega

end Convolve

end Cert.Proof.AttentionRef

end
-- ==== Proof.AttentionClaims.lean ====
/-
  The attention call's claims: the frames, and that with real queries and keys the kernel computes the reference's
  softmax attention and convolution.
-/
module

public import proofs.«01_k».proof.Defs
public import proofs.«01_k».proof.Proof.Gen.Attention
public import proofs.«01_k».proof.Proof.AttentionPre
public import proofs.«01_k».proof.Proof.AttentionHost
public import proofs.«01_k».proof.Proof.AttentionValue
public import proofs.«01_k».proof.Proof.AttentionRef
public import Idealize.ShloMosaic.Adequacy
public import Idealize.ShloMosaic.Init

@[expose] public section

set_option maxRecDepth 16384

noncomputable section

namespace Cert.Proof.Attention

open Cert.AttentionIdeal Cert.AttentionIdeal.Gen Idealize.ShloMosaic.TcCoe Idealize.SL.Sem
open Idealize.ShloMosaic.ValueIdx
open Idealize.ShloMosaic hiding ix2 ix3 ix4

variable (m : (ℓ : Loc nD τ sig) → Buf (Elt Ideal) ℓ)

/-! ## The attention -/

section Attend

variable (c : Dev nD) (b : Fin 4) (h : Fin 8)

/-- The kernel's score of a query row against a key row, from real queries and keys. -/
theorem kernel_score (x0 : S4x2048x8x128.Idx → EReal) (x1 : S4x2048x8x64.Idx → EReal) (x2 : S4x2048x8x128.Idx → EReal) (x3 : S4x2048x64.Idx → EReal)
    (e0 : m ((c.tc : Thread nD τ).loc main_arg0) = x0) (e1 : m ((c.tc : Thread nD τ).loc main_arg1) = x1)
    (e2 : m ((c.tc : Thread nD τ).loc main_arg2) = x2) (e3 : m ((c.tc : Thread nD τ).loc main_arg3) = x3)
    (h0 : ∀ i, x0 i = ((EReal.toReal (x0 i) : ℝ) : EReal)) (h1 : ∀ i, x1 i = ((EReal.toReal (x1 i) : ℝ) : EReal))
    (h2 : ∀ i, x2 i = ((EReal.toReal (x2 i) : ℝ) : EReal)) (h3 : ∀ i, x3 i = ((EReal.toReal (x3 i) : ℝ) : EReal)) (r j : Fin 2048) :
    scores (slotOf (V m c main_v15) b h) (slotOf (V m c main_v18) b h) r j
      = (((∑ d : Fin 128, (x0 (ix4 b r h d)).toReal * (x2 (ix4 b j h d)).toReal
          + ∑ e : Fin 64, (x3 (ix3 b j e)).toReal * (x1 (ix4 b r h e)).toReal) * ((Real.sqrt 192)⁻¹ * (Real.log 2)⁻¹) : ℝ) : EReal) := by
  subst e0 e1 e2 e3
  refine score_eq _ _ _ _ _ (fun e => slotOf (V m c main_v15) b h (ix2 r e)) (fun e => slotOf (V m c main_v18) b h (ix2 j e)) ?_ ?_ ?_ ?_ ?_
  · intro d
    exact (query_first m c _ b r h rfl d rfl).trans (congrArg (· * _) (h0 _))
  · intro e
    exact (query_second m c _ b r h rfl e rfl).trans (congrArg (· * _) (h1 _))
  · intro e
    exact query_third m c _ b r h rfl e rfl
  · intro d
    exact (key_first m c _ b j h rfl d rfl).trans (h2 _)
  · intro e
    exact (key_second m c _ b j h rfl e rfl).trans (h3 _)

/-- The reference's scaled score is a real number. -/
theorem ref_score (x0 : S4x2048x8x128.Idx → EReal) (x1 : S4x2048x8x64.Idx → EReal) (x2 : S4x2048x8x128.Idx → EReal) (x3 : S4x2048x64.Idx → EReal)
    (h0 : ∀ i, x0 i = ((EReal.toReal (x0 i) : ℝ) : EReal)) (h1 : ∀ i, x1 i = ((EReal.toReal (x1 i) : ℝ) : EReal))
    (h2 : ∀ i, x2 i = ((EReal.toReal (x2 i) : ℝ) : EReal)) (h3 : ∀ i, x3 i = ((EReal.toReal (x3 i) : ℝ) : EReal)) (r j : Fin 2048) :
    AttentionRef.refScore x0 x1 x2 x3 b h r j
      = (((∑ d : Fin 128, (x0 (ix4 b r h d)).toReal * (x2 (ix4 b j h d)).toReal
          + ∑ e : Fin 64, (x3 (ix3 b j e)).toReal * (x1 (ix4 b r h e)).toReal) * (Real.sqrt 192)⁻¹ : ℝ) : EReal) := by
  have f1 : ∑ d : Fin 128, x0 (ix4 b r h d) * x2 (ix4 b j h d)
      = ((∑ d : Fin 128, (x0 (ix4 b r h d)).toReal * (x2 (ix4 b j h d)).toReal : ℝ) : EReal) := by
    rw [← sum_coe]
    exact Finset.sum_congr rfl fun d _ => (congrArg₂ (· * ·) (h0 _) (h2 _)).trans (EReal.coe_mul _ _).symm
  have f2 : ∑ e : Fin 64, x3 (ix3 b j e) * x1 (ix4 b r h e)
      = ((∑ e : Fin 64, (x3 (ix3 b j e)).toReal * (x1 (ix4 b r h e)).toReal : ℝ) : EReal) := by
    rw [← sum_coe]
    exact Finset.sum_congr rfl fun d _ => (congrArg₂ (· * ·) (h3 _) (h1 _)).trans (EReal.coe_mul _ _).symm
  unfold AttentionRef.refScore
  rw [f1, f2, ← EReal.coe_add, ← EReal.coe_mul]

end Attend

/-- The block's formula at a row and a lane. -/
theorem attnBlock_apply (q k v : S2048x256.Idx → EReal) (r : Fin 2048) (d : Fin 128) : attnBlock q k v (ix2 r d)
    = Ideal.div (∑ j, Ideal.exp2 (scores q k r j - Finset.univ.fold max ⊥ (scores q k r)) * v (ix2 j ⟨d.val, by show _ < 256; omega⟩))
      (∑ j, Ideal.exp2 (scores q k r j - Finset.univ.fold max ⊥ (scores q k r)) * v (ix2 j ⟨128, by show 128 < 256; omega⟩)) := rfl

/-- The quotient, its value lane and its lane of ones replaced by their values. -/
theorem quotient_congr (w x y u : Fin 2048 → EReal) (hx : ∀ j, x j = y j) (hu : ∀ j, u j = 1) :
    Ideal.div (∑ j, w j * x j) (∑ j, w j * u j) = Ideal.div (∑ j, w j * y j) (∑ j, w j * 1) := by
  obtain rfl : x = y := funext hx
  obtain rfl : u = fun _ => 1 := funext hu
  rfl

/-- The first result is the reference's. -/
theorem attend_eq (c : Dev nD) (x0 : S4x2048x8x128.Idx → EReal) (x1 : S4x2048x8x64.Idx → EReal) (x2 : S4x2048x8x128.Idx → EReal)
    (x3 : S4x2048x64.Idx → EReal) (x4 : S4x2048x8x128.Idx → EReal)
    (e0 : m ((c.tc : Thread nD τ).loc main_arg0) = x0) (e1 : m ((c.tc : Thread nD τ).loc main_arg1) = x1)
    (e2 : m ((c.tc : Thread nD τ).loc main_arg2) = x2) (e3 : m ((c.tc : Thread nD τ).loc main_arg3) = x3)
    (e4 : m ((c.tc : Thread nD τ).loc main_arg4) = x4)
    (h0 : ∀ i, x0 i = ((EReal.toReal (x0 i) : ℝ) : EReal)) (h1 : ∀ i, x1 i = ((EReal.toReal (x1 i) : ℝ) : EReal))
    (h2 : ∀ i, x2 i = ((EReal.toReal (x2 i) : ℝ) : EReal)) (h3 : ∀ i, x3 i = ((EReal.toReal (x3 i) : ℝ) : EReal)) :
    attnOf (V m c main_v15) (V m c main_v18) (V m c main_v21)
      = Cert.AttentionRefIdeal.Read.val_main_v245 (F := Ideal) x0 x1 x2 x3 x4 := by
  funext i
  have hi0 : (i 0).val = (batchAt i).val * 2048 + (rowAt i).val := by
    show (i 0).val = (i 0).val / 2048 * 2048 + (i 0).val % 2048; omega
  have hi1 : (i 1).val = (headAt i).val * 128 + (colAt i).val := by
    show (i 1).val = (i 1).val / 128 * 128 + (i 1).val % 128; omega
  have hr := row_eq _ _ (inv_pos.mpr (Real.sqrt_pos.mpr (by norm_num))) (fun j => x4 (ix4 (batchAt i) j (headAt i) (colAt i))) _ _
    (kernel_score m c (batchAt i) (headAt i) x0 x1 x2 x3 e0 e1 e2 e3 h0 h1 h2 h3 (rowAt i))
    (ref_score (batchAt i) (headAt i) x0 x1 x2 x3 h0 h1 h2 h3 (rowAt i))
  have hk := attnBlock_apply (slotOf (V m c main_v15) (batchAt i) (headAt i)) (slotOf (V m c main_v18) (batchAt i) (headAt i))
    (slotOf (V m c main_v21) (batchAt i) (headAt i)) (rowAt i) (colAt i)
  have hq := quotient_congr
    (fun j => Ideal.exp2 (scores (slotOf (V m c main_v15) (batchAt i) (headAt i)) (slotOf (V m c main_v18) (batchAt i) (headAt i)) (rowAt i) j
      - Finset.univ.fold max ⊥ (scores (slotOf (V m c main_v15) (batchAt i) (headAt i)) (slotOf (V m c main_v18) (batchAt i) (headAt i)) (rowAt i))))
    (fun j => slotOf (V m c main_v21) (batchAt i) (headAt i) (ix2 j ⟨(colAt i).val, by have := (colAt i).isLt; show _ < 256; omega⟩))
    (fun j => x4 (ix4 (batchAt i) j (headAt i) (colAt i)))
    (fun j => slotOf (V m c main_v21) (batchAt i) (headAt i) (ix2 j ⟨128, by show 128 < 256; omega⟩))
    (fun j => (value_first m c _ (batchAt i) j (headAt i) rfl (colAt i) rfl).trans (congrFun e4 _))
    (fun j => value_second m c _ (batchAt i) j (headAt i) rfl rfl)
  exact ((hk.trans hq).trans hr).trans (AttentionRef.attend_apply x0 x1 x2 x3 x4 i (batchAt i) (headAt i) (rowAt i) (colAt i) hi0 hi1).symm

/-! ## The convolution -/

/-- A padded row of the kernel's block is a padded row of the reference. -/
theorem row_eq_pad (c : Dev nD) (b : Fin 4) (h : Fin 8) (r : Fin 2048) (d : Fin 128) (k : Fin 31) (e : Fin 1024) (he : e.val = h.val * 128 + d.val) :
    padded (groupOf (V m c main_v23) b h) (ix2 ⟨r.val + k.val + 1, by show _ < 2080; omega⟩ d)
      = Cert.AttentionRefIdeal.Read.val_main_v22 (F := Ideal) (m ((c.tc : Thread nD τ).loc main_arg5)) (ix3 b ⟨k.val + r.val, by omega⟩ e) := by
  by_cases hin : 15 ≤ k.val + r.val ∧ k.val + r.val < 2063
  · refine (padded_inside _ _ (ix2 ⟨k.val + r.val - 15, by omega⟩ d) ?_ rfl).trans (Eq.trans ?_
      (AttentionRef.pad_inside _ b _ e ⟨k.val + r.val - 15, by omega⟩ ?_).symm)
    · show r.val + k.val + 1 = 16 + (k.val + r.val - 15); omega
    · exact V_gated m c _ b ⟨k.val + r.val - 15, by omega⟩ e rfl he.symm
    · show k.val + r.val = 15 + (k.val + r.val - 15); omega
  · refine (padded_outside _ _ ?_).trans (AttentionRef.pad_outside _ b _ e ?_).symm
    · show ¬(16 ≤ r.val + k.val + 1 ∧ r.val + k.val + 1 < 2064); omega
    · show k.val + r.val < 15 ∨ 2063 ≤ k.val + r.val; omega

/-- The second result is the reference's. -/
theorem convolve_eq (c : Dev nD) : convOf (V m c main_v23) (V m c main_v24) (V m c main_arg7)
    = Cert.AttentionRefIdeal.Read.val_main_v247 (F := Ideal) (m ((c.tc : Thread nD τ).loc main_arg5))
      (m ((c.tc : Thread nD τ).loc main_arg6)) (m ((c.tc : Thread nD τ).loc main_arg7)) := by
  funext i
  have hi0 : (i 0).val = (batchAt i).val * 2048 + (rowAt i).val := by
    show (i 0).val = (i 0).val / 2048 * 2048 + (i 0).val % 2048; omega
  have hi1 : (i 1).val = (headAt i).val * 128 + (colAt i).val := by
    show (i 1).val = (i 1).val / 128 * 128 + (i 1).val % 128; omega
  refine Eq.trans ?_ (AttentionRef.convolve_apply _ _ _ i (batchAt i) (rowAt i) (i 1) hi0 rfl).symm
  refine congrArg₂ (· + ·) (Finset.sum_congr rfl fun k _ => congrArg₂ (· * ·) ?_ ?_) ?_
  · exact row_eq_pad m c (batchAt i) (headAt i) (rowAt i) (colAt i) k (i 1) hi1
  · refine (V_taps m c _).trans (congrArg (m ((c.tc : Thread nD τ).loc main_arg6)) (funext fun a => Fin.ext ?_))
    match a with
    | ⟨0, _⟩ => rfl
    | ⟨1, _⟩ => rfl
    | ⟨2, _⟩ => exact hi1.symm
  · refine (congrFun (V_main_arg7 m c) _).trans (congrArg (m ((c.tc : Thread nD τ).loc main_arg7)) (funext fun a => Fin.ext ?_))
    match a with
    | ⟨0, _⟩ => rfl
    | ⟨1, _⟩ => exact hi1.symm

/-! ## The original and its idealization are one program -/

theorem defs₀_eq : Cert.Attention.defs₀ (F := Bits) = Cert.AttentionIdeal.defs₀ := by
  unfold Cert.Attention.defs₀ Cert.AttentionIdeal.defs₀
  refine congrArg Defs.onTc ?_
  funext l
  match l with
  | ⟨0, _⟩ => rfl

theorem defs_eq : Cert.Attention.defs (F := Bits) = Cert.AttentionIdeal.defs := by
  unfold Cert.Attention.defs Cert.AttentionIdeal.defs
  rw [defs₀_eq]
  rfl

/-! ## The claims -/

theorem frame_ideal : Cert.quiescent_AttentionIdeal (hAttentionIdeal := Cert.AttentionIdeal.Gen.facts) := fun m ρ _ =>
  Cert.AttentionIdeal.Gen.frame m ρ

/-- The original's frame is the same run, read at the machine's words. -/
theorem frame_kernel : Cert.quiescent_Attention (hAttention := Cert.Attention.Gen.facts) := fun m ρ _ =>
  (congrArg (fun d => θ_run d (onTc (τ := Cert.Attention.τ) (Cert.Attention.main (F := Bits))) ⟨m, fun _ => 0, ρ⟩ _) defs_eq).mpr
    (Cert.AttentionIdeal.Gen.frame (F := Bits) m ρ)

theorem frame_ref : Cert.quiescent_AttentionRefIdeal (hAttentionRefIdeal := Cert.AttentionRefIdeal.Gen.facts) := fun m ρ _ =>
  (θ_run _ _ _).mono (fun r h => ⟨fun c => (h c).2.2, Idealize.ShloMosaic.sem_eq_zero_of_no_sems (by decide) r.2⟩)
    (Cert.AttentionRefIdeal.Value.run (F := Ideal) m ρ)

theorem preserves : Cert.preserves_Attention_AttentionIdeal := trivial

theorem algebraic : Cert.algebraic_AttentionIdeal_AttentionRefIdeal_pre_finite_queries_and_keys (hAttentionIdeal := Cert.AttentionIdeal.Gen.facts)
    (hAttentionRefIdeal := Cert.AttentionRefIdeal.Gen.facts) (hPre_finite_queries_and_keys := AttentionPre.facts) :=
  fun m ρ m' ρ' hpre hagree =>
  ⟨fun c => attnOf (V m c main_v15) (V m c main_v18) (V m c main_v21), fun c => convOf (V m c main_v23) (V m c main_v24) (V m c main_arg7),
   (θ_run _ _ _).mono (fun _ h c => ⟨(h c).1.trans (arr_6 m c), (h c).2.1.trans (arr_7 m c), (h c).2.2⟩) (Cert.AttentionIdeal.Value.run_blocks m ρ),
   (θ_run _ _ _).mono (fun _ h c => ⟨by
      obtain ⟨h0, h1, h2, h3⟩ := @AttentionPre.real_of_pre AttentionPre.facts _ _ _ _ _ _ _ _ (hpre c)
      obtain ⟨a0, a1, a2, a3, a4, a5, a6, a7⟩ := hagree c
      refine ((h c).1.trans (Cert.AttentionRefIdeal.Read.val_main_v245_eq _)).trans (attend_eq m c _ _ _ _ _ a0.symm a1.symm a2.symm a3.symm a4.symm ?_ ?_ ?_ ?_).symm
      · exact fun i => a0 ▸ h0 i
      · exact fun i => a1 ▸ h1 i
      · exact fun i => a2 ▸ h2 i
      · exact fun i => a3 ▸ h3 i, by
      obtain ⟨a0, a1, a2, a3, a4, a5, a6, a7⟩ := hagree c
      refine ((h c).2.1.trans (Cert.AttentionRefIdeal.Read.val_main_v247_eq _)).trans (Eq.trans ?_ (convolve_eq m c).symm)
      exact congr (congrArg₂ _ a5 a6) a7, (h c).2.2⟩)
    (Cert.AttentionRefIdeal.Value.run (F := Ideal) m' ρ')⟩

end Cert.Proof.Attention

end
-- ==== Proof.ProjOps.lean ====
/-
  The projection call's arithmetic on one row of the activations, and the kernel's operations read at an element: the
  products with the weights, the mean-square normalization, the rotary embedding by lane rotations, and the selection of
  a head's half of the lanes.
-/
module

public import proofs.«01_k».proof.Proof.Gen.ProjIdeal.Skeleton
public import proofs.«01_k».proof.Proof.AttentionMath
public import Idealize.ShloMosaic.Lib.IdealHost
public import Idealize.ShloMosaic.PureOps.Ideal.Laws
public import Idealize.ShloMosaic.Lib.MatmulPlain
public import Idealize.ShloMosaic.Lib.KernelVsHost
public import Idealize.ShloMosaic.Lib.WordCmp
public import Idealize.ShloMosaic.Lib.Pipeline.Value

@[expose] public section

set_option maxRecDepth 16384

noncomputable section

namespace Cert.Proof.Proj

open Cert.ProjIdeal Cert.ProjIdeal.Gen Idealize.ShloMosaic Idealize.ShloMosaic.TcCoe Idealize.SL.Sem
open Idealize.ShloMosaic.ValueIdx

/-! ## One row -/

/-- A row times a matrix. -/
def prodRow {a b : ℕ} (x : Fin a → EReal) (w : Fin a → Fin b → EReal) (j : Fin b) : EReal := ∑ d, x d * w d j

/-- A row over the root of its mean square (`n` is the number of its elements), times the gains. -/
def normRow {k : ℕ} (n : EReal) (x g : Fin k → EReal) (d : Fin k) : EReal :=
  x d * Ideal.rsqrt (Ideal.div (∑ e, x e * x e) n + Ideal.ofBits .f32 0x358637BD#32) * g d

/-- The rotary embedding of a row of 64: the two halves turned by the position's angles. -/
def ropeRow (cs sn : Fin 32 → EReal) (t : Fin 64 → EReal) (e : Fin 64) : EReal :=
  if h : e.val < 32 then t e * cs ⟨e.val, h⟩ - t ⟨e.val + 32, by omega⟩ * sn ⟨e.val, h⟩
  else t e * cs ⟨e.val - 32, by omega⟩ + t ⟨e.val - 32, by omega⟩ * sn ⟨e.val - 32, by omega⟩

/-- The kernel's rotary embedding of 128 lanes: the lane, the lane 32 before and the lane 32 after, each times its table. -/
def laneRope (c s₁ s₂ t : Fin 128 → EReal) (l : Fin 128) : EReal :=
  t l * c l + t ⟨(l.val + 96) % 128, by omega⟩ * s₁ l + t ⟨(l.val + 32) % 128, by omega⟩ * s₂ l

/-- With the kernel's tables — the cosines four times, the sines with zeros between — a half of the lanes is the rotary
    embedding of its 64 lanes. -/
theorem laneRope_eq (cs sn : Fin 32 → EReal) (c s₁ s₂ t : Fin 128 → EReal) (t' : Fin 64 → EReal) (a : ℕ) (ha : a < 2)
    (hc : ∀ (l : Fin 128) (j : Fin 32), l.val % 32 = j.val → c l = cs j)
    (h10 : ∀ l : Fin 128, l.val / 32 % 2 = 0 → s₁ l = 0)
    (h11 : ∀ (l : Fin 128) (j : Fin 32), l.val / 32 % 2 = 1 → l.val % 32 = j.val → s₁ l = sn j)
    (h20 : ∀ (l : Fin 128) (j : Fin 32), l.val / 32 % 2 = 0 → l.val % 32 = j.val → s₂ l = -sn j)
    (h21 : ∀ l : Fin 128, l.val / 32 % 2 = 1 → s₂ l = 0)
    (ht : ∀ (l : Fin 128) (e : Fin 64), l.val = 64 * a + e.val → t l = t' e)
    (l : Fin 128) (e : Fin 64) (hl : l.val = 64 * a + e.val) :
    laneRope c s₁ s₂ t l = ropeRow cs sn t' e := by
  unfold laneRope ropeRow
  by_cases h : e.val < 32
  · rw [dif_pos h, ht l e hl, hc l ⟨e.val, h⟩ (by show l.val % 32 = e.val; omega), h10 l (by omega), h20 l ⟨e.val, h⟩ (by omega) (by show l.val % 32 = e.val; omega),
      ht ⟨(l.val + 32) % 128, _⟩ ⟨e.val + 32, by omega⟩ (by show (l.val + 32) % 128 = 64 * a + (e.val + 32); omega), mul_zero, add_zero, mul_neg, sub_eq_add_neg]
  · rw [dif_neg h, ht l e hl, hc l ⟨e.val - 32, by omega⟩ (by show l.val % 32 = e.val - 32; omega), h11 l ⟨e.val - 32, by omega⟩ (by omega) (by show l.val % 32 = e.val - 32; omega), h21 l (by omega),
      ht ⟨(l.val + 96) % 128, _⟩ ⟨e.val - 32, by omega⟩ (by show (l.val + 96) % 128 = 64 * a + (e.val - 32); omega), mul_zero, add_zero]

/-- Lanes of zeros stay zeros. -/
theorem laneRope_zero (c s₁ s₂ t : Fin 128 → EReal) (l : Fin 128) (h21 : l.val / 32 % 2 = 1 → s₂ l = 0)
    (h10 : l.val / 32 % 2 = 0 → s₁ l = 0) (hl : 64 ≤ l.val) (ht : ∀ l : Fin 128, 64 ≤ l.val → t l = 0) : laneRope c s₁ s₂ t l = 0 := by
  unfold laneRope
  by_cases h : l.val / 32 % 2 = 0
  · rw [ht l hl, h10 h, ht ⟨(l.val + 32) % 128, _⟩ (by show 64 ≤ (l.val + 32) % 128; omega)]; simp
  · rw [ht l hl, h21 (by omega), ht ⟨(l.val + 96) % 128, _⟩ (by show 64 ≤ (l.val + 96) % 128; omega)]; simp

/-! ## The kernel's operations at an element -/

/-- The zero a product starts from is the zero. -/
theorem zero_bits : FloatOps.ofBits (F := Ideal) .f32 0x00000000#32 = (0 : EReal) := Ideal.ofBits_zero_f32

/-- The named scale. -/
def qScale : EReal := (((Real.sqrt 192)⁻¹ * (Real.log 2)⁻¹ : ℝ) : EReal)

theorem named_scale : Named.named (F := Ideal) Cert.ProjIdeal.κ "q_scale" (φ := .f32) 0x3DD53B95#32 = qScale :=
  IdealRules.named_const.ideal_named_scalar _ _ _ _ rfl

/-- A product with a weight matrix. -/
theorem product_apply {M K N : ℕ} (x : FVec Ideal ⟨2, ![M, K]⟩ .bf16) (w : FVec Ideal ⟨2, ![K, N]⟩ .bf16) (p : Fin M) (j : Fin N)
    (r : Fin K → EReal) (hx : ∀ d, x (ix2 p d) = r d) (u : Fin K → Fin N → EReal) (hw : ∀ d, w (ix2 d j) = u d j) :
    matmul (φ₁ := .bf16) (φ₂ := .bf16) (DotDims.plain M K N) none x w (constant (F := Ideal) ⟨2, ![M, N]⟩ .f32 0x00000000#32) (ix2 p j)
      = prodRow r u j := by
  refine (Ideal.matmul_plain_apply none x w _ p j).trans ((congrArg (· + _) zero_bits).trans ((zero_add _).trans ?_))
  exact Finset.sum_congr rfl fun d _ => congrArg₂ (· * ·) (hx d) (hw d)

/-- A row's sum of squares. -/
theorem squares_apply {k : ℕ} (x : FVec Ideal ⟨2, ![512, k]⟩ .f32) (hr : (⟨2, ![512, k]⟩ : Shape).Reduces [1] S512) (p : Fin 512) :
    shapeCast S512x1 (multiReduction .add [1] S512 (mulf x x) 0x00000000#32 hr (.inl rfl) rfl : FVec Ideal S512 .f32)
      shapeCasts_S512_S512x1 (ix2 p 0) = ∑ e : Fin k, x (ix2 p e) * x (ix2 p e) := by
  refine (shapeCast_apply _ shapeCasts_S512_S512x1 (ix2 p 0) (ix1 p) ?_).trans ?_
  · refine (Shape.rowMajor_val_one _).trans (Eq.trans ?_ (Shape.rowMajor_val_two _).symm)
    show p.val = p.val * 1 + 0
    omega
  refine (Ideal.multiReduction_add_single (mulf x x) 0x00000000#32 hr (.inl rfl) rfl (ix1 p)).trans ?_
  refine Finset.sum_congr rfl fun e _ => ?_
  have he : hr.lift (ix1 p) e = ix2 p e := funext fun a => match a with
    | ⟨0, _⟩ => rfl
    | ⟨1, _⟩ => rfl
  rw [he]
  rfl

/-- The mean-square normalization, its sum of squares given apart. -/
theorem norm_apply {k : ℕ} (x : FVec Ideal ⟨2, ![512, k]⟩ .f32) (g : FVec Ideal ⟨2, ![1, k]⟩ .f32) (s : FVec Ideal S512x1 .f32) (n : Ideal .f32)
    (hb : S512x1.Broadcasts ⟨2, ![512, k]⟩) (hg : (⟨2, ![1, k]⟩ : Shape).Broadcasts ⟨2, ![512, k]⟩) (p : Fin 512) (d : Fin k)
    (r : Fin k → EReal) (hx : ∀ d, x (ix2 p d) = r d) (hs : s (ix2 p 0) = ∑ e : Fin k, r e * r e) :
    (truncf .bf16 (mulf (mulf x (broadcastTo ⟨2, ![512, k]⟩ (rsqrt (addf (divf s (broadcast S512x1 n))
      (broadcast S512x1 (Scalar.ofBits .f32 0x358637BD#32)))) hb)) (broadcastTo ⟨2, ![512, k]⟩ g hg)) bitsLt_bf16_f32 : FVec Ideal ⟨2, ![512, k]⟩ .bf16) (ix2 p d)
      = normRow n r (fun e => g (ix2 0 e)) d := by
  refine congrArg₂ (· * ·) (congrArg₂ (· * ·) (hx d) ?_) ?_
  · refine (broadcastTo_apply _ hb (ix2 p d) (ix2 p 0) (fun a => match a with | ⟨0, _⟩ => rfl | ⟨1, _⟩ => rfl)).trans ?_
    exact congrArg (fun z => Ideal.rsqrt (Ideal.div z n + Ideal.ofBits .f32 0x358637BD#32)) hs
  · exact broadcastTo_apply _ hg (ix2 p d) (ix2 0 d) (fun a => match a with
      | ⟨0, _⟩ => rfl
      | ⟨1, _⟩ => by
        by_cases hk : k = 1
        · subst hk; have := d.isLt; simp
        · simp [hk])

/-- A block of lanes cut out of a wider array. -/
theorem cut_apply {n w : ℕ} (x : FVec Ideal ⟨2, ![512, n]⟩ .f32) (o : ℕ) (h : (⟨2, ![512, n]⟩ : Shape).Slices ![0, o] ⟨2, ![512, w]⟩) (p : Fin 512) (l : Fin w)
    (j : Fin n) (hj : j.val = o + l.val) : extractStridedSlice ⟨2, ![512, w]⟩ ![0, o] x h (ix2 p l) = x (ix2 p j) :=
  extractStridedSlice_apply _ _ h _ (ix2 p j) (fun a => match a with
    | ⟨0, _⟩ => (Nat.zero_add _).symm
    | ⟨1, _⟩ => hj)

/-- Lanes moved on by `n`, around the end. -/
theorem rotate_apply (x : FVec Ideal S512x128 .f32) (b : BitVec 32) (n : ℕ) (hn : b.toNat % 128 = n) (p : Fin 512) (l : Fin 128) :
    dynamicRotate 1 b none x rotates_S512x128_d1 (ix2 p l) = x (ix2 p ⟨(l.val + (128 - n)) % 128, by omega⟩) := by
  refine dynamicRotate_apply 1 b x rotates_S512x128_d1 _ _ fun a => ?_
  match a with
  | ⟨0, _⟩ => rfl
  | ⟨1, _⟩ =>
    refine Eq.trans ?_ (if_pos rfl).symm
    show (l.val + (128 - n)) % 128 = (l.val + 128 - b.toNat % 128) % 128
    rw [hn]
    have : n < 128 := by omega
    congr 1
    omega

/-- The kernel's rotary embedding. -/
theorem rope_apply (t c s₁ s₂ : FVec Ideal S512x128 .f32) (p : Fin 512) (l : Fin 128) (r : Fin 128 → EReal) (hr : ∀ l, t (ix2 p l) = r l) :
    addf (addf (mulf t c) (mulf (dynamicRotate 1 32#32 none t rotates_S512x128_d1) s₁))
        (mulf (dynamicRotate 1 96#32 none t rotates_S512x128_d1) s₂) (ix2 p l)
      = laneRope (fun l => c (ix2 p l)) (fun l => s₁ (ix2 p l)) (fun l => s₂ (ix2 p l)) r l :=
  congrArg₂ (· + ·) (congrArg₂ (· + ·) (congrArg (· * _) (hr l)) (congrArg (· * _) ((rotate_apply t 32#32 32 rfl p l).trans (hr _))))
    (congrArg (· * _) ((rotate_apply t 96#32 96 rfl p l).trans (hr _)))

/-- The kernel's lane numbers. -/
theorem lane_apply (p : Fin 512) (l : Fin 128) : iota .tc S512x128 32 [1] iota_S512x128_d1_w32 (ix2 p l) = BitVec.ofNat 32 l.val := by
  show BitVec.ofNat 32 (0 * 128 + l.val) = BitVec.ofNat 32 l.val
  rw [Nat.zero_mul, Nat.zero_add]

/-- A head's half of the lanes, zeros elsewhere. -/
theorem half_apply (x : FVec Ideal S512x128 .f32) (p : Fin 512) (l : Fin 128) :
    (truncf .bf16 (select (cmpi .slt (iota .tc S512x128 32 [1] iota_S512x128_d1_w32) (broadcast S512x128 64#32)) x
      (broadcast S512x128 (Scalar.ofBits .f32 0x00000000#32))) bitsLt_bf16_f32 : FVec Ideal S512x128 .bf16) (ix2 p l)
      = if l.val < 64 then x (ix2 p l) else 0 := by
  show Scalar.select (IntOp.cmpi .slt (iota .tc S512x128 32 [1] iota_S512x128_d1_w32 (ix2 p l)) 64#32) (x (ix2 p l)) (FloatOps.ofBits (F := Ideal) .f32 0x00000000#32) = _
  rw [lane_apply, zero_bits]
  by_cases h : l.val < 64
  · rw [(WordCmp.cmpi_slt_ofNat_eq_one_iff (w := 32) (a := l.val) (b := 64) (by omega) (by omega)).mpr h, if_pos h]; rfl
  · rw [(WordCmp.cmpi_slt_ofNat_eq_zero_iff (w := 32) (a := l.val) (b := 64) (by omega) (by omega)).mpr h, if_neg h]; rfl

/-- A test as a word, read as a number. -/
theorem bit_value (b : BitVec 1) : (FloatOps.sitofp (F := Ideal) .f32 (b.setWidth 32) : EReal) = if b = 1#1 then 1 else 0 := by
  show (((b.setWidth 32).toInt : ℝ) : EReal) = _
  by_cases h : b = 1#1
  · subst h
    rw [if_pos rfl, show ((1#1).setWidth 32).toInt = 1 from by decide, Int.cast_one, EReal.coe_one]
  · rw [if_neg h, show b = 0#1 from by revert h; revert b; decide, show ((0#1).setWidth 32).toInt = 0 from by decide, Int.cast_zero, EReal.coe_zero]

/-- The column of ones: lane 0. -/
theorem ones_apply (p : Fin 512) (l : Fin 128) : k0_pay17 (F := Ideal) (ix2 p l) = if l.val = 0 then 1 else 0 := by
  refine Eq.trans (b := FloatOps.sitofp (F := Ideal) .f32 ((IntOp.cmpi .eq (iota .tc S512x128 32 [1] iota_S512x128_d1_w32 (ix2 p l)) 0#32).setWidth 32)) rfl ?_
  rw [lane_apply, bit_value]
  have hiff : IntOp.cmpi .eq (BitVec.ofNat 32 l.val) 0#32 = 1#1 ↔ l.val = 0 := by
    revert l; decide
  exact if_congr hiff rfl rfl

end Cert.Proof.Proj

end
-- ==== Proof.ProjBlock.lean ====
/-
  What one grid point of the projection call leaves in its four output blocks, element by element: the queries', keys'
  and values' slots of 256 lanes per head, and the gated branch's columns.
-/
module

public import proofs.«01_k».proof.Proof.Gen.ProjIdeal.Frame
public import proofs.«01_k».proof.Proof.ProjOps

@[expose] public section

set_option maxRecDepth 16384

noncomputable section

namespace Cert.Proof.Proj

open Cert.ProjIdeal Cert.ProjIdeal.Gen Idealize.ShloMosaic Idealize.ShloMosaic.TcCoe Idealize.SL.Sem
open Idealize.ShloMosaic.ValueIdx

/-- An array of two axes as rows of columns. -/
def mat {a b : ℕ} (X : (⟨2, ![a, b]⟩ : Shape).Idx → EReal) : Fin a → Fin b → EReal := fun d j => X (ix2 d j)

/-- The columns from `o` on. -/
def cols {a b k : ℕ} (o : ℕ) (h : o + k ≤ b) (X : Fin a → Fin b → EReal) : Fin a → Fin k → EReal := fun d j => X d ⟨o + j.val, by omega⟩

/-! ## The results' rows -/

/-- A row of queries: per head 128 columns of the product scaled, the rotary embedding of 64 scaled, 64 zeros. -/
def qRow (qn : Fin 768 → EReal) (wq : Fin 768 → Fin 1536 → EReal) (c s₁ s₂ : Fin 128 → EReal) (j : Fin 2048) : EReal :=
  if j.val % 256 < 128 then prodRow qn wq ⟨128 * (j.val / 256) + j.val % 256, by omega⟩ * qScale
  else if h : j.val % 256 < 192 then
    laneRope c s₁ s₂ (fun l => prodRow qn wq ⟨1024 + 128 * (j.val / 512) + l.val, by omega⟩)
      ⟨64 * (j.val / 256 % 2) + (j.val % 256 - 128), by omega⟩ * qScale
  else 0

/-- A row of keys: per head 128 columns of the product, then the shared rotary part. -/
def kRow (kvn : Fin 512 → EReal) (w : Fin 512 → Fin 2048 → EReal) (xn : Fin 2048 → EReal) (wkr : Fin 2048 → Fin 128 → EReal)
    (c s₁ s₂ : Fin 128 → EReal) (j : Fin 2048) : EReal :=
  if j.val % 256 < 128 then prodRow kvn w j else laneRope c s₁ s₂ (prodRow xn wkr) ⟨j.val % 256 - 128, by omega⟩

/-- A row of values: per head 128 columns of the product, a one, zeros. -/
def vRow (kvn : Fin 512 → EReal) (w : Fin 512 → Fin 2048 → EReal) (j : Fin 2048) : EReal :=
  if h : j.val % 256 < 128 then prodRow kvn w ⟨j.val + 128, by omega⟩ else if j.val % 256 = 128 then 1 else 0

/-- A row of the gated branch. -/
def cRow (xn : Fin 2048 → EReal) (w : Fin 2048 → Fin 2048 → EReal) (b : Fin 2048 → EReal) (j : Fin 1024) : EReal :=
  (prodRow xn w ⟨j.val, by omega⟩ + b ⟨j.val, by omega⟩) * Ideal.logistic (prodRow xn w ⟨1024 + j.val, by omega⟩ + b ⟨1024 + j.val, by omega⟩)

/-- The normalized activations' row. -/
def xnRow (x g : Fin 2048 → EReal) : Fin 2048 → EReal := normRow (Ideal.ofBits .f32 0x45000000#32) x g

/-- The normalized query latents' row. -/
def qnRow (xn : Fin 2048 → EReal) (w : Fin 2048 → Fin 768 → EReal) (g : Fin 768 → EReal) : Fin 768 → EReal :=
  normRow (Ideal.ofBits .f32 0x44400000#32) (prodRow xn w) g

/-- The normalized key and value latents' row. -/
def kvnRow (xn : Fin 2048 → EReal) (w : Fin 2048 → Fin 512 → EReal) (g : Fin 512 → EReal) : Fin 512 → EReal :=
  normRow (Ideal.ofBits .f32 0x44000000#32) (prodRow xn w) g

/-! ## The payloads -/

section Payloads

variable (p : Fin 512)

theorem pay6_apply (A : Vec Ideal S512x2048 .f32) (g : Vec Ideal S1x2048 .f32) (d : Fin 2048) :
    k0_pay6 (F := Ideal) A g (ix2 p d) = xnRow (mat A p) (mat g 0) d := by
  unfold k0_pay6
  exact norm_apply (k := 2048) _ _ _ _ _ _ p d (mat A p) (fun d => congrFun (shapeCast_self A _) (ix2 p d))
    ((squares_apply (k := 2048) _ _ p).trans (Finset.sum_congr rfl fun e _ => congrArg₂ (· * ·) (congrFun (shapeCast_self A _) (ix2 p e)) (congrFun (shapeCast_self A _) (ix2 p e))))

variable (xn : FVec Ideal S512x2048 .bf16) (r : Fin 2048 → EReal) (hx : ∀ d, xn (ix2 p d) = r d)
include hx

theorem pay13_apply (W : Vec Ideal S2048x768 .bf16) (g : Vec Ideal S1x768 .f32) (j : Fin 768) :
    k0_pay13 (F := Ideal) xn W g (ix2 p j) = qnRow r (mat W) (mat g 0) j := by
  have hp : ∀ j : Fin 768, matmul (φ₁ := .bf16) (φ₂ := .bf16) dot_S512x2048_S2048x768_S512x768_1_0_0_1_n_n none xn
      (shapeCast S2048x768 W shapeCasts_S2048x768_S2048x768) (constant (F := Ideal) S512x768 .f32 0x00000000#32) (ix2 p j) = prodRow r (mat W) j :=
    fun j => product_apply xn _ p j r hx _ fun d => congrFun (shapeCast_self W _) (ix2 d j)
  unfold k0_pay13
  exact norm_apply (k := 768) _ _ _ _ _ _ p j _ hp
    ((squares_apply (k := 768) _ _ p).trans (Finset.sum_congr rfl fun e _ => congrArg₂ (· * ·) (hp e) (hp e)))

theorem pay14_apply (W : Vec Ideal S2048x512 .bf16) (j : Fin 512) : k0_pay14 (F := Ideal) xn W (ix2 p j) = prodRow r (mat W) j :=
  product_apply xn _ p j r hx _ fun d => congrFun (shapeCast_self W _) (ix2 d j)

theorem pay16_apply (W : Vec Ideal S2048x512 .bf16) (g : Vec Ideal S1x512 .f32) (j : Fin 512) :
    k0_pay16 (F := Ideal) (k0_pay14 xn W) g (k0_pay15 xn W) (Scalar.ofBits .f32 0x44000000#32) (ix2 p j) = kvnRow r (mat W) (mat g 0) j := by
  have hp := pay14_apply p xn r hx W
  unfold k0_pay16 k0_pay15
  exact norm_apply (k := 512) _ _ _ _ _ _ p j _ hp
    ((squares_apply (k := 512) _ _ p).trans (Finset.sum_congr rfl fun e _ => congrArg₂ (· * ·) (hp e) (hp e)))

theorem pay12_apply (c s₁ s₂ : FVec Ideal S512x128 .f32) (W : Vec Ideal S2048x128 .bf16) (l : Fin 128) :
    k0_pay12 (F := Ideal) xn c s₁ s₂ W (ix2 p l) = laneRope (mat c p) (mat s₁ p) (mat s₂ p) (prodRow r (mat W)) l := by
  unfold k0_pay12
  exact rope_apply _ c s₁ s₂ p l _ fun l => product_apply xn _ p l r hx _ fun d => congrFun (shapeCast_self W _) (ix2 d l)

omit hx in
theorem pay10_apply (A : Vec Ideal S512x2048 .f32) (g : Vec Ideal S1x2048 .f32) (w₁ : Vec Ideal S2048x1024 .bf16) (b₁ : Vec Ideal S1x1024 .f32)
    (w₂ : Vec Ideal S2048x1024 .bf16) (b₂ : Vec Ideal S1x1024 .f32) (j : Fin 1024) :
    k0_pay11 (F := Ideal) (k0_pay10 A g w₁ b₁ w₂ b₂) (ix2 p j)
      = (prodRow (xnRow (mat A p) (mat g 0)) (mat w₁) j + mat b₁ 0 j) * Ideal.logistic (prodRow (xnRow (mat A p) (mat g 0)) (mat w₂) j + mat b₂ 0 j) := by
  have hb : ∀ b : Vec Ideal S1x1024 .f32, broadcastTo S512x1024 b broadcasts_S1x1024_S512x1024 (ix2 p j) = mat b 0 j := fun b =>
    broadcastTo_apply _ _ (ix2 p j) (ix2 0 j) (fun a => match a with | ⟨0, _⟩ => rfl | ⟨1, _⟩ => rfl)
  have hp : ∀ w : Vec Ideal S2048x1024 .bf16, matmul (φ₁ := .bf16) (φ₂ := .bf16) dot_S512x2048_S2048x1024_S512x1024_1_0_0_1_n_n none (k0_pay6 (F := Ideal) A g)
      (shapeCast S2048x1024 w shapeCasts_S2048x1024_S2048x1024) (constant (F := Ideal) S512x1024 .f32 0x00000000#32) (ix2 p j)
        = prodRow (xnRow (mat A p) (mat g 0)) (mat w) j := fun w =>
    product_apply _ _ p j _ (pay6_apply p A g) _ fun d => congrFun (shapeCast_self w _) (ix2 d j)
  unfold k0_pay11 k0_pay10
  exact congrArg₂ (· * ·) (congrArg₂ (· + ·) (hp w₁) (hb b₁)) (congrArg Ideal.logistic (congrArg₂ (· + ·) (hp w₂) (hb b₂)))

omit hx xn r

theorem pay18_apply (qn : FVec Ideal S512x768 .bf16) (r : Fin 768 → EReal) (hq : ∀ d, qn (ix2 p d) = r d) (W : Vec Ideal S768x1024 .bf16) (j : Fin 1024) :
    k0_pay18 (F := Ideal) qn W (ix2 p j) = prodRow r (mat W) j :=
  product_apply qn _ p j r hq _ fun d => congrFun (shapeCast_self W _) (ix2 d j)

theorem pay19_apply (qn : FVec Ideal S512x768 .bf16) (r : Fin 768 → EReal) (hq : ∀ d, qn (ix2 p d) = r d) (W : Vec Ideal S768x512 .bf16) (j : Fin 512) :
    k0_pay19 (F := Ideal) qn W (ix2 p j) = prodRow r (mat W) j :=
  product_apply qn _ p j r hq _ fun d => congrFun (shapeCast_self W _) (ix2 d j)

theorem pay3_apply (kvn : FVec Ideal S512x512 .bf16) (r : Fin 512 → EReal) (hk : ∀ d, kvn (ix2 p d) = r d) (W : Vec Ideal S512x256 .f32) (j : Fin 256) :
    k0_pay3 (F := Ideal) kvn W (ix2 p j) = prodRow r (mat W) j :=
  product_apply kvn _ p j r hk _ fun d => congrFun (shapeCast_self W _) (ix2 d j)

end Payloads

/-! ## Pieces of an output block -/

/-- A stored block of 128 columns holds the columns of `G` from `o` on. -/
def Holds (G : S512x2048.Idx → EReal) (o : ℕ) (P : S512x128.Idx → EReal) : Prop :=
  ∀ (p : Fin 512) (l : Fin 128) (j : Fin 2048), j.val = o + l.val → P (ix2 p l) = G (ix2 p j)

theorem Holds.piece {G : S512x2048.Idx → EReal} {o : ℕ} {P : S512x128.Idx → EReal} (h : Holds G o P)
    (inb : ∀ a, (![0, o] : Fin 2 → ℕ) a + S512x128.size a ≤ S512x2048.size a) (x : S512x128.Idx) :
    P x = G ((Rect.unit (s := S512x2048) ![0, o] S512x128.size inb).emb x) := by
  have h1 : o + 128 ≤ 2048 := inb 1
  have b1 : (x 1).val < 128 := (x 1).isLt
  refine (congrArg P (eq_ix2 (n0 := 512) (n1 := 128) x)).trans ((h (x 0) (x 1) ⟨o + (x 1).val, by omega⟩ rfl).trans ?_)
  refine congrArg G (funext fun a => Fin.ext ?_)
  match a with
  | ⟨0, _⟩ => show (x 0).val = 0 + 1 * (x 0).val; omega
  | ⟨1, _⟩ => show o + (x 1).val = o + 1 * (x 1).val; omega

/-- What a load of the columns from `o` on reads. -/
theorem ld_cut {M N w : ℕ} {e : EltTy} (X : (⟨2, ![M, N]⟩ : Shape).Idx → Elt Ideal e) (o : ℕ)
    (inb : ∀ a, (![0, o] : Fin 2 → ℕ) a + (⟨2, ![M, w]⟩ : Shape).size a ≤ (⟨2, ![M, N]⟩ : Shape).size a) (p : Fin M) (q : Fin w) (j : Fin N) (hj : j.val = o + q.val) :
    View.ld (Val := Elt Ideal) (e' := e) X (Rect.unit (s := ⟨2, ![M, N]⟩) ![0, o] (⟨2, ![M, w]⟩ : Shape).size inb) (ix2 p q) = X (ix2 p j) := by
  refine congrArg X (funext fun a => Fin.ext ?_)
  match a with
  | ⟨0, _⟩ => show 0 + 1 * p.val = p.val; omega
  | ⟨1, _⟩ => show o + 1 * q.val = j.val; omega

/-- The product's columns of one head, scaled. -/
def nopeOf (v : FVec Ideal S512x1024 .f32) (o : ℕ) (h : S512x1024.Slices ![0, o] S512x128) : FVec Ideal S512x128 .bf16 :=
  truncf .bf16 (mulf (extractStridedSlice S512x128 ![0, o] v h) (broadcast S512x128 (Named.named (F := Ideal) κ "q_scale" 0x3DD53B95#32))) bitsLt_bf16_f32

/-- The rotary embedding of two heads' lanes, scaled. -/
def pairOf (v : FVec Ideal S512x512 .f32) (c s₁ s₂ : FVec Ideal S512x128 .f32) (o : ℕ) (h : S512x512.Slices ![0, o] S512x128) : FVec Ideal S512x128 .f32 :=
  mulf (addf (addf (mulf (extractStridedSlice S512x128 ![0, o] v h) c)
      (mulf (dynamicRotate 1 32#32 none (extractStridedSlice S512x128 ![0, o] v h) rotates_S512x128_d1) s₁))
      (mulf (dynamicRotate 1 96#32 none (extractStridedSlice S512x128 ![0, o] v h) rotates_S512x128_d1) s₂))
    (broadcast S512x128 (Named.named (F := Ideal) κ "q_scale" 0x3DD53B95#32))

/-- The first 64 lanes, then zeros. -/
def halfOf (x : FVec Ideal S512x128 .f32) : FVec Ideal S512x128 .bf16 :=
  truncf .bf16 (select (cmpi .slt (iota .tc S512x128 32 [1] iota_S512x128_d1_w32) (broadcast S512x128 64#32)) x
    (broadcast S512x128 (Scalar.ofBits .f32 0x00000000#32))) bitsLt_bf16_f32

/-- The queries' block. -/
def qBlock (qn : Fin 512 → Fin 768 → EReal) (wq : Fin 768 → Fin 1536 → EReal) (c s₁ s₂ : Fin 512 → Fin 128 → EReal) : S512x2048.Idx → EReal :=
  fun y => qRow (qn (y 0)) wq (c (y 0)) (s₁ (y 0)) (s₂ (y 0)) (y 1)

/-- The keys' block. -/
def kBlock (kvn : Fin 512 → Fin 512 → EReal) (w : Fin 512 → Fin 2048 → EReal) (xn : Fin 512 → Fin 2048 → EReal) (wkr : Fin 2048 → Fin 128 → EReal)
    (c s₁ s₂ : Fin 512 → Fin 128 → EReal) : S512x2048.Idx → EReal :=
  fun y => kRow (kvn (y 0)) w (xn (y 0)) wkr (c (y 0)) (s₁ (y 0)) (s₂ (y 0)) (y 1)

/-- The values' block. -/
def vBlock (kvn : Fin 512 → Fin 512 → EReal) (w : Fin 512 → Fin 2048 → EReal) : S512x2048.Idx → EReal := fun y => vRow (kvn (y 0)) w (y 1)

section Pieces

variable {qn : Fin 512 → Fin 768 → EReal} {wq : Fin 768 → Fin 1536 → EReal} {c s₁ s₂ : FVec Ideal S512x128 .f32}

theorem nope_holds (n : ℕ) (hn : n < 8) (v : FVec Ideal S512x1024 .f32) (hv : ∀ (p : Fin 512) (j : Fin 1024), v (ix2 p j) = prodRow (qn p) wq ⟨j.val, by omega⟩)
    (o : ℕ) (ho : o = 128 * n) (h : S512x1024.Slices ![0, o] S512x128) :
    Holds (qBlock qn wq (mat c) (mat s₁) (mat s₂)) (256 * n) (nopeOf v o h) := by
  intro p l j hj
  have hl := l.isLt
  show extractStridedSlice S512x128 ![0, o] v h (ix2 p l) * Named.named (F := Ideal) κ "q_scale" (φ := .f32) 0x3DD53B95#32 = qRow (qn p) wq _ _ _ j
  unfold qRow
  rw [named_scale, if_pos (by omega), cut_apply v o h p l ⟨o + l.val, by omega⟩ rfl, hv]
  exact congrArg (fun k => prodRow (qn p) wq k * qScale) (Fin.ext (by show o + l.val = 128 * (j.val / 256) + j.val % 256; omega))

theorem pair_apply (a : ℕ) (ha : a < 4) (v : FVec Ideal S512x512 .f32) (hv : ∀ (p : Fin 512) (j : Fin 512), v (ix2 p j) = prodRow (qn p) wq ⟨1024 + j.val, by omega⟩)
    (o : ℕ) (ho : o = 128 * a) (h : S512x512.Slices ![0, o] S512x128) (p : Fin 512) (l : Fin 128) :
    pairOf v c s₁ s₂ o h (ix2 p l)
      = laneRope (mat c p) (mat s₁ p) (mat s₂ p) (fun l => prodRow (qn p) wq ⟨1024 + 128 * a + l.val, by omega⟩) l * qScale := by
  refine congrArg₂ (· * ·) (rope_apply _ c s₁ s₂ p l _ fun l => ?_) named_scale
  rw [cut_apply v o h p l ⟨o + l.val, by omega⟩ rfl, hv]
  exact congrArg (prodRow (qn p) wq) (Fin.ext (by show 1024 + (o + l.val) = 1024 + 128 * a + l.val; omega))

theorem even_holds (a : ℕ) (ha : a < 4) (v : FVec Ideal S512x512 .f32) (hv : ∀ (p : Fin 512) (j : Fin 512), v (ix2 p j) = prodRow (qn p) wq ⟨1024 + j.val, by omega⟩)
    (o : ℕ) (ho : o = 128 * a) (h : S512x512.Slices ![0, o] S512x128) :
    Holds (qBlock qn wq (mat c) (mat s₁) (mat s₂)) (512 * a + 128) (halfOf (pairOf v c s₁ s₂ o h)) := by
  intro p l j hj
  have hl := l.isLt
  refine (half_apply _ p l).trans ?_
  show _ = qRow (qn p) wq (mat c p) (mat s₁ p) (mat s₂ p) j
  unfold qRow
  rw [if_neg (show ¬ j.val % 256 < 128 by omega), pair_apply a ha v hv o ho h p l]
  by_cases hh : l.val < 64
  · rw [if_pos hh, dif_pos (show j.val % 256 < 192 by omega)]
    refine congrArg (· * qScale) (congrArg₂ (laneRope (mat c p) (mat s₁ p) (mat s₂ p)) (funext fun e => congrArg (prodRow (qn p) wq) (Fin.ext ?_)) (Fin.ext ?_))
    · show 1024 + 128 * a + e.val = 1024 + 128 * (j.val / 512) + e.val; omega
    · show l.val = 64 * (j.val / 256 % 2) + (j.val % 256 - 128); omega
  · rw [if_neg hh, dif_neg (by omega)]

theorem odd_holds (a : ℕ) (ha : a < 4) (v : FVec Ideal S512x512 .f32) (hv : ∀ (p : Fin 512) (j : Fin 512), v (ix2 p j) = prodRow (qn p) wq ⟨1024 + j.val, by omega⟩)
    (o : ℕ) (ho : o = 128 * a) (h : S512x512.Slices ![0, o] S512x128) :
    Holds (qBlock qn wq (mat c) (mat s₁) (mat s₂)) (512 * a + 384) (halfOf (dynamicRotate 1 64#32 none (pairOf v c s₁ s₂ o h) rotates_S512x128_d1)) := by
  intro p l j hj
  have hl := l.isLt
  refine (half_apply _ p l).trans ?_
  show _ = qRow (qn p) wq (mat c p) (mat s₁ p) (mat s₂ p) j
  unfold qRow
  rw [if_neg (show ¬ j.val % 256 < 128 by omega), rotate_apply _ 64#32 64 rfl p l, pair_apply a ha v hv o ho h p]
  by_cases hh : l.val < 64
  · rw [if_pos hh, dif_pos (show j.val % 256 < 192 by omega)]
    refine congrArg (· * qScale) (congrArg₂ (laneRope (mat c p) (mat s₁ p) (mat s₂ p)) (funext fun e => congrArg (prodRow (qn p) wq) (Fin.ext ?_)) (Fin.ext ?_))
    · show 1024 + 128 * a + e.val = 1024 + 128 * (j.val / 512) + e.val; omega
    · show (l.val + (128 - 64)) % 128 = 64 * (j.val / 256 % 2) + (j.val % 256 - 128); omega
  · rw [if_neg hh, dif_neg (by omega)]

variable {kvn : Fin 512 → Fin 512 → EReal} {w : S512x2048.Idx → EReal} {xn : Fin 512 → Fin 2048 → EReal} {wkr : Fin 2048 → Fin 128 → EReal}

/-- One head's columns of the keys' and values' product. -/
theorem kv_apply (v : FVec Ideal S512x512 .bf16) (hv : ∀ (p : Fin 512) (j : Fin 512), v (ix2 p j) = kvn p j) (o : ℕ)
    (inb : ∀ a, (![0, o] : Fin 2 → ℕ) a + S512x256.size a ≤ S512x2048.size a) (p : Fin 512) (q : Fin 256) (j : Fin 2048) (hj : j.val = o + q.val) :
    k0_pay3 (F := Ideal) v (View.ld (Val := Elt Ideal) (e' := .f32) w (Rect.unit (s := S512x2048) ![0, o] S512x256.size inb)) (ix2 p q) = prodRow (kvn p) (mat w) j :=
  (pay3_apply p v _ (hv p) _ q).trans (Finset.sum_congr rfl fun d _ => congrArg (kvn p d * ·) (ld_cut (e := .f32) w o inb d q j hj))

theorem key_holds (n : ℕ) (hn : n < 8) (v : FVec Ideal S512x512 .bf16) (hv : ∀ (p : Fin 512) (j : Fin 512), v (ix2 p j) = kvn p j) (o : ℕ) (ho : o = 256 * n)
    (inb : ∀ a, (![0, o] : Fin 2 → ℕ) a + S512x256.size a ≤ S512x2048.size a) :
    Holds (kBlock kvn (mat w) xn wkr (mat c) (mat s₁) (mat s₂)) o
      (k0_pay4 (F := Ideal) v (View.ld (Val := Elt Ideal) (e' := .f32) w (Rect.unit (s := S512x2048) ![0, o] S512x256.size inb))) := by
  intro p l j hj
  have hl := l.isLt
  show extractStridedSlice S512x128 ![0, 0] (k0_pay3 (F := Ideal) v _) slices_S512x256_o0_0_S512x128 (ix2 p l) = kRow (kvn p) (mat w) _ _ _ _ _ j
  unfold kRow
  rw [if_pos (by omega)]
  exact (cut_apply _ 0 _ p l ⟨l.val, by omega⟩ (by show l.val = 0 + l.val; omega)).trans (kv_apply v hv o inb p _ j hj)

theorem value_holds (n : ℕ) (hn : n < 8) (v : FVec Ideal S512x512 .bf16) (hv : ∀ (p : Fin 512) (j : Fin 512), v (ix2 p j) = kvn p j) (o : ℕ) (ho : o = 256 * n)
    (inb : ∀ a, (![0, o] : Fin 2 → ℕ) a + S512x256.size a ≤ S512x2048.size a) :
    Holds (vBlock kvn (mat w)) o
      (k0_pay5 (F := Ideal) v (View.ld (Val := Elt Ideal) (e' := .f32) w (Rect.unit (s := S512x2048) ![0, o] S512x256.size inb))) := by
  intro p l j hj
  have hl := l.isLt
  show extractStridedSlice S512x128 ![0, 128] (k0_pay3 (F := Ideal) v _) slices_S512x256_o0_128_S512x128 (ix2 p l) = vRow (kvn p) (mat w) j
  unfold vRow
  rw [dif_pos (by omega)]
  exact (cut_apply _ 128 _ p l ⟨128 + l.val, by omega⟩ rfl).trans (kv_apply v hv o inb p _ ⟨j.val + 128, by omega⟩ (by show j.val + 128 = o + (128 + l.val); omega))

theorem shared_holds (n : ℕ) (hn : n < 8) (x : S512x128.Idx → EReal)
    (hx : ∀ (p : Fin 512) (l : Fin 128), x (ix2 p l) = laneRope (mat c p) (mat s₁ p) (mat s₂ p) (prodRow (xn p) wkr) l) (o : ℕ) (ho : o = 256 * n + 128) :
    Holds (kBlock kvn (mat w) xn wkr (mat c) (mat s₁) (mat s₂)) o x := by
  intro p l j hj
  have hl := l.isLt
  show _ = kRow (kvn p) (mat w) (xn p) wkr (mat c p) (mat s₁ p) (mat s₂ p) j
  unfold kRow
  rw [if_neg (by omega), hx]
  exact congrArg _ (Fin.ext (by show l.val = j.val % 256 - 128; omega))

theorem ones_holds (n : ℕ) (hn : n < 8) (o : ℕ) (ho : o = 256 * n + 128) : Holds (vBlock kvn (mat w)) o (k0_pay17 (F := Ideal)) := by
  intro p l j hj
  have hl := l.isLt
  refine (ones_apply p l).trans ?_
  show _ = vRow (kvn p) (mat w) j
  unfold vRow
  rw [dif_neg (by omega)]
  exact if_congr (by omega) rfl rfl

end Pieces

end Cert.Proof.Proj

end
-- ==== Proof.ProjHost.lean ====
/-
  The arrays the host builds for the projection call, element by element: the weights' columns, and the tables of
  cosines and sines laid over 128 lanes.
-/
module

public import proofs.«01_k».proof.Proof.ProjBlock
public import proofs.«01_k».proof.Proof.Gen.ProjRefIdeal.Read
public import Idealize.ShloMosaic.Lib.Pipeline.Value
public import Idealize.ShloMosaic.Lib.StableHlo.Run

@[expose] public section

set_option maxRecDepth 16384

noncomputable section

namespace Cert.Proof.Proj

open Cert.ProjIdeal Cert.ProjIdeal.Gen Idealize.ShloMosaic Idealize.ShloMosaic.TcCoe Idealize.SL.Sem
open Idealize.ShloMosaic.ValueIdx

variable (m : (ℓ : Loc nD τ sig) → Buf (Elt Ideal) ℓ) (c : Dev nD)

/-! ## The weights -/

/-- The input weight. -/
def wIn : S1x2048x3392.Idx → EReal := m ((c.tc : Thread nD τ).loc main_arg2)

/-- The queries' second weight. -/
def wUq : S1x768x1536.Idx → EReal := m ((c.tc : Thread nD τ).loc main_arg5)

/-- A range of the input weight's columns. -/
theorem input_cut {n : ℕ} (o : ℕ) (h : S2048x3392.Slices ![0, o] ⟨2, ![2048, n]⟩) (x : S1x2048x3392.Idx → EReal) (d : Fin 2048) (j : Fin n) (k : Fin 3392)
    (hk : k.val = o + j.val) :
    extractStridedSlice ⟨2, ![2048, n]⟩ ![0, o] (shapeCast S2048x3392 x shapeCasts_S1x2048x3392_S2048x3392) h (ix2 d j) = x (ix3 0 d k) := by
  refine (extractStridedSlice_apply _ _ h (ix2 d j) (ix2 d k) (fun a => match a with
    | ⟨0, _⟩ => (Nat.zero_add _).symm
    | ⟨1, _⟩ => hk)).trans ?_
  refine shapeCast_apply _ _ _ (ix3 0 d k) ?_
  refine (Shape.rowMajor_val_three _).trans (Eq.trans ?_ (Shape.rowMajor_val_two _).symm)
  show (0 * 2048 + d.val) * 3392 + k.val = d.val * 3392 + k.val
  omega

theorem latents_apply (d : Fin 2048) (j : Fin 1280) (k : Fin 3392) (hk : k.val = j.val) : mat (V m c main_v2) d j = wIn m c (ix3 0 d k) := by
  have he : V m c main_v2 = truncf (F := Ideal) .bf16 (extractStridedSlice S2048x1280 ![0, 0]
      (shapeCast S2048x3392 (wIn m c) shapeCasts_S1x2048x3392_S2048x3392) slices_S2048x3392_S2048x1280_0_0 : FVec Ideal S2048x1280 .f32) bitsLt_bf16_f32 := by
    unfold V
    after_results <;> rfl
  rw [he]
  exact input_cut 0 slices_S2048x3392_S2048x1280_0_0 (wIn m c) d j k (by omega)

theorem gates_apply (d : Fin 2048) (j : Fin 2048) (k : Fin 3392) (hk : k.val = 1344 + j.val) : mat (V m c main_v4) d j = wIn m c (ix3 0 d k) := by
  have he : V m c main_v4 = truncf (F := Ideal) .bf16 (extractStridedSlice S2048x2048 ![0, 1344]
      (shapeCast S2048x3392 (wIn m c) shapeCasts_S1x2048x3392_S2048x3392) slices_S2048x3392_S2048x2048_0_1344 : FVec Ideal S2048x2048 .f32) bitsLt_bf16_f32 := by
    unfold V
    after_results <;> rfl
  rw [he]
  exact input_cut 1344 slices_S2048x3392_S2048x2048_0_1344 (wIn m c) d j k hk

/-- The rotary key's weight: the 64 columns, and columns of zeros. -/
theorem rotary_eq : V m c main_v8 = truncf (F := Ideal) .bf16 (concatenate S2048x128 1
    [⟨S2048x64, extractStridedSlice S2048x64 ![0, 1280] (shapeCast S2048x3392 (wIn m c) shapeCasts_S1x2048x3392_S2048x3392) slices_S2048x3392_S2048x64_0_1280⟩,
      ⟨S2048x64, broadcastInDim S2048x64 ![] bcast_S_S2048x64 (constant (F := Ideal) S_ .f32 0x00000000#32)⟩]
    concatenates_S2048x64_S2048x64_S2048x128_d1 : FVec Ideal S2048x128 .f32) bitsLt_bf16_f32 := by
  unfold V
  after_results <;> rfl

/-- Two blocks of columns side by side: the first. -/
theorem beside_first {r a b w : ℕ} (x : (⟨2, ![r, a]⟩ : Shape).Idx → EReal) (y : (⟨2, ![r, b]⟩ : Shape).Idx → EReal)
    (h : Shape.Concatenates [⟨2, ![r, a]⟩, ⟨2, ![r, b]⟩] ⟨2, ![r, w]⟩ 1) (d : Fin r) (l : Fin w) (e : Fin a) (he : l.val = e.val) :
    concatenate ⟨2, ![r, w]⟩ 1 [⟨⟨2, ![r, a]⟩, x⟩, ⟨⟨2, ![r, b]⟩, y⟩] h (ix2 d l) = x (ix2 d e) :=
  concatenate_apply_piece 1 [⟨_, x⟩, ⟨_, y⟩] h _ 0 (by simp) _ x rfl rfl 0 rfl (ix2 d e)
    (fun c hc => match c, hc with | ⟨0, _⟩, _ => rfl | ⟨1, _⟩, hc => absurd rfl hc) ((Nat.zero_add _).trans he.symm)

/-- The second. -/
theorem beside_second {r a b w : ℕ} (x : (⟨2, ![r, a]⟩ : Shape).Idx → EReal) (y : (⟨2, ![r, b]⟩ : Shape).Idx → EReal)
    (h : Shape.Concatenates [⟨2, ![r, a]⟩, ⟨2, ![r, b]⟩] ⟨2, ![r, w]⟩ 1) (d : Fin r) (l : Fin w) (e : Fin b) (he : l.val = a + e.val) :
    concatenate ⟨2, ![r, w]⟩ 1 [⟨⟨2, ![r, a]⟩, x⟩, ⟨⟨2, ![r, b]⟩, y⟩] h (ix2 d l) = y (ix2 d e) :=
  concatenate_apply_piece 1 [⟨_, x⟩, ⟨_, y⟩] h _ 1 (by simp) _ y rfl rfl a (Nat.add_zero _) (ix2 d e)
    (fun c hc => match c, hc with | ⟨0, _⟩, _ => rfl | ⟨1, _⟩, hc => absurd rfl hc) he.symm

theorem rotary_apply (d : Fin 2048) (l : Fin 128) (e : Fin 64) (hl : l.val = e.val) (k : Fin 3392) (hk : k.val = 1280 + e.val) :
    mat (V m c main_v8) d l = wIn m c (ix3 0 d k) := by
  rw [rotary_eq]
  exact (beside_first _ _ concatenates_S2048x64_S2048x64_S2048x128_d1 d l e hl).trans (input_cut 1280 _ (wIn m c) d e k hk)

theorem rotary_zero (d : Fin 2048) (l : Fin 128) (hl : 64 ≤ l.val) : mat (V m c main_v8) d l = 0 := by
  rw [rotary_eq]
  refine (beside_second _ _ concatenates_S2048x64_S2048x64_S2048x128_d1 d l ⟨l.val - 64, by omega⟩ (by show l.val = 64 + (l.val - 64); omega)).trans ?_
  exact (broadcastInDim_apply ![] bcast_S_S2048x64 (constant (F := Ideal) S_ .f32 0x00000000#32) _ ix0 (fun a => a.elim0)).trans zero_bits

/-- The queries' second weight, head by head. -/
def heads : S768x8x192.Idx → EReal :=
  shapeCast S768x8x192 (shapeCast S768x1536 (wUq m c) shapeCasts_S1x768x1536_S768x1536) shapeCasts_S768x1536_S768x8x192

theorem heads_apply (e : Fin 768) (h : Fin 8) (l : Fin 192) (k : Fin 1536) (hk : k.val = 192 * h.val + l.val) : heads m c (ix3 e h l) = wUq m c (ix3 0 e k) := by
  unfold heads
  refine (shapeCast_apply _ _ _ (ix2 e k) ?_).trans (shapeCast_apply _ _ _ (ix3 0 e k) ?_)
  · refine (Shape.rowMajor_val_two _).trans (Eq.trans ?_ (Shape.rowMajor_val_three _).symm)
    show e.val * 1536 + k.val = (e.val * 8 + h.val) * 192 + l.val
    omega
  · refine (Shape.rowMajor_val_three _).trans (Eq.trans ?_ (Shape.rowMajor_val_two _).symm)
    show (0 * 768 + e.val) * 1536 + k.val = e.val * 1536 + k.val
    omega

/-- The heads' first columns together, then their last. -/
theorem second_eq : V m c main_v16 = truncf (F := Ideal) .bf16 (concatenate S768x1536 1
    [⟨S768x1024, shapeCast S768x1024 (extractStridedSlice S768x8x128 ![0, 0, 0] (heads m c) slices_S768x8x192_S768x8x128_0_0_0) shapeCasts_S768x8x128_S768x1024⟩,
      ⟨S768x512, shapeCast S768x512 (extractStridedSlice S768x8x64 ![0, 0, 128] (heads m c) slices_S768x8x192_S768x8x64_0_0_128) shapeCasts_S768x8x64_S768x512⟩]
    concatenates_S768x1024_S768x512_S768x1536_d1 : FVec Ideal S768x1536 .f32) bitsLt_bf16_f32 := by
  unfold V
  after_results <;> rfl

/-- A range of every head's columns, side by side. -/
theorem heads_cut {w n : ℕ} (o : ℕ) (hs : S768x8x192.Slices ![0, 0, o] ⟨3, ![768, 8, w]⟩) (hc : (⟨3, ![768, 8, w]⟩ : Shape).ShapeCasts ⟨2, ![768, n]⟩) (hn : n = 8 * w)
    (e : Fin 768) (j : Fin n) (h : Fin 8) (l : Fin w) (hj : j.val = w * h.val + l.val) (k : Fin 1536) (hk : k.val = 192 * h.val + (o + l.val)) (ho : o + w ≤ 192) :
    shapeCast ⟨2, ![768, n]⟩ (extractStridedSlice ⟨3, ![768, 8, w]⟩ ![0, 0, o] (heads m c) hs) hc (ix2 e j) = wUq m c (ix3 0 e k) := by
  refine (shapeCast_apply _ hc _ (ix3 e h l) ?_).trans ((extractStridedSlice_apply _ _ hs _ (ix3 e h ⟨o + l.val, by omega⟩) (fun a => match a with
    | ⟨0, _⟩ => (Nat.zero_add _).symm
    | ⟨1, _⟩ => (Nat.zero_add _).symm
    | ⟨2, _⟩ => rfl)).trans (heads_apply m c e h _ k hk))
  refine (Shape.rowMajor_val_three _).trans (Eq.trans ?_ (Shape.rowMajor_val_two _).symm)
  show (e.val * 8 + h.val) * w + l.val = e.val * n + j.val
  rw [hj, hn]; ring

theorem second_nope (e : Fin 768) (h : Fin 8) (l : Fin 128) (j k : Fin 1536) (hj : j.val = 128 * h.val + l.val) (hk : k.val = 192 * h.val + l.val) :
    mat (V m c main_v16) e j = wUq m c (ix3 0 e k) := by
  rw [second_eq]
  refine (beside_first _ _ concatenates_S768x1024_S768x512_S768x1536_d1 e j ⟨j.val, by omega⟩ rfl).trans ?_
  exact heads_cut m c 0 _ _ rfl e _ h l hj k (by omega) (by omega)

theorem second_rope (e : Fin 768) (h : Fin 8) (l : Fin 64) (j k : Fin 1536) (hj : j.val = 1024 + 64 * h.val + l.val) (hk : k.val = 192 * h.val + 128 + l.val) :
    mat (V m c main_v16) e j = wUq m c (ix3 0 e k) := by
  rw [second_eq]
  refine (beside_second _ _ concatenates_S768x1024_S768x512_S768x1536_d1 e j ⟨64 * h.val + l.val, by omega⟩ (by show j.val = 1024 + (64 * h.val + l.val); omega)).trans ?_
  exact heads_cut m c 128 _ _ rfl e _ h l rfl k (by omega) (by omega)

theorem rows_apply (i : Fin 8192) (b : Fin 4) (r d : Fin 2048) (hi : i.val = b.val * 2048 + r.val) :
    mat (V m c main_v41) i d = m ((c.tc : Thread nD τ).loc main_arg0) (ix3 b r d) := by
  have he : V m c main_v41 = shapeCast S8192x2048 (m ((c.tc : Thread nD τ).loc main_arg0)) shapeCasts_S4x2048x2048_S8192x2048 := by
    unfold V
    after_results <;> rfl
  rw [he]
  refine (shapeCast_apply _ _ _ (ix3 b r d) ?_ :)
  refine (Shape.rowMajor_val_three _).trans (Eq.trans ?_ (Shape.rowMajor_val_two _).symm)
  show (b.val * 2048 + r.val) * 2048 + d.val = i.val * 2048 + d.val
  omega

theorem kv_weight_apply (e : Fin 512) (j : Fin 2048) : mat (V m c main_v42) e j = m ((c.tc : Thread nD τ).loc main_arg7) (ix3 (0 : Fin 1) e j) := by
  have he : V m c main_v42 = shapeCast S512x2048 (m ((c.tc : Thread nD τ).loc main_arg7)) shapeCasts_S1x512x2048_S512x2048 := by
    unfold V
    after_results <;> rfl
  rw [he]
  refine (shapeCast_apply _ _ _ (ix3 (0 : Fin 1) e j) ?_ :)
  refine (Shape.rowMajor_val_three _).trans (Eq.trans ?_ (Shape.rowMajor_val_two _).symm)
  show (0 * 512 + e.val) * 2048 + j.val = e.val * 2048 + j.val
  omega

/-! ## The tables -/

/-- The cosines of a position. -/
def cosOf (r : Fin 2048) (e : Fin 32) : EReal := V m c main_v33 (ix2 r e)

/-- The sines. -/
def sinOf (r : Fin 2048) (e : Fin 32) : EReal := V m c main_v34 (ix2 r e)

/-- The reference's cosines are the same. -/
theorem cos_eq : V m c main_v33 = Cert.ProjRefIdeal.Read.val_main_v16 (F := Ideal) := by
  unfold V
  after_results <;> rfl

theorem sin_eq : V m c main_v34 = Cert.ProjRefIdeal.Read.val_main_v17 (F := Ideal) := by
  unfold V
  after_results <;> rfl

/-- Four tables of 32 lanes side by side. -/
def quad (x : Fin 4 → S2048x32.Idx → EReal) : S2048x128.Idx → EReal :=
  concatenate S2048x128 1 [⟨S2048x32, x 0⟩, ⟨S2048x32, x 1⟩, ⟨S2048x32, x 2⟩, ⟨S2048x32, x 3⟩] concatenates_S2048x32_S2048x32_S2048x32_S2048x32_S2048x128_d1

theorem quad_apply (x : Fin 4 → S2048x32.Idx → EReal) (r : Fin 2048) (l : Fin 128) (k : Fin 4) (e : Fin 32) (hl : l.val = 32 * k.val + e.val) :
    quad x (ix2 r l) = x k (ix2 r e) := by
  unfold quad
  match k, hl with
  | ⟨0, _⟩, hl => exact concatenate_apply_piece 1 [⟨_, x 0⟩, ⟨_, x 1⟩, ⟨_, x 2⟩, ⟨_, x 3⟩] _ (ix2 r l) 0 (by simp) _ (x 0) rfl rfl 0 rfl (ix2 r e) (fun c hc => match c, hc with | ⟨0, _⟩, _ => rfl | ⟨1, _⟩, hc => absurd rfl hc) hl.symm
  | ⟨1, _⟩, hl => exact concatenate_apply_piece 1 [⟨_, x 0⟩, ⟨_, x 1⟩, ⟨_, x 2⟩, ⟨_, x 3⟩] _ (ix2 r l) 1 (by simp) _ (x 1) rfl rfl 32 rfl (ix2 r e) (fun c hc => match c, hc with | ⟨0, _⟩, _ => rfl | ⟨1, _⟩, hc => absurd rfl hc) hl.symm
  | ⟨2, _⟩, hl => exact concatenate_apply_piece 1 [⟨_, x 0⟩, ⟨_, x 1⟩, ⟨_, x 2⟩, ⟨_, x 3⟩] _ (ix2 r l) 2 (by simp) _ (x 2) rfl rfl 64 rfl (ix2 r e) (fun c hc => match c, hc with | ⟨0, _⟩, _ => rfl | ⟨1, _⟩, hc => absurd rfl hc) hl.symm
  | ⟨3, _⟩, hl => exact concatenate_apply_piece 1 [⟨_, x 0⟩, ⟨_, x 1⟩, ⟨_, x 2⟩, ⟨_, x 3⟩] _ (ix2 r l) 3 (by simp) _ (x 3) rfl rfl 96 rfl (ix2 r e) (fun c hc => match c, hc with | ⟨0, _⟩, _ => rfl | ⟨1, _⟩, hc => absurd rfl hc) hl.symm

theorem cos_table : V m c main_v36 = quad ![V m c main_v33, V m c main_v33, V m c main_v33, V m c main_v33] := by
  unfold V
  after_results <;> rfl

theorem before_table : V m c main_v37 = quad ![V m c main_v35, V m c main_v34, V m c main_v35, V m c main_v34] := by
  unfold V
  after_results <;> rfl

theorem after_table : V m c main_v40 = quad ![V m c main_v38, V m c main_v35, V m c main_v38, V m c main_v35] := by
  unfold V
  after_results <;> rfl

theorem zeros_eq (r : Fin 2048) (e : Fin 32) : (show EReal from V m c main_v35 (ix2 r e)) = 0 := by
  have he : V m c main_v35 = broadcastInDim S2048x32 ![] bcast_S_S2048x32 (constant (F := Ideal) S_ .f32 0x00000000#32) := by
    unfold V
    after_results <;> rfl
  rw [he]
  exact (broadcastInDim_apply ![] bcast_S_S2048x32 (constant (F := Ideal) S_ .f32 0x00000000#32) _ ix0 (fun a => a.elim0)).trans zero_bits

theorem neg_eq (r : Fin 2048) (e : Fin 32) : (show EReal from V m c main_v38 (ix2 r e)) = -sinOf m c r e := by
  have he : V m c main_v38 = Host.negf (F := Ideal) (φ := .f32) (V m c main_v34) := by
    unfold V
    after_results <;> rfl
  rw [he]
  rfl

theorem cos_apply (r : Fin 2048) (l : Fin 128) (j : Fin 32) (hj : l.val % 32 = j.val) : mat (V m c main_v36) r l = cosOf m c r j := by
  rw [cos_table]
  refine (quad_apply _ r l ⟨l.val / 32, by omega⟩ j (by show l.val = 32 * (l.val / 32) + j.val; omega)).trans ?_
  generalize (⟨l.val / 32, _⟩ : Fin 4) = k
  match k with
  | ⟨0, _⟩ => rfl
  | ⟨1, _⟩ => rfl
  | ⟨2, _⟩ => rfl
  | ⟨3, _⟩ => rfl

theorem before_zero (r : Fin 2048) (l : Fin 128) (hl : l.val / 32 % 2 = 0) : mat (V m c main_v37) r l = 0 := by
  rw [before_table]
  refine (quad_apply _ r l ⟨l.val / 32, by omega⟩ ⟨l.val % 32, by omega⟩ (by show l.val = 32 * (l.val / 32) + l.val % 32; omega)).trans ?_
  rcases (show l.val / 32 = 0 ∨ l.val / 32 = 2 by omega) with h | h <;> simp only [h] <;> exact zeros_eq m c r _

theorem before_apply (r : Fin 2048) (l : Fin 128) (j : Fin 32) (hl : l.val / 32 % 2 = 1) (hj : l.val % 32 = j.val) : mat (V m c main_v37) r l = sinOf m c r j := by
  rw [before_table]
  refine (quad_apply _ r l ⟨l.val / 32, by omega⟩ j (by show l.val = 32 * (l.val / 32) + j.val; omega)).trans ?_
  rcases (show l.val / 32 = 1 ∨ l.val / 32 = 3 by omega) with h | h <;> simp only [h] <;> rfl

theorem after_apply (r : Fin 2048) (l : Fin 128) (j : Fin 32) (hl : l.val / 32 % 2 = 0) (hj : l.val % 32 = j.val) : mat (V m c main_v40) r l = -sinOf m c r j := by
  rw [after_table]
  refine (quad_apply _ r l ⟨l.val / 32, by omega⟩ j (by show l.val = 32 * (l.val / 32) + j.val; omega)).trans ?_
  rcases (show l.val / 32 = 0 ∨ l.val / 32 = 2 by omega) with h | h <;> simp only [h] <;> exact neg_eq m c r j

theorem after_zero (r : Fin 2048) (l : Fin 128) (hl : l.val / 32 % 2 = 1) : mat (V m c main_v40) r l = 0 := by
  rw [after_table]
  refine (quad_apply _ r l ⟨l.val / 32, by omega⟩ ⟨l.val % 32, by omega⟩ (by show l.val = 32 * (l.val / 32) + l.val % 32; omega)).trans ?_
  rcases (show l.val / 32 = 1 ∨ l.val / 32 = 3 by omega) with h | h <;> simp only [h] <;> exact zeros_eq m c r _

end Cert.Proof.Proj

end
-- ==== Proof.ProjRef.lean ====
/-
  The reference's results, element by element, in the same rows: the normalized activations and latents, their products
  with the weights, the rotary embeddings and the gated branch.
-/
module

public import proofs.«01_k».proof.Proof.Gen.ProjRefIdeal.Read
public import proofs.«01_k».proof.Proof.ProjBlock
public import proofs.«01_k».proof.Proof.AttentionHost
public import Idealize.ShloMosaic.Lib.IdealHost
public import Idealize.ShloMosaic.Lib.Pipeline.Value

@[expose] public section

set_option maxRecDepth 16384

noncomputable section

namespace Cert.Proof.ProjRef

open Cert.ProjRefIdeal Cert.ProjRefIdeal.Gen Cert.ProjRefIdeal.Read Idealize.ShloMosaic
open Idealize.ShloMosaic.ValueIdx Cert.Proof.Proj

/-- An array of two axes at an index with these coordinates. -/
theorem at2 {n₀ n₁ : ℕ} (f : (⟨2, ![n₀, n₁]⟩ : Shape).Idx → EReal) (k : (⟨2, ![n₀, n₁]⟩ : Shape).Idx) (i : Fin n₀) (j : Fin n₁)
    (h₀ : (k 0).val = i.val) (h₁ : (k 1).val = j.val) : f k = f (ix2 i j) :=
  congrArg f (funext fun a => Fin.ext (match a with | ⟨0, _⟩ => h₀ | ⟨1, _⟩ => h₁))

/-- The same of three axes. -/
theorem at3 {n₀ n₁ n₂ : ℕ} (f : (⟨3, ![n₀, n₁, n₂]⟩ : Shape).Idx → EReal) (k : (⟨3, ![n₀, n₁, n₂]⟩ : Shape).Idx) (i : Fin n₀) (j : Fin n₁) (l : Fin n₂)
    (h₀ : (k 0).val = i.val) (h₁ : (k 1).val = j.val) (h₂ : (k 2).val = l.val) : f k = f (ix3 i j l) :=
  congrArg f (funext fun a => Fin.ext (match a with | ⟨0, _⟩ => h₀ | ⟨1, _⟩ => h₁ | ⟨2, _⟩ => h₂))

/-- The same of four axes. -/
theorem at4 {n₀ n₁ n₂ n₃ : ℕ} (f : (⟨4, ![n₀, n₁, n₂, n₃]⟩ : Shape).Idx → EReal) (k : (⟨4, ![n₀, n₁, n₂, n₃]⟩ : Shape).Idx) (i : Fin n₀) (j : Fin n₁) (l : Fin n₂) (e : Fin n₃)
    (h₀ : (k 0).val = i.val) (h₁ : (k 1).val = j.val) (h₂ : (k 2).val = l.val) (h₃ : (k 3).val = e.val) : f k = f (ix4 i j l e) :=
  congrArg f (funext fun a => Fin.ext (match a with | ⟨0, _⟩ => h₀ | ⟨1, _⟩ => h₁ | ⟨2, _⟩ => h₂ | ⟨3, _⟩ => h₃))

/-- A norm's element from its four pieces. -/
theorem norm_of {k : ℕ} (n : EReal) (x g : Fin k → EReal) (d : Fin k) (a s u : EReal) (ha : a = x d) (hs : s = ∑ e, x e * x e) (hu : u = g d) :
    a * Ideal.rsqrt (Ideal.div s n + Ideal.ofBits .f32 0x358637BD#32) * u = normRow n x g d := by
  subst ha hs hu
  rfl

/-- A sum of squares from zero. -/
theorem squares_of {k : ℕ} (x y : Fin k → EReal) (h : ∀ e, y e = x e) :
    FloatOps.ofBits (F := Ideal) .f32 0x00000000#32 + ∑ e, y e * y e = ∑ e, x e * x e := by
  obtain rfl : y = x := funext h
  rw [zero_bits, zero_add]

variable (x0 : S4x2048x2048.Idx → EReal) (x1 : S1x2048.Idx → EReal) (x2 : S1x2048x3392.Idx → EReal) (x3 : S1x2048.Idx → EReal)
  (x4 : S1x768.Idx → EReal) (x5 : S1x768x1536.Idx → EReal) (x6 : S1x512.Idx → EReal) (x7 : S1x512x2048.Idx → EReal)
  (b : Fin 4) (r : Fin 2048)

/-- The normalized activations. -/
def xnOf : Fin 2048 → EReal := xnRow (fun d => x0 (ix3 b r d)) (fun d => x1 (ix2 0 d))

/-- The input projections. -/
def wideOf : Fin 3392 → EReal := prodRow (xnOf x0 x1 b r) (fun d j => x2 (ix3 0 d j))

theorem xn_apply (d : Fin 2048) : val_main_v31 (F := Ideal) x0 x1 (ix3 b r d) = xnOf x0 x1 b r d := by
  have eg : val_main_v30 (F := Ideal) x1 (ix3 b r d) = x1 (ix2 0 d) :=
    (val_main_v30_apply (F := Ideal) x1 _).trans ((val_main_v29_apply (F := Ideal) x1 _).trans ((val_main_v18_apply (F := Ideal) x1 _).trans
      (at2 x1 _ 0 d rfl (Nat.mod_eq_of_lt d.isLt))))
  have es : val_main_v20 (F := Ideal) x0 (ix2 b r) = ∑ e, x0 (ix3 b r e) * x0 (ix3 b r e) :=
    (val_main_v20_apply x0 _).trans (squares_of (fun e => x0 (ix3 b r e)) (fun e => x0 (idx_main_v20 (ix2 b r) e)) fun e =>
      at3 x0 _ b r e rfl rfl rfl)
  have er : val_main_v27 (F := Ideal) x0 (ix3 b r d) = Ideal.rsqrt (Ideal.div (val_main_v20 (F := Ideal) x0 (ix2 b r)) (Ideal.ofBits .f32 0x45000000#32) + Ideal.ofBits .f32 0x358637BD#32) :=
    (val_main_v27_apply (F := Ideal) x0 _).trans (congrArg Ideal.rsqrt (congrArg₂ (· + ·) (congrArg₂ Ideal.div ((val_main_v21_apply (F := Ideal) x0 _).trans
      (at2 (val_main_v20 (F := Ideal) x0) _ b r rfl rfl)) (val_main_v22_apply (F := Ideal) _)) (val_main_v24_apply (F := Ideal) _)))
  exact (congrArg₂ (· * ·) (congrArg (_ * ·) er) rfl).trans (norm_of _ (fun d => x0 (ix3 b r d)) (fun d => x1 (ix2 0 d)) d _ _ _ rfl es eg)

theorem wide_apply (j : Fin 3392) : val_main_v33 (F := Ideal) x0 x1 x2 (ix3 b r j) = wideOf x0 x1 x2 b r j := by
  unfold wideOf prodRow
  refine (val_main_v33_apply x0 x1 x2 _).trans (Finset.sum_congr rfl fun d _ => congrArg₂ (· * ·) ?_ ?_)
  · exact (at3 (val_main_v31 (F := Ideal) x0 x1) _ b r d rfl rfl rfl).trans (xn_apply x0 x1 b r d)
  · refine (val_main_v32_apply (F := Ideal) x2 _).trans (at3 x2 _ 0 d j rfl ?_ ?_)
    · show (d.val * 3392 + j.val) / 3392 % 2048 = d.val; omega
    · show (d.val * 3392 + j.val) % 3392 = j.val; omega

theorem query_latents (d : Fin 768) : val_main_v34 (F := Ideal) x0 x1 x2 (ix3 b r d) = wideOf x0 x1 x2 b r ⟨d.val, by omega⟩ :=
  (val_main_v34_apply (F := Ideal) x0 x1 x2 (ix3 b r d)).trans ((at3 (val_main_v33 (F := Ideal) x0 x1 x2) _ b r ⟨d.val, by omega⟩ rfl rfl rfl).trans (wide_apply x0 x1 x2 b r ⟨d.val, by omega⟩))

theorem key_latents (d : Fin 512) : val_main_v35 (F := Ideal) x0 x1 x2 (ix3 b r d) = wideOf x0 x1 x2 b r ⟨768 + d.val, by omega⟩ :=
  (val_main_v35_apply (F := Ideal) x0 x1 x2 (ix3 b r d)).trans ((at3 (val_main_v33 (F := Ideal) x0 x1 x2) _ b r ⟨768 + d.val, by omega⟩ rfl rfl rfl).trans (wide_apply x0 x1 x2 b r ⟨768 + d.val, by omega⟩))

theorem rotary_key (d : Fin 64) : val_main_v36 (F := Ideal) x0 x1 x2 (ix3 b r d) = wideOf x0 x1 x2 b r ⟨1280 + d.val, by omega⟩ :=
  (val_main_v36_apply (F := Ideal) x0 x1 x2 (ix3 b r d)).trans ((at3 (val_main_v33 (F := Ideal) x0 x1 x2) _ b r ⟨1280 + d.val, by omega⟩ rfl rfl rfl).trans (wide_apply x0 x1 x2 b r ⟨1280 + d.val, by omega⟩))

theorem gate_inputs (d : Fin 2048) : val_main_v37 (F := Ideal) x0 x1 x2 (ix3 b r d) = wideOf x0 x1 x2 b r ⟨1344 + d.val, by omega⟩ :=
  (val_main_v37_apply (F := Ideal) x0 x1 x2 (ix3 b r d)).trans ((at3 (val_main_v33 (F := Ideal) x0 x1 x2) _ b r ⟨1344 + d.val, by omega⟩ rfl rfl rfl).trans (wide_apply x0 x1 x2 b r ⟨1344 + d.val, by omega⟩))

/-! ## The normalized latents and their products -/

/-- The normalized query latents. -/
def qnOf : Fin 768 → EReal := normRow (Ideal.ofBits .f32 0x44400000#32) (fun d => wideOf x0 x1 x2 b r ⟨d.val, by omega⟩) (fun d => x4 (ix2 0 d))

/-- The normalized key and value latents. -/
def kvnOf : Fin 512 → EReal := normRow (Ideal.ofBits .f32 0x44000000#32) (fun d => wideOf x0 x1 x2 b r ⟨768 + d.val, by omega⟩) (fun d => x6 (ix2 0 d))

theorem qn_apply (d : Fin 768) : val_main_v51 (F := Ideal) x0 x1 x2 x4 (ix3 b r d) = qnOf x0 x1 x2 x4 b r d := by
  have eg : val_main_v50 (F := Ideal) x4 (ix3 b r d) = x4 (ix2 0 d) :=
    (val_main_v50_apply (F := Ideal) x4 _).trans ((val_main_v49_apply (F := Ideal) x4 _).trans ((val_main_v38_apply (F := Ideal) x4 _).trans
      (at2 x4 _ 0 d rfl (Nat.mod_eq_of_lt d.isLt))))
  have es : val_main_v40 (F := Ideal) x0 x1 x2 (ix2 b r) = ∑ e : Fin 768, wideOf x0 x1 x2 b r ⟨e.val, by omega⟩ * wideOf x0 x1 x2 b r ⟨e.val, by omega⟩ :=
    (val_main_v40_apply x0 x1 x2 _).trans (squares_of (fun e : Fin 768 => wideOf x0 x1 x2 b r ⟨e.val, by omega⟩) (fun e => val_main_v34 (F := Ideal) x0 x1 x2 (idx_main_v40 (ix2 b r) e)) fun e =>
      (at3 (val_main_v34 (F := Ideal) x0 x1 x2) _ b r e rfl rfl rfl).trans (query_latents x0 x1 x2 b r e))
  have er : val_main_v47 (F := Ideal) x0 x1 x2 (ix3 b r d) = Ideal.rsqrt (Ideal.div (val_main_v40 (F := Ideal) x0 x1 x2 (ix2 b r)) (Ideal.ofBits .f32 0x44400000#32) + Ideal.ofBits .f32 0x358637BD#32) :=
    (val_main_v47_apply (F := Ideal) x0 x1 x2 _).trans (congrArg Ideal.rsqrt (congrArg₂ (· + ·) (congrArg₂ Ideal.div ((val_main_v41_apply (F := Ideal) x0 x1 x2 _).trans
      (at2 (val_main_v40 (F := Ideal) x0 x1 x2) _ b r rfl rfl)) (val_main_v42_apply (F := Ideal) _)) (val_main_v44_apply (F := Ideal) _)))
  exact (congrArg₂ (· * ·) (congrArg (_ * ·) er) rfl).trans (norm_of _ (fun d : Fin 768 => wideOf x0 x1 x2 b r ⟨d.val, by omega⟩) (fun d => x4 (ix2 0 d)) d _ _ _ (query_latents x0 x1 x2 b r d) es eg)

theorem kvn_apply (d : Fin 512) : val_main_v89 (F := Ideal) x0 x1 x2 x6 (ix3 b r d) = kvnOf x0 x1 x2 x6 b r d := by
  have eg : val_main_v88 (F := Ideal) x6 (ix3 b r d) = x6 (ix2 0 d) :=
    (val_main_v88_apply (F := Ideal) x6 _).trans ((val_main_v87_apply (F := Ideal) x6 _).trans ((val_main_v76_apply (F := Ideal) x6 _).trans
      (at2 x6 _ 0 d rfl (Nat.mod_eq_of_lt d.isLt))))
  have es : val_main_v78 (F := Ideal) x0 x1 x2 (ix2 b r) = ∑ e : Fin 512, wideOf x0 x1 x2 b r ⟨768 + e.val, by omega⟩ * wideOf x0 x1 x2 b r ⟨768 + e.val, by omega⟩ :=
    (val_main_v78_apply x0 x1 x2 _).trans (squares_of (fun e : Fin 512 => wideOf x0 x1 x2 b r ⟨768 + e.val, by omega⟩) (fun e => val_main_v35 (F := Ideal) x0 x1 x2 (idx_main_v78 (ix2 b r) e)) fun e =>
      (at3 (val_main_v35 (F := Ideal) x0 x1 x2) _ b r e rfl rfl rfl).trans (key_latents x0 x1 x2 b r e))
  have er : val_main_v85 (F := Ideal) x0 x1 x2 (ix3 b r d) = Ideal.rsqrt (Ideal.div (val_main_v78 (F := Ideal) x0 x1 x2 (ix2 b r)) (Ideal.ofBits .f32 0x44000000#32) + Ideal.ofBits .f32 0x358637BD#32) :=
    (val_main_v85_apply (F := Ideal) x0 x1 x2 _).trans (congrArg Ideal.rsqrt (congrArg₂ (· + ·) (congrArg₂ Ideal.div ((val_main_v79_apply (F := Ideal) x0 x1 x2 _).trans
      (at2 (val_main_v78 (F := Ideal) x0 x1 x2) _ b r rfl rfl)) (val_main_v80_apply (F := Ideal) _)) (val_main_v82_apply (F := Ideal) _)))
  exact (congrArg₂ (· * ·) (congrArg (_ * ·) er) rfl).trans (norm_of _ (fun d : Fin 512 => wideOf x0 x1 x2 b r ⟨768 + d.val, by omega⟩) (fun d => x6 (ix2 0 d)) d _ _ _ (key_latents x0 x1 x2 b r d) es eg)

/-- The queries before the rotary embedding. -/
def queryOf : Fin 1536 → EReal := prodRow (qnOf x0 x1 x2 x4 b r) (fun d j => x5 (ix3 0 d j))

/-- The keys and values. -/
def keyOf : Fin 2048 → EReal := prodRow (kvnOf x0 x1 x2 x6 b r) (fun d j => x7 (ix3 0 d j))

theorem query_apply (j : Fin 1536) : val_main_v53 (F := Ideal) x0 x1 x2 x4 x5 (ix3 b r j) = queryOf x0 x1 x2 x4 x5 b r j := by
  unfold queryOf prodRow
  refine (val_main_v53_apply x0 x1 x2 x4 x5 _).trans (Finset.sum_congr rfl fun d _ => congrArg₂ (· * ·) ?_ ?_)
  · exact (at3 (val_main_v51 (F := Ideal) x0 x1 x2 x4) _ b r d rfl rfl rfl).trans (qn_apply x0 x1 x2 x4 b r d)
  · refine (val_main_v52_apply (F := Ideal) x5 _).trans (at3 x5 _ 0 d j rfl ?_ ?_)
    · show (d.val * 1536 + j.val) / 1536 % 768 = d.val; omega
    · show (d.val * 1536 + j.val) % 1536 = j.val; omega

theorem key_apply (j : Fin 2048) : val_main_v91 (F := Ideal) x0 x1 x2 x6 x7 (ix3 b r j) = keyOf x0 x1 x2 x6 x7 b r j := by
  unfold keyOf prodRow
  refine (val_main_v91_apply x0 x1 x2 x6 x7 _).trans (Finset.sum_congr rfl fun d _ => congrArg₂ (· * ·) ?_ ?_)
  · exact (at3 (val_main_v89 (F := Ideal) x0 x1 x2 x6) _ b r d rfl rfl rfl).trans (kvn_apply x0 x1 x2 x6 b r d)
  · refine (val_main_v90_apply (F := Ideal) x7 _).trans (at3 x7 _ 0 d j rfl ?_ ?_)
    · show (d.val * 2048 + j.val) / 2048 % 512 = d.val; omega
    · show (d.val * 2048 + j.val) % 2048 = j.val; omega

/-! ## The heads -/

section Heads

variable (h : Fin 8)

theorem query_head (l : Fin 192) (j : Fin 1536) (hj : j.val = 192 * h.val + l.val) :
    val_main_v54 (F := Ideal) x0 x1 x2 x4 x5 (ix4 b r h l) = queryOf x0 x1 x2 x4 x5 b r j := by
  refine (val_main_v54_apply (F := Ideal) x0 x1 x2 x4 x5 _).trans ((at3 (val_main_v53 (F := Ideal) x0 x1 x2 x4 x5) _ b r j ?_ ?_ ?_).trans (query_apply x0 x1 x2 x4 x5 b r j))
  · show (((b.val * 2048 + r.val) * 8 + h.val) * 192 + l.val) / 3145728 = b.val; omega
  · show (((b.val * 2048 + r.val) * 8 + h.val) * 192 + l.val) / 1536 % 2048 = r.val; omega
  · show (((b.val * 2048 + r.val) * 8 + h.val) * 192 + l.val) % 1536 = j.val; omega

theorem key_head (l : Fin 256) (j : Fin 2048) (hj : j.val = 256 * h.val + l.val) :
    val_main_v92 (F := Ideal) x0 x1 x2 x6 x7 (ix4 b r h l) = keyOf x0 x1 x2 x6 x7 b r j := by
  refine (val_main_v92_apply (F := Ideal) x0 x1 x2 x6 x7 _).trans ((at3 (val_main_v91 (F := Ideal) x0 x1 x2 x6 x7) _ b r j ?_ ?_ ?_).trans (key_apply x0 x1 x2 x6 x7 b r j))
  · show (((b.val * 2048 + r.val) * 8 + h.val) * 256 + l.val) / 4194304 = b.val; omega
  · show (((b.val * 2048 + r.val) * 8 + h.val) * 256 + l.val) / 2048 % 2048 = r.val; omega
  · show (((b.val * 2048 + r.val) * 8 + h.val) * 256 + l.val) % 2048 = j.val; omega

theorem nope_apply (l : Fin 128) (j : Fin 1536) (hj : j.val = 192 * h.val + l.val) :
    val_main_v55 (F := Ideal) x0 x1 x2 x4 x5 (ix4 b r h l) = queryOf x0 x1 x2 x4 x5 b r j :=
  (val_main_v55_apply (F := Ideal) x0 x1 x2 x4 x5 _).trans ((at4 (val_main_v54 (F := Ideal) x0 x1 x2 x4 x5) _ b r h ⟨l.val, by omega⟩ rfl rfl rfl rfl).trans (query_head x0 x1 x2 x4 x5 b r h ⟨l.val, by omega⟩ j hj))

/-- A head's rotary columns. -/
def turnOf : Fin 64 → EReal := fun e => queryOf x0 x1 x2 x4 x5 b r ⟨192 * h.val + 128 + e.val, by omega⟩

theorem turn_apply (e : Fin 64) : val_main_v56 (F := Ideal) x0 x1 x2 x4 x5 (ix4 b r h e) = turnOf x0 x1 x2 x4 x5 b r h e :=
  (val_main_v56_apply (F := Ideal) x0 x1 x2 x4 x5 _).trans ((at4 (val_main_v54 (F := Ideal) x0 x1 x2 x4 x5) _ b r h ⟨128 + e.val, by omega⟩ rfl rfl rfl rfl).trans (query_head x0 x1 x2 x4 x5 b r h ⟨128 + e.val, by omega⟩ ⟨192 * h.val + 128 + e.val, by omega⟩ (by show 192 * h.val + 128 + e.val = 192 * h.val + (128 + e.val); omega)))

theorem key_nope (l : Fin 128) (j : Fin 2048) (hj : j.val = 256 * h.val + l.val) :
    val_main_v93 (F := Ideal) x0 x1 x2 x6 x7 (ix4 b r h l) = keyOf x0 x1 x2 x6 x7 b r j :=
  (val_main_v93_apply (F := Ideal) x0 x1 x2 x6 x7 _).trans ((at4 (val_main_v92 (F := Ideal) x0 x1 x2 x6 x7) _ b r h ⟨l.val, by omega⟩ rfl rfl rfl rfl).trans (key_head x0 x1 x2 x6 x7 b r h ⟨l.val, by omega⟩ j hj))

theorem value_apply (l : Fin 128) (j : Fin 2048) (hj : j.val = 256 * h.val + (128 + l.val)) :
    val_main_v94 (F := Ideal) x0 x1 x2 x6 x7 (ix4 b r h l) = keyOf x0 x1 x2 x6 x7 b r j :=
  (val_main_v94_apply (F := Ideal) x0 x1 x2 x6 x7 _).trans ((at4 (val_main_v92 (F := Ideal) x0 x1 x2 x6 x7) _ b r h ⟨128 + l.val, by omega⟩ rfl rfl rfl rfl).trans (key_head x0 x1 x2 x6 x7 b r h ⟨128 + l.val, by omega⟩ j hj))

end Heads

/-! ## The rotary embeddings -/

/-- A position's cosines. -/
def cosRow : Fin 32 → EReal := fun e => val_main_v16 (F := Ideal) (ix2 r e)

/-- A position's sines. -/
def sinRow : Fin 32 → EReal := fun e => val_main_v17 (F := Ideal) (ix2 r e)

/-- The embedding's halves side by side. -/
theorem rope_halves (cs sn : Fin 32 → EReal) (t : Fin 64 → EReal) (e : Fin 64) (z : EReal)
    (h₁ : ∀ l : Fin 32, e.val = l.val → z = t ⟨l.val, by omega⟩ * cs l - t ⟨32 + l.val, by omega⟩ * sn l)
    (h₂ : ∀ l : Fin 32, e.val = 32 + l.val → z = t ⟨32 + l.val, by omega⟩ * cs l + t ⟨l.val, by omega⟩ * sn l) : z = ropeRow cs sn t e := by
  unfold ropeRow
  split
  · next h => exact (h₁ ⟨e.val, h⟩ rfl).trans (congrArg (_ - t · * _) (Fin.ext (Nat.add_comm _ _)))
  · next h => exact (h₂ ⟨e.val - 32, by omega⟩ (by show e.val = 32 + (e.val - 32); omega)).trans (congrArg (t · * _ + _) (Fin.ext (by show 32 + (e.val - 32) = e.val; omega)))

theorem query_rope (h : Fin 8) (e : Fin 64) :
    val_main_v75 (F := Ideal) x0 x1 x2 x4 x5 (ix4 b r h e) = ropeRow (cosRow r) (sinRow r) (turnOf x0 x1 x2 x4 x5 b r h) e := by
  have c₁ : ∀ l : Fin 32, val_main_v62 (F := Ideal) (ix4 b r h l) = cosRow r l := fun l => (val_main_v62_apply (F := Ideal) _).trans ((val_main_v61_apply (F := Ideal) _).trans
    ((val_main_v57_apply (F := Ideal) _).trans (at2 (val_main_v16 (F := Ideal)) _ r l rfl rfl)))
  have s₁ : ∀ l : Fin 32, val_main_v65 (F := Ideal) (ix4 b r h l) = sinRow r l := fun l => (val_main_v65_apply (F := Ideal) _).trans ((val_main_v64_apply (F := Ideal) _).trans
    ((val_main_v58_apply (F := Ideal) _).trans (at2 (val_main_v17 (F := Ideal)) _ r l rfl rfl)))
  have c₂ : ∀ l : Fin 32, val_main_v69 (F := Ideal) (ix4 b r h l) = cosRow r l := fun l => (val_main_v69_apply (F := Ideal) _).trans ((val_main_v68_apply (F := Ideal) _).trans
    ((val_main_v57_apply (F := Ideal) _).trans (at2 (val_main_v16 (F := Ideal)) _ r l rfl rfl)))
  have s₂ : ∀ l : Fin 32, val_main_v72 (F := Ideal) (ix4 b r h l) = sinRow r l := fun l => (val_main_v72_apply (F := Ideal) _).trans ((val_main_v71_apply (F := Ideal) _).trans
    ((val_main_v58_apply (F := Ideal) _).trans (at2 (val_main_v17 (F := Ideal)) _ r l rfl rfl)))
  have t₁ : ∀ l : Fin 32, val_main_v59 (F := Ideal) x0 x1 x2 x4 x5 (ix4 b r h l) = turnOf x0 x1 x2 x4 x5 b r h ⟨l.val, by omega⟩ := fun l =>
    (val_main_v59_apply (F := Ideal) x0 x1 x2 x4 x5 _).trans ((at4 (val_main_v56 (F := Ideal) x0 x1 x2 x4 x5) _ b r h ⟨l.val, by omega⟩ rfl rfl rfl rfl).trans (turn_apply x0 x1 x2 x4 x5 b r h ⟨l.val, by omega⟩))
  have t₂ : ∀ l : Fin 32, val_main_v60 (F := Ideal) x0 x1 x2 x4 x5 (ix4 b r h l) = turnOf x0 x1 x2 x4 x5 b r h ⟨32 + l.val, by omega⟩ := fun l =>
    (val_main_v60_apply (F := Ideal) x0 x1 x2 x4 x5 _).trans ((at4 (val_main_v56 (F := Ideal) x0 x1 x2 x4 x5) _ b r h ⟨32 + l.val, by omega⟩ rfl rfl rfl rfl).trans (turn_apply x0 x1 x2 x4 x5 b r h ⟨32 + l.val, by omega⟩))
  refine rope_halves _ _ _ e _ (fun l hl => ?_) (fun l hl => ?_)
  · refine Eq.trans (b := val_main_v67 (F := Ideal) x0 x1 x2 x4 x5 (ix4 b r h l)) ?_ (congrArg₂ (· - ·) (congrArg₂ (· * ·) (t₁ l) (c₁ l)) (congrArg₂ (· * ·) (t₂ l) (s₁ l)))
    unfold val_main_v75
    exact concatenate_apply_piece 3 [⟨S4x2048x8x32, val_main_v67 (F := Ideal) x0 x1 x2 x4 x5⟩, ⟨S4x2048x8x32, val_main_v74 (F := Ideal) x0 x1 x2 x4 x5⟩] _ (ix4 b r h e) 0 (by simp) _ (val_main_v67 (F := Ideal) x0 x1 x2 x4 x5) rfl rfl 0 rfl (ix4 b r h l)
      (fun c hc => match c, hc with | ⟨0, _⟩, _ => rfl | ⟨1, _⟩, _ => rfl | ⟨2, _⟩, _ => rfl | ⟨3, _⟩, hc => absurd rfl hc) ((Nat.zero_add _).trans hl.symm)
  · refine Eq.trans (b := val_main_v74 (F := Ideal) x0 x1 x2 x4 x5 (ix4 b r h l)) ?_ (congrArg₂ (· + ·) (congrArg₂ (· * ·) (t₂ l) (c₂ l)) (congrArg₂ (· * ·) (t₁ l) (s₂ l)))
    unfold val_main_v75
    exact concatenate_apply_piece 3 [⟨S4x2048x8x32, val_main_v67 (F := Ideal) x0 x1 x2 x4 x5⟩, ⟨S4x2048x8x32, val_main_v74 (F := Ideal) x0 x1 x2 x4 x5⟩] _ (ix4 b r h e) 1 (by simp) _ (val_main_v74 (F := Ideal) x0 x1 x2 x4 x5) rfl rfl 32 rfl (ix4 b r h l)
      (fun c hc => match c, hc with | ⟨0, _⟩, _ => rfl | ⟨1, _⟩, _ => rfl | ⟨2, _⟩, _ => rfl | ⟨3, _⟩, hc => absurd rfl hc) hl.symm

/-- The shared rotary key's columns. -/
def keyTurnOf : Fin 64 → EReal := fun e => wideOf x0 x1 x2 b r ⟨1280 + e.val, by omega⟩

theorem key_rope (e : Fin 64) :
    val_main_v111 (F := Ideal) x0 x1 x2 (ix3 b r e) = ropeRow (cosRow r) (sinRow r) (keyTurnOf x0 x1 x2 b r) e := by
  have c₁ : ∀ l : Fin 32, val_main_v98 (F := Ideal) (ix3 b r l) = cosRow r l := fun l => (val_main_v98_apply (F := Ideal) _).trans ((val_main_v97_apply (F := Ideal) _).trans
    (at2 (val_main_v16 (F := Ideal)) _ r l rfl rfl))
  have s₁ : ∀ l : Fin 32, val_main_v101 (F := Ideal) (ix3 b r l) = sinRow r l := fun l => (val_main_v101_apply (F := Ideal) _).trans ((val_main_v100_apply (F := Ideal) _).trans
    (at2 (val_main_v17 (F := Ideal)) _ r l rfl rfl))
  have c₂ : ∀ l : Fin 32, val_main_v105 (F := Ideal) (ix3 b r l) = cosRow r l := fun l => (val_main_v105_apply (F := Ideal) _).trans ((val_main_v104_apply (F := Ideal) _).trans
    (at2 (val_main_v16 (F := Ideal)) _ r l rfl rfl))
  have s₂ : ∀ l : Fin 32, val_main_v108 (F := Ideal) (ix3 b r l) = sinRow r l := fun l => (val_main_v108_apply (F := Ideal) _).trans ((val_main_v107_apply (F := Ideal) _).trans
    (at2 (val_main_v17 (F := Ideal)) _ r l rfl rfl))
  have t₁ : ∀ l : Fin 32, val_main_v95 (F := Ideal) x0 x1 x2 (ix3 b r l) = keyTurnOf x0 x1 x2 b r ⟨l.val, by omega⟩ := fun l =>
    (val_main_v95_apply (F := Ideal) x0 x1 x2 _).trans ((at3 (val_main_v36 (F := Ideal) x0 x1 x2) _ b r ⟨l.val, by omega⟩ rfl rfl rfl).trans (rotary_key x0 x1 x2 b r ⟨l.val, by omega⟩))
  have t₂ : ∀ l : Fin 32, val_main_v96 (F := Ideal) x0 x1 x2 (ix3 b r l) = keyTurnOf x0 x1 x2 b r ⟨32 + l.val, by omega⟩ := fun l =>
    (val_main_v96_apply (F := Ideal) x0 x1 x2 _).trans ((at3 (val_main_v36 (F := Ideal) x0 x1 x2) _ b r ⟨32 + l.val, by omega⟩ rfl rfl rfl).trans (rotary_key x0 x1 x2 b r ⟨32 + l.val, by omega⟩))
  refine rope_halves _ _ _ e _ (fun l hl => ?_) (fun l hl => ?_)
  · refine Eq.trans (b := val_main_v103 (F := Ideal) x0 x1 x2 (ix3 b r l)) ?_ (congrArg₂ (· - ·) (congrArg₂ (· * ·) (t₁ l) (c₁ l)) (congrArg₂ (· * ·) (t₂ l) (s₁ l)))
    unfold val_main_v111
    exact concatenate_apply_piece 2 [⟨S4x2048x32, val_main_v103 (F := Ideal) x0 x1 x2⟩, ⟨S4x2048x32, val_main_v110 (F := Ideal) x0 x1 x2⟩] _ (ix3 b r e) 0 (by simp) _ (val_main_v103 (F := Ideal) x0 x1 x2) rfl rfl 0 rfl (ix3 b r l)
      (fun c hc => match c, hc with | ⟨0, _⟩, _ => rfl | ⟨1, _⟩, _ => rfl | ⟨2, _⟩, hc => absurd rfl hc) ((Nat.zero_add _).trans hl.symm)
  · refine Eq.trans (b := val_main_v110 (F := Ideal) x0 x1 x2 (ix3 b r l)) ?_ (congrArg₂ (· + ·) (congrArg₂ (· * ·) (t₂ l) (c₂ l)) (congrArg₂ (· * ·) (t₁ l) (s₂ l)))
    unfold val_main_v111
    exact concatenate_apply_piece 2 [⟨S4x2048x32, val_main_v103 (F := Ideal) x0 x1 x2⟩, ⟨S4x2048x32, val_main_v110 (F := Ideal) x0 x1 x2⟩] _ (ix3 b r e) 1 (by simp) _ (val_main_v110 (F := Ideal) x0 x1 x2) rfl rfl 32 rfl (ix3 b r l)
      (fun c hc => match c, hc with | ⟨0, _⟩, _ => rfl | ⟨1, _⟩, _ => rfl | ⟨2, _⟩, hc => absurd rfl hc) hl.symm

/-! ## The results -/

theorem scale_value (i : S_.Idx) : val_main_v128 (F := Ideal) i = qScale := Attention.q_scale_eq

section Slots

variable (i : S8192x2048.Idx) (g : Fin 8) (h0 : (i 0).val = b.val * 2048 + r.val)
include h0

theorem q_first (e : Fin 128) (h1 : (i 1).val = g.val * 256 + e.val) (j : Fin 1536) (hj : j.val = 192 * g.val + e.val) :
    val_main_v143 (F := Ideal) x0 x1 x2 x4 x5 i = queryOf x0 x1 x2 x4 x5 b r j * qScale :=
  (Attention.packed_first (val_main_v132 (F := Ideal) x0 x1 x2 x4 x5) (val_main_v134 (F := Ideal) x0 x1 x2 x4 x5) (val_main_v135 (F := Ideal)) _ i b r g e (by omega) h0 h1).trans
    (congrArg₂ (· * ·) (nope_apply x0 x1 x2 x4 x5 b r g e j hj) ((val_main_v131_apply (F := Ideal) _).trans (scale_value _)))

theorem q_second (e : Fin 64) (h1 : (i 1).val = g.val * 256 + (128 + e.val)) :
    val_main_v143 (F := Ideal) x0 x1 x2 x4 x5 i = ropeRow (cosRow r) (sinRow r) (turnOf x0 x1 x2 x4 x5 b r g) e * qScale :=
  (Attention.packed_second (val_main_v132 (F := Ideal) x0 x1 x2 x4 x5) (val_main_v134 (F := Ideal) x0 x1 x2 x4 x5) (val_main_v135 (F := Ideal)) _ i b r g e (by omega) h0 h1).trans
    (congrArg₂ (· * ·) (query_rope x0 x1 x2 x4 x5 b r g e) ((val_main_v133_apply (F := Ideal) _).trans (scale_value _)))

theorem q_third (e : Fin 64) (h1 : (i 1).val = g.val * 256 + (128 + 64 + e.val)) : val_main_v143 (F := Ideal) x0 x1 x2 x4 x5 i = (0 : EReal) :=
  (Attention.packed_third (val_main_v132 (F := Ideal) x0 x1 x2 x4 x5) (val_main_v134 (F := Ideal) x0 x1 x2 x4 x5) (val_main_v135 (F := Ideal)) _ i b r g e (by omega) h0 h1).trans
    ((val_main_v135_apply (F := Ideal) _).trans zero_bits)

theorem k_first (e : Fin 128) (h1 : (i 1).val = g.val * 256 + e.val) (j : Fin 2048) (hj : j.val = 256 * g.val + e.val) :
    val_main_v145 (F := Ideal) x0 x1 x2 x6 x7 i = keyOf x0 x1 x2 x6 x7 b r j :=
  (Attention.packed_first (val_main_v93 (F := Ideal) x0 x1 x2 x6 x7) (val_main_v130 (F := Ideal) x0 x1 x2) (val_main_v137 (F := Ideal)) _ i b r g e (by omega) h0 h1).trans
    (key_nope x0 x1 x2 x6 x7 b r g e j hj)

theorem k_second (e : Fin 64) (h1 : (i 1).val = g.val * 256 + (128 + e.val)) :
    val_main_v145 (F := Ideal) x0 x1 x2 x6 x7 i = ropeRow (cosRow r) (sinRow r) (keyTurnOf x0 x1 x2 b r) e :=
  (Attention.packed_second (val_main_v93 (F := Ideal) x0 x1 x2 x6 x7) (val_main_v130 (F := Ideal) x0 x1 x2) (val_main_v137 (F := Ideal)) _ i b r g e (by omega) h0 h1).trans
    ((val_main_v130_apply (F := Ideal) x0 x1 x2 _).trans ((val_main_v129_apply (F := Ideal) x0 x1 x2 _).trans ((at3 (val_main_v111 (F := Ideal) x0 x1 x2) _ b r e rfl rfl rfl).trans (key_rope x0 x1 x2 b r e))))

theorem k_third (e : Fin 64) (h1 : (i 1).val = g.val * 256 + (128 + 64 + e.val)) : val_main_v145 (F := Ideal) x0 x1 x2 x6 x7 i = (0 : EReal) :=
  (Attention.packed_third (val_main_v93 (F := Ideal) x0 x1 x2 x6 x7) (val_main_v130 (F := Ideal) x0 x1 x2) (val_main_v137 (F := Ideal)) _ i b r g e (by omega) h0 h1).trans
    ((val_main_v137_apply (F := Ideal) _).trans zero_bits)

theorem v_first (e : Fin 128) (h1 : (i 1).val = g.val * 256 + e.val) (j : Fin 2048) (hj : j.val = 256 * g.val + (128 + e.val)) :
    val_main_v147 (F := Ideal) x0 x1 x2 x6 x7 i = keyOf x0 x1 x2 x6 x7 b r j :=
  (Attention.packed_first (val_main_v94 (F := Ideal) x0 x1 x2 x6 x7) (val_main_v139 (F := Ideal)) (val_main_v140 (F := Ideal)) _ i b r g e (by omega) h0 h1).trans
    (value_apply x0 x1 x2 x6 x7 b r g e j hj)

theorem v_second (h1 : (i 1).val = g.val * 256 + 128) : val_main_v147 (F := Ideal) x0 x1 x2 x6 x7 i = (1 : EReal) :=
  (Attention.packed_second (n₂ := 1) (val_main_v94 (F := Ideal) x0 x1 x2 x6 x7) (val_main_v139 (F := Ideal)) (val_main_v140 (F := Ideal)) _ i b r g 0 (by decide) h0 h1).trans
    ((val_main_v139_apply (F := Ideal) _).trans (Attention.ofBits_one.trans EReal.coe_one))

theorem v_third (e : Fin 127) (h1 : (i 1).val = g.val * 256 + (128 + 1 + e.val)) : val_main_v147 (F := Ideal) x0 x1 x2 x6 x7 i = (0 : EReal) :=
  (Attention.packed_third (val_main_v94 (F := Ideal) x0 x1 x2 x6 x7) (val_main_v139 (F := Ideal)) (val_main_v140 (F := Ideal)) _ i b r g e (by omega) h0 h1).trans
    ((val_main_v140_apply (F := Ideal) _).trans zero_bits)

end Slots

/-- The gated branch's inputs, biased. -/
def gateOf : Fin 2048 → EReal := fun j => wideOf x0 x1 x2 b r ⟨1344 + j.val, by omega⟩ + x3 (ix2 0 j)

theorem gate_apply (j : Fin 2048) : val_main_v115 (F := Ideal) x0 x1 x2 x3 (ix3 b r j) = gateOf x0 x1 x2 x3 b r j :=
  congrArg₂ (· + ·) (gate_inputs x0 x1 x2 b r j) ((val_main_v114_apply (F := Ideal) x3 _).trans ((val_main_v113_apply (F := Ideal) x3 _).trans ((val_main_v112_apply (F := Ideal) x3 _).trans
    (at2 x3 _ 0 j rfl (Nat.mod_eq_of_lt j.isLt)))))

/-- The sigmoid the reference writes out. -/
theorem logistic_of (z one : EReal) (h : one = 1) : Ideal.div one (one + Ideal.exp (-z)) = Ideal.logistic z := by
  subst h
  rfl

theorem c_apply (i : S8192x1024.Idx) (h0 : (i 0).val = b.val * 2048 + r.val) : val_main_v149 (F := Ideal) x0 x1 x2 x3 i
    = gateOf x0 x1 x2 x3 b r ⟨(i 1).val, by have : (i 1).val < 1024 := (i 1).isLt; omega⟩
      * Ideal.logistic (gateOf x0 x1 x2 x3 b r ⟨1024 + (i 1).val, by have : (i 1).val < 1024 := (i 1).isLt; omega⟩) := by
  have hi : (i 1).val < 1024 := (i 1).isLt
  have e₁ : ∀ j : Fin 1024, val_main_v116 (F := Ideal) x0 x1 x2 x3 (ix3 b r j) = gateOf x0 x1 x2 x3 b r ⟨j.val, by omega⟩ := fun j =>
    (val_main_v116_apply (F := Ideal) x0 x1 x2 x3 _).trans ((at3 (val_main_v115 (F := Ideal) x0 x1 x2 x3) _ b r ⟨j.val, by omega⟩ rfl rfl rfl).trans (gate_apply x0 x1 x2 x3 b r ⟨j.val, by omega⟩))
  have e₂ : ∀ j : Fin 1024, val_main_v117 (F := Ideal) x0 x1 x2 x3 (ix3 b r j) = gateOf x0 x1 x2 x3 b r ⟨1024 + j.val, by omega⟩ := fun j =>
    (val_main_v117_apply (F := Ideal) x0 x1 x2 x3 _).trans ((at3 (val_main_v115 (F := Ideal) x0 x1 x2 x3) _ b r ⟨1024 + j.val, by omega⟩ rfl rfl rfl).trans (gate_apply x0 x1 x2 x3 b r ⟨1024 + j.val, by omega⟩))
  have o₁ : ∀ k : S4x2048x1024.Idx, val_main_v120 (F := Ideal) k = (1 : EReal) := fun k => (val_main_v120_apply (F := Ideal) k).trans (Attention.ofBits_one.trans EReal.coe_one)
  have o₂ : ∀ k : S4x2048x1024.Idx, val_main_v122 (F := Ideal) k = (1 : EReal) := fun k => (val_main_v122_apply (F := Ideal) k).trans (Attention.ofBits_one.trans EReal.coe_one)
  refine (val_main_v148_apply (F := Ideal) x0 x1 x2 x3 i).trans ((at3 (val_main_v124 (F := Ideal) x0 x1 x2 x3) _ b r (i 1) ?_ ?_ ?_).trans ?_)
  · show ((i 0).val * 1024 + (i 1).val) / 2097152 = b.val; omega
  · show ((i 0).val * 1024 + (i 1).val) / 1024 % 2048 = r.val; omega
  · show ((i 0).val * 1024 + (i 1).val) % 1024 = (i 1).val; omega
  · refine congrArg₂ (· * ·) (e₁ (i 1)) ?_
    refine Eq.trans (b := Ideal.div (1 : EReal) (1 + Ideal.exp (-(gateOf x0 x1 x2 x3 b r ⟨1024 + (i 1).val, by omega⟩)))) ?_ (logistic_of _ 1 rfl)
    exact congrArg₂ Ideal.div (o₂ _) (congrArg₂ (· + ·) (o₁ _) (congrArg (fun z => Ideal.exp (-z)) (e₂ (i 1))))

end Cert.Proof.ProjRef

end
-- ==== Proof.ProjPoint.lean ====
/-
  One grid point's four output blocks of the projection call, from the contents of its input blocks.
-/
module

public import proofs.«01_k».proof.Proof.ProjBlock

@[expose] public section

set_option maxRecDepth 16384

noncomputable section

namespace Cert.Proof.Proj

open Cert.ProjIdeal Cert.ProjIdeal.Gen Idealize.ShloMosaic Idealize.ShloMosaic.TcCoe Idealize.SL.Sem
open Idealize.ShloMosaic.ValueIdx

/-- A load of a range of columns of an f32 array, as columns. -/
theorem mat_ld {M N w : ℕ} (X : (⟨2, ![M, N]⟩ : Shape).Idx → EReal) (o : ℕ) (h : o + w ≤ N)
    (inb : ∀ a, (![0, o] : Fin 2 → ℕ) a + (⟨2, ![M, w]⟩ : Shape).size a ≤ (⟨2, ![M, N]⟩ : Shape).size a) :
    mat (View.ld (Val := Elt Ideal) (e' := .f32) X (Rect.unit (s := ⟨2, ![M, N]⟩) ![0, o] (⟨2, ![M, w]⟩ : Shape).size inb)) = cols o h (mat X) :=
  funext fun p => funext fun q => ld_cut (e := .f32) X o inb p q ⟨o + q.val, by omega⟩ rfl

/-- The same of a bf16 array. -/
theorem mat_ld_bf16 {M N w : ℕ} (X : (⟨2, ![M, N]⟩ : Shape).Idx → EReal) (o : ℕ) (h : o + w ≤ N)
    (inb : ∀ a, (![0, o] : Fin 2 → ℕ) a + (⟨2, ![M, w]⟩ : Shape).size a ≤ (⟨2, ![M, N]⟩ : Shape).size a) :
    mat (View.ld (Val := Elt Ideal) (e' := .bf16) X (Rect.unit (s := ⟨2, ![M, N]⟩) ![0, o] (⟨2, ![M, w]⟩ : Shape).size inb)) = cols o h (mat X) :=
  funext fun p => funext fun q => ld_cut (e := .bf16) X o inb p q ⟨o + q.val, by omega⟩ rfl

/-- All the columns are the columns from the first on. -/
theorem cols_zero {a b : ℕ} (X : Fin a → Fin b → EReal) (h : 0 + b ≤ b) : cols 0 h X = X :=
  funext fun p => funext fun q => congrArg (X p) (Fin.ext (Nat.zero_add _))

section Point

variable (x0 : Vec Ideal S512x2048 .f32) (x1 : Vec Ideal S1x2048 .f32) (x2 : Vec Ideal S2048x1280 .bf16) (x3 : Vec Ideal S2048x2048 .bf16)
  (x4 : Vec Ideal S2048x128 .bf16) (x5 : Vec Ideal S1x2048 .f32) (x6 : Vec Ideal S1x768 .f32) (x7 : Vec Ideal S1x512 .f32) (x8 : Vec Ideal S768x1536 .bf16)
  (x9 : Vec Ideal S512x2048 .f32) (x10 : Vec Ideal S512x128 .f32) (x11 : Vec Ideal S512x128 .f32) (x12 : Vec Ideal S512x128 .f32)

/-- The rows of the point's normalized activations. -/
def xnOf (p : Fin 512) : Fin 2048 → EReal := xnRow (mat x0 p) (mat x1 0)

/-- The rows of its normalized query latents. -/
def qnOf (p : Fin 512) : Fin 768 → EReal := qnRow (xnOf x0 x1 p) (cols 0 (by omega) (mat x2)) (mat x6 0)

/-- The rows of its normalized key and value latents. -/
def kvnOf (p : Fin 512) : Fin 512 → EReal := kvnRow (xnOf x0 x1 p) (cols 768 (by omega) (mat x2)) (mat x7 0)

theorem xn_point (p : Fin 512) (d : Fin 2048) : k0_pay65 (F := Ideal) x0 x1 x2 x3 x4 x5 x6 x7 x8 x9 x10 x11 x12 (ix2 p d) = xnOf x0 x1 p d := by
  refine (pay6_apply p _ _ d).trans ?_
  rw [mat_ld x0 0 (Nat.le_refl _), mat_ld x1 0 (Nat.le_refl _), cols_zero, cols_zero]
  rfl

theorem qn_point (p : Fin 512) (j : Fin 768) : k0_pay70 (F := Ideal) x0 x1 x2 x3 x4 x5 x6 x7 x8 x9 x10 x11 x12 (ix2 p j) = qnOf x0 x1 x2 x6 p j := by
  refine (pay13_apply p _ _ (xn_point x0 x1 x2 x3 x4 x5 x6 x7 x8 x9 x10 x11 x12 p) _ _ j).trans ?_
  rw [mat_ld_bf16 x2 0 (by omega), mat_ld x6 0 (Nat.le_refl _), cols_zero (mat x6)]
  rfl

theorem kvn_point (p : Fin 512) (j : Fin 512) : k0_pay72 (F := Ideal) x0 x1 x2 x3 x4 x5 x6 x7 x8 x9 x10 x11 x12 (ix2 p j) = kvnOf x0 x1 x2 x7 p j := by
  refine (pay16_apply p _ _ (xn_point x0 x1 x2 x3 x4 x5 x6 x7 x8 x9 x10 x11 x12 p) _ _ j).trans ?_
  rw [mat_ld_bf16 x2 768 (by omega), mat_ld x7 0 (Nat.le_refl _), cols_zero (mat x7)]
  rfl

theorem nope_point (p : Fin 512) (j : Fin 1024) :
    k0_pay74 (F := Ideal) x0 x1 x2 x3 x4 x5 x6 x7 x8 x9 x10 x11 x12 (ix2 p j) = prodRow (qnOf x0 x1 x2 x6 p) (mat x8) ⟨j.val, by omega⟩ := by
  refine (pay18_apply p _ _ (qn_point x0 x1 x2 x3 x4 x5 x6 x7 x8 x9 x10 x11 x12 p) _ j).trans ?_
  rw [mat_ld_bf16 x8 0 (by omega)]
  exact Finset.sum_congr rfl fun d _ => congrArg (_ * ·) (congrArg (mat x8 d) (Fin.ext (Nat.zero_add _)))

theorem rope_point (p : Fin 512) (j : Fin 512) :
    k0_pay75 (F := Ideal) x0 x1 x2 x3 x4 x5 x6 x7 x8 x9 x10 x11 x12 (ix2 p j) = prodRow (qnOf x0 x1 x2 x6 p) (mat x8) ⟨1024 + j.val, by omega⟩ := by
  refine (pay19_apply p _ _ (qn_point x0 x1 x2 x3 x4 x5 x6 x7 x8 x9 x10 x11 x12 p) _ j).trans ?_
  rw [mat_ld_bf16 x8 1024 (by omega)]
  rfl

theorem table_point (x : Vec Ideal S512x128 .f32) :
    shapeCast S512x128 (View.ld (Val := Elt Ideal) (e' := .f32) x r0_2) shapeCasts_S512x128_S512x128 = x := by
  refine (shapeCast_self _ _).trans (funext fun y => ?_)
  refine (congrArg (View.ld (Val := Elt Ideal) (e' := .f32) x r0_2) (eq_ix2 (n0 := 512) (n1 := 128) y)).trans
    ((ld_cut (e := .f32) x 0 _ (y 0) (y 1) (y 1) (Nat.zero_add _).symm).trans (congrArg x (eq_ix2 (n0 := 512) (n1 := 128) y).symm))

theorem shared_point (p : Fin 512) (l : Fin 128) :
    k0_pay69 (F := Ideal) x0 x1 x2 x3 x4 x5 x6 x7 x8 x9 x10 x11 x12 (ix2 p l) = laneRope (mat x10 p) (mat x11 p) (mat x12 p) (prodRow (xnOf x0 x1 p) (mat x4)) l := by
  refine (pay12_apply p _ _ (xn_point x0 x1 x2 x3 x4 x5 x6 x7 x8 x9 x10 x11 x12 p) _ _ _ _ l).trans ?_
  rw [mat_ld_bf16 x4 0 (Nat.le_refl _), cols_zero (mat x4)]
  rw [show k0_pay66 (F := Ideal) x0 x1 x2 x3 x4 x5 x6 x7 x8 x9 x10 x11 x12 = x10 from table_point x10, show k0_pay67 (F := Ideal) x0 x1 x2 x3 x4 x5 x6 x7 x8 x9 x10 x11 x12 = x11 from table_point x11,
    show k0_pay68 (F := Ideal) x0 x1 x2 x3 x4 x5 x6 x7 x8 x9 x10 x11 x12 = x12 from table_point x12]

/-- The queries' block. -/
theorem q_point : out0_13 (F := Ideal) x0 x1 x2 x3 x4 x5 x6 x7 x8 x9 x10 x11 x12 = qBlock (qnOf x0 x1 x2 x6) (mat x8) (mat x10) (mat x11) (mat x12) := by
  have hc : k0_pay66 (F := Ideal) x0 x1 x2 x3 x4 x5 x6 x7 x8 x9 x10 x11 x12 = x10 := table_point x10
  have h1 : k0_pay67 (F := Ideal) x0 x1 x2 x3 x4 x5 x6 x7 x8 x9 x10 x11 x12 = x11 := table_point x11
  have h2 : k0_pay68 (F := Ideal) x0 x1 x2 x3 x4 x5 x6 x7 x8 x9 x10 x11 x12 = x12 := table_point x12
  have hn := nope_point x0 x1 x2 x3 x4 x5 x6 x7 x8 x9 x10 x11 x12
  have hr := rope_point x0 x1 x2 x3 x4 x5 x6 x7 x8 x9 x10 x11 x12
  funext y
  unfold out0_13
  rw [hc, h1, h2]
  refine View.canon_apply_of_pieces (Val := Elt Ideal) (e := .bf16) _ _ ?_ y (cover0_13 (F := Ideal) _ _ _ _ _ _ _ _ _ _ _ _ _ _ _ _ y)
  refine List.forall_mem_cons.mpr ⟨(odd_holds 3 (by omega) _ hr 384 rfl slices_S512x512_o0_384_S512x128).piece inb_S512x2048_S512x128_0_1920,
    List.forall_mem_cons.mpr ⟨(nope_holds 7 (by omega) _ hn 896 rfl slices_S512x1024_o0_896_S512x128).piece inb_S512x2048_S512x128_0_1792,
    List.forall_mem_cons.mpr ⟨(even_holds 3 (by omega) _ hr 384 rfl slices_S512x512_o0_384_S512x128).piece inb_S512x2048_S512x128_0_1664,
    List.forall_mem_cons.mpr ⟨(nope_holds 6 (by omega) _ hn 768 rfl slices_S512x1024_o0_768_S512x128).piece inb_S512x2048_S512x128_0_1536,
    List.forall_mem_cons.mpr ⟨(odd_holds 2 (by omega) _ hr 256 rfl slices_S512x512_o0_256_S512x128).piece inb_S512x2048_S512x128_0_1408,
    List.forall_mem_cons.mpr ⟨(nope_holds 5 (by omega) _ hn 640 rfl slices_S512x1024_o0_640_S512x128).piece inb_S512x2048_S512x128_0_1280,
    List.forall_mem_cons.mpr ⟨(even_holds 2 (by omega) _ hr 256 rfl slices_S512x512_o0_256_S512x128).piece inb_S512x2048_S512x128_0_1152,
    List.forall_mem_cons.mpr ⟨(nope_holds 4 (by omega) _ hn 512 rfl slices_S512x1024_o0_512_S512x128).piece inb_S512x2048_S512x128_0_1024,
    List.forall_mem_cons.mpr ⟨(odd_holds 1 (by omega) _ hr 128 rfl slices_S512x512_o0_128_S512x128).piece inb_S512x2048_S512x128_0_896,
    List.forall_mem_cons.mpr ⟨(nope_holds 3 (by omega) _ hn 384 rfl slices_S512x1024_o0_384_S512x128).piece inb_S512x2048_S512x128_0_768,
    List.forall_mem_cons.mpr ⟨(even_holds 1 (by omega) _ hr 128 rfl slices_S512x512_o0_128_S512x128).piece inb_S512x2048_S512x128_0_640,
    List.forall_mem_cons.mpr ⟨(nope_holds 2 (by omega) _ hn 256 rfl slices_S512x1024_o0_256_S512x128).piece inb_S512x2048_S512x128_0_512,
    List.forall_mem_cons.mpr ⟨(odd_holds 0 (by omega) _ hr 0 rfl slices_S512x512_o0_0_S512x128).piece inb_S512x2048_S512x128_0_384,
    List.forall_mem_cons.mpr ⟨(nope_holds 1 (by omega) _ hn 128 rfl slices_S512x1024_o0_128_S512x128).piece inb_S512x2048_S512x128_0_256,
    List.forall_mem_cons.mpr ⟨(even_holds 0 (by omega) _ hr 0 rfl slices_S512x512_o0_0_S512x128).piece inb_S512x2048_S512x128_0_128,
    List.forall_mem_cons.mpr ⟨(nope_holds 0 (by omega) _ hn 0 rfl slices_S512x1024_o0_0_S512x128).piece inb_S512x2048_S512x128_0_0,
    fun _ h => absurd h List.not_mem_nil⟩⟩⟩⟩⟩⟩⟩⟩⟩⟩⟩⟩⟩⟩⟩⟩

/-- The keys' block. -/
theorem k_point : out0_14 (F := Ideal) x0 x1 x2 x3 x4 x5 x6 x7 x8 x9 x10 x11 x12
    = kBlock (kvnOf x0 x1 x2 x7) (mat x9) (xnOf x0 x1) (mat x4) (mat x10) (mat x11) (mat x12) := by
  have hs := shared_point x0 x1 x2 x3 x4 x5 x6 x7 x8 x9 x10 x11 x12
  have hv := kvn_point x0 x1 x2 x3 x4 x5 x6 x7 x8 x9 x10 x11 x12
  funext y
  unfold out0_14
  refine View.canon_apply_of_pieces (Val := Elt Ideal) (e := .bf16) _ _ ?_ y (cover0_14 (F := Ideal) _ _ _ _ _ _ _ _ _ _ _ _ _ _ _ _ y)
  refine List.forall_mem_cons.mpr ⟨(shared_holds 7 (by omega) _ hs 1920 rfl).piece inb_S512x2048_S512x128_0_1920,
    List.forall_mem_cons.mpr ⟨(key_holds 7 (by omega) _ hv 1792 rfl inb_S512x2048_S512x256_0_1792).piece inb_S512x2048_S512x128_0_1792,
    List.forall_mem_cons.mpr ⟨(shared_holds 6 (by omega) _ hs 1664 rfl).piece inb_S512x2048_S512x128_0_1664,
    List.forall_mem_cons.mpr ⟨(key_holds 6 (by omega) _ hv 1536 rfl inb_S512x2048_S512x256_0_1536).piece inb_S512x2048_S512x128_0_1536,
    List.forall_mem_cons.mpr ⟨(shared_holds 5 (by omega) _ hs 1408 rfl).piece inb_S512x2048_S512x128_0_1408,
    List.forall_mem_cons.mpr ⟨(key_holds 5 (by omega) _ hv 1280 rfl inb_S512x2048_S512x256_0_1280).piece inb_S512x2048_S512x128_0_1280,
    List.forall_mem_cons.mpr ⟨(shared_holds 4 (by omega) _ hs 1152 rfl).piece inb_S512x2048_S512x128_0_1152,
    List.forall_mem_cons.mpr ⟨(key_holds 4 (by omega) _ hv 1024 rfl inb_S512x2048_S512x256_0_1024).piece inb_S512x2048_S512x128_0_1024,
    List.forall_mem_cons.mpr ⟨(shared_holds 3 (by omega) _ hs 896 rfl).piece inb_S512x2048_S512x128_0_896,
    List.forall_mem_cons.mpr ⟨(key_holds 3 (by omega) _ hv 768 rfl inb_S512x2048_S512x256_0_768).piece inb_S512x2048_S512x128_0_768,
    List.forall_mem_cons.mpr ⟨(shared_holds 2 (by omega) _ hs 640 rfl).piece inb_S512x2048_S512x128_0_640,
    List.forall_mem_cons.mpr ⟨(key_holds 2 (by omega) _ hv 512 rfl inb_S512x2048_S512x256_0_512).piece inb_S512x2048_S512x128_0_512,
    List.forall_mem_cons.mpr ⟨(shared_holds 1 (by omega) _ hs 384 rfl).piece inb_S512x2048_S512x128_0_384,
    List.forall_mem_cons.mpr ⟨(key_holds 1 (by omega) _ hv 256 rfl inb_S512x2048_S512x256_0_256).piece inb_S512x2048_S512x128_0_256,
    List.forall_mem_cons.mpr ⟨(shared_holds 0 (by omega) _ hs 128 rfl).piece inb_S512x2048_S512x128_0_128,
    List.forall_mem_cons.mpr ⟨(key_holds 0 (by omega) _ hv 0 rfl inb_S512x2048_S512x256_0_0).piece inb_S512x2048_S512x128_0_0,
    fun _ h => absurd h List.not_mem_nil⟩⟩⟩⟩⟩⟩⟩⟩⟩⟩⟩⟩⟩⟩⟩⟩

/-- The values' block. -/
theorem v_point : out0_15 (F := Ideal) x0 x1 x2 x3 x4 x5 x6 x7 x8 x9 x10 x11 x12 = vBlock (kvnOf x0 x1 x2 x7) (mat x9) := by
  have hv := kvn_point x0 x1 x2 x3 x4 x5 x6 x7 x8 x9 x10 x11 x12
  funext y
  unfold out0_15
  refine View.canon_apply_of_pieces (Val := Elt Ideal) (e := .bf16) _ _ ?_ y (cover0_15 (F := Ideal) _ _ _ _ _ _ _ _ _ _ _ _ _ _ _ _ y)
  refine List.forall_mem_cons.mpr ⟨(ones_holds 7 (by omega) 1920 rfl).piece inb_S512x2048_S512x128_0_1920,
    List.forall_mem_cons.mpr ⟨(value_holds 7 (by omega) _ hv 1792 rfl inb_S512x2048_S512x256_0_1792).piece inb_S512x2048_S512x128_0_1792,
    List.forall_mem_cons.mpr ⟨(ones_holds 6 (by omega) 1664 rfl).piece inb_S512x2048_S512x128_0_1664,
    List.forall_mem_cons.mpr ⟨(value_holds 6 (by omega) _ hv 1536 rfl inb_S512x2048_S512x256_0_1536).piece inb_S512x2048_S512x128_0_1536,
    List.forall_mem_cons.mpr ⟨(ones_holds 5 (by omega) 1408 rfl).piece inb_S512x2048_S512x128_0_1408,
    List.forall_mem_cons.mpr ⟨(value_holds 5 (by omega) _ hv 1280 rfl inb_S512x2048_S512x256_0_1280).piece inb_S512x2048_S512x128_0_1280,
    List.forall_mem_cons.mpr ⟨(ones_holds 4 (by omega) 1152 rfl).piece inb_S512x2048_S512x128_0_1152,
    List.forall_mem_cons.mpr ⟨(value_holds 4 (by omega) _ hv 1024 rfl inb_S512x2048_S512x256_0_1024).piece inb_S512x2048_S512x128_0_1024,
    List.forall_mem_cons.mpr ⟨(ones_holds 3 (by omega) 896 rfl).piece inb_S512x2048_S512x128_0_896,
    List.forall_mem_cons.mpr ⟨(value_holds 3 (by omega) _ hv 768 rfl inb_S512x2048_S512x256_0_768).piece inb_S512x2048_S512x128_0_768,
    List.forall_mem_cons.mpr ⟨(ones_holds 2 (by omega) 640 rfl).piece inb_S512x2048_S512x128_0_640,
    List.forall_mem_cons.mpr ⟨(value_holds 2 (by omega) _ hv 512 rfl inb_S512x2048_S512x256_0_512).piece inb_S512x2048_S512x128_0_512,
    List.forall_mem_cons.mpr ⟨(ones_holds 1 (by omega) 384 rfl).piece inb_S512x2048_S512x128_0_384,
    List.forall_mem_cons.mpr ⟨(value_holds 1 (by omega) _ hv 256 rfl inb_S512x2048_S512x256_0_256).piece inb_S512x2048_S512x128_0_256,
    List.forall_mem_cons.mpr ⟨(ones_holds 0 (by omega) 128 rfl).piece inb_S512x2048_S512x128_0_128,
    List.forall_mem_cons.mpr ⟨(value_holds 0 (by omega) _ hv 0 rfl inb_S512x2048_S512x256_0_0).piece inb_S512x2048_S512x128_0_0,
    fun _ h => absurd h List.not_mem_nil⟩⟩⟩⟩⟩⟩⟩⟩⟩⟩⟩⟩⟩⟩⟩⟩

/-- The gated branch's block. -/
theorem c_point (p : Fin 512) (j : Fin 1024) : out0_16 (F := Ideal) x0 x1 x2 x3 x4 x5 x6 x7 x8 x9 x10 x11 x12 (ix2 p j) = cRow (xnOf x0 x1 p) (mat x3) (mat x5 0) j := by
  unfold out0_16
  have hw : ∀ x : S512x1024.Idx, r0_7.emb x = x := fun x => funext fun a => Fin.ext (by
    match a with
    | ⟨0, _⟩ => show 0 + 1 * (x 0).val = (x 0).val; omega
    | ⟨1, _⟩ => show 0 + 1 * (x 1).val = (x 1).val; omega)
  refine (View.canon_apply_of_pieces (Val := Elt Ideal) (e := .bf16) _ _ (List.forall_mem_cons.mpr ⟨fun x => (congrArg _ (hw x)).symm, fun _ h => absurd h List.not_mem_nil⟩) (ix2 p j) (cover0_16 (F := Ideal) _ _)).trans ?_
  refine (pay10_apply p _ _ _ _ _ _ j).trans ?_
  rw [mat_ld x0 0 (Nat.le_refl _), mat_ld x1 0 (Nat.le_refl _), cols_zero, cols_zero, mat_ld_bf16 x3 0 (by omega), mat_ld_bf16 x3 1024 (by omega), mat_ld x5 0 (by omega), mat_ld x5 1024 (by omega)]
  have h0 : ∀ X : Fin 2048 → Fin 2048 → EReal, prodRow (xnOf x0 x1 p) (cols 0 (k := 1024) (by omega) X) j = prodRow (xnOf x0 x1 p) X ⟨j.val, by omega⟩ := fun X =>
    Finset.sum_congr rfl fun d _ => congrArg (_ * ·) (congrArg (X d) (Fin.ext (Nat.zero_add _)))
  exact congrArg₂ (· * ·) (congrArg₂ (· + ·) (h0 _) (congrArg (mat x5 0) (Fin.ext (Nat.zero_add _)))) rfl

end Point

end Cert.Proof.Proj

end
-- ==== Proof.ProjValue.lean ====
/-
  The projection call's four results as arrays: which blocks a grid point reads and writes, and the results' elements
  from the arrays the call reads.
-/
module

public import proofs.«01_k».proof.Proof.ProjPoint
public import Idealize.ShloMosaic.Lib.Pipeline.ValueKit
public import Idealize.ShloMosaic.Lib.StableHlo.Run

@[expose] public section

set_option maxRecDepth 16384

noncomputable section

namespace Cert.Proof.Proj

open Idealize.ShloMosaic.Tactic Cert.ProjIdeal Cert.ProjIdeal.Gen Idealize.ShloMosaic.TcCoe Idealize.SL.Sem
open Idealize.ShloMosaic.ValueIdx
open Idealize.ShloMosaic hiding ix2 ix3 ix4
open Idealize.ShloMosaic.Pipeline (Dat Cfg Window)

variable (m : (ℓ : Loc nD τ sig) → Buf (Elt Ideal) ℓ)

/-! ## The blocks of a grid point: rows `512 t` on, and the tables' rows of its positions -/

/-- A grid point's rows of an array. -/
def rowsOf {n : ℕ} (X : (⟨2, ![8192, n]⟩ : Shape).Idx → EReal) (t : Fin cfg0.N) : (⟨2, ![512, n]⟩ : Shape).Idx → EReal := fun j =>
  X (ix2 ⟨t.val * 512 + (j 0).val, by have : (j 0).val < 512 := (j 0).isLt; have : t.val < 16 := t.isLt; omega⟩ (j 1))

/-- A grid point's positions' rows of a table. -/
def tableOf (X : S2048x128.Idx → EReal) (t : Fin cfg0.N) : S512x128.Idx → EReal := fun j =>
  X (ix2 ⟨t.val % 4 * 512 + (j 0).val, by have : (j 0).val < 512 := (j 0).isLt; omega⟩ (j 1))

theorem index_0 : ∀ t : Fin cfg0.N, win0_0.index t = ![t.val, 0] := (by decide +kernel : ∀ t : Fin grid0.N, win0_0.index t = ![t.val, 0])
theorem index_1 : ∀ t : Fin cfg0.N, win0_1.index t = ![0, 0] := (by decide +kernel : ∀ t : Fin grid0.N, win0_1.index t = ![0, 0])
theorem index_2 : ∀ t : Fin cfg0.N, win0_2.index t = ![0, 0] := (by decide +kernel : ∀ t : Fin grid0.N, win0_2.index t = ![0, 0])
theorem index_3 : ∀ t : Fin cfg0.N, win0_3.index t = ![0, 0] := (by decide +kernel : ∀ t : Fin grid0.N, win0_3.index t = ![0, 0])
theorem index_4 : ∀ t : Fin cfg0.N, win0_4.index t = ![0, 0] := (by decide +kernel : ∀ t : Fin grid0.N, win0_4.index t = ![0, 0])
theorem index_5 : ∀ t : Fin cfg0.N, win0_5.index t = ![0, 0] := (by decide +kernel : ∀ t : Fin grid0.N, win0_5.index t = ![0, 0])
theorem index_6 : ∀ t : Fin cfg0.N, win0_6.index t = ![0, 0] := (by decide +kernel : ∀ t : Fin grid0.N, win0_6.index t = ![0, 0])
theorem index_7 : ∀ t : Fin cfg0.N, win0_7.index t = ![0, 0] := (by decide +kernel : ∀ t : Fin grid0.N, win0_7.index t = ![0, 0])
theorem index_8 : ∀ t : Fin cfg0.N, win0_8.index t = ![0, 0] := (by decide +kernel : ∀ t : Fin grid0.N, win0_8.index t = ![0, 0])
theorem index_9 : ∀ t : Fin cfg0.N, win0_9.index t = ![0, 0] := (by decide +kernel : ∀ t : Fin grid0.N, win0_9.index t = ![0, 0])
theorem index_10 : ∀ t : Fin cfg0.N, win0_10.index t = ![t.val % 4, 0] := (by decide +kernel : ∀ t : Fin grid0.N, win0_10.index t = ![t.val % 4, 0])
theorem index_11 : ∀ t : Fin cfg0.N, win0_11.index t = ![t.val % 4, 0] := (by decide +kernel : ∀ t : Fin grid0.N, win0_11.index t = ![t.val % 4, 0])
theorem index_12 : ∀ t : Fin cfg0.N, win0_12.index t = ![t.val % 4, 0] := (by decide +kernel : ∀ t : Fin grid0.N, win0_12.index t = ![t.val % 4, 0])
theorem index_13 : ∀ t : Fin cfg0.N, win0_13.index t = ![t.val, 0] := (by decide +kernel : ∀ t : Fin grid0.N, win0_13.index t = ![t.val, 0])
theorem index_14 : ∀ t : Fin cfg0.N, win0_14.index t = ![t.val, 0] := (by decide +kernel : ∀ t : Fin grid0.N, win0_14.index t = ![t.val, 0])
theorem index_15 : ∀ t : Fin cfg0.N, win0_15.index t = ![t.val, 0] := (by decide +kernel : ∀ t : Fin grid0.N, win0_15.index t = ![t.val, 0])
theorem index_16 : ∀ t : Fin cfg0.N, win0_16.index t = ![t.val, 0] := (by decide +kernel : ∀ t : Fin grid0.N, win0_16.index t = ![t.val, 0])

theorem iblk_0 (c : Dev nD) (t : Fin cfg0.N) : iblk m c 0 t = rowsOf (V m c main_v41) t := by
  funext j
  unfold iblk
  refine congrArg (V m c main_v41) (funext fun a => Fin.ext ((win0_0.rect_emb_val_off t _ a).trans ?_))
  rw [index_0 t]
  match a with
  | ⟨0, _⟩ => rfl
  | ⟨1, _⟩ => exact Nat.zero_add _

theorem iblk_1 (c : Dev nD) (t : Fin cfg0.N) : iblk m c 1 t = V m c main_arg1 := by
  funext j
  unfold iblk
  refine congrArg (V m c main_arg1) (funext fun a => Fin.ext ((win0_1.rect_emb_val_off t _ a).trans ?_))
  rw [index_1 t]
  match a with
  | ⟨0, _⟩ => exact Nat.zero_add _
  | ⟨1, _⟩ => exact Nat.zero_add _

theorem iblk_2 (c : Dev nD) (t : Fin cfg0.N) : iblk m c 2 t = V m c main_v2 := by
  funext j
  unfold iblk
  refine congrArg (V m c main_v2) (funext fun a => Fin.ext ((win0_2.rect_emb_val_off t _ a).trans ?_))
  rw [index_2 t]
  match a with
  | ⟨0, _⟩ => exact Nat.zero_add _
  | ⟨1, _⟩ => exact Nat.zero_add _

theorem iblk_3 (c : Dev nD) (t : Fin cfg0.N) : iblk m c 3 t = V m c main_v4 := by
  funext j
  unfold iblk
  refine congrArg (V m c main_v4) (funext fun a => Fin.ext ((win0_3.rect_emb_val_off t _ a).trans ?_))
  rw [index_3 t]
  match a with
  | ⟨0, _⟩ => exact Nat.zero_add _
  | ⟨1, _⟩ => exact Nat.zero_add _

theorem iblk_4 (c : Dev nD) (t : Fin cfg0.N) : iblk m c 4 t = V m c main_v8 := by
  funext j
  unfold iblk
  refine congrArg (V m c main_v8) (funext fun a => Fin.ext ((win0_4.rect_emb_val_off t _ a).trans ?_))
  rw [index_4 t]
  match a with
  | ⟨0, _⟩ => exact Nat.zero_add _
  | ⟨1, _⟩ => exact Nat.zero_add _

theorem iblk_5 (c : Dev nD) (t : Fin cfg0.N) : iblk m c 5 t = V m c main_arg3 := by
  funext j
  unfold iblk
  refine congrArg (V m c main_arg3) (funext fun a => Fin.ext ((win0_5.rect_emb_val_off t _ a).trans ?_))
  rw [index_5 t]
  match a with
  | ⟨0, _⟩ => exact Nat.zero_add _
  | ⟨1, _⟩ => exact Nat.zero_add _

theorem iblk_6 (c : Dev nD) (t : Fin cfg0.N) : iblk m c 6 t = V m c main_arg4 := by
  funext j
  unfold iblk
  refine congrArg (V m c main_arg4) (funext fun a => Fin.ext ((win0_6.rect_emb_val_off t _ a).trans ?_))
  rw [index_6 t]
  match a with
  | ⟨0, _⟩ => exact Nat.zero_add _
  | ⟨1, _⟩ => exact Nat.zero_add _

theorem iblk_7 (c : Dev nD) (t : Fin cfg0.N) : iblk m c 7 t = V m c main_arg6 := by
  funext j
  unfold iblk
  refine congrArg (V m c main_arg6) (funext fun a => Fin.ext ((win0_7.rect_emb_val_off t _ a).trans ?_))
  rw [index_7 t]
  match a with
  | ⟨0, _⟩ => exact Nat.zero_add _
  | ⟨1, _⟩ => exact Nat.zero_add _

theorem iblk_8 (c : Dev nD) (t : Fin cfg0.N) : iblk m c 8 t = V m c main_v16 := by
  funext j
  unfold iblk
  refine congrArg (V m c main_v16) (funext fun a => Fin.ext ((win0_8.rect_emb_val_off t _ a).trans ?_))
  rw [index_8 t]
  match a with
  | ⟨0, _⟩ => exact Nat.zero_add _
  | ⟨1, _⟩ => exact Nat.zero_add _

theorem iblk_9 (c : Dev nD) (t : Fin cfg0.N) : iblk m c 9 t = V m c main_v42 := by
  funext j
  unfold iblk
  refine congrArg (V m c main_v42) (funext fun a => Fin.ext ((win0_9.rect_emb_val_off t _ a).trans ?_))
  rw [index_9 t]
  match a with
  | ⟨0, _⟩ => exact Nat.zero_add _
  | ⟨1, _⟩ => exact Nat.zero_add _

theorem iblk_10 (c : Dev nD) (t : Fin cfg0.N) : iblk m c 10 t = tableOf (V m c main_v36) t := by
  funext j
  unfold iblk
  refine congrArg (V m c main_v36) (funext fun a => Fin.ext ((win0_10.rect_emb_val_off t _ a).trans ?_))
  rw [index_10 t]
  match a with
  | ⟨0, _⟩ => rfl
  | ⟨1, _⟩ => exact Nat.zero_add _

theorem iblk_11 (c : Dev nD) (t : Fin cfg0.N) : iblk m c 11 t = tableOf (V m c main_v37) t := by
  funext j
  unfold iblk
  refine congrArg (V m c main_v37) (funext fun a => Fin.ext ((win0_11.rect_emb_val_off t _ a).trans ?_))
  rw [index_11 t]
  match a with
  | ⟨0, _⟩ => rfl
  | ⟨1, _⟩ => exact Nat.zero_add _

theorem iblk_12 (c : Dev nD) (t : Fin cfg0.N) : iblk m c 12 t = tableOf (V m c main_v40) t := by
  funext j
  unfold iblk
  refine congrArg (V m c main_v40) (funext fun a => Fin.ext ((win0_12.rect_emb_val_off t _ a).trans ?_))
  rw [index_12 t]
  match a with
  | ⟨0, _⟩ => rfl
  | ⟨1, _⟩ => exact Nat.zero_add _

/-! ## The results -/

/-- A row's position in its sequence. -/
def posOf (i : Fin 8192) : Fin 2048 := ⟨i.val % 2048, by omega⟩

/-- The queries, from the arrays the call reads. -/
def qAll (X : S8192x2048.Idx → EReal) (G : S1x2048.Idx → EReal) (W : S2048x1280.Idx → EReal) (g : S1x768.Idx → EReal) (w : S768x1536.Idx → EReal)
    (C S₁ S₂ : S2048x128.Idx → EReal) : S8192x2048.Idx → EReal := fun i =>
  qRow (qnRow (xnRow (mat X (i 0)) (mat G 0)) (cols 0 (by omega) (mat W)) (mat g 0)) (mat w)
    (mat C (posOf (i 0))) (mat S₁ (posOf (i 0))) (mat S₂ (posOf (i 0))) (i 1)

/-- The keys. -/
def kAll (X : S8192x2048.Idx → EReal) (G : S1x2048.Idx → EReal) (W : S2048x1280.Idx → EReal) (g : S1x512.Idx → EReal) (w : S512x2048.Idx → EReal)
    (R C S₁ S₂ : S2048x128.Idx → EReal) : S8192x2048.Idx → EReal := fun i =>
  kRow (kvnRow (xnRow (mat X (i 0)) (mat G 0)) (cols 768 (by omega) (mat W)) (mat g 0)) (mat w) (xnRow (mat X (i 0)) (mat G 0)) (mat R)
    (mat C (posOf (i 0))) (mat S₁ (posOf (i 0))) (mat S₂ (posOf (i 0))) (i 1)

/-- The values. -/
def vAll (X : S8192x2048.Idx → EReal) (G : S1x2048.Idx → EReal) (W : S2048x1280.Idx → EReal) (g : S1x512.Idx → EReal) (w : S512x2048.Idx → EReal) :
    S8192x2048.Idx → EReal := fun i =>
  vRow (kvnRow (xnRow (mat X (i 0)) (mat G 0)) (cols 768 (by omega) (mat W)) (mat g 0)) (mat w) (i 1)

/-- The gated branch. -/
def cAll (X : S8192x2048.Idx → EReal) (G : S1x2048.Idx → EReal) (U : S2048x2048.Idx → EReal) (b : S1x2048.Idx → EReal) : S8192x1024.Idx → EReal := fun i =>
  cRow (xnRow (mat X (i 0)) (mat G 0)) (mat U) (mat b 0) (i 1)

/-- A row of a grid point's block is the array's row there. -/
theorem mat_rows {n : ℕ} (X : (⟨2, ![8192, n]⟩ : Shape).Idx → EReal) (t : Fin cfg0.N) (p : Fin 512) (i : Fin 8192) (hi : i.val = t.val * 512 + p.val) :
    mat (rowsOf X t) p = mat X i := funext fun l => congrArg (fun k => X (ix2 k l)) (Fin.ext hi.symm)

/-- A row of a grid point's block of a table is the table's row of the array's position. -/
theorem mat_table (X : S2048x128.Idx → EReal) (t : Fin cfg0.N) (p : Fin 512) (i : Fin 8192) (hi : i.val = t.val * 512 + p.val) :
    mat (tableOf X t) p = mat X (posOf i) := funext fun l => congrArg (fun k => X (ix2 k l)) (Fin.ext (by
  have hp := p.isLt
  show t.val % 4 * 512 + p.val = i.val % 2048; omega))

theorem arr_13 (c : Dev nD) : (dats m 0 c).arrAt 13 cfg0.N = qAll (V m c main_v41) (V m c main_arg1) (V m c main_v2) (V m c main_arg4) (V m c main_v16)
    (V m c main_v36) (V m c main_v37) (V m c main_v40) := by
  refine (dats m 0 c).arrAt_eq_of_covers 13 _ (by decide +kernel) fun t _ y => ?_
  blk_simp
  rw [after0_13]
  have e0 : ((win0_13.blk t).view.emb y 0).val = t.val * 512 + (y 0).val := (win0_13.rect_emb_val_off t _ 0).trans (by rw [index_13 t]; rfl)
  have e1 : (win0_13.blk t).view.emb y 1 = y 1 := Fin.ext ((win0_13.rect_emb_val_off t _ 1).trans (by rw [index_13 t]; exact Nat.zero_add _))
  rw [q_point, iblk_0, iblk_1, iblk_2, iblk_6, iblk_8, iblk_10, iblk_11, iblk_12]
  unfold qBlock qAll qnOf xnOf
  rw [mat_rows _ t _ _ e0, mat_table _ t _ _ e0, mat_table _ t _ _ e0, mat_table _ t _ _ e0, e1]

theorem arr_14 (c : Dev nD) : (dats m 0 c).arrAt 14 cfg0.N = kAll (V m c main_v41) (V m c main_arg1) (V m c main_v2) (V m c main_arg6) (V m c main_v42)
    (V m c main_v8) (V m c main_v36) (V m c main_v37) (V m c main_v40) := by
  refine (dats m 0 c).arrAt_eq_of_covers 14 _ (by decide +kernel) fun t _ y => ?_
  blk_simp
  rw [after0_14]
  have e0 : ((win0_14.blk t).view.emb y 0).val = t.val * 512 + (y 0).val := (win0_14.rect_emb_val_off t _ 0).trans (by rw [index_14 t]; rfl)
  have e1 : (win0_14.blk t).view.emb y 1 = y 1 := Fin.ext ((win0_14.rect_emb_val_off t _ 1).trans (by rw [index_14 t]; exact Nat.zero_add _))
  rw [k_point, iblk_0, iblk_1, iblk_2, iblk_4, iblk_7, iblk_9, iblk_10, iblk_11, iblk_12]
  unfold kBlock kAll kvnOf xnOf
  rw [mat_rows _ t _ _ e0, mat_table _ t _ _ e0, mat_table _ t _ _ e0, mat_table _ t _ _ e0, e1]

theorem arr_15 (c : Dev nD) : (dats m 0 c).arrAt 15 cfg0.N = vAll (V m c main_v41) (V m c main_arg1) (V m c main_v2) (V m c main_arg6) (V m c main_v42) := by
  refine (dats m 0 c).arrAt_eq_of_covers 15 _ (by decide +kernel) fun t _ y => ?_
  blk_simp
  rw [after0_15]
  have e0 : ((win0_15.blk t).view.emb y 0).val = t.val * 512 + (y 0).val := (win0_15.rect_emb_val_off t _ 0).trans (by rw [index_15 t]; rfl)
  have e1 : (win0_15.blk t).view.emb y 1 = y 1 := Fin.ext ((win0_15.rect_emb_val_off t _ 1).trans (by rw [index_15 t]; exact Nat.zero_add _))
  rw [v_point, iblk_0, iblk_1, iblk_2, iblk_7, iblk_9]
  unfold vBlock vAll kvnOf xnOf
  rw [mat_rows _ t _ _ e0, e1]

theorem arr_16 (c : Dev nD) : (dats m 0 c).arrAt 16 cfg0.N = cAll (V m c main_v41) (V m c main_arg1) (V m c main_v4) (V m c main_arg3) := by
  refine (dats m 0 c).arrAt_eq_of_covers 16 _ (by decide +kernel) fun t _ y => ?_
  blk_simp
  rw [after0_16]
  have e0 : ((win0_16.blk t).view.emb y 0).val = t.val * 512 + (y 0).val := (win0_16.rect_emb_val_off t _ 0).trans (by rw [index_16 t]; rfl)
  have e1 : (win0_16.blk t).view.emb y 1 = y 1 := Fin.ext ((win0_16.rect_emb_val_off t _ 1).trans (by rw [index_16 t]; exact Nat.zero_add _))
  refine (congrArg _ (ValueIdx.eq_ix2 (n0 := 512) (n1 := 1024) y)).trans ((c_point _ _ _ _ _ _ _ _ _ _ _ _ _ (y 0) (y 1)).trans ?_)
  rw [iblk_0, iblk_1, iblk_3, iblk_5]
  unfold cAll xnOf
  rw [mat_rows _ t _ _ e0, e1]

end Cert.Proof.Proj

end
-- ==== Proof.ProjEqual.lean ====
/-
  The projection call's four results are the reference's: the same rows, lane by lane.
-/
module

public import proofs.«01_k».proof.Proof.ProjHost
public import proofs.«01_k».proof.Proof.ProjRef
public import proofs.«01_k».proof.Proof.ProjValue

@[expose] public section

set_option maxRecDepth 16384

noncomputable section

namespace Cert.Proof.Proj

open Cert.ProjIdeal Cert.ProjIdeal.Gen Idealize.ShloMosaic.TcCoe Idealize.SL.Sem
open Idealize.ShloMosaic.ValueIdx
open Idealize.ShloMosaic hiding ix2 ix3 ix4

variable (m : (ℓ : Loc nD τ sig) → Buf (Elt Ideal) ℓ) (c : Dev nD)

/-- A product's column, the weight's columns being the same. -/
theorem prod_congr {a n n' : ℕ} (x : Fin a → EReal) (w : Fin a → Fin n → EReal) (w' : Fin a → Fin n' → EReal) (j : Fin n) (j' : Fin n')
    (h : ∀ d, w d j = w' d j') : prodRow x w j = prodRow x w' j' :=
  Finset.sum_congr rfl fun d _ => congrArg (x d * ·) (h d)

variable (x0 : S4x2048x2048.Idx → EReal) (x1 : S1x2048.Idx → EReal) (x2 : S1x2048x3392.Idx → EReal) (x3 : S1x2048.Idx → EReal)
  (x4 : S1x768.Idx → EReal) (x5 : S1x768x1536.Idx → EReal) (x6 : S1x512.Idx → EReal) (x7 : S1x512x2048.Idx → EReal)

/-! ## The rows the results share -/

section Rows

variable (b : Fin 4) (r : Fin 2048)

theorem position_eq (i : Fin 8192) (hi : i.val = b.val * 2048 + r.val) : posOf i = r := Fin.ext (by show i.val % 2048 = r.val; omega)

theorem xn_eq (i : Fin 8192) (hi : i.val = b.val * 2048 + r.val) (e0 : m ((c.tc : Thread nD τ).loc main_arg0) = x0) (e1 : m ((c.tc : Thread nD τ).loc main_arg1) = x1) :
    xnRow (mat (V m c main_v41) i) (mat (V m c main_arg1) 0) = ProjRef.xnOf x0 x1 b r := by
  subst e0 e1
  refine congrArg₂ xnRow (funext fun d => rows_apply m c i b r d hi) (funext fun d => ?_)
  exact congrFun (V_main_arg1 m c) (ix2 0 d)

theorem wide_eq {k : ℕ} (o : ℕ) (ho : o + k ≤ 1280) (e2 : m ((c.tc : Thread nD τ).loc main_arg2) = x2) (d : Fin k) (j : Fin 3392) (hj : j.val = o + d.val) :
    prodRow (ProjRef.xnOf x0 x1 b r) (cols o ho (mat (V m c main_v2))) d = ProjRef.wideOf x0 x1 x2 b r j := by
  subst e2
  exact prod_congr _ _ _ d j fun e => latents_apply m c e ⟨o + d.val, by omega⟩ j hj

theorem qn_eq (e2 : m ((c.tc : Thread nD τ).loc main_arg2) = x2) (e4 : m ((c.tc : Thread nD τ).loc main_arg4) = x4) :
    qnRow (ProjRef.xnOf x0 x1 b r) (cols 0 (by omega) (mat (V m c main_v2))) (mat (V m c main_arg4) 0) = ProjRef.qnOf x0 x1 x2 x4 b r := by
  subst e4
  refine congrArg₂ (normRow _) (funext fun d => wide_eq m c x0 x1 x2 b r 0 _ e2 d ⟨d.val, by omega⟩ (Nat.zero_add _).symm) (funext fun d => ?_)
  exact congrFun (V_main_arg4 m c) (ix2 0 d)

theorem kvn_eq (e2 : m ((c.tc : Thread nD τ).loc main_arg2) = x2) (e6 : m ((c.tc : Thread nD τ).loc main_arg6) = x6) :
    kvnRow (ProjRef.xnOf x0 x1 b r) (cols 768 (by omega) (mat (V m c main_v2))) (mat (V m c main_arg6) 0) = ProjRef.kvnOf x0 x1 x2 x6 b r := by
  subst e6
  refine congrArg₂ (normRow _) (funext fun d => wide_eq m c x0 x1 x2 b r 768 _ e2 d ⟨768 + d.val, by omega⟩ rfl) (funext fun d => ?_)
  exact congrFun (V_main_arg6 m c) (ix2 0 d)

theorem cosines_eq : cosOf m c r = ProjRef.cosRow r := funext fun e => congrFun (cos_eq m c) (ix2 r e)

theorem sines_eq : sinOf m c r = ProjRef.sinRow r := funext fun e => congrFun (sin_eq m c) (ix2 r e)

/-- The kernel's lanes of one half, by its tables, are the reference's rotary embedding. -/
theorem rope_eq (t : Fin 128 → EReal) (t' : Fin 64 → EReal) (a : ℕ) (ha : a < 2) (ht : ∀ (l : Fin 128) (e : Fin 64), l.val = 64 * a + e.val → t l = t' e)
    (l : Fin 128) (e : Fin 64) (hl : l.val = 64 * a + e.val) :
    laneRope (mat (V m c main_v36) r) (mat (V m c main_v37) r) (mat (V m c main_v40) r) t l = ropeRow (ProjRef.cosRow r) (ProjRef.sinRow r) t' e := by
  rw [← cosines_eq m c r, ← sines_eq m c r]
  exact laneRope_eq _ _ _ _ _ _ _ a ha (cos_apply m c r) (before_zero m c r) (before_apply m c r) (after_apply m c r) (after_zero m c r) ht l e hl

/-- A head's rotary lanes of the queries. -/
theorem query_lanes (e5 : m ((c.tc : Thread nD τ).loc main_arg5) = x5) (g : Fin 8) (j : Fin 2048) (l : Fin 64) (hj : j.val = g.val * 256 + (128 + l.val)) :
    laneRope (mat (V m c main_v36) r) (mat (V m c main_v37) r) (mat (V m c main_v40) r)
      (fun k => prodRow (ProjRef.qnOf x0 x1 x2 x4 b r) (mat (V m c main_v16)) ⟨1024 + 128 * (j.val / 512) + k.val, by omega⟩)
      ⟨64 * (j.val / 256 % 2) + (j.val % 256 - 128), by omega⟩ = ropeRow (ProjRef.cosRow r) (ProjRef.sinRow r) (ProjRef.turnOf x0 x1 x2 x4 x5 b r g) l := by
  have ht : ∀ (k : Fin 128) (e : Fin 64), k.val = 64 * (g.val % 2) + e.val →
      prodRow (ProjRef.qnOf x0 x1 x2 x4 b r) (mat (V m c main_v16)) ⟨1024 + 128 * (j.val / 512) + k.val, by omega⟩ = ProjRef.turnOf x0 x1 x2 x4 x5 b r g e := fun k e hk =>
    prod_congr (ProjRef.qnOf x0 x1 x2 x4 b r) (mat (V m c main_v16)) (fun d j => x5 (ix3 0 d j)) ⟨1024 + 128 * (j.val / 512) + k.val, by omega⟩
      ⟨192 * g.val + 128 + e.val, by omega⟩ fun d => (second_rope m c d g e ⟨1024 + 128 * (j.val / 512) + k.val, by omega⟩ ⟨192 * g.val + 128 + e.val, by omega⟩
        (by show 1024 + 128 * (j.val / 512) + k.val = 1024 + 64 * g.val + e.val; omega) rfl).trans (congrFun e5 _)
  exact rope_eq m c r _ (ProjRef.turnOf x0 x1 x2 x4 x5 b r g) (g.val % 2) (by omega) ht ⟨64 * (j.val / 256 % 2) + (j.val % 256 - 128), by omega⟩ l
    (by show 64 * (j.val / 256 % 2) + (j.val % 256 - 128) = 64 * (g.val % 2) + l.val; omega)

/-- The keys' rotary lanes. -/
theorem key_lanes (e2 : m ((c.tc : Thread nD τ).loc main_arg2) = x2) (j : Fin 128) (l : Fin 64) (hj : j.val = l.val) :
    laneRope (mat (V m c main_v36) r) (mat (V m c main_v37) r) (mat (V m c main_v40) r) (prodRow (ProjRef.xnOf x0 x1 b r) (mat (V m c main_v8))) j
      = ropeRow (ProjRef.cosRow r) (ProjRef.sinRow r) (ProjRef.keyTurnOf x0 x1 x2 b r) l := by
  have ht : ∀ (k : Fin 128) (e : Fin 64), k.val = 64 * 0 + e.val → prodRow (ProjRef.xnOf x0 x1 b r) (mat (V m c main_v8)) k = ProjRef.keyTurnOf x0 x1 x2 b r e := fun k e hk =>
    prod_congr (ProjRef.xnOf x0 x1 b r) (mat (V m c main_v8)) (fun d j => x2 (ix3 0 d j)) k ⟨1280 + e.val, by omega⟩ fun d =>
      (rotary_apply m c d k e (by omega) ⟨1280 + e.val, by omega⟩ rfl).trans (congrFun e2 _)
  exact rope_eq m c r _ (ProjRef.keyTurnOf x0 x1 x2 b r) 0 (by omega) ht j l (by omega)

/-- The keys' lanes past the rotary part. -/
theorem key_rest (j : Fin 128) (hj : 64 ≤ j.val) :
    laneRope (mat (V m c main_v36) r) (mat (V m c main_v37) r) (mat (V m c main_v40) r) (prodRow (ProjRef.xnOf x0 x1 b r) (mat (V m c main_v8))) j = 0 := by
  have ht : ∀ k : Fin 128, 64 ≤ k.val → prodRow (ProjRef.xnOf x0 x1 b r) (mat (V m c main_v8)) k = 0 := fun k hk =>
    Finset.sum_eq_zero fun d _ => (congrArg (ProjRef.xnOf x0 x1 b r d * ·) (rotary_zero m c d k hk)).trans (mul_zero _)
  exact laneRope_zero _ _ _ _ j (after_zero m c r j) (before_zero m c r j) hj ht

end Rows

/-! ## The results -/

/-- A row of the results as a batch's position. -/
theorem row_split (i : Fin 8192) : ∃ (b : Fin 4) (r : Fin 2048), i.val = b.val * 2048 + r.val :=
  ⟨⟨i.val / 2048, by omega⟩, ⟨i.val % 2048, by omega⟩, by show i.val = i.val / 2048 * 2048 + i.val % 2048; omega⟩

/-- A column of the results as a head's lane. -/
theorem lane_split (j : Fin 2048) : ∃ (g : Fin 8) (l : Fin 256), j.val = g.val * 256 + l.val :=
  ⟨⟨j.val / 256, by omega⟩, ⟨j.val % 256, by omega⟩, by show j.val = j.val / 256 * 256 + j.val % 256; omega⟩

theorem q_eq (e0 : m ((c.tc : Thread nD τ).loc main_arg0) = x0) (e1 : m ((c.tc : Thread nD τ).loc main_arg1) = x1) (e2 : m ((c.tc : Thread nD τ).loc main_arg2) = x2)
    (e4 : m ((c.tc : Thread nD τ).loc main_arg4) = x4) (e5 : m ((c.tc : Thread nD τ).loc main_arg5) = x5) :
    qAll (V m c main_v41) (V m c main_arg1) (V m c main_v2) (V m c main_arg4) (V m c main_v16) (V m c main_v36) (V m c main_v37) (V m c main_v40)
      = Cert.ProjRefIdeal.Read.val_main_v143 (F := Ideal) x0 x1 x2 x4 x5 := by
  funext i
  obtain ⟨b, r, h0⟩ := row_split (i 0)
  obtain ⟨g, l, h1⟩ := lane_split (i 1)
  unfold qAll
  rw [position_eq b r (i 0) h0, xn_eq m c x0 x1 b r (i 0) h0 e0 e1, qn_eq m c x0 x1 x2 x4 b r e2 e4]
  unfold qRow
  by_cases hl : l.val < 128
  · rw [if_pos (by omega)]
    refine Eq.trans ?_ (ProjRef.q_first x0 x1 x2 x4 x5 b r i g h0 ⟨l.val, hl⟩ h1 ⟨192 * g.val + l.val, by omega⟩ rfl).symm
    refine congrArg (· * qScale) (prod_congr _ _ _ _ _ fun d => ?_)
    exact (second_nope m c d g ⟨l.val, hl⟩ _ ⟨192 * g.val + l.val, by omega⟩ (by show 128 * ((i 1).val / 256) + (i 1).val % 256 = 128 * g.val + l.val; omega) rfl).trans
      (congrFun e5 _)
  · rw [if_neg (by omega)]
    by_cases hl' : l.val < 192
    · rw [dif_pos (by omega)]
      refine Eq.trans ?_ (ProjRef.q_second x0 x1 x2 x4 x5 b r i g h0 ⟨l.val - 128, by omega⟩ (by show (i 1).val = g.val * 256 + (128 + (l.val - 128)); omega)).symm
      exact congrArg (· * qScale) (query_lanes m c x0 x1 x2 x4 x5 b r e5 g (i 1) ⟨l.val - 128, by omega⟩ (by show (i 1).val = g.val * 256 + (128 + (l.val - 128)); omega))
    · rw [dif_neg (by omega)]
      exact (ProjRef.q_third x0 x1 x2 x4 x5 b r i g h0 ⟨l.val - 192, by omega⟩ (by show (i 1).val = g.val * 256 + (128 + 64 + (l.val - 192)); omega)).symm

theorem k_eq (e0 : m ((c.tc : Thread nD τ).loc main_arg0) = x0) (e1 : m ((c.tc : Thread nD τ).loc main_arg1) = x1) (e2 : m ((c.tc : Thread nD τ).loc main_arg2) = x2)
    (e6 : m ((c.tc : Thread nD τ).loc main_arg6) = x6) (e7 : m ((c.tc : Thread nD τ).loc main_arg7) = x7) :
    kAll (V m c main_v41) (V m c main_arg1) (V m c main_v2) (V m c main_arg6) (V m c main_v42) (V m c main_v8) (V m c main_v36) (V m c main_v37) (V m c main_v40)
      = Cert.ProjRefIdeal.Read.val_main_v145 (F := Ideal) x0 x1 x2 x6 x7 := by
  funext i
  obtain ⟨b, r, h0⟩ := row_split (i 0)
  obtain ⟨g, l, h1⟩ := lane_split (i 1)
  unfold kAll
  rw [position_eq b r (i 0) h0, xn_eq m c x0 x1 b r (i 0) h0 e0 e1, kvn_eq m c x0 x1 x2 x6 b r e2 e6]
  unfold kRow
  by_cases hl : l.val < 128
  · rw [if_pos (by omega)]
    refine Eq.trans ?_ (ProjRef.k_first x0 x1 x2 x6 x7 b r i g h0 ⟨l.val, hl⟩ h1 (i 1) (by show (i 1).val = 256 * g.val + l.val; omega)).symm
    exact prod_congr _ _ _ _ _ fun d => (kv_weight_apply m c d _).trans (congrFun e7 _)
  · rw [if_neg (by omega)]
    by_cases hl' : l.val < 192
    · refine Eq.trans ?_ (ProjRef.k_second x0 x1 x2 x6 x7 b r i g h0 ⟨l.val - 128, by omega⟩ (by show (i 1).val = g.val * 256 + (128 + (l.val - 128)); omega)).symm
      exact key_lanes m c x0 x1 x2 b r e2 ⟨(i 1).val % 256 - 128, by omega⟩ ⟨l.val - 128, by omega⟩ (by show (i 1).val % 256 - 128 = l.val - 128; omega)
    · refine Eq.trans ?_ (ProjRef.k_third x0 x1 x2 x6 x7 b r i g h0 ⟨l.val - 192, by omega⟩ (by show (i 1).val = g.val * 256 + (128 + 64 + (l.val - 192)); omega)).symm
      exact key_rest m c x0 x1 b r ⟨(i 1).val % 256 - 128, by omega⟩ (by show 64 ≤ (i 1).val % 256 - 128; omega)

theorem v_eq (e0 : m ((c.tc : Thread nD τ).loc main_arg0) = x0) (e1 : m ((c.tc : Thread nD τ).loc main_arg1) = x1) (e2 : m ((c.tc : Thread nD τ).loc main_arg2) = x2)
    (e6 : m ((c.tc : Thread nD τ).loc main_arg6) = x6) (e7 : m ((c.tc : Thread nD τ).loc main_arg7) = x7) :
    vAll (V m c main_v41) (V m c main_arg1) (V m c main_v2) (V m c main_arg6) (V m c main_v42)
      = Cert.ProjRefIdeal.Read.val_main_v147 (F := Ideal) x0 x1 x2 x6 x7 := by
  funext i
  obtain ⟨b, r, h0⟩ := row_split (i 0)
  obtain ⟨g, l, h1⟩ := lane_split (i 1)
  unfold vAll
  rw [xn_eq m c x0 x1 b r (i 0) h0 e0 e1, kvn_eq m c x0 x1 x2 x6 b r e2 e6]
  unfold vRow
  by_cases hl : l.val < 128
  · rw [dif_pos (by omega)]
    refine Eq.trans ?_ (ProjRef.v_first x0 x1 x2 x6 x7 b r i g h0 ⟨l.val, hl⟩ h1 ⟨(i 1).val + 128, by omega⟩
      (by show (i 1).val + 128 = 256 * g.val + (128 + l.val); omega)).symm
    exact prod_congr _ _ _ _ _ fun d => (kv_weight_apply m c d _).trans (congrFun e7 _)
  · rw [dif_neg (by omega)]
    by_cases hl' : l.val = 128
    · rw [if_pos (by omega)]
      exact (ProjRef.v_second x0 x1 x2 x6 x7 b r i g h0 (by omega)).symm
    · rw [if_neg (by omega)]
      exact (ProjRef.v_third x0 x1 x2 x6 x7 b r i g h0 ⟨l.val - 129, by omega⟩ (by show (i 1).val = g.val * 256 + (128 + 1 + (l.val - 129)); omega)).symm

theorem c_eq (e0 : m ((c.tc : Thread nD τ).loc main_arg0) = x0) (e1 : m ((c.tc : Thread nD τ).loc main_arg1) = x1) (e2 : m ((c.tc : Thread nD τ).loc main_arg2) = x2)
    (e3 : m ((c.tc : Thread nD τ).loc main_arg3) = x3) :
    cAll (V m c main_v41) (V m c main_arg1) (V m c main_v4) (V m c main_arg3) = Cert.ProjRefIdeal.Read.val_main_v149 (F := Ideal) x0 x1 x2 x3 := by
  funext i
  obtain ⟨b, r, h0⟩ := row_split (i 0)
  refine Eq.trans ?_ (ProjRef.c_apply x0 x1 x2 x3 b r i h0).symm
  have hg : ∀ j : Fin 2048, prodRow (ProjRef.xnOf x0 x1 b r) (mat (V m c main_v4)) j + mat (V m c main_arg3) 0 j = ProjRef.gateOf x0 x1 x2 x3 b r j := fun j =>
    congrArg₂ (· + ·) (prod_congr _ _ _ _ _ fun d => (gates_apply m c d j ⟨1344 + j.val, by omega⟩ rfl).trans (congrFun e2 _))
      ((congrFun (V_main_arg3 m c) (ix2 0 j)).trans (congrFun e3 _))
  unfold cAll
  rw [xn_eq m c x0 x1 b r (i 0) h0 e0 e1]
  exact congrArg₂ (· * ·) (hg _) (congrArg Ideal.logistic (hg _))

end Cert.Proof.Proj

end
-- ==== Proof.ProjClaims.lean ====
/-
  The projection call's claims: the frames, the named scale, and that the kernel computes the reference's queries, keys,
  values and gated branch.
-/
module

public import proofs.«01_k».proof.Defs
public import proofs.«01_k».proof.Proof.Gen.Proj
public import proofs.«01_k».proof.Proof.Gen.Proj.Frame
public import proofs.«01_k».proof.Proof.Gen.ProjIdeal.Value
public import proofs.«01_k».proof.Proof.Gen.ProjRefIdeal.Run
public import proofs.«01_k».proof.Proof.ProjEqual
public import Idealize.ShloMosaic.Adequacy
public import Idealize.ShloMosaic.Init

@[expose] public section

set_option maxRecDepth 16384

noncomputable section

namespace Cert.Proof.Proj

open Cert.ProjIdeal Cert.ProjIdeal.Gen Idealize.ShloMosaic.TcCoe Idealize.SL.Sem
open Idealize.ShloMosaic hiding ix2 ix3 ix4

theorem frame_kernel : Cert.quiescent_Proj (hProj := Cert.Proj.Gen.facts) := fun m ρ _ => Cert.Proj.Gen.frame m ρ

theorem frame_ideal : Cert.quiescent_ProjIdeal (hProjIdeal := Cert.ProjIdeal.Gen.facts) := fun m ρ _ => Cert.ProjIdeal.Gen.frame m ρ

theorem frame_ref : Cert.quiescent_ProjRefIdeal (hProjRefIdeal := Cert.ProjRefIdeal.Gen.facts) := fun m ρ _ =>
  (θ_run _ _ _).mono (fun r h => ⟨fun c => (h c).2.2.2.2, Idealize.ShloMosaic.sem_eq_zero_of_no_sems (by decide) r.2⟩)
    (Cert.ProjRefIdeal.Value.run (F := Ideal) m ρ)

/-- The scale's literal stands for one over the root of 192, over the logarithm of two. -/
theorem preserves : Cert.preserves_Proj_ProjIdeal :=
  IdealRules.named_const.statement Cert.ProjIdeal.κ "q_scale" .f32 0x3DD53B95#32 (((Real.sqrt 192)⁻¹ * (Real.log 2)⁻¹ : ℝ) : EReal) rfl

theorem algebraic : Cert.algebraic_ProjIdeal_ProjRefIdeal (hProjIdeal := Cert.ProjIdeal.Gen.facts) (hProjRefIdeal := Cert.ProjRefIdeal.Gen.facts) :=
  fun m ρ m' ρ' _ hagree =>
  ⟨fun c => qAll (V m c main_v41) (V m c main_arg1) (V m c main_v2) (V m c main_arg4) (V m c main_v16) (V m c main_v36) (V m c main_v37) (V m c main_v40),
   fun c => kAll (V m c main_v41) (V m c main_arg1) (V m c main_v2) (V m c main_arg6) (V m c main_v42) (V m c main_v8) (V m c main_v36) (V m c main_v37) (V m c main_v40),
   fun c => vAll (V m c main_v41) (V m c main_arg1) (V m c main_v2) (V m c main_arg6) (V m c main_v42),
   fun c => cAll (V m c main_v41) (V m c main_arg1) (V m c main_v4) (V m c main_arg3),
   (θ_run _ _ _).mono (fun _ h c => ⟨(h c).1.trans (arr_13 m c), (h c).2.1.trans (arr_14 m c), (h c).2.2.1.trans (arr_15 m c),
      (h c).2.2.2.1.trans (arr_16 m c), (h c).2.2.2.2⟩) (Cert.ProjIdeal.Value.run_blocks m ρ),
   (θ_run _ _ _).mono (fun _ h c => by
      obtain ⟨a0, a1, a2, a3, a4, a5, a6, a7⟩ := hagree c
      exact ⟨((h c).1.trans (Cert.ProjRefIdeal.Read.val_main_v143_eq _ _)).trans (q_eq m c _ _ _ _ _ a0.symm a1.symm a2.symm a4.symm a5.symm).symm,
        ((h c).2.1.trans (Cert.ProjRefIdeal.Read.val_main_v145_eq _ _)).trans (k_eq m c _ _ _ _ _ a0.symm a1.symm a2.symm a6.symm a7.symm).symm,
        ((h c).2.2.1.trans (Cert.ProjRefIdeal.Read.val_main_v147_eq _ _)).trans (v_eq m c _ _ _ _ _ a0.symm a1.symm a2.symm a6.symm a7.symm).symm,
        ((h c).2.2.2.1.trans (Cert.ProjRefIdeal.Read.val_main_v149_eq _ _ _ _)).trans (c_eq m c _ _ _ _ a0.symm a1.symm a2.symm a3.symm).symm,
        (h c).2.2.2.2⟩)
    (Cert.ProjRefIdeal.Value.run (F := Ideal) m' ρ')⟩

end Cert.Proof.Proj

end
-- ==== Proof.OprojBlock.lean ====
/-
  The output projection call's arithmetic on one row: the convolution's layer norm and swish, the two products with the
  halves of the output weight added to the residual, the second norm and the routing logits; and one grid point's two
  output blocks from the contents of its input blocks.
-/
module

public import proofs.«01_k».proof.Proof.ProjPoint
public import proofs.«01_k».proof.Proof.Gen.OprojIdeal.Frame

@[expose] public section

set_option maxRecDepth 16384

noncomputable section

namespace Cert.Proof.Oproj

open Cert.OprojIdeal Cert.OprojIdeal.Gen Idealize.ShloMosaic Idealize.ShloMosaic.TcCoe Idealize.SL.Sem
open Idealize.ShloMosaic.ValueIdx
open Cert.Proof.Proj (prodRow normRow mat cols product_apply squares_apply norm_apply cut_apply ld_cut mat_ld mat_ld_bf16 cols_zero)

/-! ## One row -/

/-- A row's elements less their mean. -/
def centerRow (y : Fin 1024 → EReal) (d : Fin 1024) : EReal := y d - Ideal.div (∑ e, y e) (Ideal.ofBits .f32 0x44800000#32)

/-- The layer norm of a row. -/
def lnRow (y g b : Fin 1024 → EReal) (d : Fin 1024) : EReal := normRow (Ideal.ofBits .f32 0x44800000#32) (centerRow y) g d + b d

/-- The swish of a row. -/
def swishRow (z : Fin 1024 → EReal) (d : Fin 1024) : EReal := z d * Ideal.logistic (z d)

/-- The rows from `o` on. -/
def rows {a b k : ℕ} (o : ℕ) (h : o + k ≤ a) (X : Fin a → Fin b → EReal) : Fin k → Fin b → EReal := fun d j => X ⟨o + d.val, by omega⟩ j

/-- The residual's row plus the two halves' products. -/
def hRow (x : Fin 2048 → EReal) (a s : Fin 1024 → EReal) (w : Fin 2048 → Fin 2048 → EReal) (j : Fin 2048) : EReal :=
  x j + prodRow a (rows 0 (by omega) w) j + prodRow s (rows 1024 (by omega) w) j

/-- The logits as the kernel adds them up: the row by the weight's two parts, what the row's rounding left by the first
    part, and the bias. -/
def logitRow (hn : Fin 2048 → EReal) (w : Fin 2048 → Fin 256 → EReal) (b : Fin 128 → EReal) (j : Fin 128) : EReal :=
  prodRow hn w ⟨0 + j.val, by omega⟩ + prodRow hn w ⟨128 + j.val, by omega⟩ + prodRow (fun d => hn d - hn d) (cols 0 (by omega) w) j + b j

/-! ## The payloads -/

section Payloads

variable (p : Fin 512)

/-- A row's sum. -/
theorem sum_apply {k : ℕ} (x : FVec Ideal ⟨2, ![512, k]⟩ .f32) (hr : (⟨2, ![512, k]⟩ : Shape).Reduces [1] S512) :
    shapeCast S512x1 (multiReduction .add [1] S512 x 0x00000000#32 hr (.inl rfl) rfl : FVec Ideal S512 .f32)
      shapeCasts_S512_S512x1 (ix2 p 0) = ∑ e : Fin k, x (ix2 p e) := by
  refine (shapeCast_apply _ shapeCasts_S512_S512x1 (ix2 p 0) (ix1 p) ?_).trans ?_
  · refine (Shape.rowMajor_val_one _).trans (Eq.trans ?_ (Shape.rowMajor_val_two _).symm)
    show p.val = p.val * 1 + 0
    omega
  refine (Ideal.multiReduction_add_single x 0x00000000#32 hr (.inl rfl) rfl (ix1 p)).trans ?_
  refine Finset.sum_congr rfl fun e _ => ?_
  have he : hr.lift (ix1 p) e = ix2 p e := funext fun a => match a with
    | ⟨0, _⟩ => rfl
    | ⟨1, _⟩ => rfl
  exact congrArg x he

/-- The elements less their mean. -/
theorem center_apply (x : FVec Ideal S512x1024 .f32) (s : FVec Ideal S512x1 .f32) (d : Fin 1024) (r : Fin 1024 → EReal)
    (hx : ∀ d, x (ix2 p d) = r d) (hs : s (ix2 p 0) = ∑ e, r e) :
    subf x (broadcastTo S512x1024 (divf s (broadcast S512x1 (Scalar.ofBits .f32 0x44800000#32))) broadcasts_S512x1_S512x1024) (ix2 p d) = centerRow r d := by
  refine congrArg₂ (· - ·) (hx d) ?_
  refine (broadcastTo_apply _ broadcasts_S512x1_S512x1024 (ix2 p d) (ix2 p 0) (fun a => match a with | ⟨0, _⟩ => rfl | ⟨1, _⟩ => rfl)).trans ?_
  exact congrArg (fun z => Ideal.div z (Ideal.ofBits .f32 0x44800000#32)) hs

/-- The convolution's rows after the layer norm and the swish. -/
theorem pay3_apply (A : Vec Ideal S512x1024 .bf16) (g b : Vec Ideal S1x1024 .f32) (d : Fin 1024) :
    k0_pay3 (F := Ideal) A g b (ix2 p d) = swishRow (lnRow (mat A p) (mat g 0) (mat b 0)) d := by
  have hx : ∀ e : Fin 1024, shapeCast S512x1024 A shapeCasts_S512x1024_S512x1024 (ix2 p e) = mat A p e := fun e => congrFun (shapeCast_self A _) (ix2 p e)
  have hc := fun e : Fin 1024 => center_apply p (extf (F := Ideal) .f32 (shapeCast S512x1024 A shapeCasts_S512x1024_S512x1024 : FVec Ideal S512x1024 .bf16) bitsLt_bf16_f32) _ e (mat A p) hx
    ((sum_apply p _ reduces_S512x1024_S512).trans (Finset.sum_congr rfl fun e _ => hx e))
  have hb : broadcastTo S512x1024 b broadcasts_S1x1024_S512x1024 (ix2 p d) = mat b 0 d :=
    broadcastTo_apply _ broadcasts_S1x1024_S512x1024 (ix2 p d) (ix2 0 d) (fun a => match a with | ⟨0, _⟩ => rfl | ⟨1, _⟩ => rfl)
  unfold k0_pay3
  refine congrArg (fun u : EReal => u * Ideal.logistic u) ?_
  exact congrArg₂ (· + ·) (norm_apply (k := 1024) _ g _ _ _ _ p d (centerRow (mat A p)) hc
    ((squares_apply (k := 1024) _ _ p).trans (Finset.sum_congr rfl fun e _ => congrArg₂ (· * ·) (hc e) (hc e)))) hb

/-- The residual plus the first half's product. -/
theorem pay4_apply (X : Vec Ideal S512x2048 .f32) (A : Vec Ideal S512x1024 .bf16) (W : Vec Ideal S1024x2048 .f32) (j : Fin 2048) :
    k0_pay4 (F := Ideal) X A W (ix2 p j) = mat X p j + prodRow (mat A p) (mat W) j := by
  unfold k0_pay4
  exact congrArg₂ (· + ·) (congrFun (shapeCast_self X _) (ix2 p j))
    (product_apply _ _ p j (mat A p) (fun d => congrFun (shapeCast_self A _) (ix2 p d)) (mat W) fun d => congrFun (shapeCast_self W _) (ix2 d j))

theorem pay5_eq (W : Vec Ideal S1024x2048 .f32) : k0_pay5 (F := Ideal) W = W := shapeCast_self W _

/-- The second half's product added. -/
theorem pay1_apply (s : FVec Ideal S512x1024 .bf16) (v : FVec Ideal S512x2048 .f32) (W : FVec Ideal S1024x2048 .f32)
    (r : Fin 1024 → EReal) (hs : ∀ d, s (ix2 p d) = r d) (j : Fin 2048) :
    k0_pay1 (F := Ideal) s v W (ix2 p j) = v (ix2 p j) + prodRow r (mat W) j := by
  unfold k0_pay1
  exact congrArg (v (ix2 p j) + ·) (product_apply _ _ p j r hs (mat W) fun d => rfl)

/-- The routing logits. -/
theorem pay2_apply (s : FVec Ideal S512x1024 .bf16) (v : FVec Ideal S512x2048 .f32) (W : FVec Ideal S1024x2048 .f32)
    (g : Vec Ideal S1x2048 .f32) (U : Vec Ideal S2048x256 .bf16) (L : Vec Ideal S2048x128 .bf16) (b : Vec Ideal S1x128 .f32)
    (h : Fin 2048 → EReal) (hh : ∀ d, k0_pay1 (F := Ideal) s v W (ix2 p d) = h d) (hL : mat L = cols 0 (by omega) (mat U)) (j : Fin 128) :
    k0_pay2 (F := Ideal) s v W g U L b (ix2 p j) = logitRow (normRow (Ideal.ofBits .f32 0x45000000#32) h (mat g 0)) (mat U) (mat b 0) j := by
  have hn := fun d : Fin 2048 => norm_apply (k := 2048) (k0_pay1 (F := Ideal) s v W) g _ (Scalar.ofBits .f32 0x45000000#32) broadcasts_S512x1_S512x2048 broadcasts_S1x2048_S512x2048 p d h hh
    ((squares_apply (k := 2048) _ reduces_S512x2048_S512 p).trans (Finset.sum_congr rfl fun e _ => congrArg₂ (· * ·) (hh e) (hh e)))
  have hp := fun k : Fin 256 => product_apply _ (shapeCast S2048x256 U shapeCasts_S2048x256_S2048x256) p k _ hn (mat U) fun d => congrFun (shapeCast_self U _) (ix2 d k)
  unfold k0_pay2
  refine congrArg₂ (· + ·) (congrArg₂ (· + ·) (congrArg₂ (· + ·) ?_ ?_) ?_) ?_
  · exact (cut_apply _ 0 slices_S512x256_o0_0_S512x128 p j ⟨0 + j.val, by omega⟩ rfl).trans (hp _)
  · exact (cut_apply _ 128 slices_S512x256_o0_128_S512x128 p j ⟨128 + j.val, by omega⟩ rfl).trans (hp _)
  · exact product_apply _ _ p j _ (fun d => congrArg₂ (· - ·) (hn d) (hn d)) _ fun d => (congrFun (shapeCast_self L _) (ix2 d j)).trans (congrFun (congrFun hL d) j)
  · exact (broadcastTo_apply _ broadcasts_S1x128_S512x128 (ix2 p j) (ix2 0 j) (fun a => match a with | ⟨0, _⟩ => rfl | ⟨1, _⟩ => rfl)).trans
      (congrFun (shapeCast_self b _) (ix2 0 j))

end Payloads

/-! ## One grid point -/

section Point

variable (x0 x1 : Vec Ideal S512x1024 .bf16) (x2 : Vec Ideal S512x2048 .f32) (x3 : Vec Ideal S2048x2048 .f32) (x4 x5 : Vec Ideal S1x1024 .f32)
  (x6 : Vec Ideal S1x2048 .f32) (x7 : Vec Ideal S2048x256 .bf16) (x8 : Vec Ideal S1x128 .f32)

/-- The rows of the point's hidden states. -/
def hOf (p : Fin 512) : Fin 2048 → EReal := hRow (mat x2 p) (mat x0 p) (swishRow (lnRow (mat x1 p) (mat x4 0) (mat x5 0))) (mat x3)

/-- A load of rows from `o` on. -/
theorem mat_ld_rows {M N k : ℕ} (X : (⟨2, ![M, N]⟩ : Shape).Idx → EReal) (o : ℕ) (h : o + k ≤ M)
    (inb : ∀ a, (![o, 0] : Fin 2 → ℕ) a + (⟨2, ![k, N]⟩ : Shape).size a ≤ (⟨2, ![M, N]⟩ : Shape).size a) :
    mat (View.ld (Val := Elt Ideal) (e' := .f32) X (Rect.unit (s := ⟨2, ![M, N]⟩) ![o, 0] (⟨2, ![k, N]⟩ : Shape).size inb)) = rows o h (mat X) := by
  funext d j
  refine congrArg X (funext fun a => Fin.ext ?_)
  match a with
  | ⟨0, _⟩ => show o + 1 * d.val = o + d.val; omega
  | ⟨1, _⟩ => show 0 + 1 * j.val = j.val; omega

theorem h_value (p : Fin 512) (j : Fin 2048) : k0_pay1 (F := Ideal) (k0_pay6 x0 x1 x2 x3 x4 x5 x6 x7 x8) (k0_pay7 x0 x1 x2 x3 x4 x5 x6 x7 x8) (k0_pay8 x0 x1 x2 x3 x4 x5 x6 x7 x8) (ix2 p j)
    = hOf x0 x1 x2 x3 x4 x5 p j := by
  unfold k0_pay6 k0_pay7 k0_pay8
  refine (pay1_apply p _ _ _ _ (pay3_apply p _ _ _) j).trans ?_
  rw [pay4_apply, pay5_eq, mat_ld_rows x3 0 (by omega), mat_ld_rows x3 1024 (by omega), mat_ld x2 0 (Nat.le_refl _), mat_ld_bf16 x0 0 (Nat.le_refl _),
    mat_ld_bf16 x1 0 (Nat.le_refl _), mat_ld x4 0 (Nat.le_refl _), mat_ld x5 0 (Nat.le_refl _), cols_zero, cols_zero, cols_zero, cols_zero, cols_zero]
  rfl

/-- The hidden states' block. -/
theorem h_point (p : Fin 512) (j : Fin 2048) : out0_9 (F := Ideal) x0 x1 x2 x3 x4 x5 x6 x7 x8 (ix2 p j) = hOf x0 x1 x2 x3 x4 x5 p j := by
  unfold out0_9
  have hw : ∀ x : S512x2048.Idx, r0_2.emb x = x := fun x => funext fun a => Fin.ext (by
    match a with
    | ⟨0, _⟩ => show 0 + 1 * (x 0).val = (x 0).val; omega
    | ⟨1, _⟩ => show 0 + 1 * (x 1).val = (x 1).val; omega)
  exact (View.canon_apply_of_pieces (Val := Elt Ideal) (e := .f32) _ _ (List.forall_mem_cons.mpr ⟨fun x => (congrArg _ (hw x)).symm, fun _ h => absurd h List.not_mem_nil⟩) (ix2 p j) (cover0_9 (F := Ideal) _ _)).trans
    (h_value x0 x1 x2 x3 x4 x5 x6 x7 x8 p j)

/-- The logits' block. -/
theorem logit_point (p : Fin 512) (j : Fin 128) : out0_10 (F := Ideal) x0 x1 x2 x3 x4 x5 x6 x7 x8 (ix2 p j)
    = logitRow (normRow (Ideal.ofBits .f32 0x45000000#32) (hOf x0 x1 x2 x3 x4 x5 p) (mat x6 0)) (mat x7) (mat x8 0) j := by
  unfold out0_10
  have hw : ∀ x : S512x128.Idx, r0_9.emb x = x := fun x => funext fun a => Fin.ext (by
    match a with
    | ⟨0, _⟩ => show 0 + 1 * (x 0).val = (x 0).val; omega
    | ⟨1, _⟩ => show 0 + 1 * (x 1).val = (x 1).val; omega)
  refine (View.canon_apply_of_pieces (Val := Elt Ideal) (e := .f32) _ _ (List.forall_mem_cons.mpr ⟨fun x => (congrArg _ (hw x)).symm, fun _ h => absurd h List.not_mem_nil⟩) (ix2 p j) (cover0_10 (F := Ideal) _ _)).trans ?_
  have e7 : mat (View.ld (Val := Elt Ideal) (e' := .bf16) x7 r0_6) = mat x7 := (mat_ld_bf16 x7 0 (Nat.le_refl _) _).trans (cols_zero _ _)
  have e6 : mat (View.ld (Val := Elt Ideal) (e' := .f32) x6 r0_5) = mat x6 := (mat_ld x6 0 (Nat.le_refl _) _).trans (cols_zero _ _)
  have e8 : mat (View.ld (Val := Elt Ideal) (e' := .f32) x8 r0_8) = mat x8 := (mat_ld x8 0 (Nat.le_refl _) _).trans (cols_zero _ _)
  refine (pay2_apply p _ _ _ _ _ _ _ _ (h_value x0 x1 x2 x3 x4 x5 x6 x7 x8 p) ((mat_ld_bf16 x7 0 (by omega) _).trans (congrArg (cols 0 (by omega)) e7.symm)) j).trans ?_
  rw [e6, e7, e8]

end Point

end Cert.Proof.Oproj

end
-- ==== Proof.OprojHost.lean ====
/-
  The arrays the host builds for the output projection call, element by element: the rows of the activations, the output
  weight, and the routing weight's two parts and bias over 128 lanes.
-/
module

public import proofs.«01_k».proof.Proof.OprojBlock
public import proofs.«01_k».proof.Proof.ProjHost
public import Idealize.ShloMosaic.Lib.Pipeline.Value
public import Idealize.ShloMosaic.Lib.StableHlo.Run

@[expose] public section

set_option maxRecDepth 16384

noncomputable section

namespace Cert.Proof.Oproj

open Cert.OprojIdeal Cert.OprojIdeal.Gen Idealize.ShloMosaic Idealize.ShloMosaic.TcCoe Idealize.SL.Sem
open Idealize.ShloMosaic.ValueIdx
open Cert.Proof.Proj (mat beside_first beside_second zero_bits)

variable (m : (ℓ : Loc nD τ sig) → Buf (Elt Ideal) ℓ) (c : Dev nD)

/-! ## The rows and the output weight -/

/-- A batch's positions one after another. -/
theorem flat_apply {n : ℕ} (x : (⟨3, ![4, 2048, n]⟩ : Shape).Idx → EReal) (h : (⟨3, ![4, 2048, n]⟩ : Shape).ShapeCasts ⟨2, ![8192, n]⟩)
    (i : Fin 8192) (b : Fin 4) (r : Fin 2048) (d : Fin n) (hi : i.val = b.val * 2048 + r.val) :
    shapeCast ⟨2, ![8192, n]⟩ x h (ix2 i d) = x (ix3 b r d) := by
  refine shapeCast_apply _ _ _ (ix3 b r d) ?_
  refine (Shape.rowMajor_val_three _).trans (Eq.trans ?_ (Shape.rowMajor_val_two _).symm)
  show (b.val * 2048 + r.val) * n + d.val = i.val * n + d.val
  rw [hi]

/-- A leading axis of one dropped. -/
theorem drop_apply {k n : ℕ} (x : (⟨3, ![1, k, n]⟩ : Shape).Idx → EReal) (h : (⟨3, ![1, k, n]⟩ : Shape).ShapeCasts ⟨2, ![k, n]⟩) (d : Fin k) (j : Fin n) :
    shapeCast ⟨2, ![k, n]⟩ x h (ix2 d j) = x (ix3 0 d j) := by
  refine shapeCast_apply _ _ _ (ix3 0 d j) ?_
  refine (Shape.rowMajor_val_three _).trans (Eq.trans ?_ (Shape.rowMajor_val_two _).symm)
  show (0 * k + d.val) * n + j.val = d.val * n + j.val
  rw [Nat.zero_mul, Nat.zero_add]

theorem attn_apply (i : Fin 8192) (b : Fin 4) (r : Fin 2048) (d : Fin 1024) (hi : i.val = b.val * 2048 + r.val) :
    mat (V m c main_v16) i d = m ((c.tc : Thread nD τ).loc main_arg0) (ix3 b r d) := by
  have he : V m c main_v16 = truncf (F := Ideal) .bf16 (shapeCast S8192x1024 (m ((c.tc : Thread nD τ).loc main_arg0)) shapeCasts_S4x2048x1024_S8192x1024 : FVec Ideal S8192x1024 .f32) bitsLt_bf16_f32 := by
    unfold V
    after_results <;> rfl
  rw [he]
  exact flat_apply _ shapeCasts_S4x2048x1024_S8192x1024 i b r d hi

theorem conv_apply (i : Fin 8192) (b : Fin 4) (r : Fin 2048) (d : Fin 1024) (hi : i.val = b.val * 2048 + r.val) :
    mat (V m c main_v18) i d = m ((c.tc : Thread nD τ).loc main_arg1) (ix3 b r d) := by
  have he : V m c main_v18 = truncf (F := Ideal) .bf16 (shapeCast S8192x1024 (m ((c.tc : Thread nD τ).loc main_arg1)) shapeCasts_S4x2048x1024_S8192x1024 : FVec Ideal S8192x1024 .f32) bitsLt_bf16_f32 := by
    unfold V
    after_results <;> rfl
  rw [he]
  exact flat_apply _ shapeCasts_S4x2048x1024_S8192x1024 i b r d hi

theorem residual_apply (i : Fin 8192) (b : Fin 4) (r d : Fin 2048) (hi : i.val = b.val * 2048 + r.val) :
    mat (V m c main_v19) i d = m ((c.tc : Thread nD τ).loc main_arg2) (ix3 b r d) := by
  have he : V m c main_v19 = shapeCast S8192x2048 (m ((c.tc : Thread nD τ).loc main_arg2)) shapeCasts_S4x2048x2048_S8192x2048 := by
    unfold V
    after_results <;> rfl
  rw [he]
  exact flat_apply _ shapeCasts_S4x2048x2048_S8192x2048 i b r d hi

theorem weight_apply (d j : Fin 2048) : mat (V m c main_v0) d j = m ((c.tc : Thread nD τ).loc main_arg5) (ix3 (0 : Fin 1) d j) := by
  have he : V m c main_v0 = shapeCast S2048x2048 (m ((c.tc : Thread nD τ).loc main_arg5)) shapeCasts_S1x2048x2048_S2048x2048 := by
    unfold V
    after_results <;> rfl
  rw [he]
  exact drop_apply _ shapeCasts_S1x2048x2048_S2048x2048 d j

/-! ## The routing weight and its bias -/

/-- The experts' columns, the groups' columns, zeros. -/
def routers : S2048x128.Idx → EReal := concatenate S2048x128 1
  [⟨S2048x64, shapeCast S2048x64 (m ((c.tc : Thread nD τ).loc main_arg9)) shapeCasts_S1x2048x64_S2048x64⟩,
    ⟨S2048x8, shapeCast S2048x8 (m ((c.tc : Thread nD τ).loc main_arg7)) shapeCasts_S1x2048x8_S2048x8⟩,
    ⟨S2048x56, broadcastInDim S2048x56 ![] bcast_S_S2048x56 (constant (F := Ideal) S_ .f32 0x00000000#32)⟩]
  concatenates_S2048x64_S2048x8_S2048x56_S2048x128_d1

theorem parts_eq : V m c main_v9 = concatenate S2048x256 1 [⟨S2048x128, (routers m c : S2048x128.Idx → EReal)⟩,
    ⟨S2048x128, fun i => routers m c i - routers m c i⟩] concatenates_S2048x128_S2048x128_S2048x256_d1 := by
  unfold V
  after_results <;> rfl

/-- The weight's first part is the weight. -/
theorem first_part (d : Fin 2048) (j : Fin 128) (k : Fin 256) (hk : k.val = j.val) : mat (V m c main_v9) d k = routers m c (ix2 d j) := by
  rw [parts_eq]
  exact beside_first _ _ concatenates_S2048x128_S2048x128_S2048x256_d1 d k j hk

/-- Its second what the first's rounding left. -/
theorem second_part (d : Fin 2048) (j : Fin 128) (k : Fin 256) (hk : k.val = 128 + j.val) :
    mat (V m c main_v9) d k = routers m c (ix2 d j) - routers m c (ix2 d j) := by
  rw [parts_eq]
  exact beside_second _ _ concatenates_S2048x128_S2048x128_S2048x256_d1 d k j hk

theorem routers_first (d : Fin 2048) (j : Fin 128) (e : Fin 64) (h : j.val = e.val) : routers m c (ix2 d j) = m ((c.tc : Thread nD τ).loc main_arg9) (ix3 (0 : Fin 1) d e) :=
  (concatenate_apply_piece 1 [⟨S2048x64, shapeCast S2048x64 (m ((c.tc : Thread nD τ).loc main_arg9)) shapeCasts_S1x2048x64_S2048x64⟩,
    ⟨S2048x8, shapeCast S2048x8 (m ((c.tc : Thread nD τ).loc main_arg7)) shapeCasts_S1x2048x8_S2048x8⟩,
    ⟨S2048x56, broadcastInDim S2048x56 ![] bcast_S_S2048x56 (constant (F := Ideal) S_ .f32 0x00000000#32)⟩] _ (ix2 d j) 0 (by simp) S2048x64 _ rfl rfl 0 rfl (ix2 d e)
    (fun a ha => match a, ha with | ⟨0, _⟩, _ => rfl | ⟨1, _⟩, ha => absurd rfl ha) ((Nat.zero_add _).trans h.symm)).trans (drop_apply _ _ d e)

theorem routers_second (d : Fin 2048) (j : Fin 128) (e : Fin 8) (h : j.val = 64 + e.val) : routers m c (ix2 d j) = m ((c.tc : Thread nD τ).loc main_arg7) (ix3 (0 : Fin 1) d e) :=
  (concatenate_apply_piece 1 [⟨S2048x64, shapeCast S2048x64 (m ((c.tc : Thread nD τ).loc main_arg9)) shapeCasts_S1x2048x64_S2048x64⟩,
    ⟨S2048x8, shapeCast S2048x8 (m ((c.tc : Thread nD τ).loc main_arg7)) shapeCasts_S1x2048x8_S2048x8⟩,
    ⟨S2048x56, broadcastInDim S2048x56 ![] bcast_S_S2048x56 (constant (F := Ideal) S_ .f32 0x00000000#32)⟩] _ (ix2 d j) 1 (by simp) S2048x8 _ rfl rfl 64 rfl (ix2 d e)
    (fun a ha => match a, ha with | ⟨0, _⟩, _ => rfl | ⟨1, _⟩, ha => absurd rfl ha) h.symm).trans (drop_apply _ _ d e)

theorem routers_third (d : Fin 2048) (j : Fin 128) (e : Fin 56) (h : j.val = 72 + e.val) : routers m c (ix2 d j) = 0 :=
  (concatenate_apply_piece 1 [⟨S2048x64, shapeCast S2048x64 (m ((c.tc : Thread nD τ).loc main_arg9)) shapeCasts_S1x2048x64_S2048x64⟩,
    ⟨S2048x8, shapeCast S2048x8 (m ((c.tc : Thread nD τ).loc main_arg7)) shapeCasts_S1x2048x8_S2048x8⟩,
    ⟨S2048x56, broadcastInDim S2048x56 ![] bcast_S_S2048x56 (constant (F := Ideal) S_ .f32 0x00000000#32)⟩] _ (ix2 d j) 2 (by simp) S2048x56 _ rfl rfl 72 rfl (ix2 d e)
    (fun a ha => match a, ha with | ⟨0, _⟩, _ => rfl | ⟨1, _⟩, ha => absurd rfl ha) h.symm).trans
    ((broadcastInDim_apply ![] bcast_S_S2048x56 (constant (F := Ideal) S_ .f32 0x00000000#32) (ix2 d e) ix0 (fun a => a.elim0)).trans zero_bits)

/-- The biases, over the 128 lanes. -/
def biases : S128.Idx → EReal := concatenate S128 0
  [⟨S64, shapeCast S64 (m ((c.tc : Thread nD τ).loc main_arg10)) shapeCasts_S1x64_S64⟩,
    ⟨S8, shapeCast S8 (m ((c.tc : Thread nD τ).loc main_arg8)) shapeCasts_S1x8_S8⟩,
    ⟨S56, broadcastInDim S56 ![] bcast_S_S56 (constant (F := Ideal) S_ .f32 0x00000000#32)⟩]
  concatenates_S64_S8_S56_S128_d0

theorem bias_apply (j : Fin 128) : mat (V m c main_v14) 0 j = biases m c (ix1 j) := by
  have he : V m c main_v14 = broadcastInDim S1x128 ![1] bcast_S128_S1x128_1 (biases m c) := by
    unfold V
    after_results <;> rfl
  rw [he]
  exact broadcastInDim_apply _ bcast_S128_S1x128_1 (biases m c) (ix2 0 j) (ix1 j) (fun a => match a with | ⟨0, _⟩ => rfl)

/-- A row of one dropped to a vector. -/
theorem vec_apply {n : ℕ} (x : (⟨2, ![1, n]⟩ : Shape).Idx → EReal) (h : (⟨2, ![1, n]⟩ : Shape).ShapeCasts ⟨1, ![n]⟩) (j : Fin n) :
    shapeCast ⟨1, ![n]⟩ x h (ix1 j) = x (ix2 0 j) := by
  refine shapeCast_apply _ _ _ (ix2 0 j) ?_
  refine (Shape.rowMajor_val_two _).trans (Eq.trans ?_ (Shape.rowMajor_val_one _).symm)
  show 0 * n + j.val = j.val
  rw [Nat.zero_mul, Nat.zero_add]

theorem biases_first (j : Fin 128) (e : Fin 64) (h : j.val = e.val) : biases m c (ix1 j) = m ((c.tc : Thread nD τ).loc main_arg10) (ix2 (0 : Fin 1) e) :=
  (concatenate_apply_piece 0 [⟨S64, shapeCast S64 (m ((c.tc : Thread nD τ).loc main_arg10)) shapeCasts_S1x64_S64⟩,
    ⟨S8, shapeCast S8 (m ((c.tc : Thread nD τ).loc main_arg8)) shapeCasts_S1x8_S8⟩,
    ⟨S56, broadcastInDim S56 ![] bcast_S_S56 (constant (F := Ideal) S_ .f32 0x00000000#32)⟩] _ (ix1 j) 0 (by simp) S64 _ rfl rfl 0 rfl (ix1 e)
    (fun a ha => match a, ha with | ⟨0, _⟩, ha => absurd rfl ha) ((Nat.zero_add _).trans h.symm)).trans (vec_apply _ _ e)

theorem biases_second (j : Fin 128) (e : Fin 8) (h : j.val = 64 + e.val) : biases m c (ix1 j) = m ((c.tc : Thread nD τ).loc main_arg8) (ix2 (0 : Fin 1) e) :=
  (concatenate_apply_piece 0 [⟨S64, shapeCast S64 (m ((c.tc : Thread nD τ).loc main_arg10)) shapeCasts_S1x64_S64⟩,
    ⟨S8, shapeCast S8 (m ((c.tc : Thread nD τ).loc main_arg8)) shapeCasts_S1x8_S8⟩,
    ⟨S56, broadcastInDim S56 ![] bcast_S_S56 (constant (F := Ideal) S_ .f32 0x00000000#32)⟩] _ (ix1 j) 1 (by simp) S8 _ rfl rfl 64 rfl (ix1 e)
    (fun a ha => match a, ha with | ⟨0, _⟩, ha => absurd rfl ha) h.symm).trans (vec_apply _ _ e)

theorem biases_third (j : Fin 128) (e : Fin 56) (h : j.val = 72 + e.val) : biases m c (ix1 j) = 0 :=
  (concatenate_apply_piece 0 [⟨S64, shapeCast S64 (m ((c.tc : Thread nD τ).loc main_arg10)) shapeCasts_S1x64_S64⟩,
    ⟨S8, shapeCast S8 (m ((c.tc : Thread nD τ).loc main_arg8)) shapeCasts_S1x8_S8⟩,
    ⟨S56, broadcastInDim S56 ![] bcast_S_S56 (constant (F := Ideal) S_ .f32 0x00000000#32)⟩] _ (ix1 j) 2 (by simp) S56 _ rfl rfl 72 rfl (ix1 e)
    (fun a ha => match a, ha with | ⟨0, _⟩, ha => absurd rfl ha) h.symm).trans
    ((broadcastInDim_apply ![] bcast_S_S56 (constant (F := Ideal) S_ .f32 0x00000000#32) (ix1 e) ix0 (fun a => a.elim0)).trans zero_bits)

end Cert.Proof.Oproj

end
-- ==== Proof.OprojMath.lean ====
/-
  A normalized row of any extended reals is a row of real numbers when its gains are, so what a rounding takes from it,
  put back from the difference, is nothing.
-/
module

public import proofs.«01_k».proof.Proof.ProjOps
public import proofs.«01_k».proof.Proof.AttentionMath

@[expose] public section

noncomputable section

namespace Cert.Proof.Oproj

open Idealize.ShloMosaic
open Cert.Proof.Proj (normRow)

/-- A real number less itself. -/
theorem sub_self_of_real {x : EReal} (h : ∃ r : ℝ, x = (r : EReal)) : x - x = 0 := by
  obtain ⟨r, rfl⟩ := h
  rw [← EReal.coe_sub, sub_self, EReal.coe_zero]

theorem square_nonneg (x : EReal) : 0 ≤ x * x := by
  induction x with
  | bot => rw [EReal.bot_mul_bot]; exact le_top
  | top => rw [EReal.top_mul_top]; exact le_top
  | coe r => rw [← EReal.coe_mul]; exact_mod_cast mul_self_nonneg r

/-- Only a real number's square lies below infinity. -/
theorem real_of_square {x : EReal} (h : x * x ≠ ⊤) : ∃ r : ℝ, x = (r : EReal) := by
  induction x with
  | bot => exact absurd EReal.bot_mul_bot h
  | top => exact absurd EReal.top_mul_top h
  | coe r => exact ⟨r, rfl⟩

theorem ofBits_2048 : Ideal.ofBits .f32 0x45000000#32 = ((2048 : ℝ) : EReal) := by
  simp [Ideal.ofBits, Ideal.ieee, -EReal.coe_mul]; norm_num

/-- The norm's small addend is a positive real. -/
theorem addend_pos : ∃ ε : ℝ, 0 < ε ∧ Ideal.ofBits .f32 0x358637BD#32 = (ε : EReal) := by
  refine ⟨_, ?_, by simp [Ideal.ofBits, Ideal.ieee, -EReal.coe_mul]; rfl⟩
  positivity

/-- A sum of squares over its number, plus the addend, under the root: with the row's element a real number. -/
theorem norm_real {k : ℕ} (x g : Fin k → EReal) (hg : ∀ d, g d = ((EReal.toReal (g d) : ℝ) : EReal)) (d : Fin k) :
    ∃ y : ℝ, normRow (Ideal.ofBits .f32 0x45000000#32) x g d = (y : EReal) := by
  obtain ⟨ε, hε, he⟩ := addend_pos
  have hdiv : ∀ s : EReal, Ideal.div s ((2048 : ℝ) : EReal) = s * (((2048 : ℝ)⁻¹ : ℝ) : EReal) := fun s => by
    unfold Ideal.div
    rw [if_neg (by exact_mod_cast (by norm_num : (2048 : ℝ) ≠ 0)), EReal.coe_inv]
  unfold normRow
  rw [ofBits_2048, he, hdiv]
  by_cases hs : ∑ e, x e * x e = ⊤
  · refine ⟨0, ?_⟩
    rw [hs, EReal.top_mul_coe_of_pos (by norm_num), EReal.top_add_coe, Ideal.rsqrt_top, mul_zero, zero_mul, EReal.coe_zero]
  · have hx : ∃ r : ℝ, x d = (r : EReal) := real_of_square fun h => hs (top_le_iff.mp (h ▸ Finset.single_le_sum (f := fun e => x e * x e)
      (fun e _ => square_nonneg (x e)) (Finset.mem_univ d)))
    obtain ⟨r, hr⟩ := hx
    have h0 : 0 ≤ ∑ e, x e * x e := Finset.sum_nonneg fun e _ => square_nonneg (x e)
    have hS : (∑ e, x e * x e) = (((∑ e, x e * x e).toReal : ℝ) : EReal) := (EReal.coe_toReal hs (fun h => absurd (h ▸ h0) (by simp))).symm
    have hn : 0 ≤ (∑ e, x e * x e).toReal := EReal.toReal_nonneg h0
    rw [hS, ← EReal.coe_mul, ← EReal.coe_add, Ideal.rsqrt_coe]
    have hv : 0 < (∑ e, x e * x e).toReal * (2048 : ℝ)⁻¹ + ε := by positivity
    rw [if_neg (not_lt.mpr hv.le), if_neg hv.ne', hr, hg d, ← EReal.coe_mul, ← EReal.coe_mul]
    exact ⟨_, rfl⟩

end Cert.Proof.Oproj

end
-- ==== Proof.OprojRef.lean ====
/-
  The reference's results, element by element, in the same rows: the layer norm and its swish, the output projection with
  its residual, the norm of that and the routing logits.
-/
module

public import proofs.«01_k».proof.Proof.Gen.OprojRefIdeal.Read
public import proofs.«01_k».proof.Proof.OprojBlock
public import proofs.«01_k».proof.Proof.ProjRef

@[expose] public section

set_option maxRecDepth 16384

noncomputable section

namespace Cert.Proof.OprojRef

open Cert.OprojRefIdeal Cert.OprojRefIdeal.Gen Cert.OprojRefIdeal.Read Idealize.ShloMosaic
open Idealize.ShloMosaic.ValueIdx Cert.Proof.Proj Cert.Proof.Oproj
open Cert.Proof.ProjRef (at2 at3 norm_of squares_of logistic_of)

/-- A sum from zero. -/
theorem sum_of {k : ℕ} (x y : Fin k → EReal) (h : ∀ e, y e = x e) : FloatOps.ofBits (F := Ideal) .f32 0x00000000#32 + ∑ e, y e = ∑ e, x e := by
  obtain rfl : y = x := funext h
  rw [zero_bits, zero_add]

/-- A sum over 2048 in its two halves. -/
theorem sum_halves (f : Fin 2048 → EReal) : ∑ k, f k = (∑ k : Fin 1024, f ⟨0 + k.val, by omega⟩) + ∑ k : Fin 1024, f ⟨1024 + k.val, by omega⟩ := by
  refine (Fin.sum_univ_add (a := 1024) (b := 1024) f).trans (congrArg₂ (· + ·) (Finset.sum_congr rfl fun k _ => congrArg f (Fin.ext ?_))
    (Finset.sum_congr rfl fun k _ => congrArg f (Fin.ext rfl)))
  exact (Nat.zero_add k.val).symm

variable (x0 : S4x2048x1024.Idx → EReal) (x1 : S4x2048x1024.Idx → EReal) (x2 : S4x2048x2048.Idx → EReal) (x3 : S1x1024.Idx → EReal)
  (x4 : S1x1024.Idx → EReal) (x5 : S1x2048x2048.Idx → EReal) (x6 : S1x2048.Idx → EReal) (x7 : S1x2048x8.Idx → EReal)
  (x8 : S1x8.Idx → EReal) (x9 : S1x2048x64.Idx → EReal) (x10 : S1x64.Idx → EReal) (b : Fin 4) (r : Fin 2048)

/-! ## The layer norm and its swish -/

/-- The convolution's row. -/
def convOf : Fin 1024 → EReal := fun d => x1 (ix3 b r d)

/-- Its layer norm. -/
def lnOf : Fin 1024 → EReal := lnRow (convOf x1 b r) (fun d => x3 (ix2 0 d)) (fun d => x4 (ix2 0 d))

theorem mean_apply (k : S4x2048x1.Idx) (h0 : (k 0).val = b.val) (h1 : (k 1).val = r.val) :
    val_main_v5 (F := Ideal) x1 k = Ideal.div (∑ e, convOf x1 b r e) (Ideal.ofBits .f32 0x44800000#32) := by
  have es : val_main_v2 (F := Ideal) x1 (ix2 b r) = ∑ e, convOf x1 b r e :=
    (val_main_v2_apply x1 _).trans (sum_of (convOf x1 b r) (fun e => x1 (idx_main_v2 (ix2 b r) e)) fun e => at3 x1 _ b r e rfl rfl rfl)
  exact (val_main_v5_apply (F := Ideal) x1 k).trans (congrArg₂ Ideal.div ((val_main_v3_apply (F := Ideal) x1 k).trans
    ((at2 (val_main_v2 (F := Ideal) x1) (idx_main_v3 k) b r h0 h1).trans es)) (val_main_v4_apply (F := Ideal) k))

theorem center_apply (d : Fin 1024) : val_main_v7 (F := Ideal) x1 (ix3 b r d) = centerRow (convOf x1 b r) d :=
  (val_main_v7_apply (F := Ideal) x1 _).trans (congrArg₂ (· - ·) (rfl : x1 (ix3 b r d) = convOf x1 b r d)
    ((val_main_v6_apply (F := Ideal) x1 (ix3 b r d)).trans (mean_apply x1 b r (idx_main_v6 (ix3 b r d)) rfl rfl)))

theorem center_again (d : Fin 1024) : val_main_v14 (F := Ideal) x1 (ix3 b r d) = centerRow (convOf x1 b r) d :=
  (val_main_v14_apply (F := Ideal) x1 _).trans (congrArg₂ (· - ·) (rfl : x1 (ix3 b r d) = convOf x1 b r d)
    ((val_main_v13_apply (F := Ideal) x1 (ix3 b r d)).trans (mean_apply x1 b r (idx_main_v13 (ix3 b r d)) rfl rfl)))

theorem ln_apply (d : Fin 1024) : val_main_v25 (F := Ideal) x1 x3 x4 (ix3 b r d) = lnOf x1 x3 x4 b r d := by
  have eg : val_main_v21 (F := Ideal) x3 (ix3 b r d) = x3 (ix2 0 d) :=
    (val_main_v21_apply (F := Ideal) x3 _).trans ((val_main_v20_apply (F := Ideal) x3 _).trans ((val_main_v0_apply (F := Ideal) x3 _).trans
      (at2 x3 _ 0 d rfl (Nat.mod_eq_of_lt d.isLt))))
  have eb : val_main_v24 (F := Ideal) x4 (ix3 b r d) = x4 (ix2 0 d) :=
    (val_main_v24_apply (F := Ideal) x4 _).trans ((val_main_v23_apply (F := Ideal) x4 _).trans ((val_main_v1_apply (F := Ideal) x4 _).trans
      (at2 x4 _ 0 d rfl (Nat.mod_eq_of_lt d.isLt))))
  have es : val_main_v9 (F := Ideal) x1 (ix2 b r) = ∑ e, centerRow (convOf x1 b r) e * centerRow (convOf x1 b r) e :=
    (val_main_v9_apply x1 _).trans (squares_of (centerRow (convOf x1 b r)) (fun e => val_main_v7 (F := Ideal) x1 (idx_main_v9 (ix2 b r) e)) fun e =>
      (at3 (val_main_v7 (F := Ideal) x1) _ b r e rfl rfl rfl).trans (center_apply x1 b r e))
  have er : val_main_v18 (F := Ideal) x1 (ix3 b r d) = Ideal.rsqrt (Ideal.div (val_main_v9 (F := Ideal) x1 (ix2 b r)) (Ideal.ofBits .f32 0x44800000#32) + Ideal.ofBits .f32 0x358637BD#32) :=
    (val_main_v18_apply (F := Ideal) x1 _).trans (congrArg Ideal.rsqrt (congrArg₂ (· + ·) (congrArg₂ Ideal.div ((val_main_v10_apply (F := Ideal) x1 _).trans
      (at2 (val_main_v9 (F := Ideal) x1) _ b r rfl rfl)) (val_main_v11_apply (F := Ideal) _)) (val_main_v15_apply (F := Ideal) _)))
  exact congrArg₂ (· + ·) ((congrArg₂ (· * ·) (congrArg (_ * ·) er) rfl).trans
    (norm_of _ (centerRow (convOf x1 b r)) (fun d => x3 (ix2 0 d)) d _ _ _ (center_again x1 b r d) es eg)) eb

theorem swish_apply (d : Fin 1024) : val_main_v26 (F := Ideal) x1 x3 x4 (ix3 b r d) = swishRow (lnOf x1 x3 x4 b r) d := by
  have o₁ : ∀ k : S4x2048x1024.Idx, val_main_call0_v2 (F := Ideal) k = (1 : EReal) := fun k => (val_main_call0_v2_apply (F := Ideal) k).trans (Attention.ofBits_one.trans EReal.coe_one)
  have o₂ : ∀ k : S4x2048x1024.Idx, val_main_call0_v4 (F := Ideal) k = (1 : EReal) := fun k => (val_main_call0_v4_apply (F := Ideal) k).trans (Attention.ofBits_one.trans EReal.coe_one)
  refine (val_main_v26_apply (F := Ideal) x1 x3 x4 _).trans (congrArg₂ (· * ·) (ln_apply x1 x3 x4 b r d) ?_)
  refine Eq.trans (b := Ideal.div (1 : EReal) (1 + Ideal.exp (-(lnOf x1 x3 x4 b r d)))) ?_ (logistic_of _ 1 rfl)
  exact congrArg₂ Ideal.div (o₂ _) (congrArg₂ (· + ·) (o₁ _) (congrArg (fun z => Ideal.exp (-z)) (ln_apply x1 x3 x4 b r d)))

/-! ## The output projection -/

/-- One row of the hidden state. -/
def hiddenOf : Fin 2048 → EReal :=
  hRow (fun j => x2 (ix3 b r j)) (fun d => x0 (ix3 b r d)) (swishRow (lnOf x1 x3 x4 b r)) (fun d j => x5 (ix3 0 d j))

theorem left_apply (k : Fin 2048) (d : Fin 1024) (h : k.val = 0 + d.val) : val_main_v27 (F := Ideal) x0 x1 x3 x4 (ix3 b r k) = x0 (ix3 b r d) :=
  concatenate_apply_piece 2 [⟨S4x2048x1024, x0⟩, ⟨S4x2048x1024, val_main_v26 (F := Ideal) x1 x3 x4⟩]
    concatenates_S4x2048x1024_S4x2048x1024_S4x2048x2048_d2 (ix3 b r k) 0 (by simp) S4x2048x1024 x0 rfl rfl 0 rfl (ix3 b r d)
    (fun a ha => match a, ha with | ⟨0, _⟩, _ => rfl | ⟨1, _⟩, _ => rfl | ⟨2, _⟩, ha => absurd rfl ha) h.symm

theorem right_apply (k : Fin 2048) (d : Fin 1024) (h : k.val = 1024 + d.val) :
    val_main_v27 (F := Ideal) x0 x1 x3 x4 (ix3 b r k) = val_main_v26 (F := Ideal) x1 x3 x4 (ix3 b r d) :=
  concatenate_apply_piece 2 [⟨S4x2048x1024, x0⟩, ⟨S4x2048x1024, val_main_v26 (F := Ideal) x1 x3 x4⟩]
    concatenates_S4x2048x1024_S4x2048x1024_S4x2048x2048_d2 (ix3 b r k) 1 (by simp) S4x2048x1024 (val_main_v26 (F := Ideal) x1 x3 x4) rfl rfl 1024 rfl (ix3 b r d)
    (fun a ha => match a, ha with | ⟨0, _⟩, _ => rfl | ⟨1, _⟩, _ => rfl | ⟨2, _⟩, ha => absurd rfl ha) h.symm

theorem weight_apply (d j : Fin 2048) : val_main_v28 (F := Ideal) x5 (ix2 d j) = x5 (ix3 0 d j) := by
  refine (val_main_v28_apply (F := Ideal) x5 _).trans (at3 x5 _ 0 d j rfl ?_ ?_)
  · show (d.val * 2048 + j.val) / 2048 % 2048 = d.val; omega
  · show (d.val * 2048 + j.val) % 2048 = j.val; omega

theorem hidden_apply (j : Fin 2048) : val_main_v30 (F := Ideal) x0 x1 x2 x3 x4 x5 (ix3 b r j) = hiddenOf x0 x1 x2 x3 x4 x5 b r j := by
  have ep : ∀ k : Fin 2048, val_main_v27 (F := Ideal) x0 x1 x3 x4 (lidx_main_v29 (ix3 b r j) k) * val_main_v28 (F := Ideal) x5 (ridx_main_v29 (ix3 b r j) k)
      = val_main_v27 (F := Ideal) x0 x1 x3 x4 (ix3 b r k) * x5 (ix3 0 k j) := fun k =>
    congrArg₂ (· * ·) (at3 (val_main_v27 (F := Ideal) x0 x1 x3 x4) _ b r k rfl rfl rfl)
      ((at2 (val_main_v28 (F := Ideal) x5) _ k j rfl rfl).trans (weight_apply x5 k j))
  have e₁ : val_main_v29 (F := Ideal) x0 x1 x3 x4 x5 (ix3 b r j) = (∑ d : Fin 1024, x0 (ix3 b r d) * x5 (ix3 0 (⟨0 + d.val, by omega⟩ : Fin 2048) j))
      + ∑ d : Fin 1024, swishRow (lnOf x1 x3 x4 b r) d * x5 (ix3 0 (⟨1024 + d.val, by omega⟩ : Fin 2048) j) := by
    refine (val_main_v29_apply x0 x1 x3 x4 x5 _).trans ((Finset.sum_congr rfl fun k _ => ep k).trans ((sum_halves fun k => val_main_v27 (F := Ideal) x0 x1 x3 x4 (ix3 b r k) * x5 (ix3 0 k j)).trans
      (congrArg₂ (· + ·) (Finset.sum_congr rfl fun d _ => congrArg (· * _) ?_) (Finset.sum_congr rfl fun d _ => congrArg (· * _) ?_))))
    · exact left_apply x0 x1 x3 x4 b r ⟨0 + d.val, by omega⟩ d rfl
    · exact (right_apply x0 x1 x3 x4 b r ⟨1024 + d.val, by omega⟩ d rfl).trans (swish_apply x1 x3 x4 b r d)
  exact (congrArg (x2 (ix3 b r j) + ·) e₁).trans (add_assoc _ _ _).symm

theorem h_apply (i : S8192x2048.Idx) (h0 : (i 0).val = b.val * 2048 + r.val) :
    val_main_v60 (F := Ideal) x0 x1 x2 x3 x4 x5 i = hiddenOf x0 x1 x2 x3 x4 x5 b r (i 1) := by
  have hi : (i 1).val < 2048 := (i 1).isLt
  refine (val_main_v60_apply (F := Ideal) x0 x1 x2 x3 x4 x5 i).trans ((at3 (val_main_v30 (F := Ideal) x0 x1 x2 x3 x4 x5) _ b r (i 1) ?_ ?_ ?_).trans
    (hidden_apply x0 x1 x2 x3 x4 x5 b r (i 1)))
  · show ((i 0).val * 2048 + (i 1).val) / 4194304 = b.val; omega
  · show ((i 0).val * 2048 + (i 1).val) / 2048 % 2048 = r.val; omega
  · show ((i 0).val * 2048 + (i 1).val) % 2048 = (i 1).val; omega

/-! ## The routing logits -/

/-- The normalized hidden state. -/
def hnOf : Fin 2048 → EReal := normRow (Ideal.ofBits .f32 0x45000000#32) (hiddenOf x0 x1 x2 x3 x4 x5 b r) (fun d => x6 (ix2 0 d))

theorem hn_apply (d : Fin 2048) : val_main_v44 (F := Ideal) x0 x1 x2 x3 x4 x5 x6 (ix3 b r d) = hnOf x0 x1 x2 x3 x4 x5 x6 b r d := by
  have eg : val_main_v43 (F := Ideal) x6 (ix3 b r d) = x6 (ix2 0 d) :=
    (val_main_v43_apply (F := Ideal) x6 _).trans ((val_main_v42_apply (F := Ideal) x6 _).trans ((val_main_v31_apply (F := Ideal) x6 _).trans
      (at2 x6 _ 0 d rfl (Nat.mod_eq_of_lt d.isLt))))
  have es : val_main_v33 (F := Ideal) x0 x1 x2 x3 x4 x5 (ix2 b r) = ∑ e, hiddenOf x0 x1 x2 x3 x4 x5 b r e * hiddenOf x0 x1 x2 x3 x4 x5 b r e :=
    (val_main_v33_apply x0 x1 x2 x3 x4 x5 _).trans (squares_of (hiddenOf x0 x1 x2 x3 x4 x5 b r) (fun e => val_main_v30 (F := Ideal) x0 x1 x2 x3 x4 x5 (idx_main_v33 (ix2 b r) e)) fun e =>
      (at3 (val_main_v30 (F := Ideal) x0 x1 x2 x3 x4 x5) _ b r e rfl rfl rfl).trans (hidden_apply x0 x1 x2 x3 x4 x5 b r e))
  have er : val_main_v40 (F := Ideal) x0 x1 x2 x3 x4 x5 (ix3 b r d) = Ideal.rsqrt (Ideal.div (val_main_v33 (F := Ideal) x0 x1 x2 x3 x4 x5 (ix2 b r)) (Ideal.ofBits .f32 0x45000000#32) + Ideal.ofBits .f32 0x358637BD#32) :=
    (val_main_v40_apply (F := Ideal) x0 x1 x2 x3 x4 x5 _).trans (congrArg Ideal.rsqrt (congrArg₂ (· + ·) (congrArg₂ Ideal.div ((val_main_v34_apply (F := Ideal) x0 x1 x2 x3 x4 x5 _).trans
      (at2 (val_main_v33 (F := Ideal) x0 x1 x2 x3 x4 x5) _ b r rfl rfl)) (val_main_v35_apply (F := Ideal) _)) (val_main_v37_apply (F := Ideal) _)))
  exact (congrArg₂ (· * ·) (congrArg (_ * ·) er) rfl).trans (norm_of _ (hiddenOf x0 x1 x2 x3 x4 x5 b r) (fun d => x6 (ix2 0 d)) d _ _ _ (hidden_apply x0 x1 x2 x3 x4 x5 b r d) es eg)

theorem row_apply (i : Fin 8192) (h0 : i.val = b.val * 2048 + r.val) (d : Fin 2048) :
    val_main_v45 (F := Ideal) x0 x1 x2 x3 x4 x5 x6 (ix2 i d) = hnOf x0 x1 x2 x3 x4 x5 x6 b r d := by
  refine (val_main_v45_apply (F := Ideal) x0 x1 x2 x3 x4 x5 x6 (ix2 i d)).trans ((at3 (val_main_v44 (F := Ideal) x0 x1 x2 x3 x4 x5 x6) _ b r d ?_ ?_ ?_).trans
    (hn_apply x0 x1 x2 x3 x4 x5 x6 b r d))
  · show (i.val * 2048 + d.val) / 4194304 = b.val; omega
  · show (i.val * 2048 + d.val) / 2048 % 2048 = r.val; omega
  · show (i.val * 2048 + d.val) % 2048 = d.val; omega

theorem group_apply (i : Fin 8192) (h0 : i.val = b.val * 2048 + r.val) (e : Fin 8) : val_main_v51 (F := Ideal) x0 x1 x2 x3 x4 x5 x6 x7 x8 (ix2 i e)
    = prodRow (hnOf x0 x1 x2 x3 x4 x5 x6 b r) (fun d j => x7 (ix3 0 d j)) e + x8 (ix2 0 e) := by
  have hw : ∀ d : Fin 2048, val_main_v46 (F := Ideal) x7 (ix2 d e) = x7 (ix3 0 d e) := fun d => by
    refine (val_main_v46_apply (F := Ideal) x7 _).trans (at3 x7 _ 0 d e rfl ?_ ?_)
    · show (d.val * 8 + e.val) / 8 % 2048 = d.val; omega
    · show (d.val * 8 + e.val) % 8 = e.val; omega
  have hp : val_main_v47 (F := Ideal) x0 x1 x2 x3 x4 x5 x6 x7 (ix2 i e) = prodRow (hnOf x0 x1 x2 x3 x4 x5 x6 b r) (fun d j => x7 (ix3 0 d j)) e := by
    unfold prodRow
    refine (val_main_v47_apply x0 x1 x2 x3 x4 x5 x6 x7 _).trans (Finset.sum_congr rfl fun d _ => congrArg₂ (· * ·) ?_ ?_)
    · exact (at2 (val_main_v45 (F := Ideal) x0 x1 x2 x3 x4 x5 x6) _ i d rfl rfl).trans (row_apply x0 x1 x2 x3 x4 x5 x6 b r i h0 d)
    · exact (at2 (val_main_v46 (F := Ideal) x7) _ d e rfl rfl).trans (hw d)
  have hb : val_main_v50 (F := Ideal) x8 (ix2 i e) = x8 (ix2 0 e) :=
    (val_main_v50_apply (F := Ideal) x8 _).trans ((val_main_v49_apply (F := Ideal) x8 _).trans ((val_main_v48_apply (F := Ideal) x8 _).trans
      (at2 x8 _ 0 e rfl (Nat.mod_eq_of_lt e.isLt))))
  exact (val_main_v51_apply (F := Ideal) x0 x1 x2 x3 x4 x5 x6 x7 x8 _).trans (congrArg₂ (· + ·) hp hb)

theorem expert_apply (i : Fin 8192) (h0 : i.val = b.val * 2048 + r.val) (e : Fin 64) : val_main_v57 (F := Ideal) x0 x1 x2 x3 x4 x5 x6 x9 x10 (ix2 i e)
    = prodRow (hnOf x0 x1 x2 x3 x4 x5 x6 b r) (fun d j => x9 (ix3 0 d j)) e + x10 (ix2 0 e) := by
  have hw : ∀ d : Fin 2048, val_main_v52 (F := Ideal) x9 (ix2 d e) = x9 (ix3 0 d e) := fun d => by
    refine (val_main_v52_apply (F := Ideal) x9 _).trans (at3 x9 _ 0 d e rfl ?_ ?_)
    · show (d.val * 64 + e.val) / 64 % 2048 = d.val; omega
    · show (d.val * 64 + e.val) % 64 = e.val; omega
  have hp : val_main_v53 (F := Ideal) x0 x1 x2 x3 x4 x5 x6 x9 (ix2 i e) = prodRow (hnOf x0 x1 x2 x3 x4 x5 x6 b r) (fun d j => x9 (ix3 0 d j)) e := by
    unfold prodRow
    refine (val_main_v53_apply x0 x1 x2 x3 x4 x5 x6 x9 _).trans (Finset.sum_congr rfl fun d _ => congrArg₂ (· * ·) ?_ ?_)
    · exact (at2 (val_main_v45 (F := Ideal) x0 x1 x2 x3 x4 x5 x6) _ i d rfl rfl).trans (row_apply x0 x1 x2 x3 x4 x5 x6 b r i h0 d)
    · exact (at2 (val_main_v52 (F := Ideal) x9) _ d e rfl rfl).trans (hw d)
  have hb : val_main_v56 (F := Ideal) x10 (ix2 i e) = x10 (ix2 0 e) :=
    (val_main_v56_apply (F := Ideal) x10 _).trans ((val_main_v55_apply (F := Ideal) x10 _).trans ((val_main_v54_apply (F := Ideal) x10 _).trans
      (at2 x10 _ 0 e rfl (Nat.mod_eq_of_lt e.isLt))))
  exact (val_main_v57_apply (F := Ideal) x0 x1 x2 x3 x4 x5 x6 x9 x10 _).trans (congrArg₂ (· + ·) hp hb)

/-- The pieces the logits are set out in. -/
abbrev pieces : List ((s : Shape) × (s.Idx → EReal)) := [⟨S8192x64, val_main_v57 (F := Ideal) x0 x1 x2 x3 x4 x5 x6 x9 x10⟩,
  ⟨S8192x8, val_main_v51 (F := Ideal) x0 x1 x2 x3 x4 x5 x6 x7 x8⟩, ⟨S8192x56, val_main_v58 (F := Ideal)⟩]

theorem logit_expert (i : Fin 8192) (j : Fin 128) (e : Fin 64) (h : j.val = e.val) : val_main_v59 (F := Ideal) x0 x1 x2 x3 x4 x5 x6 x7 x8 x9 x10 (ix2 i j)
    = val_main_v57 (F := Ideal) x0 x1 x2 x3 x4 x5 x6 x9 x10 (ix2 i e) :=
  concatenate_apply_piece 1 (pieces x0 x1 x2 x3 x4 x5 x6 x7 x8 x9 x10) concatenates_S8192x64_S8192x8_S8192x56_S8192x128_d1 (ix2 i j) 0 (by simp) S8192x64
    (val_main_v57 (F := Ideal) x0 x1 x2 x3 x4 x5 x6 x9 x10) rfl rfl 0 rfl (ix2 i e)
    (fun a ha => match a, ha with | ⟨0, _⟩, _ => rfl | ⟨1, _⟩, ha => absurd rfl ha) ((Nat.zero_add _).trans h.symm)

theorem logit_group (i : Fin 8192) (j : Fin 128) (e : Fin 8) (h : j.val = 64 + e.val) : val_main_v59 (F := Ideal) x0 x1 x2 x3 x4 x5 x6 x7 x8 x9 x10 (ix2 i j)
    = val_main_v51 (F := Ideal) x0 x1 x2 x3 x4 x5 x6 x7 x8 (ix2 i e) :=
  concatenate_apply_piece 1 (pieces x0 x1 x2 x3 x4 x5 x6 x7 x8 x9 x10) concatenates_S8192x64_S8192x8_S8192x56_S8192x128_d1 (ix2 i j) 1 (by simp) S8192x8
    (val_main_v51 (F := Ideal) x0 x1 x2 x3 x4 x5 x6 x7 x8) rfl rfl 64 rfl (ix2 i e)
    (fun a ha => match a, ha with | ⟨0, _⟩, _ => rfl | ⟨1, _⟩, ha => absurd rfl ha) h.symm

theorem logit_zero (i : Fin 8192) (j : Fin 128) (e : Fin 56) (h : j.val = 72 + e.val) : val_main_v59 (F := Ideal) x0 x1 x2 x3 x4 x5 x6 x7 x8 x9 x10 (ix2 i j) = 0 :=
  (concatenate_apply_piece 1 (pieces x0 x1 x2 x3 x4 x5 x6 x7 x8 x9 x10) concatenates_S8192x64_S8192x8_S8192x56_S8192x128_d1 (ix2 i j) 2 (by simp) S8192x56
    (val_main_v58 (F := Ideal)) rfl rfl 72 rfl (ix2 i e)
    (fun a ha => match a, ha with | ⟨0, _⟩, _ => rfl | ⟨1, _⟩, ha => absurd rfl ha) h.symm).trans ((val_main_v58_apply (F := Ideal) (ix2 i e)).trans zero_bits)

end Cert.Proof.OprojRef

end
-- ==== Proof.OprojValue.lean ====
/-
  The output projection call's two results as arrays: which blocks a grid point reads and writes, and the results'
  elements from the arrays the call reads.
-/
module

public import proofs.«01_k».proof.Proof.OprojBlock
public import Idealize.ShloMosaic.Lib.Pipeline.ValueKit
public import Idealize.ShloMosaic.Lib.StableHlo.Run

@[expose] public section

set_option maxRecDepth 16384

noncomputable section

namespace Cert.Proof.Oproj

open Idealize.ShloMosaic.Tactic Cert.OprojIdeal Cert.OprojIdeal.Gen Idealize.ShloMosaic.TcCoe Idealize.SL.Sem
open Idealize.ShloMosaic.ValueIdx
open Idealize.ShloMosaic hiding ix2 ix3 ix4
open Idealize.ShloMosaic.Pipeline (Dat Cfg Window)
open Cert.Proof.Proj (normRow mat)

variable (m : (ℓ : Loc nD τ sig) → Buf (Elt Ideal) ℓ)

/-! ## The blocks of a grid point: rows `512 t` on -/

/-- A grid point's rows of an array. -/
def rowsOf {n : ℕ} (X : (⟨2, ![8192, n]⟩ : Shape).Idx → EReal) (t : Fin cfg0.N) : (⟨2, ![512, n]⟩ : Shape).Idx → EReal := fun j =>
  X (ix2 ⟨t.val * 512 + (j 0).val, by have : (j 0).val < 512 := (j 0).isLt; have : t.val < 16 := t.isLt; omega⟩ (j 1))

theorem index_0 : ∀ t : Fin cfg0.N, win0_0.index t = ![t.val, 0] := (by decide +kernel : ∀ t : Fin grid0.N, win0_0.index t = ![t.val, 0])
theorem index_1 : ∀ t : Fin cfg0.N, win0_1.index t = ![t.val, 0] := (by decide +kernel : ∀ t : Fin grid0.N, win0_1.index t = ![t.val, 0])
theorem index_2 : ∀ t : Fin cfg0.N, win0_2.index t = ![t.val, 0] := (by decide +kernel : ∀ t : Fin grid0.N, win0_2.index t = ![t.val, 0])
theorem index_3 : ∀ t : Fin cfg0.N, win0_3.index t = ![0, 0] := (by decide +kernel : ∀ t : Fin grid0.N, win0_3.index t = ![0, 0])
theorem index_4 : ∀ t : Fin cfg0.N, win0_4.index t = ![0, 0] := (by decide +kernel : ∀ t : Fin grid0.N, win0_4.index t = ![0, 0])
theorem index_5 : ∀ t : Fin cfg0.N, win0_5.index t = ![0, 0] := (by decide +kernel : ∀ t : Fin grid0.N, win0_5.index t = ![0, 0])
theorem index_6 : ∀ t : Fin cfg0.N, win0_6.index t = ![0, 0] := (by decide +kernel : ∀ t : Fin grid0.N, win0_6.index t = ![0, 0])
theorem index_7 : ∀ t : Fin cfg0.N, win0_7.index t = ![0, 0] := (by decide +kernel : ∀ t : Fin grid0.N, win0_7.index t = ![0, 0])
theorem index_8 : ∀ t : Fin cfg0.N, win0_8.index t = ![0, 0] := (by decide +kernel : ∀ t : Fin grid0.N, win0_8.index t = ![0, 0])
theorem index_9 : ∀ t : Fin cfg0.N, win0_9.index t = ![t.val, 0] := (by decide +kernel : ∀ t : Fin grid0.N, win0_9.index t = ![t.val, 0])
theorem index_10 : ∀ t : Fin cfg0.N, win0_10.index t = ![t.val, 0] := (by decide +kernel : ∀ t : Fin grid0.N, win0_10.index t = ![t.val, 0])

theorem iblk_0 (c : Dev nD) (t : Fin cfg0.N) : iblk m c 0 t = rowsOf (V m c main_v16) t := by
  funext j
  unfold iblk
  refine congrArg (V m c main_v16) (funext fun a => Fin.ext ((win0_0.rect_emb_val_off t _ a).trans ?_))
  rw [index_0 t]
  match a with
  | ⟨0, _⟩ => rfl
  | ⟨1, _⟩ => exact Nat.zero_add _

theorem iblk_1 (c : Dev nD) (t : Fin cfg0.N) : iblk m c 1 t = rowsOf (V m c main_v18) t := by
  funext j
  unfold iblk
  refine congrArg (V m c main_v18) (funext fun a => Fin.ext ((win0_1.rect_emb_val_off t _ a).trans ?_))
  rw [index_1 t]
  match a with
  | ⟨0, _⟩ => rfl
  | ⟨1, _⟩ => exact Nat.zero_add _

theorem iblk_2 (c : Dev nD) (t : Fin cfg0.N) : iblk m c 2 t = rowsOf (V m c main_v19) t := by
  funext j
  unfold iblk
  refine congrArg (V m c main_v19) (funext fun a => Fin.ext ((win0_2.rect_emb_val_off t _ a).trans ?_))
  rw [index_2 t]
  match a with
  | ⟨0, _⟩ => rfl
  | ⟨1, _⟩ => exact Nat.zero_add _

theorem iblk_3 (c : Dev nD) (t : Fin cfg0.N) : iblk m c 3 t = V m c main_v0 := by
  funext j
  unfold iblk
  refine congrArg (V m c main_v0) (funext fun a => Fin.ext ((win0_3.rect_emb_val_off t _ a).trans ?_))
  rw [index_3 t]
  match a with
  | ⟨0, _⟩ => exact Nat.zero_add _
  | ⟨1, _⟩ => exact Nat.zero_add _

theorem iblk_4 (c : Dev nD) (t : Fin cfg0.N) : iblk m c 4 t = V m c main_arg3 := by
  funext j
  unfold iblk
  refine congrArg (V m c main_arg3) (funext fun a => Fin.ext ((win0_4.rect_emb_val_off t _ a).trans ?_))
  rw [index_4 t]
  match a with
  | ⟨0, _⟩ => exact Nat.zero_add _
  | ⟨1, _⟩ => exact Nat.zero_add _

theorem iblk_5 (c : Dev nD) (t : Fin cfg0.N) : iblk m c 5 t = V m c main_arg4 := by
  funext j
  unfold iblk
  refine congrArg (V m c main_arg4) (funext fun a => Fin.ext ((win0_5.rect_emb_val_off t _ a).trans ?_))
  rw [index_5 t]
  match a with
  | ⟨0, _⟩ => exact Nat.zero_add _
  | ⟨1, _⟩ => exact Nat.zero_add _

theorem iblk_6 (c : Dev nD) (t : Fin cfg0.N) : iblk m c 6 t = V m c main_arg6 := by
  funext j
  unfold iblk
  refine congrArg (V m c main_arg6) (funext fun a => Fin.ext ((win0_6.rect_emb_val_off t _ a).trans ?_))
  rw [index_6 t]
  match a with
  | ⟨0, _⟩ => exact Nat.zero_add _
  | ⟨1, _⟩ => exact Nat.zero_add _

theorem iblk_7 (c : Dev nD) (t : Fin cfg0.N) : iblk m c 7 t = V m c main_v9 := by
  funext j
  unfold iblk
  refine congrArg (V m c main_v9) (funext fun a => Fin.ext ((win0_7.rect_emb_val_off t _ a).trans ?_))
  rw [index_7 t]
  match a with
  | ⟨0, _⟩ => exact Nat.zero_add _
  | ⟨1, _⟩ => exact Nat.zero_add _

theorem iblk_8 (c : Dev nD) (t : Fin cfg0.N) : iblk m c 8 t = V m c main_v14 := by
  funext j
  unfold iblk
  refine congrArg (V m c main_v14) (funext fun a => Fin.ext ((win0_8.rect_emb_val_off t _ a).trans ?_))
  rw [index_8 t]
  match a with
  | ⟨0, _⟩ => exact Nat.zero_add _
  | ⟨1, _⟩ => exact Nat.zero_add _

/-! ## The results -/

/-- A row of the hidden states, from the arrays the call reads. -/
def hRowOf (A C : S8192x1024.Idx → EReal) (X : S8192x2048.Idx → EReal) (W : S2048x2048.Idx → EReal) (g b : S1x1024.Idx → EReal) (i : Fin 8192) :
    Fin 2048 → EReal :=
  hRow (mat X i) (mat A i) (swishRow (lnRow (mat C i) (mat g 0) (mat b 0))) (mat W)

/-- The hidden states. -/
def hAll (A C : S8192x1024.Idx → EReal) (X : S8192x2048.Idx → EReal) (W : S2048x2048.Idx → EReal) (g b : S1x1024.Idx → EReal) :
    S8192x2048.Idx → EReal := fun i => hRowOf A C X W g b (i 0) (i 1)

/-- The logits. -/
def logitAll (A C : S8192x1024.Idx → EReal) (X : S8192x2048.Idx → EReal) (W : S2048x2048.Idx → EReal) (g b : S1x1024.Idx → EReal)
    (g₂ : S1x2048.Idx → EReal) (R : S2048x256.Idx → EReal) (β : S1x128.Idx → EReal) : S8192x128.Idx → EReal := fun i =>
  logitRow (normRow (Ideal.ofBits .f32 0x45000000#32) (hRowOf A C X W g b (i 0)) (mat g₂ 0)) (mat R) (mat β 0) (i 1)

/-- A row of a grid point's block is the array's row there. -/
theorem mat_rows {n : ℕ} (X : (⟨2, ![8192, n]⟩ : Shape).Idx → EReal) (t : Fin cfg0.N) (p : Fin 512) (i : Fin 8192) (hi : i.val = t.val * 512 + p.val) :
    mat (rowsOf X t) p = mat X i := funext fun l => congrArg (fun k => X (ix2 k l)) (Fin.ext hi.symm)

theorem arr_9 (c : Dev nD) : (dats m 0 c).arrAt 9 cfg0.N
    = hAll (V m c main_v16) (V m c main_v18) (V m c main_v19) (V m c main_v0) (V m c main_arg3) (V m c main_arg4) := by
  refine (dats m 0 c).arrAt_eq_of_covers 9 _ (by decide +kernel) fun t _ y => ?_
  blk_simp
  rw [after0_9]
  have e0 : ((win0_9.blk t).view.emb y 0).val = t.val * 512 + (y 0).val := (win0_9.rect_emb_val_off t _ 0).trans (by rw [index_9 t]; rfl)
  have e1 : (win0_9.blk t).view.emb y 1 = y 1 := Fin.ext ((win0_9.rect_emb_val_off t _ 1).trans (by rw [index_9 t]; exact Nat.zero_add _))
  refine (congrArg _ (ValueIdx.eq_ix2 (n0 := 512) (n1 := 2048) y)).trans ((h_point _ _ _ _ _ _ _ _ _ (y 0) (y 1)).trans ?_)
  rw [iblk_0, iblk_1, iblk_2, iblk_3, iblk_4, iblk_5]
  unfold hAll hRowOf hOf
  rw [mat_rows _ t _ _ e0, mat_rows _ t _ _ e0, mat_rows _ t _ _ e0, e1]

theorem arr_10 (c : Dev nD) : (dats m 0 c).arrAt 10 cfg0.N
    = logitAll (V m c main_v16) (V m c main_v18) (V m c main_v19) (V m c main_v0) (V m c main_arg3) (V m c main_arg4) (V m c main_arg6) (V m c main_v9) (V m c main_v14) := by
  refine (dats m 0 c).arrAt_eq_of_covers 10 _ (by decide +kernel) fun t _ y => ?_
  blk_simp
  rw [after0_10]
  have e0 : ((win0_10.blk t).view.emb y 0).val = t.val * 512 + (y 0).val := (win0_10.rect_emb_val_off t _ 0).trans (by rw [index_10 t]; rfl)
  have e1 : (win0_10.blk t).view.emb y 1 = y 1 := Fin.ext ((win0_10.rect_emb_val_off t _ 1).trans (by rw [index_10 t]; exact Nat.zero_add _))
  refine (congrArg _ (ValueIdx.eq_ix2 (n0 := 512) (n1 := 128) y)).trans ((logit_point _ _ _ _ _ _ _ _ _ (y 0) (y 1)).trans ?_)
  rw [iblk_0, iblk_1, iblk_2, iblk_3, iblk_4, iblk_5, iblk_6, iblk_7, iblk_8]
  unfold logitAll hRowOf hOf
  rw [mat_rows _ t _ _ e0, mat_rows _ t _ _ e0, mat_rows _ t _ _ e0, e1]

end Cert.Proof.Oproj

end
-- ==== Proof.OprojEqual.lean ====
/-
  The output projection call's two results are the reference's: the same hidden rows, and with real gains and routing
  weights the same logits.
-/
module

public import proofs.«01_k».proof.Proof.OprojHost
public import proofs.«01_k».proof.Proof.OprojMath
public import proofs.«01_k».proof.Proof.OprojRef
public import proofs.«01_k».proof.Proof.OprojValue
public import proofs.«01_k».proof.Proof.ProjEqual

@[expose] public section

set_option maxRecDepth 16384

noncomputable section

namespace Cert.Proof.Oproj

open Cert.OprojIdeal Cert.OprojIdeal.Gen Idealize.ShloMosaic.TcCoe Idealize.SL.Sem
open Idealize.ShloMosaic.ValueIdx
open Idealize.ShloMosaic hiding ix1 ix2 ix3 ix4 eq_ix2
open Cert.Proof.Proj (prodRow normRow mat cols row_split)

variable (m : (ℓ : Loc nD τ sig) → Buf (Elt Ideal) ℓ) (c : Dev nD)
variable (x0 : S4x2048x1024.Idx → EReal) (x1 : S4x2048x1024.Idx → EReal) (x2 : S4x2048x2048.Idx → EReal) (x3 : S1x1024.Idx → EReal)
  (x4 : S1x1024.Idx → EReal) (x5 : S1x2048x2048.Idx → EReal) (x6 : S1x2048.Idx → EReal) (x7 : S1x2048x8.Idx → EReal)
  (x8 : S1x8.Idx → EReal) (x9 : S1x2048x64.Idx → EReal) (x10 : S1x64.Idx → EReal)

/-- One row of the hidden state, from the arrays as launched. -/
theorem hidden_eq (b : Fin 4) (r : Fin 2048) (i : Fin 8192) (hi : i.val = b.val * 2048 + r.val)
    (e0 : m ((c.tc : Thread nD τ).loc main_arg0) = x0) (e1 : m ((c.tc : Thread nD τ).loc main_arg1) = x1) (e2 : m ((c.tc : Thread nD τ).loc main_arg2) = x2)
    (e3 : m ((c.tc : Thread nD τ).loc main_arg3) = x3) (e4 : m ((c.tc : Thread nD τ).loc main_arg4) = x4) (e5 : m ((c.tc : Thread nD τ).loc main_arg5) = x5) :
    hRowOf (V m c main_v16) (V m c main_v18) (V m c main_v19) (V m c main_v0) (V m c main_arg3) (V m c main_arg4) i
      = OprojRef.hiddenOf x0 x1 x2 x3 x4 x5 b r := by
  subst e0 e1 e2 e3 e4 e5
  have hx : mat (V m c main_v19) i = fun j => m ((c.tc : Thread nD τ).loc main_arg2) (ix3 b r j) := funext fun d => residual_apply m c i b r d hi
  have ha : mat (V m c main_v16) i = fun d => m ((c.tc : Thread nD τ).loc main_arg0) (ix3 b r d) := funext fun d => attn_apply m c i b r d hi
  have hc : mat (V m c main_v18) i = OprojRef.convOf (m ((c.tc : Thread nD τ).loc main_arg1)) b r := funext fun d => conv_apply m c i b r d hi
  have hg : mat (V m c main_arg3) 0 = fun d => m ((c.tc : Thread nD τ).loc main_arg3) (ix2 0 d) := funext fun d => congrFun (V_main_arg3 m c) (ix2 0 d)
  have hb : mat (V m c main_arg4) 0 = fun d => m ((c.tc : Thread nD τ).loc main_arg4) (ix2 0 d) := funext fun d => congrFun (V_main_arg4 m c) (ix2 0 d)
  have hw : mat (V m c main_v0) = fun d j => m ((c.tc : Thread nD τ).loc main_arg5) (ix3 0 d j) := funext fun d => funext fun j => weight_apply m c d j
  unfold hRowOf
  rw [hx, ha, hc, hg, hb, hw]
  rfl

/-- The first result is the reference's. -/
theorem h_eq (e0 : m ((c.tc : Thread nD τ).loc main_arg0) = x0) (e1 : m ((c.tc : Thread nD τ).loc main_arg1) = x1) (e2 : m ((c.tc : Thread nD τ).loc main_arg2) = x2)
    (e3 : m ((c.tc : Thread nD τ).loc main_arg3) = x3) (e4 : m ((c.tc : Thread nD τ).loc main_arg4) = x4) (e5 : m ((c.tc : Thread nD τ).loc main_arg5) = x5) :
    hAll (V m c main_v16) (V m c main_v18) (V m c main_v19) (V m c main_v0) (V m c main_arg3) (V m c main_arg4)
      = Cert.OprojRefIdeal.Read.val_main_v60 (F := Ideal) x0 x1 x2 x3 x4 x5 := by
  funext i
  obtain ⟨b, r, h0⟩ := row_split (i 0)
  refine Eq.trans ?_ (OprojRef.h_apply x0 x1 x2 x3 x4 x5 b r i h0).symm
  exact congrFun (hidden_eq m c x0 x1 x2 x3 x4 x5 b r (i 0) h0 e0 e1 e2 e3 e4 e5) (i 1)

/-- With nothing left by the roundings, the logits are one product and the bias. -/
theorem logit_one (hn : Fin 2048 → EReal) (w : Fin 2048 → Fin 256 → EReal) (β : Fin 128 → EReal) (j : Fin 128) (u : Fin 2048 → EReal) (v : EReal)
    (hh : ∀ d, hn d - hn d = 0) (h₁ : ∀ d, w d ⟨0 + j.val, by omega⟩ = u d) (h₂ : ∀ d, w d ⟨128 + j.val, by omega⟩ = 0) (hv : β j = v) :
    logitRow hn w β j = (∑ d, hn d * u d) + v := by
  have p₁ : prodRow hn w ⟨0 + j.val, by omega⟩ = ∑ d, hn d * u d := Finset.sum_congr rfl fun d _ => congrArg (hn d * ·) (h₁ d)
  have p₂ : prodRow hn w ⟨128 + j.val, by omega⟩ = 0 := Finset.sum_eq_zero fun d _ => (congrArg (hn d * ·) (h₂ d)).trans (mul_zero _)
  have p₃ : prodRow (fun d => hn d - hn d) (cols 0 (by omega) w) j = 0 := Finset.sum_eq_zero fun d _ => (congrArg (· * _) (hh d)).trans (zero_mul _)
  unfold logitRow
  rw [p₁, p₂, p₃, add_zero, add_zero, hv]

/-- The second result is the reference's. -/
theorem logit_eq (e0 : m ((c.tc : Thread nD τ).loc main_arg0) = x0) (e1 : m ((c.tc : Thread nD τ).loc main_arg1) = x1) (e2 : m ((c.tc : Thread nD τ).loc main_arg2) = x2)
    (e3 : m ((c.tc : Thread nD τ).loc main_arg3) = x3) (e4 : m ((c.tc : Thread nD τ).loc main_arg4) = x4) (e5 : m ((c.tc : Thread nD τ).loc main_arg5) = x5)
    (e6 : m ((c.tc : Thread nD τ).loc main_arg6) = x6) (e7 : m ((c.tc : Thread nD τ).loc main_arg7) = x7) (e8 : m ((c.tc : Thread nD τ).loc main_arg8) = x8)
    (e9 : m ((c.tc : Thread nD τ).loc main_arg9) = x9) (e10 : m ((c.tc : Thread nD τ).loc main_arg10) = x10)
    (r6 : ∀ i, x6 i = ((EReal.toReal (x6 i) : ℝ) : EReal)) (r7 : ∀ i, x7 i = ((EReal.toReal (x7 i) : ℝ) : EReal)) (r9 : ∀ i, x9 i = ((EReal.toReal (x9 i) : ℝ) : EReal)) :
    logitAll (V m c main_v16) (V m c main_v18) (V m c main_v19) (V m c main_v0) (V m c main_arg3) (V m c main_arg4) (V m c main_arg6) (V m c main_v9) (V m c main_v14)
      = Cert.OprojRefIdeal.Read.val_main_v59 (F := Ideal) x0 x1 x2 x3 x4 x5 x6 x7 x8 x9 x10 := by
  funext i
  obtain ⟨b, r, h0⟩ := row_split (i 0)
  have hj : (i 1).val < 128 := (i 1).isLt
  have hg : mat (V m c main_arg6) 0 = fun d => x6 (ix2 0 d) := funext fun d => (congrFun (V_main_arg6 m c) (ix2 0 d)).trans (congrFun e6 _)
  have hh : ∀ d, OprojRef.hnOf x0 x1 x2 x3 x4 x5 x6 b r d - OprojRef.hnOf x0 x1 x2 x3 x4 x5 x6 b r d = 0 := fun d =>
    sub_self_of_real (norm_real (OprojRef.hiddenOf x0 x1 x2 x3 x4 x5 b r) (fun d => x6 (ix2 0 d)) (fun d => r6 (ix2 0 d)) d)
  have hs : ∀ (u : Fin 2048 → EReal) (v : EReal), (∀ d, routers m c (ix2 d (i 1)) = u d) → (∀ d, u d - u d = 0) → biases m c (ix1 (i 1)) = v →
      logitRow (OprojRef.hnOf x0 x1 x2 x3 x4 x5 x6 b r) (mat (V m c main_v9)) (mat (V m c main_v14) 0) (i 1)
        = (∑ d, OprojRef.hnOf x0 x1 x2 x3 x4 x5 x6 b r d * u d) + v := fun u v hu hz hv =>
    logit_one _ _ _ (i 1) u v hh (fun d => (first_part m c d (i 1) _ (Nat.zero_add _)).trans (hu d))
      (fun d => (second_part m c d (i 1) _ rfl).trans ((congrArg₂ (· - ·) (hu d) (hu d)).trans (hz d))) ((bias_apply m c (i 1)).trans hv)
  unfold logitAll
  rw [hidden_eq m c x0 x1 x2 x3 x4 x5 b r (i 0) h0 e0 e1 e2 e3 e4 e5, hg]
  refine Eq.trans ?_ (congrArg (Cert.OprojRefIdeal.Read.val_main_v59 (F := Ideal) x0 x1 x2 x3 x4 x5 x6 x7 x8 x9 x10) (eq_ix2 (n0 := 8192) (n1 := 128) i)).symm
  by_cases h64 : (i 1).val < 64
  · refine (hs (fun d => x9 (ix3 0 d ⟨(i 1).val, h64⟩)) (x10 (ix2 0 ⟨(i 1).val, h64⟩))
      (fun d => (routers_first m c d (i 1) ⟨(i 1).val, h64⟩ rfl).trans (congrFun e9 _)) (fun d => sub_self_of_real ⟨_, r9 _⟩)
      ((biases_first m c (i 1) ⟨(i 1).val, h64⟩ rfl).trans (congrFun e10 _))).trans ?_
    exact ((OprojRef.logit_expert x0 x1 x2 x3 x4 x5 x6 x7 x8 x9 x10 (i 0) (i 1) ⟨(i 1).val, h64⟩ rfl).trans
      (OprojRef.expert_apply x0 x1 x2 x3 x4 x5 x6 x9 x10 b r (i 0) h0 ⟨(i 1).val, h64⟩)).symm
  · by_cases h72 : (i 1).val < 72
    · have hk : (i 1).val = 64 + ((i 1).val - 64) := by omega
      have hl : (i 1).val - 64 < 8 := by omega
      refine (hs (fun d => x7 (ix3 0 d ⟨(i 1).val - 64, hl⟩)) (x8 (ix2 0 ⟨(i 1).val - 64, hl⟩))
        (fun d => (routers_second m c d (i 1) ⟨(i 1).val - 64, hl⟩ hk).trans (congrFun e7 _)) (fun d => sub_self_of_real ⟨_, r7 _⟩)
        ((biases_second m c (i 1) ⟨(i 1).val - 64, hl⟩ hk).trans (congrFun e8 _))).trans ?_
      exact ((OprojRef.logit_group x0 x1 x2 x3 x4 x5 x6 x7 x8 x9 x10 (i 0) (i 1) ⟨(i 1).val - 64, hl⟩ hk).trans
        (OprojRef.group_apply x0 x1 x2 x3 x4 x5 x6 x7 x8 b r (i 0) h0 ⟨(i 1).val - 64, hl⟩)).symm
    · have hk : (i 1).val = 72 + ((i 1).val - 72) := by omega
      have hl : (i 1).val - 72 < 56 := by omega
      refine (hs (fun _ => 0) 0 (fun d => routers_third m c d (i 1) ⟨(i 1).val - 72, hl⟩ hk) (fun _ => sub_self_of_real ⟨0, EReal.coe_zero.symm⟩)
        (biases_third m c (i 1) ⟨(i 1).val - 72, hl⟩ hk)).trans ?_
      rw [add_zero]
      exact (Finset.sum_eq_zero fun d _ => mul_zero _).trans (OprojRef.logit_zero x0 x1 x2 x3 x4 x5 x6 x7 x8 x9 x10 (i 0) (i 1) ⟨(i 1).val - 72, hl⟩ hk).symm

end Cert.Proof.Oproj

end
-- ==== Proof.OprojPre.lean ====
/-
  What the precondition says: each gain of the norm and each routing weight is a real number.
-/
module

public import proofs.«01_k».proof.Pre_finite_gains_and_routers
public import proofs.«01_k».proof.Proof.AttentionPre

@[expose] public section

noncomputable section

namespace Cert.Proof.OprojPre

open Cert.Pre_finite_gains_and_routers Idealize.ShloMosaic Idealize.ShloMosaic.ValueIdx
open Cert.Proof.AttentionPre (bit_and real_of_all)

/-- The shape facts the precondition states. -/
theorem facts : Facts where
  bcast_S_S1x2048 := by decide
  reducesTo_S1x2048_S_d0_1 := by decide
  h_S_ := by decide
  bcast_S_S1x2048x8 := by decide
  reducesTo_S1x2048x8_S_d0_1_2 := by decide
  bcast_S_S1x2048x64 := by decide
  reducesTo_S1x2048x64_S_d0_1_2 := by decide

/-- The precondition, read. -/
theorem real_of_pre [Facts] (x0 x1 : FVec Ideal S4x2048x1024 .f32) (x2 : FVec Ideal S4x2048x2048 .f32) (x3 x4 : FVec Ideal S1x1024 .f32)
    (x5 : FVec Ideal S1x2048x2048 .f32) (x6 : FVec Ideal S1x2048 .f32) (x7 : FVec Ideal S1x2048x8 .f32) (x8 : FVec Ideal S1x8 .f32)
    (x9 : FVec Ideal S1x2048x64 .f32) (x10 : FVec Ideal S1x64 .f32) (h : fn x0 x1 x2 x3 x4 x5 x6 x7 x8 x9 x10 = fun _ => 1#1) :
    (∀ i, x6 i = ((EReal.toReal (x6 i) : ℝ) : EReal)) ∧ (∀ i, x7 i = ((EReal.toReal (x7 i) : ℝ) : EReal))
      ∧ (∀ i, x9 i = ((EReal.toReal (x9 i) : ℝ) : EReal)) := by
  have h0 := congrFun h ix0
  dsimp only [fn, fn_part1] at h0
  obtain ⟨h01, h2⟩ := bit_and _ _ h0
  obtain ⟨h00, h1⟩ := bit_and _ _ h01
  exact ⟨real_of_all _ _ _ x6 _ h00, real_of_all _ _ _ x7 _ h1, real_of_all _ _ _ x9 _ h2⟩

end Cert.Proof.OprojPre

end
-- ==== Proof.OprojClaims.lean ====
/-
  The output projection call's claims: the frames, and that with real gains and routing weights the kernel computes the
  reference's hidden states and routing logits.
-/
module

public import proofs.«01_k».proof.Defs
public import proofs.«01_k».proof.Proof.Gen.Oproj
public import proofs.«01_k».proof.Proof.Gen.Oproj.Frame
public import proofs.«01_k».proof.Proof.Gen.OprojIdeal.Value
public import proofs.«01_k».proof.Proof.Gen.OprojRefIdeal.Run
public import proofs.«01_k».proof.Proof.Gen.OprojRefIdeal.Read
public import proofs.«01_k».proof.Proof.OprojEqual
public import proofs.«01_k».proof.Proof.OprojPre
public import Idealize.ShloMosaic.Adequacy
public import Idealize.ShloMosaic.Init

@[expose] public section

set_option maxRecDepth 16384

noncomputable section

namespace Cert.Proof.Oproj

open Cert.OprojIdeal Cert.OprojIdeal.Gen Idealize.ShloMosaic.TcCoe Idealize.SL.Sem
open Idealize.ShloMosaic hiding ix2 ix3 ix4

theorem frame_kernel : Cert.quiescent_Oproj (hOproj := Cert.Oproj.Gen.facts) := fun m ρ _ => Cert.Oproj.Gen.frame m ρ

theorem frame_ideal : Cert.quiescent_OprojIdeal (hOprojIdeal := Cert.OprojIdeal.Gen.facts) := fun m ρ _ => Cert.OprojIdeal.Gen.frame m ρ

theorem frame_ref : Cert.quiescent_OprojRefIdeal (hOprojRefIdeal := Cert.OprojRefIdeal.Gen.facts) := fun m ρ _ =>
  (θ_run _ _ _).mono (fun r h => ⟨fun c => (h c).2.2, Idealize.ShloMosaic.sem_eq_zero_of_no_sems (by decide) r.2⟩)
    (Cert.OprojRefIdeal.Value.run (F := Ideal) m ρ)

theorem preserves : Cert.preserves_Oproj_OprojIdeal := trivial

theorem algebraic : Cert.algebraic_OprojIdeal_OprojRefIdeal_pre_finite_gains_and_routers (hOprojIdeal := Cert.OprojIdeal.Gen.facts)
    (hOprojRefIdeal := Cert.OprojRefIdeal.Gen.facts) (hPre_finite_gains_and_routers := OprojPre.facts) :=
  fun m ρ m' ρ' hpre hagree =>
  ⟨fun c => hAll (V m c main_v16) (V m c main_v18) (V m c main_v19) (V m c main_v0) (V m c main_arg3) (V m c main_arg4),
   fun c => logitAll (V m c main_v16) (V m c main_v18) (V m c main_v19) (V m c main_v0) (V m c main_arg3) (V m c main_arg4) (V m c main_arg6) (V m c main_v9) (V m c main_v14),
   (θ_run _ _ _).mono (fun _ h c => ⟨(h c).1.trans (arr_9 m c), (h c).2.1.trans (arr_10 m c), (h c).2.2⟩) (Cert.OprojIdeal.Value.run_blocks m ρ),
   (θ_run _ _ _).mono (fun _ h c => by
      obtain ⟨r6, r7, r9⟩ := @OprojPre.real_of_pre OprojPre.facts _ _ _ _ _ _ _ _ _ _ _ (hpre c)
      obtain ⟨a0, a1, a2, a3, a4, a5, a6, a7, a8, a9, a10⟩ := hagree c
      exact ⟨((h c).1.trans (Cert.OprojRefIdeal.Read.val_main_v60_eq _ _)).trans
          (h_eq m c _ _ _ _ _ _ a0.symm a1.symm a2.symm a3.symm a4.symm a5.symm).symm,
        ((h c).2.1.trans (Cert.OprojRefIdeal.Read.val_main_v59_eq _ _)).trans
          (logit_eq m c _ _ _ _ _ _ _ _ _ _ _ a0.symm a1.symm a2.symm a3.symm a4.symm a5.symm a6.symm a7.symm a8.symm a9.symm a10.symm
            (fun i => a6 ▸ r6 i) (fun i => a7 ▸ r7 i) (fun i => a9 ▸ r9 i)).symm,
        (h c).2.2⟩)
    (Cert.OprojRefIdeal.Value.run (F := Ideal) m' ρ')⟩

end Cert.Proof.Oproj

end
-- ==== Proof.lean ====
/-
  The certificate's claims, assembled from the modules that prove them.
-/
module

public import proofs.«01_k».proof.Defs
public import proofs.«01_k».proof.Proof.SplitClaims
public import proofs.«01_k».proof.Proof.AttentionClaims
public import proofs.«01_k».proof.Proof.ProjClaims
public import proofs.«01_k».proof.Proof.OprojClaims

@[expose] public section

noncomputable section

namespace Cert.Proof

theorem claim : Cert.Claim :=
  ⟨Cert.Split.Gen.facts, Cert.SplitIdeal.Gen.facts, Cert.SplitRefIdeal.Gen.facts, Cert.SplitRef.Gen.facts,
    Cert.Attention.Gen.facts, Cert.AttentionIdeal.Gen.facts, Cert.AttentionRefIdeal.Gen.facts,
    Cert.Proj.Gen.facts, Cert.ProjIdeal.Gen.facts, Cert.ProjRefIdeal.Gen.facts,
    Cert.Oproj.Gen.facts, Cert.OprojIdeal.Gen.facts, Cert.OprojRefIdeal.Gen.facts, AttentionPre.facts, OprojPre.facts,
    Split.frame_kernel, Split.frame_ideal, Split.frame_ref_ideal, Split.frame_ref,
    Attention.frame_kernel, Attention.frame_ideal, fun m ρ _ => Attention.frame_ideal m ρ trivial,
    Attention.frame_ref, fun m ρ _ => Attention.frame_ref m ρ trivial,
    Proj.frame_kernel, Proj.frame_ideal, Proj.frame_ref,
    Oproj.frame_kernel, Oproj.frame_ideal, fun m ρ _ => Oproj.frame_ideal m ρ trivial,
    Oproj.frame_ref, fun m ρ _ => Oproj.frame_ref m ρ trivial,
    Split.preserves, Split.algebraic, Split.bitexact, Attention.preserves, Attention.algebraic,
    Proj.preserves, Proj.algebraic, Oproj.preserves, Oproj.algebraic⟩

end Cert.Proof

end
